-- ==== Defs.lean ====
def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvKernelIdeal_finite_conv [hPre_finite_conv : Cert.Pre_finite_conv.Facts] (m : (ℓ : Loc Cert.ConvKernelIdeal.nD Cert.ConvKernelIdeal.τ Cert.ConvKernelIdeal.sig) → Buf (Elt Ideal) ℓ) : Prop :=
  ∀ c : Dev Cert.ConvKernelIdeal.nD,
    (Cert.Pre_finite_conv.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3)) (m ((c.tc : Thread Cert.ConvKernelIdeal.nD Cert.ConvKernelIdeal.τ).loc Cert.ConvKernelIdeal.main_arg4))) = (fun _ => 1#1)

def Pre_ConvReferenceIdeal (m : (ℓ : Loc Cert.ConvReferenceIdeal.nD Cert.ConvReferenceIdeal.τ Cert.ConvReferenceIdeal.sig) → Buf (Elt Ideal) ℓ) : Prop :=
  True

def Pre_ConvReferenceIdeal_finite_conv [hPre_finite_conv : Cert.Pre_finite_conv.Facts] (m : (ℓ : Loc Cert.ConvReferenceIdeal.nD Cert.ConvReferenceIdeal.τ Cert.ConvReferenceIdeal.sig) → Buf (Elt Ideal) ℓ) : Prop :=
  ∀ c : Dev Cert.ConvReferenceIdeal.nD,
    (Cert.Pre_finite_conv.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3)) (m ((c.tc : Thread Cert.ConvReferenceIdeal.nD Cert.ConvReferenceIdeal.τ).loc Cert.ConvReferenceIdeal.main_arg4))) = (fun _ => 1#1)

def Pre_DwDownKernel (m : (ℓ : Loc Cert.DwDownKernel.nD Cert.DwDownKernel.τ Cert.DwDownKernel.sig) → Buf (Elt Bits) ℓ) : Prop :=
  True

def Pre_DwDownKernelIdeal (m : (ℓ : Loc Cert.DwDownKernelIdeal.nD Cert.DwDownKernelIdeal.τ Cert.DwDownKernelIdeal.sig) → Buf (Elt Ideal) ℓ) : Prop :=
  True

def Pre_DwDownReferenceIdeal (m : (ℓ : Loc Cert.DwDownReferenceIdeal.nD Cert.DwDownReferenceIdeal.τ Cert.DwDownReferenceIdeal.sig) → Buf (Elt Ideal) ℓ) : Prop :=
  True

def Pre_DwUpGateKernel (m : (ℓ : Loc Cert.DwUpGateKernel.nD Cert.DwUpGateKernel.τ Cert.DwUpGateKernel.sig) → Buf (Elt Bits) ℓ) : Prop :=
  True

def Pre_DwUpGateKernelIdeal (m : (ℓ : Loc Cert.DwUpGateKernelIdeal.nD Cert.DwUpGateKernelIdeal.τ Cert.DwUpGateKernelIdeal.sig) → Buf (Elt Ideal) ℓ) : Prop :=
  True

def Pre_DwUpGateReferenceIdeal (m : (ℓ : Loc Cert.DwUpGateReferenceIdeal.nD Cert.DwUpGateReferenceIdeal.τ Cert.DwUpGateReferenceIdeal.sig) → Buf (Elt Ideal) ℓ) : Prop :=
  True

def Pre_DwUpValueKernel (m : (ℓ : Loc Cert.DwUpValueKernel.nD Cert.DwUpValueKernel.τ Cert.DwUpValueKernel.sig) → Buf (Elt Bits) ℓ) : Prop :=
  True

def Pre_DwUpValueKernelIdeal (m : (ℓ : Loc Cert.DwUpValueKernelIdeal.nD Cert.DwUpValueKernelIdeal.τ Cert.DwUpValueKernelIdeal.sig) → Buf (Elt Ideal) ℓ) : Prop :=
  True

def Pre_DwUpValueReferenceIdeal (m : (ℓ : Loc Cert.DwUpValueReferenceIdeal.nD Cert.DwUpValueReferenceIdeal.τ Cert.DwUpValueReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_DwInKernel (m : (ℓ : Loc Cert.DwInKernel.nD Cert.DwInKernel.τ Cert.DwInKernel.sig) → Buf (Elt Bits) ℓ) : Prop :=
  True

def Pre_DwInKernelIdeal (m : (ℓ : Loc Cert.DwInKernelIdeal.nD Cert.DwInKernelIdeal.τ Cert.DwInKernelIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_DwOutKernel (m : (ℓ : Loc Cert.DwOutKernel.nD Cert.DwOutKernel.τ Cert.DwOutKernel.sig) → Buf (Elt Bits) ℓ) : Prop :=
  True

def Pre_DwOutKernelIdeal (m : (ℓ : Loc Cert.DwOutKernelIdeal.nD Cert.DwOutKernelIdeal.τ Cert.DwOutKernelIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_DwBranchKernel (m : (ℓ : Loc Cert.DwBranchKernel.nD Cert.DwBranchKernel.τ Cert.DwBranchKernel.sig) → Buf (Elt Bits) ℓ) : Prop :=
  True

def Pre_DwBranchKernelIdeal (m : (ℓ : Loc Cert.DwBranchKernelIdeal.nD Cert.DwBranchKernelIdeal.τ Cert.DwBranchKernelIdeal.sig) → Buf (Elt Ideal) ℓ) : Prop :=
  True

def Pre_DwBranchReferenceIdeal (m : (ℓ : Loc Cert.DwBranchReferenceIdeal.nD Cert.DwBranchReferenceIdeal.τ Cert.DwBranchReferenceIdeal.sig) → Buf (Elt Ideal) ℓ) : Prop :=
  True

def Pre_DyAttKernel (m : (ℓ : Loc Cert.DyAttKernel.nD Cert.DyAttKernel.τ Cert.DyAttKernel.sig) → Buf (Elt Bits) ℓ) : Prop :=
  True

def Pre_DyAttKernelIdeal (m : (ℓ : Loc Cert.DyAttKernelIdeal.nD Cert.DyAttKernelIdeal.τ Cert.DyAttKernelIdeal.sig) → Buf (Elt Ideal) ℓ) : Prop :=
  True

def Pre_DyAttReferenceIdeal (m : (ℓ : Loc Cert.DyAttReferenceIdeal.nD Cert.DyAttReferenceIdeal.τ Cert.DyAttReferenceIdeal.sig) → Buf (Elt Ideal) ℓ) : Prop :=
  True

def Pre_DySguKernel (m : (ℓ : Loc Cert.DySguKernel.nD Cert.DySguKernel.τ Cert.DySguKernel.sig) → Buf (Elt Bits) ℓ) : Prop :=
  True

def Pre_DySguKernelIdeal (m : (ℓ : Loc Cert.DySguKernelIdeal.nD Cert.DySguKernelIdeal.τ Cert.DySguKernelIdeal.sig) → Buf (Elt Ideal) ℓ) : Prop :=
  True

def Pre_DySguReferenceIdeal (m : (ℓ : Loc Cert.DySguReferenceIdeal.nD Cert.DySguReferenceIdeal.τ Cert.DySguReferenceIdeal.sig) → Buf (Elt Ideal) ℓ) : Prop :=
  True

def Pre_UpConvKernel (m : (ℓ : Loc Cert.UpConvKernel.nD Cert.UpConvKernel.τ Cert.UpConvKernel.sig) → Buf (Elt Bits) ℓ) : Prop :=
  True

def Pre_UpConvKernelIdeal (m : (ℓ : Loc Cert.UpConvKernelIdeal.nD Cert.UpConvKernelIdeal.τ Cert.UpConvKernelIdeal.sig) → Buf (Elt Ideal) ℓ) : Prop :=
  True

def Pre_UpConvReferenceIdeal (m : (ℓ : Loc Cert.UpConvReferenceIdeal.nD Cert.UpConvReferenceIdeal.τ Cert.UpConvReferenceIdeal.sig) → Buf (Elt Ideal) ℓ) : Prop :=
  True

def Pre_MergeFwdKernel (m : (ℓ : Loc Cert.MergeFwdKernel.nD Cert.MergeFwdKernel.τ Cert.MergeFwdKernel.sig) → Buf (Elt Bits) ℓ) : Prop :=
  True

def Pre_MergeFwdKernelIdeal (m : (ℓ : Loc Cert.MergeFwdKernelIdeal.nD Cert.MergeFwdKernelIdeal.τ Cert.MergeFwdKernelIdeal.sig) → Buf (Elt Ideal) ℓ) : Prop :=
  True

def Pre_MergeFwdReferenceIdeal (m : (ℓ : Loc Cert.MergeFwdReferenceIdeal.nD Cert.MergeFwdReferenceIdeal.τ Cert.MergeFwdReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_DhTwoKernel (m : (ℓ : Loc Cert.DhTwoKernel.nD Cert.DhTwoKernel.τ Cert.DhTwoKernel.sig) → Buf (Elt Bits) ℓ) : Prop :=
  True

def Pre_DhTwoKernelIdeal (m : (ℓ : Loc Cert.DhTwoKernelIdeal.nD Cert.DhTwoKernelIdeal.τ Cert.DhTwoKernelIdeal.sig) → Buf (Elt Ideal) ℓ) : Prop :=
  True

def Pre_DhTwoKernelIdeal_finite_dh2 [hPre_finite_dh2 : Cert.Pre_finite_dh2.Facts] (m : (ℓ : Loc Cert.DhTwoKernelIdeal.nD Cert.DhTwoKernelIdeal.τ Cert.DhTwoKernelIdeal.sig) → Buf (Elt Ideal) ℓ) : Prop :=
  ∀ c : Dev Cert.DhTwoKernelIdeal.nD,
    (Cert.Pre_finite_dh2.fn (F := Ideal) (m ((c.tc : Thread Cert.DhTwoKernelIdeal.nD Cert.DhTwoKernelIdeal.τ).loc Cert.DhTwoKernelIdeal.main_arg0)) (m ((c.tc : Thread Cert.DhTwoKernelIdeal.nD Cert.DhTwoKernelIdeal.τ).loc Cert.DhTwoKernelIdeal.main_arg1)) (m ((c.tc : Thread Cert.DhTwoKernelIdeal.nD Cert.DhTwoKernelIdeal.τ).loc Cert.DhTwoKernelIdeal.main_arg2)) (m ((c.tc : Thread Cert.DhTwoKernelIdeal.nD Cert.DhTwoKernelIdeal.τ).loc Cert.DhTwoKernelIdeal.main_arg3)) (m ((c.tc : Thread Cert.DhTwoKernelIdeal.nD Cert.DhTwoKernelIdeal.τ).loc Cert.DhTwoKernelIdeal.main_arg4)) (m ((c.tc : Thread Cert.DhTwoKernelIdeal.nD Cert.DhTwoKernelIdeal.τ).loc Cert.DhTwoKernelIdeal.main_arg5))) = (fun _ => 1#1)

def Pre_DhTwoReferenceIdeal (m : (ℓ : Loc Cert.DhTwoReferenceIdeal.nD Cert.DhTwoReferenceIdeal.τ Cert.DhTwoReferenceIdeal.sig) → Buf (Elt Ideal) ℓ) : Prop :=
  True

def Pre_DhTwoReferenceIdeal_finite_dh2 [hPre_finite_dh2 : Cert.Pre_finite_dh2.Facts] (m : (ℓ : Loc Cert.DhTwoReferenceIdeal.nD Cert.DhTwoReferenceIdeal.τ Cert.DhTwoReferenceIdeal.sig) → Buf (Elt Ideal) ℓ) : Prop :=
  ∀ c : Dev Cert.DhTwoReferenceIdeal.nD,
    (Cert.Pre_finite_dh2.fn (F := Ideal) (m ((c.tc : Thread Cert.DhTwoReferenceIdeal.nD Cert.DhTwoReferenceIdeal.τ).loc Cert.DhTwoReferenceIdeal.main_arg0)) (m ((c.tc : Thread Cert.DhTwoReferenceIdeal.nD Cert.DhTwoReferenceIdeal.τ).loc Cert.DhTwoReferenceIdeal.main_arg1)) (m ((c.tc : Thread Cert.DhTwoReferenceIdeal.nD Cert.DhTwoReferenceIdeal.τ).loc Cert.DhTwoReferenceIdeal.main_arg2)) (m ((c.tc : Thread Cert.DhTwoReferenceIdeal.nD Cert.DhTwoReferenceIdeal.τ).loc Cert.DhTwoReferenceIdeal.main_arg3)) (m ((c.tc : Thread Cert.DhTwoReferenceIdeal.nD Cert.DhTwoReferenceIdeal.τ).loc Cert.DhTwoReferenceIdeal.main_arg4)) (m ((c.tc : Thread Cert.DhTwoReferenceIdeal.nD Cert.DhTwoReferenceIdeal.τ).loc Cert.DhTwoReferenceIdeal.main_arg5))) = (fun _ => 1#1)

def Pre_DhKernel (m : (ℓ : Loc Cert.DhKernel.nD Cert.DhKernel.τ Cert.DhKernel.sig) → Buf (Elt Bits) ℓ) : Prop :=
  True

def Pre_DhKernelIdeal (m : (ℓ : Loc Cert.DhKernelIdeal.nD Cert.DhKernelIdeal.τ Cert.DhKernelIdeal.sig) → Buf (Elt Ideal) ℓ) : Prop :=
  True

def Pre_DhKernelIdeal_finite_dh [hPre_finite_dh : Cert.Pre_finite_dh.Facts] (m : (ℓ : Loc Cert.DhKernelIdeal.nD Cert.DhKernelIdeal.τ Cert.DhKernelIdeal.sig) → Buf (Elt Ideal) ℓ) : Prop :=
  ∀ c : Dev Cert.DhKernelIdeal.nD,
    (Cert.Pre_finite_dh.fn (F := Ideal) (m ((c.tc : Thread Cert.DhKernelIdeal.nD Cert.DhKernelIdeal.τ).loc Cert.DhKernelIdeal.main_arg0)) (m ((c.tc : Thread Cert.DhKernelIdeal.nD Cert.DhKernelIdeal.τ).loc Cert.DhKernelIdeal.main_arg1)) (m ((c.tc : Thread Cert.DhKernelIdeal.nD Cert.DhKernelIdeal.τ).loc Cert.DhKernelIdeal.main_arg2)) (m ((c.tc : Thread Cert.DhKernelIdeal.nD Cert.DhKernelIdeal.τ).loc Cert.DhKernelIdeal.main_arg3)) (m ((c.tc : Thread Cert.DhKernelIdeal.nD Cert.DhKernelIdeal.τ).loc Cert.DhKernelIdeal.main_arg4)) (m ((c.tc : Thread Cert.DhKernelIdeal.nD Cert.DhKernelIdeal.τ).loc Cert.DhKernelIdeal.main_arg5)) (m ((c.tc : Thread Cert.DhKernelIdeal.nD Cert.DhKernelIdeal.τ).loc Cert.DhKernelIdeal.main_arg6)) (m ((c.tc : Thread Cert.DhKernelIdeal.nD Cert.DhKernelIdeal.τ).loc Cert.DhKernelIdeal.main_arg7))) = (fun _ => 1#1)

def Pre_DhReferenceIdeal (m : (ℓ : Loc Cert.DhReferenceIdeal.nD Cert.DhReferenceIdeal.τ Cert.DhReferenceIdeal.sig) → Buf (Elt Ideal) ℓ) : Prop :=
  True

def Pre_DhReferenceIdeal_finite_dh [hPre_finite_dh : Cert.Pre_finite_dh.Facts] (m : (ℓ : Loc Cert.DhReferenceIdeal.nD Cert.DhReferenceIdeal.τ Cert.DhReferenceIdeal.sig) → Buf (Elt Ideal) ℓ) : Prop :=
  ∀ c : Dev Cert.DhReferenceIdeal.nD,
    (Cert.Pre_finite_dh.fn (F := Ideal) (m ((c.tc : Thread Cert.DhReferenceIdeal.nD Cert.DhReferenceIdeal.τ).loc Cert.DhReferenceIdeal.main_arg0)) (m ((c.tc : Thread Cert.DhReferenceIdeal.nD Cert.DhReferenceIdeal.τ).loc Cert.DhReferenceIdeal.main_arg1)) (m ((c.tc : Thread Cert.DhReferenceIdeal.nD Cert.DhReferenceIdeal.τ).loc Cert.DhReferenceIdeal.main_arg2)) (m ((c.tc : Thread Cert.DhReferenceIdeal.nD Cert.DhReferenceIdeal.τ).loc Cert.DhReferenceIdeal.main_arg3)) (m ((c.tc : Thread Cert.DhReferenceIdeal.nD Cert.DhReferenceIdeal.τ).loc Cert.DhReferenceIdeal.main_arg4)) (m ((c.tc : Thread Cert.DhReferenceIdeal.nD Cert.DhReferenceIdeal.τ).loc Cert.DhReferenceIdeal.main_arg5)) (m ((c.tc : Thread Cert.DhReferenceIdeal.nD Cert.DhReferenceIdeal.τ).loc Cert.DhReferenceIdeal.main_arg6)) (m ((c.tc : Thread Cert.DhReferenceIdeal.nD Cert.DhReferenceIdeal.τ).loc Cert.DhReferenceIdeal.main_arg7))) = (fun _ => 1#1)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3)
      ∧ r.2.mem ((c.tc : Thread Cert.ConvKernel.nD Cert.ConvKernel.τ).loc Cert.ConvKernel.main_arg4) = m ((c.tc : Thread Cert.ConvKernel.nD Cert.ConvKernel.τ).loc Cert.ConvKernel.main_arg4))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
      ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4))
      ∧ r.2.sem = fun _ => 0)

def quiescent_ConvKernelIdeal_pre_finite_conv [hConvKernelIdeal : Cert.ConvKernelIdeal.Facts] [hPre_finite_conv : Cert.Pre_finite_conv.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal_finite_conv m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
      ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4))
      ∧ r.2.sem = fun _ => 0)

def quiescent_ConvReferenceIdeal_pre_finite_conv [hConvReferenceIdeal : Cert.ConvReferenceIdeal.Facts] [hPre_finite_conv : Cert.Pre_finite_conv.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal_finite_conv m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4))
      ∧ r.2.sem = fun _ => 0)

def quiescent_DwDownKernel [hDwDownKernel : Cert.DwDownKernel.Facts] : Prop :=
  ∀ (m : (ℓ : Loc Cert.DwDownKernel.nD Cert.DwDownKernel.τ Cert.DwDownKernel.sig) → Buf (Elt Bits) ℓ) (g : Dev Cert.DwDownKernel.nD → PrngReg), Pre_DwDownKernel m →
    θ_run (Cert.DwDownKernel.defs (F := Bits)) (onTc (τ := Cert.DwDownKernel.τ) (Cert.DwDownKernel.main (F := Bits))) ⟨m, fun _ => 0, g⟩ (fun r => (∀ c : Dev Cert.DwDownKernel.nD,
      r.2.mem ((c.tc : Thread Cert.DwDownKernel.nD Cert.DwDownKernel.τ).loc Cert.DwDownKernel.main_arg0) = m ((c.tc : Thread Cert.DwDownKernel.nD Cert.DwDownKernel.τ).loc Cert.DwDownKernel.main_arg0)
      ∧ r.2.mem ((c.tc : Thread Cert.DwDownKernel.nD Cert.DwDownKernel.τ).loc Cert.DwDownKernel.main_arg1) = m ((c.tc : Thread Cert.DwDownKernel.nD Cert.DwDownKernel.τ).loc Cert.DwDownKernel.main_arg1))
      ∧ r.2.sem = fun _ => 0)

def quiescent_DwDownKernelIdeal [hDwDownKernelIdeal : Cert.DwDownKernelIdeal.Facts] : Prop :=
  ∀ (m : (ℓ : Loc Cert.DwDownKernelIdeal.nD Cert.DwDownKernelIdeal.τ Cert.DwDownKernelIdeal.sig) → Buf (Elt Ideal) ℓ) (g : Dev Cert.DwDownKernelIdeal.nD → PrngReg), Pre_DwDownKernelIdeal m →
    θ_run (Cert.DwDownKernelIdeal.defs (F := Ideal)) (onTc (τ := Cert.DwDownKernelIdeal.τ) (Cert.DwDownKernelIdeal.main (F := Ideal))) ⟨m, fun _ => 0, g⟩ (fun r => (∀ c : Dev Cert.DwDownKernelIdeal.nD,
      r.2.mem ((c.tc : Thread Cert.DwDownKernelIdeal.nD Cert.DwDownKernelIdeal.τ).loc Cert.DwDownKernelIdeal.main_arg0) = m ((c.tc : Thread Cert.DwDownKernelIdeal.nD Cert.DwDownKernelIdeal.τ).loc Cert.DwDownKernelIdeal.main_arg0)
      ∧ r.2.mem ((c.tc : Thread Cert.DwDownKernelIdeal.nD Cert.DwDownKernelIdeal.τ).loc Cert.DwDownKernelIdeal.main_arg1) = m ((c.tc : Thread Cert.DwDownKernelIdeal.nD Cert.DwDownKernelIdeal.τ).loc Cert.DwDownKernelIdeal.main_arg1))
      ∧ r.2.sem = fun _ => 0)

def quiescent_DwDownReferenceIdeal [hDwDownReferenceIdeal : Cert.DwDownReferenceIdeal.Facts] : Prop :=
  ∀ (m : (ℓ : Loc Cert.DwDownReferenceIdeal.nD Cert.DwDownReferenceIdeal.τ Cert.DwDownReferenceIdeal.sig) → Buf (Elt Ideal) ℓ) (g : Dev Cert.DwDownReferenceIdeal.nD → PrngReg), Pre_DwDownReferenceIdeal m →
    θ_run (Cert.DwDownReferenceIdeal.defs (F := Ideal)) (onTc (τ := Cert.DwDownReferenceIdeal.τ) (Cert.DwDownReferenceIdeal.main (F := Ideal))) ⟨m, fun _ => 0, g⟩ (fun r => (∀ c : Dev Cert.DwDownReferenceIdeal.nD,
      r.2.mem ((c.tc : Thread Cert.DwDownReferenceIdeal.nD Cert.DwDownReferenceIdeal.τ).loc Cert.DwDownReferenceIdeal.main_arg0) = m ((c.tc : Thread Cert.DwDownReferenceIdeal.nD Cert.DwDownReferenceIdeal.τ).loc Cert.DwDownReferenceIdeal.main_arg0)
      ∧ r.2.mem ((c.tc : Thread Cert.DwDownReferenceIdeal.nD Cert.DwDownReferenceIdeal.τ).loc Cert.DwDownReferenceIdeal.main_arg1) = m ((c.tc : Thread Cert.DwDownReferenceIdeal.nD Cert.DwDownReferenceIdeal.τ).loc Cert.DwDownReferenceIdeal.main_arg1))
      ∧ r.2.sem = fun _ => 0)

def quiescent_DwUpGateKernel [hDwUpGateKernel : Cert.DwUpGateKernel.Facts] : Prop :=
  ∀ (m : (ℓ : Loc Cert.DwUpGateKernel.nD Cert.DwUpGateKernel.τ Cert.DwUpGateKernel.sig) → Buf (Elt Bits) ℓ) (g : Dev Cert.DwUpGateKernel.nD → PrngReg), Pre_DwUpGateKernel m →
    θ_run (Cert.DwUpGateKernel.defs (F := Bits)) (onTc (τ := Cert.DwUpGateKernel.τ) (Cert.DwUpGateKernel.main (F := Bits))) ⟨m, fun _ => 0, g⟩ (fun r => (∀ c : Dev Cert.DwUpGateKernel.nD,
      r.2.mem ((c.tc : Thread Cert.DwUpGateKernel.nD Cert.DwUpGateKernel.τ).loc Cert.DwUpGateKernel.main_arg0) = m ((c.tc : Thread Cert.DwUpGateKernel.nD Cert.DwUpGateKernel.τ).loc Cert.DwUpGateKernel.main_arg0)
      ∧ r.2.mem ((c.tc : Thread Cert.DwUpGateKernel.nD Cert.DwUpGateKernel.τ).loc Cert.DwUpGateKernel.main_arg1) = m ((c.tc : Thread Cert.DwUpGateKernel.nD Cert.DwUpGateKernel.τ).loc Cert.DwUpGateKernel.main_arg1)
      ∧ r.2.mem ((c.tc : Thread Cert.DwUpGateKernel.nD Cert.DwUpGateKernel.τ).loc Cert.DwUpGateKernel.main_arg2) = m ((c.tc : Thread Cert.DwUpGateKernel.nD Cert.DwUpGateKernel.τ).loc Cert.DwUpGateKernel.main_arg2))
      ∧ r.2.sem = fun _ => 0)

def quiescent_DwUpGateKernelIdeal [hDwUpGateKernelIdeal : Cert.DwUpGateKernelIdeal.Facts] : Prop :=
  ∀ (m : (ℓ : Loc Cert.DwUpGateKernelIdeal.nD Cert.DwUpGateKernelIdeal.τ Cert.DwUpGateKernelIdeal.sig) → Buf (Elt Ideal) ℓ) (g : Dev Cert.DwUpGateKernelIdeal.nD → PrngReg), Pre_DwUpGateKernelIdeal m →
    θ_run (Cert.DwUpGateKernelIdeal.defs (F := Ideal)) (onTc (τ := Cert.DwUpGateKernelIdeal.τ) (Cert.DwUpGateKernelIdeal.main (F := Ideal))) ⟨m, fun _ => 0, g⟩ (fun r => (∀ c : Dev Cert.DwUpGateKernelIdeal.nD,
      r.2.mem ((c.tc : Thread Cert.DwUpGateKernelIdeal.nD Cert.DwUpGateKernelIdeal.τ).loc Cert.DwUpGateKernelIdeal.main_arg0) = m ((c.tc : Thread Cert.DwUpGateKernelIdeal.nD Cert.DwUpGateKernelIdeal.τ).loc Cert.DwUpGateKernelIdeal.main_arg0)
      ∧ r.2.mem ((c.tc : Thread Cert.DwUpGateKernelIdeal.nD Cert.DwUpGateKernelIdeal.τ).loc Cert.DwUpGateKernelIdeal.main_arg1) = m ((c.tc : Thread Cert.DwUpGateKernelIdeal.nD Cert.DwUpGateKernelIdeal.τ).loc Cert.DwUpGateKernelIdeal.main_arg1)
      ∧ r.2.mem ((c.tc : Thread Cert.DwUpGateKernelIdeal.nD Cert.DwUpGateKernelIdeal.τ).loc Cert.DwUpGateKernelIdeal.main_arg2) = m ((c.tc : Thread Cert.DwUpGateKernelIdeal.nD Cert.DwUpGateKernelIdeal.τ).loc Cert.DwUpGateKernelIdeal.main_arg2))
      ∧ r.2.sem = fun _ => 0)

def quiescent_DwUpGateReferenceIdeal [hDwUpGateReferenceIdeal : Cert.DwUpGateReferenceIdeal.Facts] : Prop :=
  ∀ (m : (ℓ : Loc Cert.DwUpGateReferenceIdeal.nD Cert.DwUpGateReferenceIdeal.τ Cert.DwUpGateReferenceIdeal.sig) → Buf (Elt Ideal) ℓ) (g : Dev Cert.DwUpGateReferenceIdeal.nD → PrngReg), Pre_DwUpGateReferenceIdeal m →
    θ_run (Cert.DwUpGateReferenceIdeal.defs (F := Ideal)) (onTc (τ := Cert.DwUpGateReferenceIdeal.τ) (Cert.DwUpGateReferenceIdeal.main (F := Ideal))) ⟨m, fun _ => 0, g⟩ (fun r => (∀ c : Dev Cert.DwUpGateReferenceIdeal.nD,
      r.2.mem ((c.tc : Thread Cert.DwUpGateReferenceIdeal.nD Cert.DwUpGateReferenceIdeal.τ).loc Cert.DwUpGateReferenceIdeal.main_arg0) = m ((c.tc : Thread Cert.DwUpGateReferenceIdeal.nD Cert.DwUpGateReferenceIdeal.τ).loc Cert.DwUpGateReferenceIdeal.main_arg0)
      ∧ r.2.mem ((c.tc : Thread Cert.DwUpGateReferenceIdeal.nD Cert.DwUpGateReferenceIdeal.τ).loc Cert.DwUpGateReferenceIdeal.main_arg1) = m ((c.tc : Thread Cert.DwUpGateReferenceIdeal.nD Cert.DwUpGateReferenceIdeal.τ).loc Cert.DwUpGateReferenceIdeal.main_arg1)
      ∧ r.2.mem ((c.tc : Thread Cert.DwUpGateReferenceIdeal.nD Cert.DwUpGateReferenceIdeal.τ).loc Cert.DwUpGateReferenceIdeal.main_arg2) = m ((c.tc : Thread Cert.DwUpGateReferenceIdeal.nD Cert.DwUpGateReferenceIdeal.τ).loc Cert.DwUpGateReferenceIdeal.main_arg2))
      ∧ r.2.sem = fun _ => 0)

def quiescent_DwUpValueKernel [hDwUpValueKernel : Cert.DwUpValueKernel.Facts] : Prop :=
  ∀ (m : (ℓ : Loc Cert.DwUpValueKernel.nD Cert.DwUpValueKernel.τ Cert.DwUpValueKernel.sig) → Buf (Elt Bits) ℓ) (g : Dev Cert.DwUpValueKernel.nD → PrngReg), Pre_DwUpValueKernel m →
    θ_run (Cert.DwUpValueKernel.defs (F := Bits)) (onTc (τ := Cert.DwUpValueKernel.τ) (Cert.DwUpValueKernel.main (F := Bits))) ⟨m, fun _ => 0, g⟩ (fun r => (∀ c : Dev Cert.DwUpValueKernel.nD,
      r.2.mem ((c.tc : Thread Cert.DwUpValueKernel.nD Cert.DwUpValueKernel.τ).loc Cert.DwUpValueKernel.main_arg0) = m ((c.tc : Thread Cert.DwUpValueKernel.nD Cert.DwUpValueKernel.τ).loc Cert.DwUpValueKernel.main_arg0)
      ∧ r.2.mem ((c.tc : Thread Cert.DwUpValueKernel.nD Cert.DwUpValueKernel.τ).loc Cert.DwUpValueKernel.main_arg1) = m ((c.tc : Thread Cert.DwUpValueKernel.nD Cert.DwUpValueKernel.τ).loc Cert.DwUpValueKernel.main_arg1)
      ∧ r.2.mem ((c.tc : Thread Cert.DwUpValueKernel.nD Cert.DwUpValueKernel.τ).loc Cert.DwUpValueKernel.main_arg2) = m ((c.tc : Thread Cert.DwUpValueKernel.nD Cert.DwUpValueKernel.τ).loc Cert.DwUpValueKernel.main_arg2))
      ∧ r.2.sem = fun _ => 0)

def quiescent_DwUpValueKernelIdeal [hDwUpValueKernelIdeal : Cert.DwUpValueKernelIdeal.Facts] : Prop :=
  ∀ (m : (ℓ : Loc Cert.DwUpValueKernelIdeal.nD Cert.DwUpValueKernelIdeal.τ Cert.DwUpValueKernelIdeal.sig) → Buf (Elt Ideal) ℓ) (g : Dev Cert.DwUpValueKernelIdeal.nD → PrngReg), Pre_DwUpValueKernelIdeal m →
    θ_run (Cert.DwUpValueKernelIdeal.defs (F := Ideal)) (onTc (τ := Cert.DwUpValueKernelIdeal.τ) (Cert.DwUpValueKernelIdeal.main (F := Ideal))) ⟨m, fun _ => 0, g⟩ (fun r => (∀ c : Dev Cert.DwUpValueKernelIdeal.nD,
      r.2.mem ((c.tc : Thread Cert.DwUpValueKernelIdeal.nD Cert.DwUpValueKernelIdeal.τ).loc Cert.DwUpValueKernelIdeal.main_arg0) = m ((c.tc : Thread Cert.DwUpValueKernelIdeal.nD Cert.DwUpValueKernelIdeal.τ).loc Cert.DwUpValueKernelIdeal.main_arg0)
      ∧ r.2.mem ((c.tc : Thread Cert.DwUpValueKernelIdeal.nD Cert.DwUpValueKernelIdeal.τ).loc Cert.DwUpValueKernelIdeal.main_arg1) = m ((c.tc : Thread Cert.DwUpValueKernelIdeal.nD Cert.DwUpValueKernelIdeal.τ).loc Cert.DwUpValueKernelIdeal.main_arg1)
      ∧ r.2.mem ((c.tc : Thread Cert.DwUpValueKernelIdeal.nD Cert.DwUpValueKernelIdeal.τ).loc Cert.DwUpValueKernelIdeal.main_arg2) = m ((c.tc : Thread Cert.DwUpValueKernelIdeal.nD Cert.DwUpValueKernelIdeal.τ).loc Cert.DwUpValueKernelIdeal.main_arg2))
      ∧ r.2.sem = fun _ => 0)

def quiescent_DwUpValueReferenceIdeal [hDwUpValueReferenceIdeal : Cert.DwUpValueReferenceIdeal.Facts] : Prop :=
  ∀ (m : (ℓ : Loc Cert.DwUpValueReferenceIdeal.nD Cert.DwUpValueReferenceIdeal.τ Cert.DwUpValueReferenceIdeal.sig) → Buf (Elt Ideal) ℓ) (g : Dev Cert.DwUpValueReferenceIdeal.nD → PrngReg), Pre_DwUpValueReferenceIdeal m →
    θ_run (Cert.DwUpValueReferenceIdeal.defs (F := Ideal)) (onTc (τ := Cert.DwUpValueReferenceIdeal.τ) (Cert.DwUpValueReferenceIdeal.main (F := Ideal))) ⟨m, fun _ => 0, g⟩ (fun r => (∀ c : Dev Cert.DwUpValueReferenceIdeal.nD,
      r.2.mem ((c.tc : Thread Cert.DwUpValueReferenceIdeal.nD Cert.DwUpValueReferenceIdeal.τ).loc Cert.DwUpValueReferenceIdeal.main_arg0) = m ((c.tc : Thread Cert.DwUpValueReferenceIdeal.nD Cert.DwUpValueReferenceIdeal.τ).loc Cert.DwUpValueReferenceIdeal.main_arg0)
      ∧ r.2.mem ((c.tc : Thread Cert.DwUpValueReferenceIdeal.nD Cert.DwUpValueReferenceIdeal.τ).loc Cert.DwUpValueReferenceIdeal.main_arg1) = m ((c.tc : Thread Cert.DwUpValueReferenceIdeal.nD Cert.DwUpValueReferenceIdeal.τ).loc Cert.DwUpValueReferenceIdeal.main_arg1)
      ∧ r.2.mem ((c.tc : Thread Cert.DwUpValueReferenceIdeal.nD Cert.DwUpValueReferenceIdeal.τ).loc Cert.DwUpValueReferenceIdeal.main_arg2) = m ((c.tc : Thread Cert.DwUpValueReferenceIdeal.nD Cert.DwUpValueReferenceIdeal.τ).loc Cert.DwUpValueReferenceIdeal.main_arg2))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_DwInKernel [hDwInKernel : Cert.DwInKernel.Facts] : Prop :=
  ∀ (m : (ℓ : Loc Cert.DwInKernel.nD Cert.DwInKernel.τ Cert.DwInKernel.sig) → Buf (Elt Bits) ℓ) (g : Dev Cert.DwInKernel.nD → PrngReg), Pre_DwInKernel m →
    θ_run (Cert.DwInKernel.defs (F := Bits)) (onTc (τ := Cert.DwInKernel.τ) (Cert.DwInKernel.main (F := Bits))) ⟨m, fun _ => 0, g⟩ (fun r => (∀ c : Dev Cert.DwInKernel.nD,
      r.2.mem ((c.tc : Thread Cert.DwInKernel.nD Cert.DwInKernel.τ).loc Cert.DwInKernel.main_arg0) = m ((c.tc : Thread Cert.DwInKernel.nD Cert.DwInKernel.τ).loc Cert.DwInKernel.main_arg0)
      ∧ r.2.mem ((c.tc : Thread Cert.DwInKernel.nD Cert.DwInKernel.τ).loc Cert.DwInKernel.main_arg1) = m ((c.tc : Thread Cert.DwInKernel.nD Cert.DwInKernel.τ).loc Cert.DwInKernel.main_arg1)
      ∧ r.2.mem ((c.tc : Thread Cert.DwInKernel.nD Cert.DwInKernel.τ).loc Cert.DwInKernel.main_arg2) = m ((c.tc : Thread Cert.DwInKernel.nD Cert.DwInKernel.τ).loc Cert.DwInKernel.main_arg2)
      ∧ r.2.mem ((c.tc : Thread Cert.DwInKernel.nD Cert.DwInKernel.τ).loc Cert.DwInKernel.main_arg3) = m ((c.tc : Thread Cert.DwInKernel.nD Cert.DwInKernel.τ).loc Cert.DwInKernel.main_arg3)
      ∧ r.2.mem ((c.tc : Thread Cert.DwInKernel.nD Cert.DwInKernel.τ).loc Cert.DwInKernel.main_arg4) = m ((c.tc : Thread Cert.DwInKernel.nD Cert.DwInKernel.τ).loc Cert.DwInKernel.main_arg4))
      ∧ r.2.sem = fun _ => 0)

def quiescent_DwInKernelIdeal [hDwInKernelIdeal : Cert.DwInKernelIdeal.Facts] : Prop :=
  ∀ (m : (ℓ : Loc Cert.DwInKernelIdeal.nD Cert.DwInKernelIdeal.τ Cert.DwInKernelIdeal.sig) → Buf (Elt Ideal) ℓ) (g : Dev Cert.DwInKernelIdeal.nD → PrngReg), Pre_DwInKernelIdeal m →
    θ_run (Cert.DwInKernelIdeal.defs (F := Ideal)) (onTc (τ := Cert.DwInKernelIdeal.τ) (Cert.DwInKernelIdeal.main (F := Ideal))) ⟨m, fun _ => 0, g⟩ (fun r => (∀ c : Dev Cert.DwInKernelIdeal.nD,
      r.2.mem ((c.tc : Thread Cert.DwInKernelIdeal.nD Cert.DwInKernelIdeal.τ).loc Cert.DwInKernelIdeal.main_arg0) = m ((c.tc : Thread Cert.DwInKernelIdeal.nD Cert.DwInKernelIdeal.τ).loc Cert.DwInKernelIdeal.main_arg0)
      ∧ r.2.mem ((c.tc : Thread Cert.DwInKernelIdeal.nD Cert.DwInKernelIdeal.τ).loc Cert.DwInKernelIdeal.main_arg1) = m ((c.tc : Thread Cert.DwInKernelIdeal.nD Cert.DwInKernelIdeal.τ).loc Cert.DwInKernelIdeal.main_arg1)
      ∧ r.2.mem ((c.tc : Thread Cert.DwInKernelIdeal.nD Cert.DwInKernelIdeal.τ).loc Cert.DwInKernelIdeal.main_arg2) = m ((c.tc : Thread Cert.DwInKernelIdeal.nD Cert.DwInKernelIdeal.τ).loc Cert.DwInKernelIdeal.main_arg2)
      ∧ r.2.mem ((c.tc : Thread Cert.DwInKernelIdeal.nD Cert.DwInKernelIdeal.τ).loc Cert.DwInKernelIdeal.main_arg3) = m ((c.tc : Thread Cert.DwInKernelIdeal.nD Cert.DwInKernelIdeal.τ).loc Cert.DwInKernelIdeal.main_arg3)
      ∧ r.2.mem ((c.tc : Thread Cert.DwInKernelIdeal.nD Cert.DwInKernelIdeal.τ).loc Cert.DwInKernelIdeal.main_arg4) = m ((c.tc : Thread Cert.DwInKernelIdeal.nD Cert.DwInKernelIdeal.τ).loc Cert.DwInKernelIdeal.main_arg4))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1)
      ∧ r.2.mem ((c.tc : Thread Cert.DwInReferenceIdeal.nD Cert.DwInReferenceIdeal.τ).loc Cert.DwInReferenceIdeal.main_arg2) = m ((c.tc : Thread Cert.DwInReferenceIdeal.nD Cert.DwInReferenceIdeal.τ).loc Cert.DwInReferenceIdeal.main_arg2)
      ∧ r.2.mem ((c.tc : Thread Cert.DwInReferenceIdeal.nD Cert.DwInReferenceIdeal.τ).loc Cert.DwInReferenceIdeal.main_arg3) = m ((c.tc : Thread Cert.DwInReferenceIdeal.nD Cert.DwInReferenceIdeal.τ).loc Cert.DwInReferenceIdeal.main_arg3)
      ∧ r.2.mem ((c.tc : Thread Cert.DwInReferenceIdeal.nD Cert.DwInReferenceIdeal.τ).loc Cert.DwInReferenceIdeal.main_arg4) = m ((c.tc : Thread Cert.DwInReferenceIdeal.nD Cert.DwInReferenceIdeal.τ).loc Cert.DwInReferenceIdeal.main_arg4))
      ∧ r.2.sem = fun _ => 0)

def quiescent_DwOutKernel [hDwOutKernel : Cert.DwOutKernel.Facts] : Prop :=
  ∀ (m : (ℓ : Loc Cert.DwOutKernel.nD Cert.DwOutKernel.τ Cert.DwOutKernel.sig) → Buf (Elt Bits) ℓ) (g : Dev Cert.DwOutKernel.nD → PrngReg), Pre_DwOutKernel m →
    θ_run (Cert.DwOutKernel.defs (F := Bits)) (onTc (τ := Cert.DwOutKernel.τ) (Cert.DwOutKernel.main (F := Bits))) ⟨m, fun _ => 0, g⟩ (fun r => (∀ c : Dev Cert.DwOutKernel.nD,
      r.2.mem ((c.tc : Thread Cert.DwOutKernel.nD Cert.DwOutKernel.τ).loc Cert.DwOutKernel.main_arg0) = m ((c.tc : Thread Cert.DwOutKernel.nD Cert.DwOutKernel.τ).loc Cert.DwOutKernel.main_arg0)
      ∧ r.2.mem ((c.tc : Thread Cert.DwOutKernel.nD Cert.DwOutKernel.τ).loc Cert.DwOutKernel.main_arg1) = m ((c.tc : Thread Cert.DwOutKernel.nD Cert.DwOutKernel.τ).loc Cert.DwOutKernel.main_arg1))
      ∧ r.2.sem = fun _ => 0)

def quiescent_DwOutKernelIdeal [hDwOutKernelIdeal : Cert.DwOutKernelIdeal.Facts] : Prop :=
  ∀ (m : (ℓ : Loc Cert.DwOutKernelIdeal.nD Cert.DwOutKernelIdeal.τ Cert.DwOutKernelIdeal.sig) → Buf (Elt Ideal) ℓ) (g : Dev Cert.DwOutKernelIdeal.nD → PrngReg), Pre_DwOutKernelIdeal m →
    θ_run (Cert.DwOutKernelIdeal.defs (F := Ideal)) (onTc (τ := Cert.DwOutKernelIdeal.τ) (Cert.DwOutKernelIdeal.main (F := Ideal))) ⟨m, fun _ => 0, g⟩ (fun r => (∀ c : Dev Cert.DwOutKernelIdeal.nD,
      r.2.mem ((c.tc : Thread Cert.DwOutKernelIdeal.nD Cert.DwOutKernelIdeal.τ).loc Cert.DwOutKernelIdeal.main_arg0) = m ((c.tc : Thread Cert.DwOutKernelIdeal.nD Cert.DwOutKernelIdeal.τ).loc Cert.DwOutKernelIdeal.main_arg0)
      ∧ r.2.mem ((c.tc : Thread Cert.DwOutKernelIdeal.nD Cert.DwOutKernelIdeal.τ).loc Cert.DwOutKernelIdeal.main_arg1) = m ((c.tc : Thread Cert.DwOutKernelIdeal.nD Cert.DwOutKernelIdeal.τ).loc Cert.DwOutKernelIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_DwBranchKernel [hDwBranchKernel : Cert.DwBranchKernel.Facts] : Prop :=
  ∀ (m : (ℓ : Loc Cert.DwBranchKernel.nD Cert.DwBranchKernel.τ Cert.DwBranchKernel.sig) → Buf (Elt Bits) ℓ) (g : Dev Cert.DwBranchKernel.nD → PrngReg), Pre_DwBranchKernel m →
    θ_run (Cert.DwBranchKernel.defs (F := Bits)) (onTc (τ := Cert.DwBranchKernel.τ) (Cert.DwBranchKernel.main (F := Bits))) ⟨m, fun _ => 0, g⟩ (fun r => (∀ c : Dev Cert.DwBranchKernel.nD,
      r.2.mem ((c.tc : Thread Cert.DwBranchKernel.nD Cert.DwBranchKernel.τ).loc Cert.DwBranchKernel.main_arg0) = m ((c.tc : Thread Cert.DwBranchKernel.nD Cert.DwBranchKernel.τ).loc Cert.DwBranchKernel.main_arg0)
      ∧ r.2.mem ((c.tc : Thread Cert.DwBranchKernel.nD Cert.DwBranchKernel.τ).loc Cert.DwBranchKernel.main_arg1) = m ((c.tc : Thread Cert.DwBranchKernel.nD Cert.DwBranchKernel.τ).loc Cert.DwBranchKernel.main_arg1))
      ∧ r.2.sem = fun _ => 0)

def quiescent_DwBranchKernelIdeal [hDwBranchKernelIdeal : Cert.DwBranchKernelIdeal.Facts] : Prop :=
  ∀ (m : (ℓ : Loc Cert.DwBranchKernelIdeal.nD Cert.DwBranchKernelIdeal.τ Cert.DwBranchKernelIdeal.sig) → Buf (Elt Ideal) ℓ) (g : Dev Cert.DwBranchKernelIdeal.nD → PrngReg), Pre_DwBranchKernelIdeal m →
    θ_run (Cert.DwBranchKernelIdeal.defs (F := Ideal)) (onTc (τ := Cert.DwBranchKernelIdeal.τ) (Cert.DwBranchKernelIdeal.main (F := Ideal))) ⟨m, fun _ => 0, g⟩ (fun r => (∀ c : Dev Cert.DwBranchKernelIdeal.nD,
      r.2.mem ((c.tc : Thread Cert.DwBranchKernelIdeal.nD Cert.DwBranchKernelIdeal.τ).loc Cert.DwBranchKernelIdeal.main_arg0) = m ((c.tc : Thread Cert.DwBranchKernelIdeal.nD Cert.DwBranchKernelIdeal.τ).loc Cert.DwBranchKernelIdeal.main_arg0)
      ∧ r.2.mem ((c.tc : Thread Cert.DwBranchKernelIdeal.nD Cert.DwBranchKernelIdeal.τ).loc Cert.DwBranchKernelIdeal.main_arg1) = m ((c.tc : Thread Cert.DwBranchKernelIdeal.nD Cert.DwBranchKernelIdeal.τ).loc Cert.DwBranchKernelIdeal.main_arg1))
      ∧ r.2.sem = fun _ => 0)

def quiescent_DwBranchReferenceIdeal [hDwBranchReferenceIdeal : Cert.DwBranchReferenceIdeal.Facts] : Prop :=
  ∀ (m : (ℓ : Loc Cert.DwBranchReferenceIdeal.nD Cert.DwBranchReferenceIdeal.τ Cert.DwBranchReferenceIdeal.sig) → Buf (Elt Ideal) ℓ) (g : Dev Cert.DwBranchReferenceIdeal.nD → PrngReg), Pre_DwBranchReferenceIdeal m →
    θ_run (Cert.DwBranchReferenceIdeal.defs (F := Ideal)) (onTc (τ := Cert.DwBranchReferenceIdeal.τ) (Cert.DwBranchReferenceIdeal.main (F := Ideal))) ⟨m, fun _ => 0, g⟩ (fun r => (∀ c : Dev Cert.DwBranchReferenceIdeal.nD,
      r.2.mem ((c.tc : Thread Cert.DwBranchReferenceIdeal.nD Cert.DwBranchReferenceIdeal.τ).loc Cert.DwBranchReferenceIdeal.main_arg0) = m ((c.tc : Thread Cert.DwBranchReferenceIdeal.nD Cert.DwBranchReferenceIdeal.τ).loc Cert.DwBranchReferenceIdeal.main_arg0)
      ∧ r.2.mem ((c.tc : Thread Cert.DwBranchReferenceIdeal.nD Cert.DwBranchReferenceIdeal.τ).loc Cert.DwBranchReferenceIdeal.main_arg1) = m ((c.tc : Thread Cert.DwBranchReferenceIdeal.nD Cert.DwBranchReferenceIdeal.τ).loc Cert.DwBranchReferenceIdeal.main_arg1))
      ∧ r.2.sem = fun _ => 0)

def quiescent_DyAttKernel [hDyAttKernel : Cert.DyAttKernel.Facts] : Prop :=
  ∀ (m : (ℓ : Loc Cert.DyAttKernel.nD Cert.DyAttKernel.τ Cert.DyAttKernel.sig) → Buf (Elt Bits) ℓ) (g : Dev Cert.DyAttKernel.nD → PrngReg), Pre_DyAttKernel m →
    θ_run (Cert.DyAttKernel.defs (F := Bits)) (onTc (τ := Cert.DyAttKernel.τ) (Cert.DyAttKernel.main (F := Bits))) ⟨m, fun _ => 0, g⟩ (fun r => (∀ c : Dev Cert.DyAttKernel.nD,
      r.2.mem ((c.tc : Thread Cert.DyAttKernel.nD Cert.DyAttKernel.τ).loc Cert.DyAttKernel.main_arg0) = m ((c.tc : Thread Cert.DyAttKernel.nD Cert.DyAttKernel.τ).loc Cert.DyAttKernel.main_arg0)
      ∧ r.2.mem ((c.tc : Thread Cert.DyAttKernel.nD Cert.DyAttKernel.τ).loc Cert.DyAttKernel.main_arg1) = m ((c.tc : Thread Cert.DyAttKernel.nD Cert.DyAttKernel.τ).loc Cert.DyAttKernel.main_arg1))
      ∧ r.2.sem = fun _ => 0)

def quiescent_DyAttKernelIdeal [hDyAttKernelIdeal : Cert.DyAttKernelIdeal.Facts] : Prop :=
  ∀ (m : (ℓ : Loc Cert.DyAttKernelIdeal.nD Cert.DyAttKernelIdeal.τ Cert.DyAttKernelIdeal.sig) → Buf (Elt Ideal) ℓ) (g : Dev Cert.DyAttKernelIdeal.nD → PrngReg), Pre_DyAttKernelIdeal m →
    θ_run (Cert.DyAttKernelIdeal.defs (F := Ideal)) (onTc (τ := Cert.DyAttKernelIdeal.τ) (Cert.DyAttKernelIdeal.main (F := Ideal))) ⟨m, fun _ => 0, g⟩ (fun r => (∀ c : Dev Cert.DyAttKernelIdeal.nD,
      r.2.mem ((c.tc : Thread Cert.DyAttKernelIdeal.nD Cert.DyAttKernelIdeal.τ).loc Cert.DyAttKernelIdeal.main_arg0) = m ((c.tc : Thread Cert.DyAttKernelIdeal.nD Cert.DyAttKernelIdeal.τ).loc Cert.DyAttKernelIdeal.main_arg0)
      ∧ r.2.mem ((c.tc : Thread Cert.DyAttKernelIdeal.nD Cert.DyAttKernelIdeal.τ).loc Cert.DyAttKernelIdeal.main_arg1) = m ((c.tc : Thread Cert.DyAttKernelIdeal.nD Cert.DyAttKernelIdeal.τ).loc Cert.DyAttKernelIdeal.main_arg1))
      ∧ r.2.sem = fun _ => 0)

def quiescent_DyAttReferenceIdeal [hDyAttReferenceIdeal : Cert.DyAttReferenceIdeal.Facts] : Prop :=
  ∀ (m : (ℓ : Loc Cert.DyAttReferenceIdeal.nD Cert.DyAttReferenceIdeal.τ Cert.DyAttReferenceIdeal.sig) → Buf (Elt Ideal) ℓ) (g : Dev Cert.DyAttReferenceIdeal.nD → PrngReg), Pre_DyAttReferenceIdeal m →
    θ_run (Cert.DyAttReferenceIdeal.defs (F := Ideal)) (onTc (τ := Cert.DyAttReferenceIdeal.τ) (Cert.DyAttReferenceIdeal.main (F := Ideal))) ⟨m, fun _ => 0, g⟩ (fun r => (∀ c : Dev Cert.DyAttReferenceIdeal.nD,
      r.2.mem ((c.tc : Thread Cert.DyAttReferenceIdeal.nD Cert.DyAttReferenceIdeal.τ).loc Cert.DyAttReferenceIdeal.main_arg0) = m ((c.tc : Thread Cert.DyAttReferenceIdeal.nD Cert.DyAttReferenceIdeal.τ).loc Cert.DyAttReferenceIdeal.main_arg0)
      ∧ r.2.mem ((c.tc : Thread Cert.DyAttReferenceIdeal.nD Cert.DyAttReferenceIdeal.τ).loc Cert.DyAttReferenceIdeal.main_arg1) = m ((c.tc : Thread Cert.DyAttReferenceIdeal.nD Cert.DyAttReferenceIdeal.τ).loc Cert.DyAttReferenceIdeal.main_arg1))
      ∧ r.2.sem = fun _ => 0)

def quiescent_DySguKernel [hDySguKernel : Cert.DySguKernel.Facts] : Prop :=
  ∀ (m : (ℓ : Loc Cert.DySguKernel.nD Cert.DySguKernel.τ Cert.DySguKernel.sig) → Buf (Elt Bits) ℓ) (g : Dev Cert.DySguKernel.nD → PrngReg), Pre_DySguKernel m →
    θ_run (Cert.DySguKernel.defs (F := Bits)) (onTc (τ := Cert.DySguKernel.τ) (Cert.DySguKernel.main (F := Bits))) ⟨m, fun _ => 0, g⟩ (fun r => (∀ c : Dev Cert.DySguKernel.nD,
      r.2.mem ((c.tc : Thread Cert.DySguKernel.nD Cert.DySguKernel.τ).loc Cert.DySguKernel.main_arg0) = m ((c.tc : Thread Cert.DySguKernel.nD Cert.DySguKernel.τ).loc Cert.DySguKernel.main_arg0)
      ∧ r.2.mem ((c.tc : Thread Cert.DySguKernel.nD Cert.DySguKernel.τ).loc Cert.DySguKernel.main_arg1) = m ((c.tc : Thread Cert.DySguKernel.nD Cert.DySguKernel.τ).loc Cert.DySguKernel.main_arg1))
      ∧ r.2.sem = fun _ => 0)

def quiescent_DySguKernelIdeal [hDySguKernelIdeal : Cert.DySguKernelIdeal.Facts] : Prop :=
  ∀ (m : (ℓ : Loc Cert.DySguKernelIdeal.nD Cert.DySguKernelIdeal.τ Cert.DySguKernelIdeal.sig) → Buf (Elt Ideal) ℓ) (g : Dev Cert.DySguKernelIdeal.nD → PrngReg), Pre_DySguKernelIdeal m →
    θ_run (Cert.DySguKernelIdeal.defs (F := Ideal)) (onTc (τ := Cert.DySguKernelIdeal.τ) (Cert.DySguKernelIdeal.main (F := Ideal))) ⟨m, fun _ => 0, g⟩ (fun r => (∀ c : Dev Cert.DySguKernelIdeal.nD,
      r.2.mem ((c.tc : Thread Cert.DySguKernelIdeal.nD Cert.DySguKernelIdeal.τ).loc Cert.DySguKernelIdeal.main_arg0) = m ((c.tc : Thread Cert.DySguKernelIdeal.nD Cert.DySguKernelIdeal.τ).loc Cert.DySguKernelIdeal.main_arg0)
      ∧ r.2.mem ((c.tc : Thread Cert.DySguKernelIdeal.nD Cert.DySguKernelIdeal.τ).loc Cert.DySguKernelIdeal.main_arg1) = m ((c.tc : Thread Cert.DySguKernelIdeal.nD Cert.DySguKernelIdeal.τ).loc Cert.DySguKernelIdeal.main_arg1))
      ∧ r.2.sem = fun _ => 0)

def quiescent_DySguReferenceIdeal [hDySguReferenceIdeal : Cert.DySguReferenceIdeal.Facts] : Prop :=
  ∀ (m : (ℓ : Loc Cert.DySguReferenceIdeal.nD Cert.DySguReferenceIdeal.τ Cert.DySguReferenceIdeal.sig) → Buf (Elt Ideal) ℓ) (g : Dev Cert.DySguReferenceIdeal.nD → PrngReg), Pre_DySguReferenceIdeal m →
    θ_run (Cert.DySguReferenceIdeal.defs (F := Ideal)) (onTc (τ := Cert.DySguReferenceIdeal.τ) (Cert.DySguReferenceIdeal.main (F := Ideal))) ⟨m, fun _ => 0, g⟩ (fun r => (∀ c : Dev Cert.DySguReferenceIdeal.nD,
      r.2.mem ((c.tc : Thread Cert.DySguReferenceIdeal.nD Cert.DySguReferenceIdeal.τ).loc Cert.DySguReferenceIdeal.main_arg0) = m ((c.tc : Thread Cert.DySguReferenceIdeal.nD Cert.DySguReferenceIdeal.τ).loc Cert.DySguReferenceIdeal.main_arg0)
      ∧ r.2.mem ((c.tc : Thread Cert.DySguReferenceIdeal.nD Cert.DySguReferenceIdeal.τ).loc Cert.DySguReferenceIdeal.main_arg1) = m ((c.tc : Thread Cert.DySguReferenceIdeal.nD Cert.DySguReferenceIdeal.τ).loc Cert.DySguReferenceIdeal.main_arg1))
      ∧ r.2.sem = fun _ => 0)

def quiescent_UpConvKernel [hUpConvKernel : Cert.UpConvKernel.Facts] : Prop :=
  ∀ (m : (ℓ : Loc Cert.UpConvKernel.nD Cert.UpConvKernel.τ Cert.UpConvKernel.sig) → Buf (Elt Bits) ℓ) (g : Dev Cert.UpConvKernel.nD → PrngReg), Pre_UpConvKernel m →
    θ_run (Cert.UpConvKernel.defs (F := Bits)) (onTc (τ := Cert.UpConvKernel.τ) (Cert.UpConvKernel.main (F := Bits))) ⟨m, fun _ => 0, g⟩ (fun r => (∀ c : Dev Cert.UpConvKernel.nD,
      r.2.mem ((c.tc : Thread Cert.UpConvKernel.nD Cert.UpConvKernel.τ).loc Cert.UpConvKernel.main_arg0) = m ((c.tc : Thread Cert.UpConvKernel.nD Cert.UpConvKernel.τ).loc Cert.UpConvKernel.main_arg0)
      ∧ r.2.mem ((c.tc : Thread Cert.UpConvKernel.nD Cert.UpConvKernel.τ).loc Cert.UpConvKernel.main_arg1) = m ((c.tc : Thread Cert.UpConvKernel.nD Cert.UpConvKernel.τ).loc Cert.UpConvKernel.main_arg1)
      ∧ r.2.mem ((c.tc : Thread Cert.UpConvKernel.nD Cert.UpConvKernel.τ).loc Cert.UpConvKernel.main_arg2) = m ((c.tc : Thread Cert.UpConvKernel.nD Cert.UpConvKernel.τ).loc Cert.UpConvKernel.main_arg2)
      ∧ r.2.mem ((c.tc : Thread Cert.UpConvKernel.nD Cert.UpConvKernel.τ).loc Cert.UpConvKernel.main_arg3) = m ((c.tc : Thread Cert.UpConvKernel.nD Cert.UpConvKernel.τ).loc Cert.UpConvKernel.main_arg3))
      ∧ r.2.sem = fun _ => 0)

def quiescent_UpConvKernelIdeal [hUpConvKernelIdeal : Cert.UpConvKernelIdeal.Facts] : Prop :=
  ∀ (m : (ℓ : Loc Cert.UpConvKernelIdeal.nD Cert.UpConvKernelIdeal.τ Cert.UpConvKernelIdeal.sig) → Buf (Elt Ideal) ℓ) (g : Dev Cert.UpConvKernelIdeal.nD → PrngReg), Pre_UpConvKernelIdeal m →
    θ_run (Cert.UpConvKernelIdeal.defs (F := Ideal)) (onTc (τ := Cert.UpConvKernelIdeal.τ) (Cert.UpConvKernelIdeal.main (F := Ideal))) ⟨m, fun _ => 0, g⟩ (fun r => (∀ c : Dev Cert.UpConvKernelIdeal.nD,
      r.2.mem ((c.tc : Thread Cert.UpConvKernelIdeal.nD Cert.UpConvKernelIdeal.τ).loc Cert.UpConvKernelIdeal.main_arg0) = m ((c.tc : Thread Cert.UpConvKernelIdeal.nD Cert.UpConvKernelIdeal.τ).loc Cert.UpConvKernelIdeal.main_arg0)
      ∧ r.2.mem ((c.tc : Thread Cert.UpConvKernelIdeal.nD Cert.UpConvKernelIdeal.τ).loc Cert.UpConvKernelIdeal.main_arg1) = m ((c.tc : Thread Cert.UpConvKernelIdeal.nD Cert.UpConvKernelIdeal.τ).loc Cert.UpConvKernelIdeal.main_arg1)
      ∧ r.2.mem ((c.tc : Thread Cert.UpConvKernelIdeal.nD Cert.UpConvKernelIdeal.τ).loc Cert.UpConvKernelIdeal.main_arg2) = m ((c.tc : Thread Cert.UpConvKernelIdeal.nD Cert.UpConvKernelIdeal.τ).loc Cert.UpConvKernelIdeal.main_arg2)
      ∧ r.2.mem ((c.tc : Thread Cert.UpConvKernelIdeal.nD Cert.UpConvKernelIdeal.τ).loc Cert.UpConvKernelIdeal.main_arg3) = m ((c.tc : Thread Cert.UpConvKernelIdeal.nD Cert.UpConvKernelIdeal.τ).loc Cert.UpConvKernelIdeal.main_arg3))
      ∧ r.2.sem = fun _ => 0)

def quiescent_UpConvReferenceIdeal [hUpConvReferenceIdeal : Cert.UpConvReferenceIdeal.Facts] : Prop :=
  ∀ (m : (ℓ : Loc Cert.UpConvReferenceIdeal.nD Cert.UpConvReferenceIdeal.τ Cert.UpConvReferenceIdeal.sig) → Buf (Elt Ideal) ℓ) (g : Dev Cert.UpConvReferenceIdeal.nD → PrngReg), Pre_UpConvReferenceIdeal m →
    θ_run (Cert.UpConvReferenceIdeal.defs (F := Ideal)) (onTc (τ := Cert.UpConvReferenceIdeal.τ) (Cert.UpConvReferenceIdeal.main (F := Ideal))) ⟨m, fun _ => 0, g⟩ (fun r => (∀ c : Dev Cert.UpConvReferenceIdeal.nD,
      r.2.mem ((c.tc : Thread Cert.UpConvReferenceIdeal.nD Cert.UpConvReferenceIdeal.τ).loc Cert.UpConvReferenceIdeal.main_arg0) = m ((c.tc : Thread Cert.UpConvReferenceIdeal.nD Cert.UpConvReferenceIdeal.τ).loc Cert.UpConvReferenceIdeal.main_arg0)
      ∧ r.2.mem ((c.tc : Thread Cert.UpConvReferenceIdeal.nD Cert.UpConvReferenceIdeal.τ).loc Cert.UpConvReferenceIdeal.main_arg1) = m ((c.tc : Thread Cert.UpConvReferenceIdeal.nD Cert.UpConvReferenceIdeal.τ).loc Cert.UpConvReferenceIdeal.main_arg1)
      ∧ r.2.mem ((c.tc : Thread Cert.UpConvReferenceIdeal.nD Cert.UpConvReferenceIdeal.τ).loc Cert.UpConvReferenceIdeal.main_arg2) = m ((c.tc : Thread Cert.UpConvReferenceIdeal.nD Cert.UpConvReferenceIdeal.τ).loc Cert.UpConvReferenceIdeal.main_arg2)
      ∧ r.2.mem ((c.tc : Thread Cert.UpConvReferenceIdeal.nD Cert.UpConvReferenceIdeal.τ).loc Cert.UpConvReferenceIdeal.main_arg3) = m ((c.tc : Thread Cert.UpConvReferenceIdeal.nD Cert.UpConvReferenceIdeal.τ).loc Cert.UpConvReferenceIdeal.main_arg3))
      ∧ r.2.sem = fun _ => 0)

def quiescent_MergeFwdKernel [hMergeFwdKernel : Cert.MergeFwdKernel.Facts] : Prop :=
  ∀ (m : (ℓ : Loc Cert.MergeFwdKernel.nD Cert.MergeFwdKernel.τ Cert.MergeFwdKernel.sig) → Buf (Elt Bits) ℓ) (g : Dev Cert.MergeFwdKernel.nD → PrngReg), Pre_MergeFwdKernel m →
    θ_run (Cert.MergeFwdKernel.defs (F := Bits)) (onTc (τ := Cert.MergeFwdKernel.τ) (Cert.MergeFwdKernel.main (F := Bits))) ⟨m, fun _ => 0, g⟩ (fun r => (∀ c : Dev Cert.MergeFwdKernel.nD,
      r.2.mem ((c.tc : Thread Cert.MergeFwdKernel.nD Cert.MergeFwdKernel.τ).loc Cert.MergeFwdKernel.main_arg0) = m ((c.tc : Thread Cert.MergeFwdKernel.nD Cert.MergeFwdKernel.τ).loc Cert.MergeFwdKernel.main_arg0)
      ∧ r.2.mem ((c.tc : Thread Cert.MergeFwdKernel.nD Cert.MergeFwdKernel.τ).loc Cert.MergeFwdKernel.main_arg1) = m ((c.tc : Thread Cert.MergeFwdKernel.nD Cert.MergeFwdKernel.τ).loc Cert.MergeFwdKernel.main_arg1)
      ∧ r.2.mem ((c.tc : Thread Cert.MergeFwdKernel.nD Cert.MergeFwdKernel.τ).loc Cert.MergeFwdKernel.main_arg2) = m ((c.tc : Thread Cert.MergeFwdKernel.nD Cert.MergeFwdKernel.τ).loc Cert.MergeFwdKernel.main_arg2)
      ∧ r.2.mem ((c.tc : Thread Cert.MergeFwdKernel.nD Cert.MergeFwdKernel.τ).loc Cert.MergeFwdKernel.main_arg3) = m ((c.tc : Thread Cert.MergeFwdKernel.nD Cert.MergeFwdKernel.τ).loc Cert.MergeFwdKernel.main_arg3)
      ∧ r.2.mem ((c.tc : Thread Cert.MergeFwdKernel.nD Cert.MergeFwdKernel.τ).loc Cert.MergeFwdKernel.main_arg4) = m ((c.tc : Thread Cert.MergeFwdKernel.nD Cert.MergeFwdKernel.τ).loc Cert.MergeFwdKernel.main_arg4))
      ∧ r.2.sem = fun _ => 0)

def quiescent_MergeFwdKernelIdeal [hMergeFwdKernelIdeal : Cert.MergeFwdKernelIdeal.Facts] : Prop :=
  ∀ (m : (ℓ : Loc Cert.MergeFwdKernelIdeal.nD Cert.MergeFwdKernelIdeal.τ Cert.MergeFwdKernelIdeal.sig) → Buf (Elt Ideal) ℓ) (g : Dev Cert.MergeFwdKernelIdeal.nD → PrngReg), Pre_MergeFwdKernelIdeal m →
    θ_run (Cert.MergeFwdKernelIdeal.defs (F := Ideal)) (onTc (τ := Cert.MergeFwdKernelIdeal.τ) (Cert.MergeFwdKernelIdeal.main (F := Ideal))) ⟨m, fun _ => 0, g⟩ (fun r => (∀ c : Dev Cert.MergeFwdKernelIdeal.nD,
      r.2.mem ((c.tc : Thread Cert.MergeFwdKernelIdeal.nD Cert.MergeFwdKernelIdeal.τ).loc Cert.MergeFwdKernelIdeal.main_arg0) = m ((c.tc : Thread Cert.MergeFwdKernelIdeal.nD Cert.MergeFwdKernelIdeal.τ).loc Cert.MergeFwdKernelIdeal.main_arg0)
      ∧ r.2.mem ((c.tc : Thread Cert.MergeFwdKernelIdeal.nD Cert.MergeFwdKernelIdeal.τ).loc Cert.MergeFwdKernelIdeal.main_arg1) = m ((c.tc : Thread Cert.MergeFwdKernelIdeal.nD Cert.MergeFwdKernelIdeal.τ).loc Cert.MergeFwdKernelIdeal.main_arg1)
      ∧ r.2.mem ((c.tc : Thread Cert.MergeFwdKernelIdeal.nD Cert.MergeFwdKernelIdeal.τ).loc Cert.MergeFwdKernelIdeal.main_arg2) = m ((c.tc : Thread Cert.MergeFwdKernelIdeal.nD Cert.MergeFwdKernelIdeal.τ).loc Cert.MergeFwdKernelIdeal.main_arg2)
      ∧ r.2.mem ((c.tc : Thread Cert.MergeFwdKernelIdeal.nD Cert.MergeFwdKernelIdeal.τ).loc Cert.MergeFwdKernelIdeal.main_arg3) = m ((c.tc : Thread Cert.MergeFwdKernelIdeal.nD Cert.MergeFwdKernelIdeal.τ).loc Cert.MergeFwdKernelIdeal.main_arg3)
      ∧ r.2.mem ((c.tc : Thread Cert.MergeFwdKernelIdeal.nD Cert.MergeFwdKernelIdeal.τ).loc Cert.MergeFwdKernelIdeal.main_arg4) = m ((c.tc : Thread Cert.MergeFwdKernelIdeal.nD Cert.MergeFwdKernelIdeal.τ).loc Cert.MergeFwdKernelIdeal.main_arg4))
      ∧ r.2.sem = fun _ => 0)

def quiescent_MergeFwdReferenceIdeal [hMergeFwdReferenceIdeal : Cert.MergeFwdReferenceIdeal.Facts] : Prop :=
  ∀ (m : (ℓ : Loc Cert.MergeFwdReferenceIdeal.nD Cert.MergeFwdReferenceIdeal.τ Cert.MergeFwdReferenceIdeal.sig) → Buf (Elt Ideal) ℓ) (g : Dev Cert.MergeFwdReferenceIdeal.nD → PrngReg), Pre_MergeFwdReferenceIdeal m →
    θ_run (Cert.MergeFwdReferenceIdeal.defs (F := Ideal)) (onTc (τ := Cert.MergeFwdReferenceIdeal.τ) (Cert.MergeFwdReferenceIdeal.main (F := Ideal))) ⟨m, fun _ => 0, g⟩ (fun r => (∀ c : Dev Cert.MergeFwdReferenceIdeal.nD,
      r.2.mem ((c.tc : Thread Cert.MergeFwdReferenceIdeal.nD Cert.MergeFwdReferenceIdeal.τ).loc Cert.MergeFwdReferenceIdeal.main_arg0) = m ((c.tc : Thread Cert.MergeFwdReferenceIdeal.nD Cert.MergeFwdReferenceIdeal.τ).loc Cert.MergeFwdReferenceIdeal.main_arg0)
      ∧ r.2.mem ((c.tc : Thread Cert.MergeFwdReferenceIdeal.nD Cert.MergeFwdReferenceIdeal.τ).loc Cert.MergeFwdReferenceIdeal.main_arg1) = m ((c.tc : Thread Cert.MergeFwdReferenceIdeal.nD Cert.MergeFwdReferenceIdeal.τ).loc Cert.MergeFwdReferenceIdeal.main_arg1)
      ∧ r.2.mem ((c.tc : Thread Cert.MergeFwdReferenceIdeal.nD Cert.MergeFwdReferenceIdeal.τ).loc Cert.MergeFwdReferenceIdeal.main_arg2) = m ((c.tc : Thread Cert.MergeFwdReferenceIdeal.nD Cert.MergeFwdReferenceIdeal.τ).loc Cert.MergeFwdReferenceIdeal.main_arg2)
      ∧ r.2.mem ((c.tc : Thread Cert.MergeFwdReferenceIdeal.nD Cert.MergeFwdReferenceIdeal.τ).loc Cert.MergeFwdReferenceIdeal.main_arg3) = m ((c.tc : Thread Cert.MergeFwdReferenceIdeal.nD Cert.MergeFwdReferenceIdeal.τ).loc Cert.MergeFwdReferenceIdeal.main_arg3)
      ∧ r.2.mem ((c.tc : Thread Cert.MergeFwdReferenceIdeal.nD Cert.MergeFwdReferenceIdeal.τ).loc Cert.MergeFwdReferenceIdeal.main_arg4) = m ((c.tc : Thread Cert.MergeFwdReferenceIdeal.nD Cert.MergeFwdReferenceIdeal.τ).loc Cert.MergeFwdReferenceIdeal.main_arg4))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_DhTwoKernel [hDhTwoKernel : Cert.DhTwoKernel.Facts] : Prop :=
  ∀ (m : (ℓ : Loc Cert.DhTwoKernel.nD Cert.DhTwoKernel.τ Cert.DhTwoKernel.sig) → Buf (Elt Bits) ℓ) (g : Dev Cert.DhTwoKernel.nD → PrngReg), Pre_DhTwoKernel m →
    θ_run (Cert.DhTwoKernel.defs (F := Bits)) (onTc (τ := Cert.DhTwoKernel.τ) (Cert.DhTwoKernel.main (F := Bits))) ⟨m, fun _ => 0, g⟩ (fun r => (∀ c : Dev Cert.DhTwoKernel.nD,
      r.2.mem ((c.tc : Thread Cert.DhTwoKernel.nD Cert.DhTwoKernel.τ).loc Cert.DhTwoKernel.main_arg0) = m ((c.tc : Thread Cert.DhTwoKernel.nD Cert.DhTwoKernel.τ).loc Cert.DhTwoKernel.main_arg0)
      ∧ r.2.mem ((c.tc : Thread Cert.DhTwoKernel.nD Cert.DhTwoKernel.τ).loc Cert.DhTwoKernel.main_arg1) = m ((c.tc : Thread Cert.DhTwoKernel.nD Cert.DhTwoKernel.τ).loc Cert.DhTwoKernel.main_arg1)
      ∧ r.2.mem ((c.tc : Thread Cert.DhTwoKernel.nD Cert.DhTwoKernel.τ).loc Cert.DhTwoKernel.main_arg2) = m ((c.tc : Thread Cert.DhTwoKernel.nD Cert.DhTwoKernel.τ).loc Cert.DhTwoKernel.main_arg2)
      ∧ r.2.mem ((c.tc : Thread Cert.DhTwoKernel.nD Cert.DhTwoKernel.τ).loc Cert.DhTwoKernel.main_arg3) = m ((c.tc : Thread Cert.DhTwoKernel.nD Cert.DhTwoKernel.τ).loc Cert.DhTwoKernel.main_arg3)
      ∧ r.2.mem ((c.tc : Thread Cert.DhTwoKernel.nD Cert.DhTwoKernel.τ).loc Cert.DhTwoKernel.main_arg4) = m ((c.tc : Thread Cert.DhTwoKernel.nD Cert.DhTwoKernel.τ).loc Cert.DhTwoKernel.main_arg4)
      ∧ r.2.mem ((c.tc : Thread Cert.DhTwoKernel.nD Cert.DhTwoKernel.τ).loc Cert.DhTwoKernel.main_arg5) = m ((c.tc : Thread Cert.DhTwoKernel.nD Cert.DhTwoKernel.τ).loc Cert.DhTwoKernel.main_arg5))
      ∧ r.2.sem = fun _ => 0)

def quiescent_DhTwoKernelIdeal [hDhTwoKernelIdeal : Cert.DhTwoKernelIdeal.Facts] : Prop :=
  ∀ (m : (ℓ : Loc Cert.DhTwoKernelIdeal.nD Cert.DhTwoKernelIdeal.τ Cert.DhTwoKernelIdeal.sig) → Buf (Elt Ideal) ℓ) (g : Dev Cert.DhTwoKernelIdeal.nD → PrngReg), Pre_DhTwoKernelIdeal m →
    θ_run (Cert.DhTwoKernelIdeal.defs (F := Ideal)) (onTc (τ := Cert.DhTwoKernelIdeal.τ) (Cert.DhTwoKernelIdeal.main (F := Ideal))) ⟨m, fun _ => 0, g⟩ (fun r => (∀ c : Dev Cert.DhTwoKernelIdeal.nD,
      r.2.mem ((c.tc : Thread Cert.DhTwoKernelIdeal.nD Cert.DhTwoKernelIdeal.τ).loc Cert.DhTwoKernelIdeal.main_arg0) = m ((c.tc : Thread Cert.DhTwoKernelIdeal.nD Cert.DhTwoKernelIdeal.τ).loc Cert.DhTwoKernelIdeal.main_arg0)
      ∧ r.2.mem ((c.tc : Thread Cert.DhTwoKernelIdeal.nD Cert.DhTwoKernelIdeal.τ).loc Cert.DhTwoKernelIdeal.main_arg1) = m ((c.tc : Thread Cert.DhTwoKernelIdeal.nD Cert.DhTwoKernelIdeal.τ).loc Cert.DhTwoKernelIdeal.main_arg1)
      ∧ r.2.mem ((c.tc : Thread Cert.DhTwoKernelIdeal.nD Cert.DhTwoKernelIdeal.τ).loc Cert.DhTwoKernelIdeal.main_arg2) = m ((c.tc : Thread Cert.DhTwoKernelIdeal.nD Cert.DhTwoKernelIdeal.τ).loc Cert.DhTwoKernelIdeal.main_arg2)
      ∧ r.2.mem ((c.tc : Thread Cert.DhTwoKernelIdeal.nD Cert.DhTwoKernelIdeal.τ).loc Cert.DhTwoKernelIdeal.main_arg3) = m ((c.tc : Thread Cert.DhTwoKernelIdeal.nD Cert.DhTwoKernelIdeal.τ).loc Cert.DhTwoKernelIdeal.main_arg3)
      ∧ r.2.mem ((c.tc : Thread Cert.DhTwoKernelIdeal.nD Cert.DhTwoKernelIdeal.τ).loc Cert.DhTwoKernelIdeal.main_arg4) = m ((c.tc : Thread Cert.DhTwoKernelIdeal.nD Cert.DhTwoKernelIdeal.τ).loc Cert.DhTwoKernelIdeal.main_arg4)
      ∧ r.2.mem ((c.tc : Thread Cert.DhTwoKernelIdeal.nD Cert.DhTwoKernelIdeal.τ).loc Cert.DhTwoKernelIdeal.main_arg5) = m ((c.tc : Thread Cert.DhTwoKernelIdeal.nD Cert.DhTwoKernelIdeal.τ).loc Cert.DhTwoKernelIdeal.main_arg5))
      ∧ r.2.sem = fun _ => 0)

def quiescent_DhTwoKernelIdeal_pre_finite_dh2 [hDhTwoKernelIdeal : Cert.DhTwoKernelIdeal.Facts] [hPre_finite_dh2 : Cert.Pre_finite_dh2.Facts] : Prop :=
  ∀ (m : (ℓ : Loc Cert.DhTwoKernelIdeal.nD Cert.DhTwoKernelIdeal.τ Cert.DhTwoKernelIdeal.sig) → Buf (Elt Ideal) ℓ) (g : Dev Cert.DhTwoKernelIdeal.nD → PrngReg), Pre_DhTwoKernelIdeal_finite_dh2 m →
    θ_run (Cert.DhTwoKernelIdeal.defs (F := Ideal)) (onTc (τ := Cert.DhTwoKernelIdeal.τ) (Cert.DhTwoKernelIdeal.main (F := Ideal))) ⟨m, fun _ => 0, g⟩ (fun r => (∀ c : Dev Cert.DhTwoKernelIdeal.nD,
      r.2.mem ((c.tc : Thread Cert.DhTwoKernelIdeal.nD Cert.DhTwoKernelIdeal.τ).loc Cert.DhTwoKernelIdeal.main_arg0) = m ((c.tc : Thread Cert.DhTwoKernelIdeal.nD Cert.DhTwoKernelIdeal.τ).loc Cert.DhTwoKernelIdeal.main_arg0)
      ∧ r.2.mem ((c.tc : Thread Cert.DhTwoKernelIdeal.nD Cert.DhTwoKernelIdeal.τ).loc Cert.DhTwoKernelIdeal.main_arg1) = m ((c.tc : Thread Cert.DhTwoKernelIdeal.nD Cert.DhTwoKernelIdeal.τ).loc Cert.DhTwoKernelIdeal.main_arg1)
      ∧ r.2.mem ((c.tc : Thread Cert.DhTwoKernelIdeal.nD Cert.DhTwoKernelIdeal.τ).loc Cert.DhTwoKernelIdeal.main_arg2) = m ((c.tc : Thread Cert.DhTwoKernelIdeal.nD Cert.DhTwoKernelIdeal.τ).loc Cert.DhTwoKernelIdeal.main_arg2)
      ∧ r.2.mem ((c.tc : Thread Cert.DhTwoKernelIdeal.nD Cert.DhTwoKernelIdeal.τ).loc Cert.DhTwoKernelIdeal.main_arg3) = m ((c.tc : Thread Cert.DhTwoKernelIdeal.nD Cert.DhTwoKernelIdeal.τ).loc Cert.DhTwoKernelIdeal.main_arg3)
      ∧ r.2.mem ((c.tc : Thread Cert.DhTwoKernelIdeal.nD Cert.DhTwoKernelIdeal.τ).loc Cert.DhTwoKernelIdeal.main_arg4) = m ((c.tc : Thread Cert.DhTwoKernelIdeal.nD Cert.DhTwoKernelIdeal.τ).loc Cert.DhTwoKernelIdeal.main_arg4)
      ∧ r.2.mem ((c.tc : Thread Cert.DhTwoKernelIdeal.nD Cert.DhTwoKernelIdeal.τ).loc Cert.DhTwoKernelIdeal.main_arg5) = m ((c.tc : Thread Cert.DhTwoKernelIdeal.nD Cert.DhTwoKernelIdeal.τ).loc Cert.DhTwoKernelIdeal.main_arg5))
      ∧ r.2.sem = fun _ => 0)

def quiescent_DhTwoReferenceIdeal [hDhTwoReferenceIdeal : Cert.DhTwoReferenceIdeal.Facts] : Prop :=
  ∀ (m : (ℓ : Loc Cert.DhTwoReferenceIdeal.nD Cert.DhTwoReferenceIdeal.τ Cert.DhTwoReferenceIdeal.sig) → Buf (Elt Ideal) ℓ) (g : Dev Cert.DhTwoReferenceIdeal.nD → PrngReg), Pre_DhTwoReferenceIdeal m →
    θ_run (Cert.DhTwoReferenceIdeal.defs (F := Ideal)) (onTc (τ := Cert.DhTwoReferenceIdeal.τ) (Cert.DhTwoReferenceIdeal.main (F := Ideal))) ⟨m, fun _ => 0, g⟩ (fun r => (∀ c : Dev Cert.DhTwoReferenceIdeal.nD,
      r.2.mem ((c.tc : Thread Cert.DhTwoReferenceIdeal.nD Cert.DhTwoReferenceIdeal.τ).loc Cert.DhTwoReferenceIdeal.main_arg0) = m ((c.tc : Thread Cert.DhTwoReferenceIdeal.nD Cert.DhTwoReferenceIdeal.τ).loc Cert.DhTwoReferenceIdeal.main_arg0)
      ∧ r.2.mem ((c.tc : Thread Cert.DhTwoReferenceIdeal.nD Cert.DhTwoReferenceIdeal.τ).loc Cert.DhTwoReferenceIdeal.main_arg1) = m ((c.tc : Thread Cert.DhTwoReferenceIdeal.nD Cert.DhTwoReferenceIdeal.τ).loc Cert.DhTwoReferenceIdeal.main_arg1)
      ∧ r.2.mem ((c.tc : Thread Cert.DhTwoReferenceIdeal.nD Cert.DhTwoReferenceIdeal.τ).loc Cert.DhTwoReferenceIdeal.main_arg2) = m ((c.tc : Thread Cert.DhTwoReferenceIdeal.nD Cert.DhTwoReferenceIdeal.τ).loc Cert.DhTwoReferenceIdeal.main_arg2)
      ∧ r.2.mem ((c.tc : Thread Cert.DhTwoReferenceIdeal.nD Cert.DhTwoReferenceIdeal.τ).loc Cert.DhTwoReferenceIdeal.main_arg3) = m ((c.tc : Thread Cert.DhTwoReferenceIdeal.nD Cert.DhTwoReferenceIdeal.τ).loc Cert.DhTwoReferenceIdeal.main_arg3)
      ∧ r.2.mem ((c.tc : Thread Cert.DhTwoReferenceIdeal.nD Cert.DhTwoReferenceIdeal.τ).loc Cert.DhTwoReferenceIdeal.main_arg4) = m ((c.tc : Thread Cert.DhTwoReferenceIdeal.nD Cert.DhTwoReferenceIdeal.τ).loc Cert.DhTwoReferenceIdeal.main_arg4)
      ∧ r.2.mem ((c.tc : Thread Cert.DhTwoReferenceIdeal.nD Cert.DhTwoReferenceIdeal.τ).loc Cert.DhTwoReferenceIdeal.main_arg5) = m ((c.tc : Thread Cert.DhTwoReferenceIdeal.nD Cert.DhTwoReferenceIdeal.τ).loc Cert.DhTwoReferenceIdeal.main_arg5))
      ∧ r.2.sem = fun _ => 0)

def quiescent_DhTwoReferenceIdeal_pre_finite_dh2 [hDhTwoReferenceIdeal : Cert.DhTwoReferenceIdeal.Facts] [hPre_finite_dh2 : Cert.Pre_finite_dh2.Facts] : Prop :=
  ∀ (m : (ℓ : Loc Cert.DhTwoReferenceIdeal.nD Cert.DhTwoReferenceIdeal.τ Cert.DhTwoReferenceIdeal.sig) → Buf (Elt Ideal) ℓ) (g : Dev Cert.DhTwoReferenceIdeal.nD → PrngReg), Pre_DhTwoReferenceIdeal_finite_dh2 m →
    θ_run (Cert.DhTwoReferenceIdeal.defs (F := Ideal)) (onTc (τ := Cert.DhTwoReferenceIdeal.τ) (Cert.DhTwoReferenceIdeal.main (F := Ideal))) ⟨m, fun _ => 0, g⟩ (fun r => (∀ c : Dev Cert.DhTwoReferenceIdeal.nD,
      r.2.mem ((c.tc : Thread Cert.DhTwoReferenceIdeal.nD Cert.DhTwoReferenceIdeal.τ).loc Cert.DhTwoReferenceIdeal.main_arg0) = m ((c.tc : Thread Cert.DhTwoReferenceIdeal.nD Cert.DhTwoReferenceIdeal.τ).loc Cert.DhTwoReferenceIdeal.main_arg0)
      ∧ r.2.mem ((c.tc : Thread Cert.DhTwoReferenceIdeal.nD Cert.DhTwoReferenceIdeal.τ).loc Cert.DhTwoReferenceIdeal.main_arg1) = m ((c.tc : Thread Cert.DhTwoReferenceIdeal.nD Cert.DhTwoReferenceIdeal.τ).loc Cert.DhTwoReferenceIdeal.main_arg1)
      ∧ r.2.mem ((c.tc : Thread Cert.DhTwoReferenceIdeal.nD Cert.DhTwoReferenceIdeal.τ).loc Cert.DhTwoReferenceIdeal.main_arg2) = m ((c.tc : Thread Cert.DhTwoReferenceIdeal.nD Cert.DhTwoReferenceIdeal.τ).loc Cert.DhTwoReferenceIdeal.main_arg2)
      ∧ r.2.mem ((c.tc : Thread Cert.DhTwoReferenceIdeal.nD Cert.DhTwoReferenceIdeal.τ).loc Cert.DhTwoReferenceIdeal.main_arg3) = m ((c.tc : Thread Cert.DhTwoReferenceIdeal.nD Cert.DhTwoReferenceIdeal.τ).loc Cert.DhTwoReferenceIdeal.main_arg3)
      ∧ r.2.mem ((c.tc : Thread Cert.DhTwoReferenceIdeal.nD Cert.DhTwoReferenceIdeal.τ).loc Cert.DhTwoReferenceIdeal.main_arg4) = m ((c.tc : Thread Cert.DhTwoReferenceIdeal.nD Cert.DhTwoReferenceIdeal.τ).loc Cert.DhTwoReferenceIdeal.main_arg4)
      ∧ r.2.mem ((c.tc : Thread Cert.DhTwoReferenceIdeal.nD Cert.DhTwoReferenceIdeal.τ).loc Cert.DhTwoReferenceIdeal.main_arg5) = m ((c.tc : Thread Cert.DhTwoReferenceIdeal.nD Cert.DhTwoReferenceIdeal.τ).loc Cert.DhTwoReferenceIdeal.main_arg5))
      ∧ r.2.sem = fun _ => 0)

def quiescent_DhKernel [hDhKernel : Cert.DhKernel.Facts] : Prop :=
  ∀ (m : (ℓ : Loc Cert.DhKernel.nD Cert.DhKernel.τ Cert.DhKernel.sig) → Buf (Elt Bits) ℓ) (g : Dev Cert.DhKernel.nD → PrngReg), Pre_DhKernel m →
    θ_run (Cert.DhKernel.defs (F := Bits)) (onTc (τ := Cert.DhKernel.τ) (Cert.DhKernel.main (F := Bits))) ⟨m, fun _ => 0, g⟩ (fun r => (∀ c : Dev Cert.DhKernel.nD,
      r.2.mem ((c.tc : Thread Cert.DhKernel.nD Cert.DhKernel.τ).loc Cert.DhKernel.main_arg0) = m ((c.tc : Thread Cert.DhKernel.nD Cert.DhKernel.τ).loc Cert.DhKernel.main_arg0)
      ∧ r.2.mem ((c.tc : Thread Cert.DhKernel.nD Cert.DhKernel.τ).loc Cert.DhKernel.main_arg1) = m ((c.tc : Thread Cert.DhKernel.nD Cert.DhKernel.τ).loc Cert.DhKernel.main_arg1)
      ∧ r.2.mem ((c.tc : Thread Cert.DhKernel.nD Cert.DhKernel.τ).loc Cert.DhKernel.main_arg2) = m ((c.tc : Thread Cert.DhKernel.nD Cert.DhKernel.τ).loc Cert.DhKernel.main_arg2)
      ∧ r.2.mem ((c.tc : Thread Cert.DhKernel.nD Cert.DhKernel.τ).loc Cert.DhKernel.main_arg3) = m ((c.tc : Thread Cert.DhKernel.nD Cert.DhKernel.τ).loc Cert.DhKernel.main_arg3)
      ∧ r.2.mem ((c.tc : Thread Cert.DhKernel.nD Cert.DhKernel.τ).loc Cert.DhKernel.main_arg4) = m ((c.tc : Thread Cert.DhKernel.nD Cert.DhKernel.τ).loc Cert.DhKernel.main_arg4)
      ∧ r.2.mem ((c.tc : Thread Cert.DhKernel.nD Cert.DhKernel.τ).loc Cert.DhKernel.main_arg5) = m ((c.tc : Thread Cert.DhKernel.nD Cert.DhKernel.τ).loc Cert.DhKernel.main_arg5)
      ∧ r.2.mem ((c.tc : Thread Cert.DhKernel.nD Cert.DhKernel.τ).loc Cert.DhKernel.main_arg6) = m ((c.tc : Thread Cert.DhKernel.nD Cert.DhKernel.τ).loc Cert.DhKernel.main_arg6)
      ∧ r.2.mem ((c.tc : Thread Cert.DhKernel.nD Cert.DhKernel.τ).loc Cert.DhKernel.main_arg7) = m ((c.tc : Thread Cert.DhKernel.nD Cert.DhKernel.τ).loc Cert.DhKernel.main_arg7))
      ∧ r.2.sem = fun _ => 0)

def quiescent_DhKernelIdeal [hDhKernelIdeal : Cert.DhKernelIdeal.Facts] : Prop :=
  ∀ (m : (ℓ : Loc Cert.DhKernelIdeal.nD Cert.DhKernelIdeal.τ Cert.DhKernelIdeal.sig) → Buf (Elt Ideal) ℓ) (g : Dev Cert.DhKernelIdeal.nD → PrngReg), Pre_DhKernelIdeal m →
    θ_run (Cert.DhKernelIdeal.defs (F := Ideal)) (onTc (τ := Cert.DhKernelIdeal.τ) (Cert.DhKernelIdeal.main (F := Ideal))) ⟨m, fun _ => 0, g⟩ (fun r => (∀ c : Dev Cert.DhKernelIdeal.nD,
      r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
      ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
      ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
      ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
      ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4)
      ∧ r.2.mem ((c.tc : Thread Cert.DhKernelIdeal.nD Cert.DhKernelIdeal.τ).loc Cert.DhKernelIdeal.main_arg5) = m ((c.tc : Thread Cert.DhKernelIdeal.nD Cert.DhKernelIdeal.τ).loc Cert.DhKernelIdeal.main_arg5)
      ∧ r.2.mem ((c.tc : Thread Cert.DhKernelIdeal.nD Cert.DhKernelIdeal.τ).loc Cert.DhKernelIdeal.main_arg6) = m ((c.tc : Thread Cert.DhKernelIdeal.nD Cert.DhKernelIdeal.τ).loc Cert.DhKernelIdeal.main_arg6)
      ∧ r.2.mem ((c.tc : Thread Cert.DhKernelIdeal.nD Cert.DhKernelIdeal.τ).loc Cert.DhKernelIdeal.main_arg7) = m ((c.tc : Thread Cert.DhKernelIdeal.nD Cert.DhKernelIdeal.τ).loc Cert.DhKernelIdeal.main_arg7))
      ∧ r.2.sem = fun _ => 0)

def quiescent_DhKernelIdeal_pre_finite_dh [hDhKernelIdeal : Cert.DhKernelIdeal.Facts] [hPre_finite_dh : Cert.Pre_finite_dh.Facts] : Prop :=
  ∀ (m : (ℓ : Loc Cert.DhKernelIdeal.nD Cert.DhKernelIdeal.τ Cert.DhKernelIdeal.sig) → Buf (Elt Ideal) ℓ) (g : Dev Cert.DhKernelIdeal.nD → PrngReg), Pre_DhKernelIdeal_finite_dh m →
    θ_run (Cert.DhKernelIdeal.defs (F := Ideal)) (onTc (τ := Cert.DhKernelIdeal.τ) (Cert.DhKernelIdeal.main (F := Ideal))) ⟨m, fun _ => 0, g⟩ (fun r => (∀ c : Dev Cert.DhKernelIdeal.nD,
      r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
      ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
      ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
      ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
      ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4)
      ∧ r.2.mem ((c.tc : Thread Cert.DhKernelIdeal.nD Cert.DhKernelIdeal.τ).loc Cert.DhKernelIdeal.main_arg5) = m ((c.tc : Thread Cert.DhKernelIdeal.nD Cert.DhKernelIdeal.τ).loc Cert.DhKernelIdeal.main_arg5)
      ∧ r.2.mem ((c.tc : Thread Cert.DhKernelIdeal.nD Cert.DhKernelIdeal.τ).loc Cert.DhKernelIdeal.main_arg6) = m ((c.tc : Thread Cert.DhKernelIdeal.nD Cert.DhKernelIdeal.τ).loc Cert.DhKernelIdeal.main_arg6)
      ∧ r.2.mem ((c.tc : Thread Cert.DhKernelIdeal.nD Cert.DhKernelIdeal.τ).loc Cert.DhKernelIdeal.main_arg7) = m ((c.tc : Thread Cert.DhKernelIdeal.nD Cert.DhKernelIdeal.τ).loc Cert.DhKernelIdeal.main_arg7))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2)
      ∧ r.2.mem ((c.tc : Thread Cert.DhReferenceIdeal.nD Cert.DhReferenceIdeal.τ).loc Cert.DhReferenceIdeal.main_arg3) = m ((c.tc : Thread Cert.DhReferenceIdeal.nD Cert.DhReferenceIdeal.τ).loc Cert.DhReferenceIdeal.main_arg3)
      ∧ r.2.mem ((c.tc : Thread Cert.DhReferenceIdeal.nD Cert.DhReferenceIdeal.τ).loc Cert.DhReferenceIdeal.main_arg4) = m ((c.tc : Thread Cert.DhReferenceIdeal.nD Cert.DhReferenceIdeal.τ).loc Cert.DhReferenceIdeal.main_arg4)
      ∧ r.2.mem ((c.tc : Thread Cert.DhReferenceIdeal.nD Cert.DhReferenceIdeal.τ).loc Cert.DhReferenceIdeal.main_arg5) = m ((c.tc : Thread Cert.DhReferenceIdeal.nD Cert.DhReferenceIdeal.τ).loc Cert.DhReferenceIdeal.main_arg5)
      ∧ r.2.mem ((c.tc : Thread Cert.DhReferenceIdeal.nD Cert.DhReferenceIdeal.τ).loc Cert.DhReferenceIdeal.main_arg6) = m ((c.tc : Thread Cert.DhReferenceIdeal.nD Cert.DhReferenceIdeal.τ).loc Cert.DhReferenceIdeal.main_arg6)
      ∧ r.2.mem ((c.tc : Thread Cert.DhReferenceIdeal.nD Cert.DhReferenceIdeal.τ).loc Cert.DhReferenceIdeal.main_arg7) = m ((c.tc : Thread Cert.DhReferenceIdeal.nD Cert.DhReferenceIdeal.τ).loc Cert.DhReferenceIdeal.main_arg7))
      ∧ r.2.sem = fun _ => 0)

def quiescent_DhReferenceIdeal_pre_finite_dh [hDhReferenceIdeal : Cert.DhReferenceIdeal.Facts] [hPre_finite_dh : Cert.Pre_finite_dh.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal_finite_dh m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2)
      ∧ r.2.mem ((c.tc : Thread Cert.DhReferenceIdeal.nD Cert.DhReferenceIdeal.τ).loc Cert.DhReferenceIdeal.main_arg3) = m ((c.tc : Thread Cert.DhReferenceIdeal.nD Cert.DhReferenceIdeal.τ).loc Cert.DhReferenceIdeal.main_arg3)
      ∧ r.2.mem ((c.tc : Thread Cert.DhReferenceIdeal.nD Cert.DhReferenceIdeal.τ).loc Cert.DhReferenceIdeal.main_arg4) = m ((c.tc : Thread Cert.DhReferenceIdeal.nD Cert.DhReferenceIdeal.τ).loc Cert.DhReferenceIdeal.main_arg4)
      ∧ r.2.mem ((c.tc : Thread Cert.DhReferenceIdeal.nD Cert.DhReferenceIdeal.τ).loc Cert.DhReferenceIdeal.main_arg5) = m ((c.tc : Thread Cert.DhReferenceIdeal.nD Cert.DhReferenceIdeal.τ).loc Cert.DhReferenceIdeal.main_arg5)
      ∧ r.2.mem ((c.tc : Thread Cert.DhReferenceIdeal.nD Cert.DhReferenceIdeal.τ).loc Cert.DhReferenceIdeal.main_arg6) = m ((c.tc : Thread Cert.DhReferenceIdeal.nD Cert.DhReferenceIdeal.τ).loc Cert.DhReferenceIdeal.main_arg6)
      ∧ r.2.mem ((c.tc : Thread Cert.DhReferenceIdeal.nD Cert.DhReferenceIdeal.τ).loc Cert.DhReferenceIdeal.main_arg7) = m ((c.tc : Thread Cert.DhReferenceIdeal.nD Cert.DhReferenceIdeal.τ).loc Cert.DhReferenceIdeal.main_arg7))
      ∧ r.2.sem = fun _ => 0)

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)) →
    ∃ (v0 : (c : Dev Cert.MergeKernelIdeal.nD) → Buf (Elt Ideal) ((c.tc : Thread Cert.MergeKernelIdeal.nD Cert.MergeKernelIdeal.τ).loc Cert.MergeKernelIdeal.main_v3_0)) (v1 : (c : Dev Cert.MergeKernelIdeal.nD) → Buf (Elt Ideal) ((c.tc : Thread Cert.MergeKernelIdeal.nD Cert.MergeKernelIdeal.τ).loc Cert.MergeKernelIdeal.main_v3_1)) (v2 : (c : Dev Cert.MergeKernelIdeal.nD) → Buf (Elt Ideal) ((c.tc : Thread Cert.MergeKernelIdeal.nD Cert.MergeKernelIdeal.τ).loc Cert.MergeKernelIdeal.main_v3_2)) (v3 : (c : Dev Cert.MergeKernelIdeal.nD) → Buf (Elt Ideal) ((c.tc : Thread Cert.MergeKernelIdeal.nD Cert.MergeKernelIdeal.τ).loc Cert.MergeKernelIdeal.main_v3_3)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v3_0) = v0 c
          ∧ r.2.mem ((c.tc : Thread Cert.MergeKernelIdeal.nD Cert.MergeKernelIdeal.τ).loc Cert.MergeKernelIdeal.main_v3_1) = v1 c
          ∧ r.2.mem ((c.tc : Thread Cert.MergeKernelIdeal.nD Cert.MergeKernelIdeal.τ).loc Cert.MergeKernelIdeal.main_v3_2) = v2 c
          ∧ r.2.mem ((c.tc : Thread Cert.MergeKernelIdeal.nD Cert.MergeKernelIdeal.τ).loc Cert.MergeKernelIdeal.main_v3_3) = v3 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v45) = v0 c
          ∧ r.2.mem ((c.tc : Thread Cert.MergeReferenceIdeal.nD Cert.MergeReferenceIdeal.τ).loc Cert.MergeReferenceIdeal.main_v46) = v1 c
          ∧ r.2.mem ((c.tc : Thread Cert.MergeReferenceIdeal.nD Cert.MergeReferenceIdeal.τ).loc Cert.MergeReferenceIdeal.main_v47) = v2 c
          ∧ r.2.mem ((c.tc : Thread Cert.MergeReferenceIdeal.nD Cert.MergeReferenceIdeal.τ).loc Cert.MergeReferenceIdeal.main_v48) = v3 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_ConvKernel_ConvKernelIdeal : Prop :=
  True

def algebraic_ConvKernelIdeal_ConvReferenceIdeal_pre_finite_conv [hConvKernelIdeal : Cert.ConvKernelIdeal.Facts] [hConvReferenceIdeal : Cert.ConvReferenceIdeal.Facts] [hPre_finite_conv : Cert.Pre_finite_conv.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal_finite_conv m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)
      ∧ m' ((c.tc : Thread Cert.ConvReferenceIdeal.nD Cert.ConvReferenceIdeal.τ).loc Cert.ConvReferenceIdeal.main_arg4) = m ((c.tc : Thread Cert.ConvKernelIdeal.nD Cert.ConvKernelIdeal.τ).loc Cert.ConvKernelIdeal.main_arg4)) →
    ∃ (v0 : (c : Dev Cert.ConvKernelIdeal.nD) → Buf (Elt Ideal) ((c.tc : Thread Cert.ConvKernelIdeal.nD Cert.ConvKernelIdeal.τ).loc Cert.ConvKernelIdeal.main_v36_0)) (v1 : (c : Dev Cert.ConvKernelIdeal.nD) → Buf (Elt Ideal) ((c.tc : Thread Cert.ConvKernelIdeal.nD Cert.ConvKernelIdeal.τ).loc Cert.ConvKernelIdeal.main_v36_1)) (v2 : (c : Dev Cert.ConvKernelIdeal.nD) → Buf (Elt Ideal) ((c.tc : Thread Cert.ConvKernelIdeal.nD Cert.ConvKernelIdeal.τ).loc Cert.ConvKernelIdeal.main_v36_2)) (v3 : (c : Dev Cert.ConvKernelIdeal.nD) → Buf (Elt Ideal) ((c.tc : Thread Cert.ConvKernelIdeal.nD Cert.ConvKernelIdeal.τ).loc Cert.ConvKernelIdeal.main_v36_3)) (v4 : (c : Dev Cert.ConvKernelIdeal.nD) → Buf (Elt Ideal) ((c.tc : Thread Cert.ConvKernelIdeal.nD Cert.ConvKernelIdeal.τ).loc Cert.ConvKernelIdeal.main_v36_4)) (v5 : (c : Dev Cert.ConvKernelIdeal.nD) → Buf (Elt Ideal) ((c.tc : Thread Cert.ConvKernelIdeal.nD Cert.ConvKernelIdeal.τ).loc Cert.ConvKernelIdeal.main_v36_5)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v36_0) = v0 c
          ∧ r.2.mem ((c.tc : Thread Cert.ConvKernelIdeal.nD Cert.ConvKernelIdeal.τ).loc Cert.ConvKernelIdeal.main_v36_1) = v1 c
          ∧ r.2.mem ((c.tc : Thread Cert.ConvKernelIdeal.nD Cert.ConvKernelIdeal.τ).loc Cert.ConvKernelIdeal.main_v36_2) = v2 c
          ∧ r.2.mem ((c.tc : Thread Cert.ConvKernelIdeal.nD Cert.ConvKernelIdeal.τ).loc Cert.ConvKernelIdeal.main_v36_3) = v3 c
          ∧ r.2.mem ((c.tc : Thread Cert.ConvKernelIdeal.nD Cert.ConvKernelIdeal.τ).loc Cert.ConvKernelIdeal.main_v36_4) = v4 c
          ∧ r.2.mem ((c.tc : Thread Cert.ConvKernelIdeal.nD Cert.ConvKernelIdeal.τ).loc Cert.ConvKernelIdeal.main_v36_5) = v5 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3)
          ∧ r.2.mem ((c.tc : Thread Cert.ConvKernelIdeal.nD Cert.ConvKernelIdeal.τ).loc Cert.ConvKernelIdeal.main_arg4) = m ((c.tc : Thread Cert.ConvKernelIdeal.nD Cert.ConvKernelIdeal.τ).loc Cert.ConvKernelIdeal.main_arg4))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v77) = v0 c
          ∧ r.2.mem ((c.tc : Thread Cert.ConvReferenceIdeal.nD Cert.ConvReferenceIdeal.τ).loc Cert.ConvReferenceIdeal.main_v78) = v1 c
          ∧ r.2.mem ((c.tc : Thread Cert.ConvReferenceIdeal.nD Cert.ConvReferenceIdeal.τ).loc Cert.ConvReferenceIdeal.main_v79) = v2 c
          ∧ r.2.mem ((c.tc : Thread Cert.ConvReferenceIdeal.nD Cert.ConvReferenceIdeal.τ).loc Cert.ConvReferenceIdeal.main_v80) = v3 c
          ∧ r.2.mem ((c.tc : Thread Cert.ConvReferenceIdeal.nD Cert.ConvReferenceIdeal.τ).loc Cert.ConvReferenceIdeal.main_v82) = v4 c
          ∧ r.2.mem ((c.tc : Thread Cert.ConvReferenceIdeal.nD Cert.ConvReferenceIdeal.τ).loc Cert.ConvReferenceIdeal.main_v84) = v5 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4))

def preserves_DwDownKernel_DwDownKernelIdeal : Prop :=
  True

def algebraic_DwDownKernelIdeal_DwDownReferenceIdeal [hDwDownKernelIdeal : Cert.DwDownKernelIdeal.Facts] [hDwDownReferenceIdeal : Cert.DwDownReferenceIdeal.Facts] : Prop :=
  ∀ (m : (ℓ : Loc Cert.DwDownKernelIdeal.nD Cert.DwDownKernelIdeal.τ Cert.DwDownKernelIdeal.sig) → Buf (Elt Ideal) ℓ) (g : Dev Cert.DwDownKernelIdeal.nD → PrngReg)
    (m' : (ℓ : Loc Cert.DwDownReferenceIdeal.nD Cert.DwDownReferenceIdeal.τ Cert.DwDownReferenceIdeal.sig) → Buf (Elt Ideal) ℓ) (g' : Dev Cert.DwDownReferenceIdeal.nD → PrngReg), Pre_DwDownKernelIdeal m →
    (∀ c : Dev Cert.DwDownKernelIdeal.nD,
      m' ((c.tc : Thread Cert.DwDownReferenceIdeal.nD Cert.DwDownReferenceIdeal.τ).loc Cert.DwDownReferenceIdeal.main_arg0) = m ((c.tc : Thread Cert.DwDownKernelIdeal.nD Cert.DwDownKernelIdeal.τ).loc Cert.DwDownKernelIdeal.main_arg0)
      ∧ m' ((c.tc : Thread Cert.DwDownReferenceIdeal.nD Cert.DwDownReferenceIdeal.τ).loc Cert.DwDownReferenceIdeal.main_arg1) = m ((c.tc : Thread Cert.DwDownKernelIdeal.nD Cert.DwDownKernelIdeal.τ).loc Cert.DwDownKernelIdeal.main_arg1)) →
    ∃ (v0 : (c : Dev Cert.DwDownKernelIdeal.nD) → Buf (Elt Ideal) ((c.tc : Thread Cert.DwDownKernelIdeal.nD Cert.DwDownKernelIdeal.τ).loc Cert.DwDownKernelIdeal.main_v0)),
      θ_run (Cert.DwDownKernelIdeal.defs (F := Ideal)) (onTc (τ := Cert.DwDownKernelIdeal.τ) (Cert.DwDownKernelIdeal.main (F := Ideal))) ⟨m, fun _ => 0, g⟩ (fun r => ∀ c : Dev Cert.DwDownKernelIdeal.nD,
          r.2.mem ((c.tc : Thread Cert.DwDownKernelIdeal.nD Cert.DwDownKernelIdeal.τ).loc Cert.DwDownKernelIdeal.main_v0) = v0 c
          ∧ r.2.mem ((c.tc : Thread Cert.DwDownKernelIdeal.nD Cert.DwDownKernelIdeal.τ).loc Cert.DwDownKernelIdeal.main_arg0) = m ((c.tc : Thread Cert.DwDownKernelIdeal.nD Cert.DwDownKernelIdeal.τ).loc Cert.DwDownKernelIdeal.main_arg0)
          ∧ r.2.mem ((c.tc : Thread Cert.DwDownKernelIdeal.nD Cert.DwDownKernelIdeal.τ).loc Cert.DwDownKernelIdeal.main_arg1) = m ((c.tc : Thread Cert.DwDownKernelIdeal.nD Cert.DwDownKernelIdeal.τ).loc Cert.DwDownKernelIdeal.main_arg1))
      ∧ θ_run (Cert.DwDownReferenceIdeal.defs (F := Ideal)) (onTc (τ := Cert.DwDownReferenceIdeal.τ) (Cert.DwDownReferenceIdeal.main (F := Ideal))) ⟨m', fun _ => 0, g'⟩ (fun r => ∀ c : Dev Cert.DwDownReferenceIdeal.nD,
          r.2.mem ((c.tc : Thread Cert.DwDownReferenceIdeal.nD Cert.DwDownReferenceIdeal.τ).loc Cert.DwDownReferenceIdeal.main_v5) = v0 c
          ∧ r.2.mem ((c.tc : Thread Cert.DwDownReferenceIdeal.nD Cert.DwDownReferenceIdeal.τ).loc Cert.DwDownReferenceIdeal.main_arg0) = m' ((c.tc : Thread Cert.DwDownReferenceIdeal.nD Cert.DwDownReferenceIdeal.τ).loc Cert.DwDownReferenceIdeal.main_arg0)
          ∧ r.2.mem ((c.tc : Thread Cert.DwDownReferenceIdeal.nD Cert.DwDownReferenceIdeal.τ).loc Cert.DwDownReferenceIdeal.main_arg1) = m' ((c.tc : Thread Cert.DwDownReferenceIdeal.nD Cert.DwDownReferenceIdeal.τ).loc Cert.DwDownReferenceIdeal.main_arg1))

def preserves_DwUpGateKernel_DwUpGateKernelIdeal : Prop :=
  True

def algebraic_DwUpGateKernelIdeal_DwUpGateReferenceIdeal [hDwUpGateKernelIdeal : Cert.DwUpGateKernelIdeal.Facts] [hDwUpGateReferenceIdeal : Cert.DwUpGateReferenceIdeal.Facts] : Prop :=
  ∀ (m : (ℓ : Loc Cert.DwUpGateKernelIdeal.nD Cert.DwUpGateKernelIdeal.τ Cert.DwUpGateKernelIdeal.sig) → Buf (Elt Ideal) ℓ) (g : Dev Cert.DwUpGateKernelIdeal.nD → PrngReg)
    (m' : (ℓ : Loc Cert.DwUpGateReferenceIdeal.nD Cert.DwUpGateReferenceIdeal.τ Cert.DwUpGateReferenceIdeal.sig) → Buf (Elt Ideal) ℓ) (g' : Dev Cert.DwUpGateReferenceIdeal.nD → PrngReg), Pre_DwUpGateKernelIdeal m →
    (∀ c : Dev Cert.DwUpGateKernelIdeal.nD,
      m' ((c.tc : Thread Cert.DwUpGateReferenceIdeal.nD Cert.DwUpGateReferenceIdeal.τ).loc Cert.DwUpGateReferenceIdeal.main_arg0) = m ((c.tc : Thread Cert.DwUpGateKernelIdeal.nD Cert.DwUpGateKernelIdeal.τ).loc Cert.DwUpGateKernelIdeal.main_arg0)
      ∧ m' ((c.tc : Thread Cert.DwUpGateReferenceIdeal.nD Cert.DwUpGateReferenceIdeal.τ).loc Cert.DwUpGateReferenceIdeal.main_arg1) = m ((c.tc : Thread Cert.DwUpGateKernelIdeal.nD Cert.DwUpGateKernelIdeal.τ).loc Cert.DwUpGateKernelIdeal.main_arg1)
      ∧ m' ((c.tc : Thread Cert.DwUpGateReferenceIdeal.nD Cert.DwUpGateReferenceIdeal.τ).loc Cert.DwUpGateReferenceIdeal.main_arg2) = m ((c.tc : Thread Cert.DwUpGateKernelIdeal.nD Cert.DwUpGateKernelIdeal.τ).loc Cert.DwUpGateKernelIdeal.main_arg2)) →
    ∃ (v0 : (c : Dev Cert.DwUpGateKernelIdeal.nD) → Buf (Elt Ideal) ((c.tc : Thread Cert.DwUpGateKernelIdeal.nD Cert.DwUpGateKernelIdeal.τ).loc Cert.DwUpGateKernelIdeal.main_v0)),
      θ_run (Cert.DwUpGateKernelIdeal.defs (F := Ideal)) (onTc (τ := Cert.DwUpGateKernelIdeal.τ) (Cert.DwUpGateKernelIdeal.main (F := Ideal))) ⟨m, fun _ => 0, g⟩ (fun r => ∀ c : Dev Cert.DwUpGateKernelIdeal.nD,
          r.2.mem ((c.tc : Thread Cert.DwUpGateKernelIdeal.nD Cert.DwUpGateKernelIdeal.τ).loc Cert.DwUpGateKernelIdeal.main_v0) = v0 c
          ∧ r.2.mem ((c.tc : Thread Cert.DwUpGateKernelIdeal.nD Cert.DwUpGateKernelIdeal.τ).loc Cert.DwUpGateKernelIdeal.main_arg0) = m ((c.tc : Thread Cert.DwUpGateKernelIdeal.nD Cert.DwUpGateKernelIdeal.τ).loc Cert.DwUpGateKernelIdeal.main_arg0)
          ∧ r.2.mem ((c.tc : Thread Cert.DwUpGateKernelIdeal.nD Cert.DwUpGateKernelIdeal.τ).loc Cert.DwUpGateKernelIdeal.main_arg1) = m ((c.tc : Thread Cert.DwUpGateKernelIdeal.nD Cert.DwUpGateKernelIdeal.τ).loc Cert.DwUpGateKernelIdeal.main_arg1)
          ∧ r.2.mem ((c.tc : Thread Cert.DwUpGateKernelIdeal.nD Cert.DwUpGateKernelIdeal.τ).loc Cert.DwUpGateKernelIdeal.main_arg2) = m ((c.tc : Thread Cert.DwUpGateKernelIdeal.nD Cert.DwUpGateKernelIdeal.τ).loc Cert.DwUpGateKernelIdeal.main_arg2))
      ∧ θ_run (Cert.DwUpGateReferenceIdeal.defs (F := Ideal)) (onTc (τ := Cert.DwUpGateReferenceIdeal.τ) (Cert.DwUpGateReferenceIdeal.main (F := Ideal))) ⟨m', fun _ => 0, g'⟩ (fun r => ∀ c : Dev Cert.DwUpGateReferenceIdeal.nD,
          r.2.mem ((c.tc : Thread Cert.DwUpGateReferenceIdeal.nD Cert.DwUpGateReferenceIdeal.τ).loc Cert.DwUpGateReferenceIdeal.main_v8) = v0 c
          ∧ r.2.mem ((c.tc : Thread Cert.DwUpGateReferenceIdeal.nD Cert.DwUpGateReferenceIdeal.τ).loc Cert.DwUpGateReferenceIdeal.main_arg0) = m' ((c.tc : Thread Cert.DwUpGateReferenceIdeal.nD Cert.DwUpGateReferenceIdeal.τ).loc Cert.DwUpGateReferenceIdeal.main_arg0)
          ∧ r.2.mem ((c.tc : Thread Cert.DwUpGateReferenceIdeal.nD Cert.DwUpGateReferenceIdeal.τ).loc Cert.DwUpGateReferenceIdeal.main_arg1) = m' ((c.tc : Thread Cert.DwUpGateReferenceIdeal.nD Cert.DwUpGateReferenceIdeal.τ).loc Cert.DwUpGateReferenceIdeal.main_arg1)
          ∧ r.2.mem ((c.tc : Thread Cert.DwUpGateReferenceIdeal.nD Cert.DwUpGateReferenceIdeal.τ).loc Cert.DwUpGateReferenceIdeal.main_arg2) = m' ((c.tc : Thread Cert.DwUpGateReferenceIdeal.nD Cert.DwUpGateReferenceIdeal.τ).loc Cert.DwUpGateReferenceIdeal.main_arg2))

def preserves_DwUpValueKernel_DwUpValueKernelIdeal : Prop :=
  True

def algebraic_DwUpValueKernelIdeal_DwUpValueReferenceIdeal [hDwUpValueKernelIdeal : Cert.DwUpValueKernelIdeal.Facts] [hDwUpValueReferenceIdeal : Cert.DwUpValueReferenceIdeal.Facts] : Prop :=
  ∀ (m : (ℓ : Loc Cert.DwUpValueKernelIdeal.nD Cert.DwUpValueKernelIdeal.τ Cert.DwUpValueKernelIdeal.sig) → Buf (Elt Ideal) ℓ) (g : Dev Cert.DwUpValueKernelIdeal.nD → PrngReg)
    (m' : (ℓ : Loc Cert.DwUpValueReferenceIdeal.nD Cert.DwUpValueReferenceIdeal.τ Cert.DwUpValueReferenceIdeal.sig) → Buf (Elt Ideal) ℓ) (g' : Dev Cert.DwUpValueReferenceIdeal.nD → PrngReg), Pre_DwUpValueKernelIdeal m →
    (∀ c : Dev Cert.DwUpValueKernelIdeal.nD,
      m' ((c.tc : Thread Cert.DwUpValueReferenceIdeal.nD Cert.DwUpValueReferenceIdeal.τ).loc Cert.DwUpValueReferenceIdeal.main_arg0) = m ((c.tc : Thread Cert.DwUpValueKernelIdeal.nD Cert.DwUpValueKernelIdeal.τ).loc Cert.DwUpValueKernelIdeal.main_arg0)
      ∧ m' ((c.tc : Thread Cert.DwUpValueReferenceIdeal.nD Cert.DwUpValueReferenceIdeal.τ).loc Cert.DwUpValueReferenceIdeal.main_arg1) = m ((c.tc : Thread Cert.DwUpValueKernelIdeal.nD Cert.DwUpValueKernelIdeal.τ).loc Cert.DwUpValueKernelIdeal.main_arg1)
      ∧ m' ((c.tc : Thread Cert.DwUpValueReferenceIdeal.nD Cert.DwUpValueReferenceIdeal.τ).loc Cert.DwUpValueReferenceIdeal.main_arg2) = m ((c.tc : Thread Cert.DwUpValueKernelIdeal.nD Cert.DwUpValueKernelIdeal.τ).loc Cert.DwUpValueKernelIdeal.main_arg2)) →
    ∃ (v0 : (c : Dev Cert.DwUpValueKernelIdeal.nD) → Buf (Elt Ideal) ((c.tc : Thread Cert.DwUpValueKernelIdeal.nD Cert.DwUpValueKernelIdeal.τ).loc Cert.DwUpValueKernelIdeal.main_v0)),
      θ_run (Cert.DwUpValueKernelIdeal.defs (F := Ideal)) (onTc (τ := Cert.DwUpValueKernelIdeal.τ) (Cert.DwUpValueKernelIdeal.main (F := Ideal))) ⟨m, fun _ => 0, g⟩ (fun r => ∀ c : Dev Cert.DwUpValueKernelIdeal.nD,
          r.2.mem ((c.tc : Thread Cert.DwUpValueKernelIdeal.nD Cert.DwUpValueKernelIdeal.τ).loc Cert.DwUpValueKernelIdeal.main_v0) = v0 c
          ∧ r.2.mem ((c.tc : Thread Cert.DwUpValueKernelIdeal.nD Cert.DwUpValueKernelIdeal.τ).loc Cert.DwUpValueKernelIdeal.main_arg0) = m ((c.tc : Thread Cert.DwUpValueKernelIdeal.nD Cert.DwUpValueKernelIdeal.τ).loc Cert.DwUpValueKernelIdeal.main_arg0)
          ∧ r.2.mem ((c.tc : Thread Cert.DwUpValueKernelIdeal.nD Cert.DwUpValueKernelIdeal.τ).loc Cert.DwUpValueKernelIdeal.main_arg1) = m ((c.tc : Thread Cert.DwUpValueKernelIdeal.nD Cert.DwUpValueKernelIdeal.τ).loc Cert.DwUpValueKernelIdeal.main_arg1)
          ∧ r.2.mem ((c.tc : Thread Cert.DwUpValueKernelIdeal.nD Cert.DwUpValueKernelIdeal.τ).loc Cert.DwUpValueKernelIdeal.main_arg2) = m ((c.tc : Thread Cert.DwUpValueKernelIdeal.nD Cert.DwUpValueKernelIdeal.τ).loc Cert.DwUpValueKernelIdeal.main_arg2))
      ∧ θ_run (Cert.DwUpValueReferenceIdeal.defs (F := Ideal)) (onTc (τ := Cert.DwUpValueReferenceIdeal.τ) (Cert.DwUpValueReferenceIdeal.main (F := Ideal))) ⟨m', fun _ => 0, g'⟩ (fun r => ∀ c : Dev Cert.DwUpValueReferenceIdeal.nD,
          r.2.mem ((c.tc : Thread Cert.DwUpValueReferenceIdeal.nD Cert.DwUpValueReferenceIdeal.τ).loc Cert.DwUpValueReferenceIdeal.main_v8) = v0 c
          ∧ r.2.mem ((c.tc : Thread Cert.DwUpValueReferenceIdeal.nD Cert.DwUpValueReferenceIdeal.τ).loc Cert.DwUpValueReferenceIdeal.main_arg0) = m' ((c.tc : Thread Cert.DwUpValueReferenceIdeal.nD Cert.DwUpValueReferenceIdeal.τ).loc Cert.DwUpValueReferenceIdeal.main_arg0)
          ∧ r.2.mem ((c.tc : Thread Cert.DwUpValueReferenceIdeal.nD Cert.DwUpValueReferenceIdeal.τ).loc Cert.DwUpValueReferenceIdeal.main_arg1) = m' ((c.tc : Thread Cert.DwUpValueReferenceIdeal.nD Cert.DwUpValueReferenceIdeal.τ).loc Cert.DwUpValueReferenceIdeal.main_arg1)
          ∧ r.2.mem ((c.tc : Thread Cert.DwUpValueReferenceIdeal.nD Cert.DwUpValueReferenceIdeal.τ).loc Cert.DwUpValueReferenceIdeal.main_arg2) = m' ((c.tc : Thread Cert.DwUpValueReferenceIdeal.nD Cert.DwUpValueReferenceIdeal.τ).loc Cert.DwUpValueReferenceIdeal.main_arg2))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v1)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v1) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v11) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_DwInKernel_DwInKernelIdeal : Prop :=
  True

def algebraic_DwInKernelIdeal_DwInReferenceIdeal [hDwInKernelIdeal : Cert.DwInKernelIdeal.Facts] [hDwInReferenceIdeal : Cert.DwInReferenceIdeal.Facts] : Prop :=
  ∀ (m : (ℓ : Loc Cert.DwInKernelIdeal.nD Cert.DwInKernelIdeal.τ Cert.DwInKernelIdeal.sig) → Buf (Elt Ideal) ℓ) (g : Dev Cert.DwInKernelIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInKernelIdeal m →
    (∀ c : Dev Cert.DwInKernelIdeal.nD,
      m' ((c.tc : Thread Cert.DwInReferenceIdeal.nD Cert.DwInReferenceIdeal.τ).loc Cert.DwInReferenceIdeal.main_arg0) = m ((c.tc : Thread Cert.DwInKernelIdeal.nD Cert.DwInKernelIdeal.τ).loc Cert.DwInKernelIdeal.main_arg0)
      ∧ m' ((c.tc : Thread Cert.DwInReferenceIdeal.nD Cert.DwInReferenceIdeal.τ).loc Cert.DwInReferenceIdeal.main_arg1) = m ((c.tc : Thread Cert.DwInKernelIdeal.nD Cert.DwInKernelIdeal.τ).loc Cert.DwInKernelIdeal.main_arg1)
      ∧ m' ((c.tc : Thread Cert.DwInReferenceIdeal.nD Cert.DwInReferenceIdeal.τ).loc Cert.DwInReferenceIdeal.main_arg2) = m ((c.tc : Thread Cert.DwInKernelIdeal.nD Cert.DwInKernelIdeal.τ).loc Cert.DwInKernelIdeal.main_arg2)
      ∧ m' ((c.tc : Thread Cert.DwInReferenceIdeal.nD Cert.DwInReferenceIdeal.τ).loc Cert.DwInReferenceIdeal.main_arg3) = m ((c.tc : Thread Cert.DwInKernelIdeal.nD Cert.DwInKernelIdeal.τ).loc Cert.DwInKernelIdeal.main_arg3)
      ∧ m' ((c.tc : Thread Cert.DwInReferenceIdeal.nD Cert.DwInReferenceIdeal.τ).loc Cert.DwInReferenceIdeal.main_arg4) = m ((c.tc : Thread Cert.DwInKernelIdeal.nD Cert.DwInKernelIdeal.τ).loc Cert.DwInKernelIdeal.main_arg4)) →
    ∃ (v0 : (c : Dev Cert.DwInKernelIdeal.nD) → Buf (Elt Ideal) ((c.tc : Thread Cert.DwInKernelIdeal.nD Cert.DwInKernelIdeal.τ).loc Cert.DwInKernelIdeal.main_v0)),
      θ_run (Cert.DwInKernelIdeal.defs (F := Ideal)) (onTc (τ := Cert.DwInKernelIdeal.τ) (Cert.DwInKernelIdeal.main (F := Ideal))) ⟨m, fun _ => 0, g⟩ (fun r => ∀ c : Dev Cert.DwInKernelIdeal.nD,
          r.2.mem ((c.tc : Thread Cert.DwInKernelIdeal.nD Cert.DwInKernelIdeal.τ).loc Cert.DwInKernelIdeal.main_v0) = v0 c
          ∧ r.2.mem ((c.tc : Thread Cert.DwInKernelIdeal.nD Cert.DwInKernelIdeal.τ).loc Cert.DwInKernelIdeal.main_arg0) = m ((c.tc : Thread Cert.DwInKernelIdeal.nD Cert.DwInKernelIdeal.τ).loc Cert.DwInKernelIdeal.main_arg0)
          ∧ r.2.mem ((c.tc : Thread Cert.DwInKernelIdeal.nD Cert.DwInKernelIdeal.τ).loc Cert.DwInKernelIdeal.main_arg1) = m ((c.tc : Thread Cert.DwInKernelIdeal.nD Cert.DwInKernelIdeal.τ).loc Cert.DwInKernelIdeal.main_arg1)
          ∧ r.2.mem ((c.tc : Thread Cert.DwInKernelIdeal.nD Cert.DwInKernelIdeal.τ).loc Cert.DwInKernelIdeal.main_arg2) = m ((c.tc : Thread Cert.DwInKernelIdeal.nD Cert.DwInKernelIdeal.τ).loc Cert.DwInKernelIdeal.main_arg2)
          ∧ r.2.mem ((c.tc : Thread Cert.DwInKernelIdeal.nD Cert.DwInKernelIdeal.τ).loc Cert.DwInKernelIdeal.main_arg3) = m ((c.tc : Thread Cert.DwInKernelIdeal.nD Cert.DwInKernelIdeal.τ).loc Cert.DwInKernelIdeal.main_arg3)
          ∧ r.2.mem ((c.tc : Thread Cert.DwInKernelIdeal.nD Cert.DwInKernelIdeal.τ).loc Cert.DwInKernelIdeal.main_arg4) = m ((c.tc : Thread Cert.DwInKernelIdeal.nD Cert.DwInKernelIdeal.τ).loc Cert.DwInKernelIdeal.main_arg4))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v10) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1)
          ∧ r.2.mem ((c.tc : Thread Cert.DwInReferenceIdeal.nD Cert.DwInReferenceIdeal.τ).loc Cert.DwInReferenceIdeal.main_arg2) = m' ((c.tc : Thread Cert.DwInReferenceIdeal.nD Cert.DwInReferenceIdeal.τ).loc Cert.DwInReferenceIdeal.main_arg2)
          ∧ r.2.mem ((c.tc : Thread Cert.DwInReferenceIdeal.nD Cert.DwInReferenceIdeal.τ).loc Cert.DwInReferenceIdeal.main_arg3) = m' ((c.tc : Thread Cert.DwInReferenceIdeal.nD Cert.DwInReferenceIdeal.τ).loc Cert.DwInReferenceIdeal.main_arg3)
          ∧ r.2.mem ((c.tc : Thread Cert.DwInReferenceIdeal.nD Cert.DwInReferenceIdeal.τ).loc Cert.DwInReferenceIdeal.main_arg4) = m' ((c.tc : Thread Cert.DwInReferenceIdeal.nD Cert.DwInReferenceIdeal.τ).loc Cert.DwInReferenceIdeal.main_arg4))

def preserves_DwOutKernel_DwOutKernelIdeal : Prop :=
  True

def algebraic_DwOutKernelIdeal_DwOutReferenceIdeal [hDwOutKernelIdeal : Cert.DwOutKernelIdeal.Facts] [hDwOutReferenceIdeal : Cert.DwOutReferenceIdeal.Facts] : Prop :=
  ∀ (m : (ℓ : Loc Cert.DwOutKernelIdeal.nD Cert.DwOutKernelIdeal.τ Cert.DwOutKernelIdeal.sig) → Buf (Elt Ideal) ℓ) (g : Dev Cert.DwOutKernelIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutKernelIdeal m →
    (∀ c : Dev Cert.DwOutKernelIdeal.nD,
      m' ((c.tc : Thread Cert.DwOutReferenceIdeal.nD Cert.DwOutReferenceIdeal.τ).loc Cert.DwOutReferenceIdeal.main_arg0) = m ((c.tc : Thread Cert.DwOutKernelIdeal.nD Cert.DwOutKernelIdeal.τ).loc Cert.DwOutKernelIdeal.main_arg0)
      ∧ m' ((c.tc : Thread Cert.DwOutReferenceIdeal.nD Cert.DwOutReferenceIdeal.τ).loc Cert.DwOutReferenceIdeal.main_arg1) = m ((c.tc : Thread Cert.DwOutKernelIdeal.nD Cert.DwOutKernelIdeal.τ).loc Cert.DwOutKernelIdeal.main_arg1)) →
    ∃ (v0 : (c : Dev Cert.DwOutKernelIdeal.nD) → Buf (Elt Ideal) ((c.tc : Thread Cert.DwOutKernelIdeal.nD Cert.DwOutKernelIdeal.τ).loc Cert.DwOutKernelIdeal.main_v0)),
      θ_run (Cert.DwOutKernelIdeal.defs (F := Ideal)) (onTc (τ := Cert.DwOutKernelIdeal.τ) (Cert.DwOutKernelIdeal.main (F := Ideal))) ⟨m, fun _ => 0, g⟩ (fun r => ∀ c : Dev Cert.DwOutKernelIdeal.nD,
          r.2.mem ((c.tc : Thread Cert.DwOutKernelIdeal.nD Cert.DwOutKernelIdeal.τ).loc Cert.DwOutKernelIdeal.main_v0) = v0 c
          ∧ r.2.mem ((c.tc : Thread Cert.DwOutKernelIdeal.nD Cert.DwOutKernelIdeal.τ).loc Cert.DwOutKernelIdeal.main_arg0) = m ((c.tc : Thread Cert.DwOutKernelIdeal.nD Cert.DwOutKernelIdeal.τ).loc Cert.DwOutKernelIdeal.main_arg0)
          ∧ r.2.mem ((c.tc : Thread Cert.DwOutKernelIdeal.nD Cert.DwOutKernelIdeal.τ).loc Cert.DwOutKernelIdeal.main_arg1) = m ((c.tc : Thread Cert.DwOutKernelIdeal.nD Cert.DwOutKernelIdeal.τ).loc Cert.DwOutKernelIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v5) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_DwBranchKernel_DwBranchKernelIdeal : Prop :=
  True

def algebraic_DwBranchKernelIdeal_DwBranchReferenceIdeal [hDwBranchKernelIdeal : Cert.DwBranchKernelIdeal.Facts] [hDwBranchReferenceIdeal : Cert.DwBranchReferenceIdeal.Facts] : Prop :=
  ∀ (m : (ℓ : Loc Cert.DwBranchKernelIdeal.nD Cert.DwBranchKernelIdeal.τ Cert.DwBranchKernelIdeal.sig) → Buf (Elt Ideal) ℓ) (g : Dev Cert.DwBranchKernelIdeal.nD → PrngReg)
    (m' : (ℓ : Loc Cert.DwBranchReferenceIdeal.nD Cert.DwBranchReferenceIdeal.τ Cert.DwBranchReferenceIdeal.sig) → Buf (Elt Ideal) ℓ) (g' : Dev Cert.DwBranchReferenceIdeal.nD → PrngReg), Pre_DwBranchKernelIdeal m →
    (∀ c : Dev Cert.DwBranchKernelIdeal.nD,
      m' ((c.tc : Thread Cert.DwBranchReferenceIdeal.nD Cert.DwBranchReferenceIdeal.τ).loc Cert.DwBranchReferenceIdeal.main_arg0) = m ((c.tc : Thread Cert.DwBranchKernelIdeal.nD Cert.DwBranchKernelIdeal.τ).loc Cert.DwBranchKernelIdeal.main_arg0)
      ∧ m' ((c.tc : Thread Cert.DwBranchReferenceIdeal.nD Cert.DwBranchReferenceIdeal.τ).loc Cert.DwBranchReferenceIdeal.main_arg1) = m ((c.tc : Thread Cert.DwBranchKernelIdeal.nD Cert.DwBranchKernelIdeal.τ).loc Cert.DwBranchKernelIdeal.main_arg1)) →
    ∃ (v0 : (c : Dev Cert.DwBranchKernelIdeal.nD) → Buf (Elt Ideal) ((c.tc : Thread Cert.DwBranchKernelIdeal.nD Cert.DwBranchKernelIdeal.τ).loc Cert.DwBranchKernelIdeal.main_v0)),
      θ_run (Cert.DwBranchKernelIdeal.defs (F := Ideal)) (onTc (τ := Cert.DwBranchKernelIdeal.τ) (Cert.DwBranchKernelIdeal.main (F := Ideal))) ⟨m, fun _ => 0, g⟩ (fun r => ∀ c : Dev Cert.DwBranchKernelIdeal.nD,
          r.2.mem ((c.tc : Thread Cert.DwBranchKernelIdeal.nD Cert.DwBranchKernelIdeal.τ).loc Cert.DwBranchKernelIdeal.main_v0) = v0 c
          ∧ r.2.mem ((c.tc : Thread Cert.DwBranchKernelIdeal.nD Cert.DwBranchKernelIdeal.τ).loc Cert.DwBranchKernelIdeal.main_arg0) = m ((c.tc : Thread Cert.DwBranchKernelIdeal.nD Cert.DwBranchKernelIdeal.τ).loc Cert.DwBranchKernelIdeal.main_arg0)
          ∧ r.2.mem ((c.tc : Thread Cert.DwBranchKernelIdeal.nD Cert.DwBranchKernelIdeal.τ).loc Cert.DwBranchKernelIdeal.main_arg1) = m ((c.tc : Thread Cert.DwBranchKernelIdeal.nD Cert.DwBranchKernelIdeal.τ).loc Cert.DwBranchKernelIdeal.main_arg1))
      ∧ θ_run (Cert.DwBranchReferenceIdeal.defs (F := Ideal)) (onTc (τ := Cert.DwBranchReferenceIdeal.τ) (Cert.DwBranchReferenceIdeal.main (F := Ideal))) ⟨m', fun _ => 0, g'⟩ (fun r => ∀ c : Dev Cert.DwBranchReferenceIdeal.nD,
          r.2.mem ((c.tc : Thread Cert.DwBranchReferenceIdeal.nD Cert.DwBranchReferenceIdeal.τ).loc Cert.DwBranchReferenceIdeal.main_v5) = v0 c
          ∧ r.2.mem ((c.tc : Thread Cert.DwBranchReferenceIdeal.nD Cert.DwBranchReferenceIdeal.τ).loc Cert.DwBranchReferenceIdeal.main_arg0) = m' ((c.tc : Thread Cert.DwBranchReferenceIdeal.nD Cert.DwBranchReferenceIdeal.τ).loc Cert.DwBranchReferenceIdeal.main_arg0)
          ∧ r.2.mem ((c.tc : Thread Cert.DwBranchReferenceIdeal.nD Cert.DwBranchReferenceIdeal.τ).loc Cert.DwBranchReferenceIdeal.main_arg1) = m' ((c.tc : Thread Cert.DwBranchReferenceIdeal.nD Cert.DwBranchReferenceIdeal.τ).loc Cert.DwBranchReferenceIdeal.main_arg1))

def preserves_DyAttKernel_DyAttKernelIdeal : Prop :=
  True

def algebraic_DyAttKernelIdeal_DyAttReferenceIdeal [hDyAttKernelIdeal : Cert.DyAttKernelIdeal.Facts] [hDyAttReferenceIdeal : Cert.DyAttReferenceIdeal.Facts] : Prop :=
  ∀ (m : (ℓ : Loc Cert.DyAttKernelIdeal.nD Cert.DyAttKernelIdeal.τ Cert.DyAttKernelIdeal.sig) → Buf (Elt Ideal) ℓ) (g : Dev Cert.DyAttKernelIdeal.nD → PrngReg)
    (m' : (ℓ : Loc Cert.DyAttReferenceIdeal.nD Cert.DyAttReferenceIdeal.τ Cert.DyAttReferenceIdeal.sig) → Buf (Elt Ideal) ℓ) (g' : Dev Cert.DyAttReferenceIdeal.nD → PrngReg), Pre_DyAttKernelIdeal m →
    (∀ c : Dev Cert.DyAttKernelIdeal.nD,
      m' ((c.tc : Thread Cert.DyAttReferenceIdeal.nD Cert.DyAttReferenceIdeal.τ).loc Cert.DyAttReferenceIdeal.main_arg0) = m ((c.tc : Thread Cert.DyAttKernelIdeal.nD Cert.DyAttKernelIdeal.τ).loc Cert.DyAttKernelIdeal.main_arg0)
      ∧ m' ((c.tc : Thread Cert.DyAttReferenceIdeal.nD Cert.DyAttReferenceIdeal.τ).loc Cert.DyAttReferenceIdeal.main_arg1) = m ((c.tc : Thread Cert.DyAttKernelIdeal.nD Cert.DyAttKernelIdeal.τ).loc Cert.DyAttKernelIdeal.main_arg1)) →
    ∃ (v0 : (c : Dev Cert.DyAttKernelIdeal.nD) → Buf (Elt Ideal) ((c.tc : Thread Cert.DyAttKernelIdeal.nD Cert.DyAttKernelIdeal.τ).loc Cert.DyAttKernelIdeal.main_v0)),
      θ_run (Cert.DyAttKernelIdeal.defs (F := Ideal)) (onTc (τ := Cert.DyAttKernelIdeal.τ) (Cert.DyAttKernelIdeal.main (F := Ideal))) ⟨m, fun _ => 0, g⟩ (fun r => ∀ c : Dev Cert.DyAttKernelIdeal.nD,
          r.2.mem ((c.tc : Thread Cert.DyAttKernelIdeal.nD Cert.DyAttKernelIdeal.τ).loc Cert.DyAttKernelIdeal.main_v0) = v0 c
          ∧ r.2.mem ((c.tc : Thread Cert.DyAttKernelIdeal.nD Cert.DyAttKernelIdeal.τ).loc Cert.DyAttKernelIdeal.main_arg0) = m ((c.tc : Thread Cert.DyAttKernelIdeal.nD Cert.DyAttKernelIdeal.τ).loc Cert.DyAttKernelIdeal.main_arg0)
          ∧ r.2.mem ((c.tc : Thread Cert.DyAttKernelIdeal.nD Cert.DyAttKernelIdeal.τ).loc Cert.DyAttKernelIdeal.main_arg1) = m ((c.tc : Thread Cert.DyAttKernelIdeal.nD Cert.DyAttKernelIdeal.τ).loc Cert.DyAttKernelIdeal.main_arg1))
      ∧ θ_run (Cert.DyAttReferenceIdeal.defs (F := Ideal)) (onTc (τ := Cert.DyAttReferenceIdeal.τ) (Cert.DyAttReferenceIdeal.main (F := Ideal))) ⟨m', fun _ => 0, g'⟩ (fun r => ∀ c : Dev Cert.DyAttReferenceIdeal.nD,
          r.2.mem ((c.tc : Thread Cert.DyAttReferenceIdeal.nD Cert.DyAttReferenceIdeal.τ).loc Cert.DyAttReferenceIdeal.main_v5) = v0 c
          ∧ r.2.mem ((c.tc : Thread Cert.DyAttReferenceIdeal.nD Cert.DyAttReferenceIdeal.τ).loc Cert.DyAttReferenceIdeal.main_arg0) = m' ((c.tc : Thread Cert.DyAttReferenceIdeal.nD Cert.DyAttReferenceIdeal.τ).loc Cert.DyAttReferenceIdeal.main_arg0)
          ∧ r.2.mem ((c.tc : Thread Cert.DyAttReferenceIdeal.nD Cert.DyAttReferenceIdeal.τ).loc Cert.DyAttReferenceIdeal.main_arg1) = m' ((c.tc : Thread Cert.DyAttReferenceIdeal.nD Cert.DyAttReferenceIdeal.τ).loc Cert.DyAttReferenceIdeal.main_arg1))

def preserves_DySguKernel_DySguKernelIdeal : Prop :=
  True

def algebraic_DySguKernelIdeal_DySguReferenceIdeal [hDySguKernelIdeal : Cert.DySguKernelIdeal.Facts] [hDySguReferenceIdeal : Cert.DySguReferenceIdeal.Facts] : Prop :=
  ∀ (m : (ℓ : Loc Cert.DySguKernelIdeal.nD Cert.DySguKernelIdeal.τ Cert.DySguKernelIdeal.sig) → Buf (Elt Ideal) ℓ) (g : Dev Cert.DySguKernelIdeal.nD → PrngReg)
    (m' : (ℓ : Loc Cert.DySguReferenceIdeal.nD Cert.DySguReferenceIdeal.τ Cert.DySguReferenceIdeal.sig) → Buf (Elt Ideal) ℓ) (g' : Dev Cert.DySguReferenceIdeal.nD → PrngReg), Pre_DySguKernelIdeal m →
    (∀ c : Dev Cert.DySguKernelIdeal.nD,
      m' ((c.tc : Thread Cert.DySguReferenceIdeal.nD Cert.DySguReferenceIdeal.τ).loc Cert.DySguReferenceIdeal.main_arg0) = m ((c.tc : Thread Cert.DySguKernelIdeal.nD Cert.DySguKernelIdeal.τ).loc Cert.DySguKernelIdeal.main_arg0)
      ∧ m' ((c.tc : Thread Cert.DySguReferenceIdeal.nD Cert.DySguReferenceIdeal.τ).loc Cert.DySguReferenceIdeal.main_arg1) = m ((c.tc : Thread Cert.DySguKernelIdeal.nD Cert.DySguKernelIdeal.τ).loc Cert.DySguKernelIdeal.main_arg1)) →
    ∃ (v0 : (c : Dev Cert.DySguKernelIdeal.nD) → Buf (Elt Ideal) ((c.tc : Thread Cert.DySguKernelIdeal.nD Cert.DySguKernelIdeal.τ).loc Cert.DySguKernelIdeal.main_v0)),
      θ_run (Cert.DySguKernelIdeal.defs (F := Ideal)) (onTc (τ := Cert.DySguKernelIdeal.τ) (Cert.DySguKernelIdeal.main (F := Ideal))) ⟨m, fun _ => 0, g⟩ (fun r => ∀ c : Dev Cert.DySguKernelIdeal.nD,
          r.2.mem ((c.tc : Thread Cert.DySguKernelIdeal.nD Cert.DySguKernelIdeal.τ).loc Cert.DySguKernelIdeal.main_v0) = v0 c
          ∧ r.2.mem ((c.tc : Thread Cert.DySguKernelIdeal.nD Cert.DySguKernelIdeal.τ).loc Cert.DySguKernelIdeal.main_arg0) = m ((c.tc : Thread Cert.DySguKernelIdeal.nD Cert.DySguKernelIdeal.τ).loc Cert.DySguKernelIdeal.main_arg0)
          ∧ r.2.mem ((c.tc : Thread Cert.DySguKernelIdeal.nD Cert.DySguKernelIdeal.τ).loc Cert.DySguKernelIdeal.main_arg1) = m ((c.tc : Thread Cert.DySguKernelIdeal.nD Cert.DySguKernelIdeal.τ).loc Cert.DySguKernelIdeal.main_arg1))
      ∧ θ_run (Cert.DySguReferenceIdeal.defs (F := Ideal)) (onTc (τ := Cert.DySguReferenceIdeal.τ) (Cert.DySguReferenceIdeal.main (F := Ideal))) ⟨m', fun _ => 0, g'⟩ (fun r => ∀ c : Dev Cert.DySguReferenceIdeal.nD,
          r.2.mem ((c.tc : Thread Cert.DySguReferenceIdeal.nD Cert.DySguReferenceIdeal.τ).loc Cert.DySguReferenceIdeal.main_v4) = v0 c
          ∧ r.2.mem ((c.tc : Thread Cert.DySguReferenceIdeal.nD Cert.DySguReferenceIdeal.τ).loc Cert.DySguReferenceIdeal.main_arg0) = m' ((c.tc : Thread Cert.DySguReferenceIdeal.nD Cert.DySguReferenceIdeal.τ).loc Cert.DySguReferenceIdeal.main_arg0)
          ∧ r.2.mem ((c.tc : Thread Cert.DySguReferenceIdeal.nD Cert.DySguReferenceIdeal.τ).loc Cert.DySguReferenceIdeal.main_arg1) = m' ((c.tc : Thread Cert.DySguReferenceIdeal.nD Cert.DySguReferenceIdeal.τ).loc Cert.DySguReferenceIdeal.main_arg1))

def preserves_UpConvKernel_UpConvKernelIdeal : Prop :=
  True

def algebraic_UpConvKernelIdeal_UpConvReferenceIdeal [hUpConvKernelIdeal : Cert.UpConvKernelIdeal.Facts] [hUpConvReferenceIdeal : Cert.UpConvReferenceIdeal.Facts] : Prop :=
  ∀ (m : (ℓ : Loc Cert.UpConvKernelIdeal.nD Cert.UpConvKernelIdeal.τ Cert.UpConvKernelIdeal.sig) → Buf (Elt Ideal) ℓ) (g : Dev Cert.UpConvKernelIdeal.nD → PrngReg)
    (m' : (ℓ : Loc Cert.UpConvReferenceIdeal.nD Cert.UpConvReferenceIdeal.τ Cert.UpConvReferenceIdeal.sig) → Buf (Elt Ideal) ℓ) (g' : Dev Cert.UpConvReferenceIdeal.nD → PrngReg), Pre_UpConvKernelIdeal m →
    (∀ c : Dev Cert.UpConvKernelIdeal.nD,
      m' ((c.tc : Thread Cert.UpConvReferenceIdeal.nD Cert.UpConvReferenceIdeal.τ).loc Cert.UpConvReferenceIdeal.main_arg0) = m ((c.tc : Thread Cert.UpConvKernelIdeal.nD Cert.UpConvKernelIdeal.τ).loc Cert.UpConvKernelIdeal.main_arg0)
      ∧ m' ((c.tc : Thread Cert.UpConvReferenceIdeal.nD Cert.UpConvReferenceIdeal.τ).loc Cert.UpConvReferenceIdeal.main_arg1) = m ((c.tc : Thread Cert.UpConvKernelIdeal.nD Cert.UpConvKernelIdeal.τ).loc Cert.UpConvKernelIdeal.main_arg1)
      ∧ m' ((c.tc : Thread Cert.UpConvReferenceIdeal.nD Cert.UpConvReferenceIdeal.τ).loc Cert.UpConvReferenceIdeal.main_arg2) = m ((c.tc : Thread Cert.UpConvKernelIdeal.nD Cert.UpConvKernelIdeal.τ).loc Cert.UpConvKernelIdeal.main_arg2)
      ∧ m' ((c.tc : Thread Cert.UpConvReferenceIdeal.nD Cert.UpConvReferenceIdeal.τ).loc Cert.UpConvReferenceIdeal.main_arg3) = m ((c.tc : Thread Cert.UpConvKernelIdeal.nD Cert.UpConvKernelIdeal.τ).loc Cert.UpConvKernelIdeal.main_arg3)) →
    ∃ (v0 : (c : Dev Cert.UpConvKernelIdeal.nD) → Buf (Elt Ideal) ((c.tc : Thread Cert.UpConvKernelIdeal.nD Cert.UpConvKernelIdeal.τ).loc Cert.UpConvKernelIdeal.main_v7_0)) (v1 : (c : Dev Cert.UpConvKernelIdeal.nD) → Buf (Elt Ideal) ((c.tc : Thread Cert.UpConvKernelIdeal.nD Cert.UpConvKernelIdeal.τ).loc Cert.UpConvKernelIdeal.main_v7_1)) (v2 : (c : Dev Cert.UpConvKernelIdeal.nD) → Buf (Elt Ideal) ((c.tc : Thread Cert.UpConvKernelIdeal.nD Cert.UpConvKernelIdeal.τ).loc Cert.UpConvKernelIdeal.main_v7_2)) (v3 : (c : Dev Cert.UpConvKernelIdeal.nD) → Buf (Elt Ideal) ((c.tc : Thread Cert.UpConvKernelIdeal.nD Cert.UpConvKernelIdeal.τ).loc Cert.UpConvKernelIdeal.main_v7_3)) (v4 : (c : Dev Cert.UpConvKernelIdeal.nD) → Buf (Elt Ideal) ((c.tc : Thread Cert.UpConvKernelIdeal.nD Cert.UpConvKernelIdeal.τ).loc Cert.UpConvKernelIdeal.main_v7_4)),
      θ_run (Cert.UpConvKernelIdeal.defs (F := Ideal)) (onTc (τ := Cert.UpConvKernelIdeal.τ) (Cert.UpConvKernelIdeal.main (F := Ideal))) ⟨m, fun _ => 0, g⟩ (fun r => ∀ c : Dev Cert.UpConvKernelIdeal.nD,
          r.2.mem ((c.tc : Thread Cert.UpConvKernelIdeal.nD Cert.UpConvKernelIdeal.τ).loc Cert.UpConvKernelIdeal.main_v7_0) = v0 c
          ∧ r.2.mem ((c.tc : Thread Cert.UpConvKernelIdeal.nD Cert.UpConvKernelIdeal.τ).loc Cert.UpConvKernelIdeal.main_v7_1) = v1 c
          ∧ r.2.mem ((c.tc : Thread Cert.UpConvKernelIdeal.nD Cert.UpConvKernelIdeal.τ).loc Cert.UpConvKernelIdeal.main_v7_2) = v2 c
          ∧ r.2.mem ((c.tc : Thread Cert.UpConvKernelIdeal.nD Cert.UpConvKernelIdeal.τ).loc Cert.UpConvKernelIdeal.main_v7_3) = v3 c
          ∧ r.2.mem ((c.tc : Thread Cert.UpConvKernelIdeal.nD Cert.UpConvKernelIdeal.τ).loc Cert.UpConvKernelIdeal.main_v7_4) = v4 c
          ∧ r.2.mem ((c.tc : Thread Cert.UpConvKernelIdeal.nD Cert.UpConvKernelIdeal.τ).loc Cert.UpConvKernelIdeal.main_arg0) = m ((c.tc : Thread Cert.UpConvKernelIdeal.nD Cert.UpConvKernelIdeal.τ).loc Cert.UpConvKernelIdeal.main_arg0)
          ∧ r.2.mem ((c.tc : Thread Cert.UpConvKernelIdeal.nD Cert.UpConvKernelIdeal.τ).loc Cert.UpConvKernelIdeal.main_arg1) = m ((c.tc : Thread Cert.UpConvKernelIdeal.nD Cert.UpConvKernelIdeal.τ).loc Cert.UpConvKernelIdeal.main_arg1)
          ∧ r.2.mem ((c.tc : Thread Cert.UpConvKernelIdeal.nD Cert.UpConvKernelIdeal.τ).loc Cert.UpConvKernelIdeal.main_arg2) = m ((c.tc : Thread Cert.UpConvKernelIdeal.nD Cert.UpConvKernelIdeal.τ).loc Cert.UpConvKernelIdeal.main_arg2)
          ∧ r.2.mem ((c.tc : Thread Cert.UpConvKernelIdeal.nD Cert.UpConvKernelIdeal.τ).loc Cert.UpConvKernelIdeal.main_arg3) = m ((c.tc : Thread Cert.UpConvKernelIdeal.nD Cert.UpConvKernelIdeal.τ).loc Cert.UpConvKernelIdeal.main_arg3))
      ∧ θ_run (Cert.UpConvReferenceIdeal.defs (F := Ideal)) (onTc (τ := Cert.UpConvReferenceIdeal.τ) (Cert.UpConvReferenceIdeal.main (F := Ideal))) ⟨m', fun _ => 0, g'⟩ (fun r => ∀ c : Dev Cert.UpConvReferenceIdeal.nD,
          r.2.mem ((c.tc : Thread Cert.UpConvReferenceIdeal.nD Cert.UpConvReferenceIdeal.τ).loc Cert.UpConvReferenceIdeal.main_v36) = v0 c
          ∧ r.2.mem ((c.tc : Thread Cert.UpConvReferenceIdeal.nD Cert.UpConvReferenceIdeal.τ).loc Cert.UpConvReferenceIdeal.main_v38) = v1 c
          ∧ r.2.mem ((c.tc : Thread Cert.UpConvReferenceIdeal.nD Cert.UpConvReferenceIdeal.τ).loc Cert.UpConvReferenceIdeal.main_v40) = v2 c
          ∧ r.2.mem ((c.tc : Thread Cert.UpConvReferenceIdeal.nD Cert.UpConvReferenceIdeal.τ).loc Cert.UpConvReferenceIdeal.main_v42) = v3 c
          ∧ r.2.mem ((c.tc : Thread Cert.UpConvReferenceIdeal.nD Cert.UpConvReferenceIdeal.τ).loc Cert.UpConvReferenceIdeal.main_v44) = v4 c
          ∧ r.2.mem ((c.tc : Thread Cert.UpConvReferenceIdeal.nD Cert.UpConvReferenceIdeal.τ).loc Cert.UpConvReferenceIdeal.main_arg0) = m' ((c.tc : Thread Cert.UpConvReferenceIdeal.nD Cert.UpConvReferenceIdeal.τ).loc Cert.UpConvReferenceIdeal.main_arg0)
          ∧ r.2.mem ((c.tc : Thread Cert.UpConvReferenceIdeal.nD Cert.UpConvReferenceIdeal.τ).loc Cert.UpConvReferenceIdeal.main_arg1) = m' ((c.tc : Thread Cert.UpConvReferenceIdeal.nD Cert.UpConvReferenceIdeal.τ).loc Cert.UpConvReferenceIdeal.main_arg1)
          ∧ r.2.mem ((c.tc : Thread Cert.UpConvReferenceIdeal.nD Cert.UpConvReferenceIdeal.τ).loc Cert.UpConvReferenceIdeal.main_arg2) = m' ((c.tc : Thread Cert.UpConvReferenceIdeal.nD Cert.UpConvReferenceIdeal.τ).loc Cert.UpConvReferenceIdeal.main_arg2)
          ∧ r.2.mem ((c.tc : Thread Cert.UpConvReferenceIdeal.nD Cert.UpConvReferenceIdeal.τ).loc Cert.UpConvReferenceIdeal.main_arg3) = m' ((c.tc : Thread Cert.UpConvReferenceIdeal.nD Cert.UpConvReferenceIdeal.τ).loc Cert.UpConvReferenceIdeal.main_arg3))

def preserves_MergeFwdKernel_MergeFwdKernelIdeal : Prop :=
  True

def algebraic_MergeFwdKernelIdeal_MergeFwdReferenceIdeal [hMergeFwdKernelIdeal : Cert.MergeFwdKernelIdeal.Facts] [hMergeFwdReferenceIdeal : Cert.MergeFwdReferenceIdeal.Facts] : Prop :=
  ∀ (m : (ℓ : Loc Cert.MergeFwdKernelIdeal.nD Cert.MergeFwdKernelIdeal.τ Cert.MergeFwdKernelIdeal.sig) → Buf (Elt Ideal) ℓ) (g : Dev Cert.MergeFwdKernelIdeal.nD → PrngReg)
    (m' : (ℓ : Loc Cert.MergeFwdReferenceIdeal.nD Cert.MergeFwdReferenceIdeal.τ Cert.MergeFwdReferenceIdeal.sig) → Buf (Elt Ideal) ℓ) (g' : Dev Cert.MergeFwdReferenceIdeal.nD → PrngReg), Pre_MergeFwdKernelIdeal m →
    (∀ c : Dev Cert.MergeFwdKernelIdeal.nD,
      m' ((c.tc : Thread Cert.MergeFwdReferenceIdeal.nD Cert.MergeFwdReferenceIdeal.τ).loc Cert.MergeFwdReferenceIdeal.main_arg0) = m ((c.tc : Thread Cert.MergeFwdKernelIdeal.nD Cert.MergeFwdKernelIdeal.τ).loc Cert.MergeFwdKernelIdeal.main_arg0)
      ∧ m' ((c.tc : Thread Cert.MergeFwdReferenceIdeal.nD Cert.MergeFwdReferenceIdeal.τ).loc Cert.MergeFwdReferenceIdeal.main_arg1) = m ((c.tc : Thread Cert.MergeFwdKernelIdeal.nD Cert.MergeFwdKernelIdeal.τ).loc Cert.MergeFwdKernelIdeal.main_arg1)
      ∧ m' ((c.tc : Thread Cert.MergeFwdReferenceIdeal.nD Cert.MergeFwdReferenceIdeal.τ).loc Cert.MergeFwdReferenceIdeal.main_arg2) = m ((c.tc : Thread Cert.MergeFwdKernelIdeal.nD Cert.MergeFwdKernelIdeal.τ).loc Cert.MergeFwdKernelIdeal.main_arg2)
      ∧ m' ((c.tc : Thread Cert.MergeFwdReferenceIdeal.nD Cert.MergeFwdReferenceIdeal.τ).loc Cert.MergeFwdReferenceIdeal.main_arg3) = m ((c.tc : Thread Cert.MergeFwdKernelIdeal.nD Cert.MergeFwdKernelIdeal.τ).loc Cert.MergeFwdKernelIdeal.main_arg3)
      ∧ m' ((c.tc : Thread Cert.MergeFwdReferenceIdeal.nD Cert.MergeFwdReferenceIdeal.τ).loc Cert.MergeFwdReferenceIdeal.main_arg4) = m ((c.tc : Thread Cert.MergeFwdKernelIdeal.nD Cert.MergeFwdKernelIdeal.τ).loc Cert.MergeFwdKernelIdeal.main_arg4)) →
    ∃ (v0 : (c : Dev Cert.MergeFwdKernelIdeal.nD) → Buf (Elt Ideal) ((c.tc : Thread Cert.MergeFwdKernelIdeal.nD Cert.MergeFwdKernelIdeal.τ).loc Cert.MergeFwdKernelIdeal.main_v3)),
      θ_run (Cert.MergeFwdKernelIdeal.defs (F := Ideal)) (onTc (τ := Cert.MergeFwdKernelIdeal.τ) (Cert.MergeFwdKernelIdeal.main (F := Ideal))) ⟨m, fun _ => 0, g⟩ (fun r => ∀ c : Dev Cert.MergeFwdKernelIdeal.nD,
          r.2.mem ((c.tc : Thread Cert.MergeFwdKernelIdeal.nD Cert.MergeFwdKernelIdeal.τ).loc Cert.MergeFwdKernelIdeal.main_v3) = v0 c
          ∧ r.2.mem ((c.tc : Thread Cert.MergeFwdKernelIdeal.nD Cert.MergeFwdKernelIdeal.τ).loc Cert.MergeFwdKernelIdeal.main_arg0) = m ((c.tc : Thread Cert.MergeFwdKernelIdeal.nD Cert.MergeFwdKernelIdeal.τ).loc Cert.MergeFwdKernelIdeal.main_arg0)
          ∧ r.2.mem ((c.tc : Thread Cert.MergeFwdKernelIdeal.nD Cert.MergeFwdKernelIdeal.τ).loc Cert.MergeFwdKernelIdeal.main_arg1) = m ((c.tc : Thread Cert.MergeFwdKernelIdeal.nD Cert.MergeFwdKernelIdeal.τ).loc Cert.MergeFwdKernelIdeal.main_arg1)
          ∧ r.2.mem ((c.tc : Thread Cert.MergeFwdKernelIdeal.nD Cert.MergeFwdKernelIdeal.τ).loc Cert.MergeFwdKernelIdeal.main_arg2) = m ((c.tc : Thread Cert.MergeFwdKernelIdeal.nD Cert.MergeFwdKernelIdeal.τ).loc Cert.MergeFwdKernelIdeal.main_arg2)
          ∧ r.2.mem ((c.tc : Thread Cert.MergeFwdKernelIdeal.nD Cert.MergeFwdKernelIdeal.τ).loc Cert.MergeFwdKernelIdeal.main_arg3) = m ((c.tc : Thread Cert.MergeFwdKernelIdeal.nD Cert.MergeFwdKernelIdeal.τ).loc Cert.MergeFwdKernelIdeal.main_arg3)
          ∧ r.2.mem ((c.tc : Thread Cert.MergeFwdKernelIdeal.nD Cert.MergeFwdKernelIdeal.τ).loc Cert.MergeFwdKernelIdeal.main_arg4) = m ((c.tc : Thread Cert.MergeFwdKernelIdeal.nD Cert.MergeFwdKernelIdeal.τ).loc Cert.MergeFwdKernelIdeal.main_arg4))
      ∧ θ_run (Cert.MergeFwdReferenceIdeal.defs (F := Ideal)) (onTc (τ := Cert.MergeFwdReferenceIdeal.τ) (Cert.MergeFwdReferenceIdeal.main (F := Ideal))) ⟨m', fun _ => 0, g'⟩ (fun r => ∀ c : Dev Cert.MergeFwdReferenceIdeal.nD,
          r.2.mem ((c.tc : Thread Cert.MergeFwdReferenceIdeal.nD Cert.MergeFwdReferenceIdeal.τ).loc Cert.MergeFwdReferenceIdeal.main_v29) = v0 c
          ∧ r.2.mem ((c.tc : Thread Cert.MergeFwdReferenceIdeal.nD Cert.MergeFwdReferenceIdeal.τ).loc Cert.MergeFwdReferenceIdeal.main_arg0) = m' ((c.tc : Thread Cert.MergeFwdReferenceIdeal.nD Cert.MergeFwdReferenceIdeal.τ).loc Cert.MergeFwdReferenceIdeal.main_arg0)
          ∧ r.2.mem ((c.tc : Thread Cert.MergeFwdReferenceIdeal.nD Cert.MergeFwdReferenceIdeal.τ).loc Cert.MergeFwdReferenceIdeal.main_arg1) = m' ((c.tc : Thread Cert.MergeFwdReferenceIdeal.nD Cert.MergeFwdReferenceIdeal.τ).loc Cert.MergeFwdReferenceIdeal.main_arg1)
          ∧ r.2.mem ((c.tc : Thread Cert.MergeFwdReferenceIdeal.nD Cert.MergeFwdReferenceIdeal.τ).loc Cert.MergeFwdReferenceIdeal.main_arg2) = m' ((c.tc : Thread Cert.MergeFwdReferenceIdeal.nD Cert.MergeFwdReferenceIdeal.τ).loc Cert.MergeFwdReferenceIdeal.main_arg2)
          ∧ r.2.mem ((c.tc : Thread Cert.MergeFwdReferenceIdeal.nD Cert.MergeFwdReferenceIdeal.τ).loc Cert.MergeFwdReferenceIdeal.main_arg3) = m' ((c.tc : Thread Cert.MergeFwdReferenceIdeal.nD Cert.MergeFwdReferenceIdeal.τ).loc Cert.MergeFwdReferenceIdeal.main_arg3)
          ∧ r.2.mem ((c.tc : Thread Cert.MergeFwdReferenceIdeal.nD Cert.MergeFwdReferenceIdeal.τ).loc Cert.MergeFwdReferenceIdeal.main_arg4) = m' ((c.tc : Thread Cert.MergeFwdReferenceIdeal.nD Cert.MergeFwdReferenceIdeal.τ).loc Cert.MergeFwdReferenceIdeal.main_arg4))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v1_0)) (v1 : (c : Dev Cert.OutKernelIdeal.nD) → Buf (Elt Ideal) ((c.tc : Thread Cert.OutKernelIdeal.nD Cert.OutKernelIdeal.τ).loc Cert.OutKernelIdeal.main_v1_1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v1_0) = v0 c
          ∧ r.2.mem ((c.tc : Thread Cert.OutKernelIdeal.nD Cert.OutKernelIdeal.τ).loc Cert.OutKernelIdeal.main_v1_1) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_v17) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)) →
    ∃ (v0 : (c : Dev Cert.DownKernelIdeal.nD) → Buf (Elt Ideal) ((c.tc : Thread Cert.DownKernelIdeal.nD Cert.DownKernelIdeal.τ).loc Cert.DownKernelIdeal.main_v1_0)) (v1 : (c : Dev Cert.DownKernelIdeal.nD) → Buf (Elt Ideal) ((c.tc : Thread Cert.DownKernelIdeal.nD Cert.DownKernelIdeal.τ).loc Cert.DownKernelIdeal.main_v1_1)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v1_0) = v0 c
          ∧ r.2.mem ((c.tc : Thread Cert.DownKernelIdeal.nD Cert.DownKernelIdeal.τ).loc Cert.DownKernelIdeal.main_v1_1) = v1 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_v17) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_DhTwoKernel_DhTwoKernelIdeal : Prop :=
  True

def algebraic_DhTwoKernelIdeal_DhTwoReferenceIdeal_pre_finite_dh2 [hDhTwoKernelIdeal : Cert.DhTwoKernelIdeal.Facts] [hDhTwoReferenceIdeal : Cert.DhTwoReferenceIdeal.Facts] [hPre_finite_dh2 : Cert.Pre_finite_dh2.Facts] : Prop :=
  ∀ (m : (ℓ : Loc Cert.DhTwoKernelIdeal.nD Cert.DhTwoKernelIdeal.τ Cert.DhTwoKernelIdeal.sig) → Buf (Elt Ideal) ℓ) (g : Dev Cert.DhTwoKernelIdeal.nD → PrngReg)
    (m' : (ℓ : Loc Cert.DhTwoReferenceIdeal.nD Cert.DhTwoReferenceIdeal.τ Cert.DhTwoReferenceIdeal.sig) → Buf (Elt Ideal) ℓ) (g' : Dev Cert.DhTwoReferenceIdeal.nD → PrngReg), Pre_DhTwoKernelIdeal_finite_dh2 m →
    (∀ c : Dev Cert.DhTwoKernelIdeal.nD,
      m' ((c.tc : Thread Cert.DhTwoReferenceIdeal.nD Cert.DhTwoReferenceIdeal.τ).loc Cert.DhTwoReferenceIdeal.main_arg0) = m ((c.tc : Thread Cert.DhTwoKernelIdeal.nD Cert.DhTwoKernelIdeal.τ).loc Cert.DhTwoKernelIdeal.main_arg0)
      ∧ m' ((c.tc : Thread Cert.DhTwoReferenceIdeal.nD Cert.DhTwoReferenceIdeal.τ).loc Cert.DhTwoReferenceIdeal.main_arg1) = m ((c.tc : Thread Cert.DhTwoKernelIdeal.nD Cert.DhTwoKernelIdeal.τ).loc Cert.DhTwoKernelIdeal.main_arg1)
      ∧ m' ((c.tc : Thread Cert.DhTwoReferenceIdeal.nD Cert.DhTwoReferenceIdeal.τ).loc Cert.DhTwoReferenceIdeal.main_arg2) = m ((c.tc : Thread Cert.DhTwoKernelIdeal.nD Cert.DhTwoKernelIdeal.τ).loc Cert.DhTwoKernelIdeal.main_arg2)
      ∧ m' ((c.tc : Thread Cert.DhTwoReferenceIdeal.nD Cert.DhTwoReferenceIdeal.τ).loc Cert.DhTwoReferenceIdeal.main_arg3) = m ((c.tc : Thread Cert.DhTwoKernelIdeal.nD Cert.DhTwoKernelIdeal.τ).loc Cert.DhTwoKernelIdeal.main_arg3)
      ∧ m' ((c.tc : Thread Cert.DhTwoReferenceIdeal.nD Cert.DhTwoReferenceIdeal.τ).loc Cert.DhTwoReferenceIdeal.main_arg4) = m ((c.tc : Thread Cert.DhTwoKernelIdeal.nD Cert.DhTwoKernelIdeal.τ).loc Cert.DhTwoKernelIdeal.main_arg4)
      ∧ m' ((c.tc : Thread Cert.DhTwoReferenceIdeal.nD Cert.DhTwoReferenceIdeal.τ).loc Cert.DhTwoReferenceIdeal.main_arg5) = m ((c.tc : Thread Cert.DhTwoKernelIdeal.nD Cert.DhTwoKernelIdeal.τ).loc Cert.DhTwoKernelIdeal.main_arg5)) →
    ∃ (v0 : (c : Dev Cert.DhTwoKernelIdeal.nD) → Buf (Elt Ideal) ((c.tc : Thread Cert.DhTwoKernelIdeal.nD Cert.DhTwoKernelIdeal.τ).loc Cert.DhTwoKernelIdeal.main_v2_0)) (v1 : (c : Dev Cert.DhTwoKernelIdeal.nD) → Buf (Elt Ideal) ((c.tc : Thread Cert.DhTwoKernelIdeal.nD Cert.DhTwoKernelIdeal.τ).loc Cert.DhTwoKernelIdeal.main_v2_1)) (v2 : (c : Dev Cert.DhTwoKernelIdeal.nD) → Buf (Elt Ideal) ((c.tc : Thread Cert.DhTwoKernelIdeal.nD Cert.DhTwoKernelIdeal.τ).loc Cert.DhTwoKernelIdeal.main_v2_2)),
      θ_run (Cert.DhTwoKernelIdeal.defs (F := Ideal)) (onTc (τ := Cert.DhTwoKernelIdeal.τ) (Cert.DhTwoKernelIdeal.main (F := Ideal))) ⟨m, fun _ => 0, g⟩ (fun r => ∀ c : Dev Cert.DhTwoKernelIdeal.nD,
          r.2.mem ((c.tc : Thread Cert.DhTwoKernelIdeal.nD Cert.DhTwoKernelIdeal.τ).loc Cert.DhTwoKernelIdeal.main_v2_0) = v0 c
          ∧ r.2.mem ((c.tc : Thread Cert.DhTwoKernelIdeal.nD Cert.DhTwoKernelIdeal.τ).loc Cert.DhTwoKernelIdeal.main_v2_1) = v1 c
          ∧ r.2.mem ((c.tc : Thread Cert.DhTwoKernelIdeal.nD Cert.DhTwoKernelIdeal.τ).loc Cert.DhTwoKernelIdeal.main_v2_2) = v2 c
          ∧ r.2.mem ((c.tc : Thread Cert.DhTwoKernelIdeal.nD Cert.DhTwoKernelIdeal.τ).loc Cert.DhTwoKernelIdeal.main_arg0) = m ((c.tc : Thread Cert.DhTwoKernelIdeal.nD Cert.DhTwoKernelIdeal.τ).loc Cert.DhTwoKernelIdeal.main_arg0)
          ∧ r.2.mem ((c.tc : Thread Cert.DhTwoKernelIdeal.nD Cert.DhTwoKernelIdeal.τ).loc Cert.DhTwoKernelIdeal.main_arg1) = m ((c.tc : Thread Cert.DhTwoKernelIdeal.nD Cert.DhTwoKernelIdeal.τ).loc Cert.DhTwoKernelIdeal.main_arg1)
          ∧ r.2.mem ((c.tc : Thread Cert.DhTwoKernelIdeal.nD Cert.DhTwoKernelIdeal.τ).loc Cert.DhTwoKernelIdeal.main_arg2) = m ((c.tc : Thread Cert.DhTwoKernelIdeal.nD Cert.DhTwoKernelIdeal.τ).loc Cert.DhTwoKernelIdeal.main_arg2)
          ∧ r.2.mem ((c.tc : Thread Cert.DhTwoKernelIdeal.nD Cert.DhTwoKernelIdeal.τ).loc Cert.DhTwoKernelIdeal.main_arg3) = m ((c.tc : Thread Cert.DhTwoKernelIdeal.nD Cert.DhTwoKernelIdeal.τ).loc Cert.DhTwoKernelIdeal.main_arg3)
          ∧ r.2.mem ((c.tc : Thread Cert.DhTwoKernelIdeal.nD Cert.DhTwoKernelIdeal.τ).loc Cert.DhTwoKernelIdeal.main_arg4) = m ((c.tc : Thread Cert.DhTwoKernelIdeal.nD Cert.DhTwoKernelIdeal.τ).loc Cert.DhTwoKernelIdeal.main_arg4)
          ∧ r.2.mem ((c.tc : Thread Cert.DhTwoKernelIdeal.nD Cert.DhTwoKernelIdeal.τ).loc Cert.DhTwoKernelIdeal.main_arg5) = m ((c.tc : Thread Cert.DhTwoKernelIdeal.nD Cert.DhTwoKernelIdeal.τ).loc Cert.DhTwoKernelIdeal.main_arg5))
      ∧ θ_run (Cert.DhTwoReferenceIdeal.defs (F := Ideal)) (onTc (τ := Cert.DhTwoReferenceIdeal.τ) (Cert.DhTwoReferenceIdeal.main (F := Ideal))) ⟨m', fun _ => 0, g'⟩ (fun r => ∀ c : Dev Cert.DhTwoReferenceIdeal.nD,
          r.2.mem ((c.tc : Thread Cert.DhTwoReferenceIdeal.nD Cert.DhTwoReferenceIdeal.τ).loc Cert.DhTwoReferenceIdeal.main_v42) = v0 c
          ∧ r.2.mem ((c.tc : Thread Cert.DhTwoReferenceIdeal.nD Cert.DhTwoReferenceIdeal.τ).loc Cert.DhTwoReferenceIdeal.main_v43) = v1 c
          ∧ r.2.mem ((c.tc : Thread Cert.DhTwoReferenceIdeal.nD Cert.DhTwoReferenceIdeal.τ).loc Cert.DhTwoReferenceIdeal.main_v44) = v2 c
          ∧ r.2.mem ((c.tc : Thread Cert.DhTwoReferenceIdeal.nD Cert.DhTwoReferenceIdeal.τ).loc Cert.DhTwoReferenceIdeal.main_arg0) = m' ((c.tc : Thread Cert.DhTwoReferenceIdeal.nD Cert.DhTwoReferenceIdeal.τ).loc Cert.DhTwoReferenceIdeal.main_arg0)
          ∧ r.2.mem ((c.tc : Thread Cert.DhTwoReferenceIdeal.nD Cert.DhTwoReferenceIdeal.τ).loc Cert.DhTwoReferenceIdeal.main_arg1) = m' ((c.tc : Thread Cert.DhTwoReferenceIdeal.nD Cert.DhTwoReferenceIdeal.τ).loc Cert.DhTwoReferenceIdeal.main_arg1)
          ∧ r.2.mem ((c.tc : Thread Cert.DhTwoReferenceIdeal.nD Cert.DhTwoReferenceIdeal.τ).loc Cert.DhTwoReferenceIdeal.main_arg2) = m' ((c.tc : Thread Cert.DhTwoReferenceIdeal.nD Cert.DhTwoReferenceIdeal.τ).loc Cert.DhTwoReferenceIdeal.main_arg2)
          ∧ r.2.mem ((c.tc : Thread Cert.DhTwoReferenceIdeal.nD Cert.DhTwoReferenceIdeal.τ).loc Cert.DhTwoReferenceIdeal.main_arg3) = m' ((c.tc : Thread Cert.DhTwoReferenceIdeal.nD Cert.DhTwoReferenceIdeal.τ).loc Cert.DhTwoReferenceIdeal.main_arg3)
          ∧ r.2.mem ((c.tc : Thread Cert.DhTwoReferenceIdeal.nD Cert.DhTwoReferenceIdeal.τ).loc Cert.DhTwoReferenceIdeal.main_arg4) = m' ((c.tc : Thread Cert.DhTwoReferenceIdeal.nD Cert.DhTwoReferenceIdeal.τ).loc Cert.DhTwoReferenceIdeal.main_arg4)
          ∧ r.2.mem ((c.tc : Thread Cert.DhTwoReferenceIdeal.nD Cert.DhTwoReferenceIdeal.τ).loc Cert.DhTwoReferenceIdeal.main_arg5) = m' ((c.tc : Thread Cert.DhTwoReferenceIdeal.nD Cert.DhTwoReferenceIdeal.τ).loc Cert.DhTwoReferenceIdeal.main_arg5))

def preserves_DhKernel_DhKernelIdeal : Prop :=
  True

def algebraic_DhKernelIdeal_DhReferenceIdeal_pre_finite_dh [hDhKernelIdeal : Cert.DhKernelIdeal.Facts] [hDhReferenceIdeal : Cert.DhReferenceIdeal.Facts] [hPre_finite_dh : Cert.Pre_finite_dh.Facts] : Prop :=
  ∀ (m : (ℓ : Loc Cert.DhKernelIdeal.nD Cert.DhKernelIdeal.τ Cert.DhKernelIdeal.sig) → Buf (Elt Ideal) ℓ) (g : Dev Cert.DhKernelIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhKernelIdeal_finite_dh m →
    (∀ c : Dev Cert.DhKernelIdeal.nD,
      m' ((c.tc : Thread Cert.DhReferenceIdeal.nD Cert.DhReferenceIdeal.τ).loc Cert.DhReferenceIdeal.main_arg0) = m ((c.tc : Thread Cert.DhKernelIdeal.nD Cert.DhKernelIdeal.τ).loc Cert.DhKernelIdeal.main_arg0)
      ∧ m' ((c.tc : Thread Cert.DhReferenceIdeal.nD Cert.DhReferenceIdeal.τ).loc Cert.DhReferenceIdeal.main_arg1) = m ((c.tc : Thread Cert.DhKernelIdeal.nD Cert.DhKernelIdeal.τ).loc Cert.DhKernelIdeal.main_arg1)
      ∧ m' ((c.tc : Thread Cert.DhReferenceIdeal.nD Cert.DhReferenceIdeal.τ).loc Cert.DhReferenceIdeal.main_arg2) = m ((c.tc : Thread Cert.DhKernelIdeal.nD Cert.DhKernelIdeal.τ).loc Cert.DhKernelIdeal.main_arg2)
      ∧ m' ((c.tc : Thread Cert.DhReferenceIdeal.nD Cert.DhReferenceIdeal.τ).loc Cert.DhReferenceIdeal.main_arg3) = m ((c.tc : Thread Cert.DhKernelIdeal.nD Cert.DhKernelIdeal.τ).loc Cert.DhKernelIdeal.main_arg3)
      ∧ m' ((c.tc : Thread Cert.DhReferenceIdeal.nD Cert.DhReferenceIdeal.τ).loc Cert.DhReferenceIdeal.main_arg4) = m ((c.tc : Thread Cert.DhKernelIdeal.nD Cert.DhKernelIdeal.τ).loc Cert.DhKernelIdeal.main_arg4)
      ∧ m' ((c.tc : Thread Cert.DhReferenceIdeal.nD Cert.DhReferenceIdeal.τ).loc Cert.DhReferenceIdeal.main_arg5) = m ((c.tc : Thread Cert.DhKernelIdeal.nD Cert.DhKernelIdeal.τ).loc Cert.DhKernelIdeal.main_arg5)
      ∧ m' ((c.tc : Thread Cert.DhReferenceIdeal.nD Cert.DhReferenceIdeal.τ).loc Cert.DhReferenceIdeal.main_arg6) = m ((c.tc : Thread Cert.DhKernelIdeal.nD Cert.DhKernelIdeal.τ).loc Cert.DhKernelIdeal.main_arg6)
      ∧ m' ((c.tc : Thread Cert.DhReferenceIdeal.nD Cert.DhReferenceIdeal.τ).loc Cert.DhReferenceIdeal.main_arg7) = m ((c.tc : Thread Cert.DhKernelIdeal.nD Cert.DhKernelIdeal.τ).loc Cert.DhKernelIdeal.main_arg7)) →
    ∃ (v0 : (c : Dev Cert.DhKernelIdeal.nD) → Buf (Elt Ideal) ((c.tc : Thread Cert.DhKernelIdeal.nD Cert.DhKernelIdeal.τ).loc Cert.DhKernelIdeal.main_v2_0)) (v1 : (c : Dev Cert.DhKernelIdeal.nD) → Buf (Elt Ideal) ((c.tc : Thread Cert.DhKernelIdeal.nD Cert.DhKernelIdeal.τ).loc Cert.DhKernelIdeal.main_v2_1)) (v2 : (c : Dev Cert.DhKernelIdeal.nD) → Buf (Elt Ideal) ((c.tc : Thread Cert.DhKernelIdeal.nD Cert.DhKernelIdeal.τ).loc Cert.DhKernelIdeal.main_v2_2)),
      θ_run (Cert.DhKernelIdeal.defs (F := Ideal)) (onTc (τ := Cert.DhKernelIdeal.τ) (Cert.DhKernelIdeal.main (F := Ideal))) ⟨m, fun _ => 0, g⟩ (fun r => ∀ c : Dev Cert.DhKernelIdeal.nD,
          r.2.mem ((c.tc : Thread Cert.DhKernelIdeal.nD Cert.DhKernelIdeal.τ).loc Cert.DhKernelIdeal.main_v2_0) = v0 c
          ∧ r.2.mem ((c.tc : Thread Cert.DhKernelIdeal.nD Cert.DhKernelIdeal.τ).loc Cert.DhKernelIdeal.main_v2_1) = v1 c
          ∧ r.2.mem ((c.tc : Thread Cert.DhKernelIdeal.nD Cert.DhKernelIdeal.τ).loc Cert.DhKernelIdeal.main_v2_2) = v2 c
          ∧ r.2.mem ((c.tc : Thread Cert.DhKernelIdeal.nD Cert.DhKernelIdeal.τ).loc Cert.DhKernelIdeal.main_arg0) = m ((c.tc : Thread Cert.DhKernelIdeal.nD Cert.DhKernelIdeal.τ).loc Cert.DhKernelIdeal.main_arg0)
          ∧ r.2.mem ((c.tc : Thread Cert.DhKernelIdeal.nD Cert.DhKernelIdeal.τ).loc Cert.DhKernelIdeal.main_arg1) = m ((c.tc : Thread Cert.DhKernelIdeal.nD Cert.DhKernelIdeal.τ).loc Cert.DhKernelIdeal.main_arg1)
          ∧ r.2.mem ((c.tc : Thread Cert.DhKernelIdeal.nD Cert.DhKernelIdeal.τ).loc Cert.DhKernelIdeal.main_arg2) = m ((c.tc : Thread Cert.DhKernelIdeal.nD Cert.DhKernelIdeal.τ).loc Cert.DhKernelIdeal.main_arg2)
          ∧ r.2.mem ((c.tc : Thread Cert.DhKernelIdeal.nD Cert.DhKernelIdeal.τ).loc Cert.DhKernelIdeal.main_arg3) = m ((c.tc : Thread Cert.DhKernelIdeal.nD Cert.DhKernelIdeal.τ).loc Cert.DhKernelIdeal.main_arg3)
          ∧ r.2.mem ((c.tc : Thread Cert.DhKernelIdeal.nD Cert.DhKernelIdeal.τ).loc Cert.DhKernelIdeal.main_arg4) = m ((c.tc : Thread Cert.DhKernelIdeal.nD Cert.DhKernelIdeal.τ).loc Cert.DhKernelIdeal.main_arg4)
          ∧ r.2.mem ((c.tc : Thread Cert.DhKernelIdeal.nD Cert.DhKernelIdeal.τ).loc Cert.DhKernelIdeal.main_arg5) = m ((c.tc : Thread Cert.DhKernelIdeal.nD Cert.DhKernelIdeal.τ).loc Cert.DhKernelIdeal.main_arg5)
          ∧ r.2.mem ((c.tc : Thread Cert.DhKernelIdeal.nD Cert.DhKernelIdeal.τ).loc Cert.DhKernelIdeal.main_arg6) = m ((c.tc : Thread Cert.DhKernelIdeal.nD Cert.DhKernelIdeal.τ).loc Cert.DhKernelIdeal.main_arg6)
          ∧ r.2.mem ((c.tc : Thread Cert.DhKernelIdeal.nD Cert.DhKernelIdeal.τ).loc Cert.DhKernelIdeal.main_arg7) = m ((c.tc : Thread Cert.DhKernelIdeal.nD Cert.DhKernelIdeal.τ).loc Cert.DhKernelIdeal.main_arg7))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v44) = v0 c
          ∧ r.2.mem ((c.tc : Thread Cert.DhReferenceIdeal.nD Cert.DhReferenceIdeal.τ).loc Cert.DhReferenceIdeal.main_v45) = v1 c
          ∧ r.2.mem ((c.tc : Thread Cert.DhReferenceIdeal.nD Cert.DhReferenceIdeal.τ).loc Cert.DhReferenceIdeal.main_v46) = v2 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1)
          ∧ r.2.mem ((c.tc : Thread Cert.DhReferenceIdeal.nD Cert.DhReferenceIdeal.τ).loc Cert.DhReferenceIdeal.main_arg2) = m' ((c.tc : Thread Cert.DhReferenceIdeal.nD Cert.DhReferenceIdeal.τ).loc Cert.DhReferenceIdeal.main_arg2)
          ∧ r.2.mem ((c.tc : Thread Cert.DhReferenceIdeal.nD Cert.DhReferenceIdeal.τ).loc Cert.DhReferenceIdeal.main_arg3) = m' ((c.tc : Thread Cert.DhReferenceIdeal.nD Cert.DhReferenceIdeal.τ).loc Cert.DhReferenceIdeal.main_arg3)
          ∧ r.2.mem ((c.tc : Thread Cert.DhReferenceIdeal.nD Cert.DhReferenceIdeal.τ).loc Cert.DhReferenceIdeal.main_arg4) = m' ((c.tc : Thread Cert.DhReferenceIdeal.nD Cert.DhReferenceIdeal.τ).loc Cert.DhReferenceIdeal.main_arg4)
          ∧ r.2.mem ((c.tc : Thread Cert.DhReferenceIdeal.nD Cert.DhReferenceIdeal.τ).loc Cert.DhReferenceIdeal.main_arg5) = m' ((c.tc : Thread Cert.DhReferenceIdeal.nD Cert.DhReferenceIdeal.τ).loc Cert.DhReferenceIdeal.main_arg5)
          ∧ r.2.mem ((c.tc : Thread Cert.DhReferenceIdeal.nD Cert.DhReferenceIdeal.τ).loc Cert.DhReferenceIdeal.main_arg6) = m' ((c.tc : Thread Cert.DhReferenceIdeal.nD Cert.DhReferenceIdeal.τ).loc Cert.DhReferenceIdeal.main_arg6)
          ∧ r.2.mem ((c.tc : Thread Cert.DhReferenceIdeal.nD Cert.DhReferenceIdeal.τ).loc Cert.DhReferenceIdeal.main_arg7) = m' ((c.tc : Thread Cert.DhReferenceIdeal.nD Cert.DhReferenceIdeal.τ).loc Cert.DhReferenceIdeal.main_arg7))

def Claim : Prop :=
  ∃ (hMergeKernel : Cert.MergeKernel.Facts) (hMergeKernelIdeal : Cert.MergeKernelIdeal.Facts) (hMergeReferenceIdeal : Cert.MergeReferenceIdeal.Facts) (hConvKernel : Cert.ConvKernel.Facts) (hConvKernelIdeal : Cert.ConvKernelIdeal.Facts) (hConvReferenceIdeal : Cert.ConvReferenceIdeal.Facts) (hDwDownKernel : Cert.DwDownKernel.Facts) (hDwDownKernelIdeal : Cert.DwDownKernelIdeal.Facts) (hDwDownReferenceIdeal : Cert.DwDownReferenceIdeal.Facts) (hDwUpGateKernel : Cert.DwUpGateKernel.Facts) (hDwUpGateKernelIdeal : Cert.DwUpGateKernelIdeal.Facts) (hDwUpGateReferenceIdeal : Cert.DwUpGateReferenceIdeal.Facts) (hDwUpValueKernel : Cert.DwUpValueKernel.Facts) (hDwUpValueKernelIdeal : Cert.DwUpValueKernelIdeal.Facts) (hDwUpValueReferenceIdeal : Cert.DwUpValueReferenceIdeal.Facts) (hProjKernel : Cert.ProjKernel.Facts) (hProjKernelIdeal : Cert.ProjKernelIdeal.Facts) (hProjReferenceIdeal : Cert.ProjReferenceIdeal.Facts) (hDwInKernel : Cert.DwInKernel.Facts) (hDwInKernelIdeal : Cert.DwInKernelIdeal.Facts) (hDwInReferenceIdeal : Cert.DwInReferenceIdeal.Facts) (hDwOutKernel : Cert.DwOutKernel.Facts) (hDwOutKernelIdeal : Cert.DwOutKernelIdeal.Facts) (hDwOutReferenceIdeal : Cert.DwOutReferenceIdeal.Facts) (hDwBranchKernel : Cert.DwBranchKernel.Facts) (hDwBranchKernelIdeal : Cert.DwBranchKernelIdeal.Facts) (hDwBranchReferenceIdeal : Cert.DwBranchReferenceIdeal.Facts) (hDyAttKernel : Cert.DyAttKernel.Facts) (hDyAttKernelIdeal : Cert.DyAttKernelIdeal.Facts) (hDyAttReferenceIdeal : Cert.DyAttReferenceIdeal.Facts) (hDySguKernel : Cert.DySguKernel.Facts) (hDySguKernelIdeal : Cert.DySguKernelIdeal.Facts) (hDySguReferenceIdeal : Cert.DySguReferenceIdeal.Facts) (hUpConvKernel : Cert.UpConvKernel.Facts) (hUpConvKernelIdeal : Cert.UpConvKernelIdeal.Facts) (hUpConvReferenceIdeal : Cert.UpConvReferenceIdeal.Facts) (hMergeFwdKernel : Cert.MergeFwdKernel.Facts) (hMergeFwdKernelIdeal : Cert.MergeFwdKernelIdeal.Facts) (hMergeFwdReferenceIdeal : Cert.MergeFwdReferenceIdeal.Facts) (hOutKernel : Cert.OutKernel.Facts) (hOutKernelIdeal : Cert.OutKernelIdeal.Facts) (hOutReferenceIdeal : Cert.OutReferenceIdeal.Facts) (hDownKernel : Cert.DownKernel.Facts) (hDownKernelIdeal : Cert.DownKernelIdeal.Facts) (hDownReferenceIdeal : Cert.DownReferenceIdeal.Facts) (hDhTwoKernel : Cert.DhTwoKernel.Facts) (hDhTwoKernelIdeal : Cert.DhTwoKernelIdeal.Facts) (hDhTwoReferenceIdeal : Cert.DhTwoReferenceIdeal.Facts) (hDhKernel : Cert.DhKernel.Facts) (hDhKernelIdeal : Cert.DhKernelIdeal.Facts) (hDhReferenceIdeal : Cert.DhReferenceIdeal.Facts) (hPre_finite_conv : Cert.Pre_finite_conv.Facts) (hPre_finite_dh2 : Cert.Pre_finite_dh2.Facts) (hPre_finite_dh : Cert.Pre_finite_dh.Facts),
    quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_ConvKernel (hConvKernel := hConvKernel)
    ∧ quiescent_ConvKernelIdeal (hConvKernelIdeal := hConvKernelIdeal)
    ∧ quiescent_ConvKernelIdeal_pre_finite_conv (hConvKernelIdeal := hConvKernelIdeal) (hPre_finite_conv := hPre_finite_conv)
    ∧ quiescent_ConvReferenceIdeal (hConvReferenceIdeal := hConvReferenceIdeal)
    ∧ quiescent_ConvReferenceIdeal_pre_finite_conv (hConvReferenceIdeal := hConvReferenceIdeal) (hPre_finite_conv := hPre_finite_conv)
    ∧ quiescent_DwDownKernel (hDwDownKernel := hDwDownKernel)
    ∧ quiescent_DwDownKernelIdeal (hDwDownKernelIdeal := hDwDownKernelIdeal)
    ∧ quiescent_DwDownReferenceIdeal (hDwDownReferenceIdeal := hDwDownReferenceIdeal)
    ∧ quiescent_DwUpGateKernel (hDwUpGateKernel := hDwUpGateKernel)
    ∧ quiescent_DwUpGateKernelIdeal (hDwUpGateKernelIdeal := hDwUpGateKernelIdeal)
    ∧ quiescent_DwUpGateReferenceIdeal (hDwUpGateReferenceIdeal := hDwUpGateReferenceIdeal)
    ∧ quiescent_DwUpValueKernel (hDwUpValueKernel := hDwUpValueKernel)
    ∧ quiescent_DwUpValueKernelIdeal (hDwUpValueKernelIdeal := hDwUpValueKernelIdeal)
    ∧ quiescent_DwUpValueReferenceIdeal (hDwUpValueReferenceIdeal := hDwUpValueReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_DwInKernel (hDwInKernel := hDwInKernel)
    ∧ quiescent_DwInKernelIdeal (hDwInKernelIdeal := hDwInKernelIdeal)
    ∧ quiescent_DwInReferenceIdeal (hDwInReferenceIdeal := hDwInReferenceIdeal)
    ∧ quiescent_DwOutKernel (hDwOutKernel := hDwOutKernel)
    ∧ quiescent_DwOutKernelIdeal (hDwOutKernelIdeal := hDwOutKernelIdeal)
    ∧ quiescent_DwOutReferenceIdeal (hDwOutReferenceIdeal := hDwOutReferenceIdeal)
    ∧ quiescent_DwBranchKernel (hDwBranchKernel := hDwBranchKernel)
    ∧ quiescent_DwBranchKernelIdeal (hDwBranchKernelIdeal := hDwBranchKernelIdeal)
    ∧ quiescent_DwBranchReferenceIdeal (hDwBranchReferenceIdeal := hDwBranchReferenceIdeal)
    ∧ quiescent_DyAttKernel (hDyAttKernel := hDyAttKernel)
    ∧ quiescent_DyAttKernelIdeal (hDyAttKernelIdeal := hDyAttKernelIdeal)
    ∧ quiescent_DyAttReferenceIdeal (hDyAttReferenceIdeal := hDyAttReferenceIdeal)
    ∧ quiescent_DySguKernel (hDySguKernel := hDySguKernel)
    ∧ quiescent_DySguKernelIdeal (hDySguKernelIdeal := hDySguKernelIdeal)
    ∧ quiescent_DySguReferenceIdeal (hDySguReferenceIdeal := hDySguReferenceIdeal)
    ∧ quiescent_UpConvKernel (hUpConvKernel := hUpConvKernel)
    ∧ quiescent_UpConvKernelIdeal (hUpConvKernelIdeal := hUpConvKernelIdeal)
    ∧ quiescent_UpConvReferenceIdeal (hUpConvReferenceIdeal := hUpConvReferenceIdeal)
    ∧ quiescent_MergeFwdKernel (hMergeFwdKernel := hMergeFwdKernel)
    ∧ quiescent_MergeFwdKernelIdeal (hMergeFwdKernelIdeal := hMergeFwdKernelIdeal)
    ∧ quiescent_MergeFwdReferenceIdeal (hMergeFwdReferenceIdeal := hMergeFwdReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_DhTwoKernel (hDhTwoKernel := hDhTwoKernel)
    ∧ quiescent_DhTwoKernelIdeal (hDhTwoKernelIdeal := hDhTwoKernelIdeal)
    ∧ quiescent_DhTwoKernelIdeal_pre_finite_dh2 (hDhTwoKernelIdeal := hDhTwoKernelIdeal) (hPre_finite_dh2 := hPre_finite_dh2)
    ∧ quiescent_DhTwoReferenceIdeal (hDhTwoReferenceIdeal := hDhTwoReferenceIdeal)
    ∧ quiescent_DhTwoReferenceIdeal_pre_finite_dh2 (hDhTwoReferenceIdeal := hDhTwoReferenceIdeal) (hPre_finite_dh2 := hPre_finite_dh2)
    ∧ quiescent_DhKernel (hDhKernel := hDhKernel)
    ∧ quiescent_DhKernelIdeal (hDhKernelIdeal := hDhKernelIdeal)
    ∧ quiescent_DhKernelIdeal_pre_finite_dh (hDhKernelIdeal := hDhKernelIdeal) (hPre_finite_dh := hPre_finite_dh)
    ∧ quiescent_DhReferenceIdeal (hDhReferenceIdeal := hDhReferenceIdeal)
    ∧ quiescent_DhReferenceIdeal_pre_finite_dh (hDhReferenceIdeal := hDhReferenceIdeal) (hPre_finite_dh := hPre_finite_dh)
    ∧ preserves_MergeKernel_MergeKernelIdeal
    ∧ algebraic_MergeKernelIdeal_MergeReferenceIdeal (hMergeKernelIdeal := hMergeKernelIdeal) (hMergeReferenceIdeal := hMergeReferenceIdeal)
    ∧ preserves_ConvKernel_ConvKernelIdeal
    ∧ algebraic_ConvKernelIdeal_ConvReferenceIdeal_pre_finite_conv (hConvKernelIdeal := hConvKernelIdeal) (hConvReferenceIdeal := hConvReferenceIdeal) (hPre_finite_conv := hPre_finite_conv)
    ∧ preserves_DwDownKernel_DwDownKernelIdeal
    ∧ algebraic_DwDownKernelIdeal_DwDownReferenceIdeal (hDwDownKernelIdeal := hDwDownKernelIdeal) (hDwDownReferenceIdeal := hDwDownReferenceIdeal)
    ∧ preserves_DwUpGateKernel_DwUpGateKernelIdeal
    ∧ algebraic_DwUpGateKernelIdeal_DwUpGateReferenceIdeal (hDwUpGateKernelIdeal := hDwUpGateKernelIdeal) (hDwUpGateReferenceIdeal := hDwUpGateReferenceIdeal)
    ∧ preserves_DwUpValueKernel_DwUpValueKernelIdeal
    ∧ algebraic_DwUpValueKernelIdeal_DwUpValueReferenceIdeal (hDwUpValueKernelIdeal := hDwUpValueKernelIdeal) (hDwUpValueReferenceIdeal := hDwUpValueReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_DwInKernel_DwInKernelIdeal
    ∧ algebraic_DwInKernelIdeal_DwInReferenceIdeal (hDwInKernelIdeal := hDwInKernelIdeal) (hDwInReferenceIdeal := hDwInReferenceIdeal)
    ∧ preserves_DwOutKernel_DwOutKernelIdeal
    ∧ algebraic_DwOutKernelIdeal_DwOutReferenceIdeal (hDwOutKernelIdeal := hDwOutKernelIdeal) (hDwOutReferenceIdeal := hDwOutReferenceIdeal)
    ∧ preserves_DwBranchKernel_DwBranchKernelIdeal
    ∧ algebraic_DwBranchKernelIdeal_DwBranchReferenceIdeal (hDwBranchKernelIdeal := hDwBranchKernelIdeal) (hDwBranchReferenceIdeal := hDwBranchReferenceIdeal)
    ∧ preserves_DyAttKernel_DyAttKernelIdeal
    ∧ algebraic_DyAttKernelIdeal_DyAttReferenceIdeal (hDyAttKernelIdeal := hDyAttKernelIdeal) (hDyAttReferenceIdeal := hDyAttReferenceIdeal)
    ∧ preserves_DySguKernel_DySguKernelIdeal
    ∧ algebraic_DySguKernelIdeal_DySguReferenceIdeal (hDySguKernelIdeal := hDySguKernelIdeal) (hDySguReferenceIdeal := hDySguReferenceIdeal)
    ∧ preserves_UpConvKernel_UpConvKernelIdeal
    ∧ algebraic_UpConvKernelIdeal_UpConvReferenceIdeal (hUpConvKernelIdeal := hUpConvKernelIdeal) (hUpConvReferenceIdeal := hUpConvReferenceIdeal)
    ∧ preserves_MergeFwdKernel_MergeFwdKernelIdeal
    ∧ algebraic_MergeFwdKernelIdeal_MergeFwdReferenceIdeal (hMergeFwdKernelIdeal := hMergeFwdKernelIdeal) (hMergeFwdReferenceIdeal := hMergeFwdReferenceIdeal)
    ∧ preserves_OutKernel_OutKernelIdeal
    ∧ algebraic_OutKernelIdeal_OutReferenceIdeal (hOutKernelIdeal := hOutKernelIdeal) (hOutReferenceIdeal := hOutReferenceIdeal)
    ∧ preserves_DownKernel_DownKernelIdeal
    ∧ algebraic_DownKernelIdeal_DownReferenceIdeal (hDownKernelIdeal := hDownKernelIdeal) (hDownReferenceIdeal := hDownReferenceIdeal)
    ∧ preserves_DhTwoKernel_DhTwoKernelIdeal
    ∧ algebraic_DhTwoKernelIdeal_DhTwoReferenceIdeal_pre_finite_dh2 (hDhTwoKernelIdeal := hDhTwoKernelIdeal) (hDhTwoReferenceIdeal := hDhTwoReferenceIdeal) (hPre_finite_dh2 := hPre_finite_dh2)
    ∧ preserves_DhKernel_DhKernelIdeal
    ∧ algebraic_DhKernelIdeal_DhReferenceIdeal_pre_finite_dh (hDhKernelIdeal := hDhKernelIdeal) (hDhReferenceIdeal := hDhReferenceIdeal) (hPre_finite_dh := hPre_finite_dh)
-- ==== Pre_finite_conv.lean ====
abbrev S2x2048x1024 : Shape := ⟨3, ![2, 2048, 1024]⟩
abbrev S2x2048x5632 : Shape := ⟨3, ![2, 2048, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bitsLt_bf16_f32 : FTy.bits .bf16 < FTy.bits .f32
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x2048x5632 : S_.BroadcastsInDim S2x2048x5632 (![] : Fin 0 → Fin S2x2048x5632.rank)
  reducesTo_S2x2048x5632_S_d0_1_2 : S2x2048x5632.ReducesTo [0, 1, 2] S_
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .bf16) (main_v15 : IVec S_ 1) (main_v16 : FVec F S5632 .f32) (main_cst_4 : FVec F S_ .f32) : IVec S_ 1 :=
  let main_v17 : FVec F S5632 .f32 := broadcastInDim S5632 ![] bcast_S_S5632 main_cst_4
  let main_v18 : IVec S5632 1 := cmpf .olt main_v16 main_v17
  let main_c_5 : IVec S_ 1 := constantI S_ 1 1#1
  let main_v19 : IVec S_ 1 := (fun x v => Host.reduce IntOp.andi x v reducesTo_S5632_S_d0 h_S_) main_v18 main_c_5
  let main_v20 : IVec S_ 1 := andi main_v15 main_v19
  let main_v21 : FVec F S2816x1024 .f32 := (extf .f32 · bitsLt_bf16_f32) main_arg4
  let main_v22 : FVec F S2816x1024 .f32 := Host.absf main_v21
  let main_cst_6 : FVec F S_ .f32 := constant S_ .f32 0x7F800000#32
  let main_v23 : FVec F S2816x1024 .f32 := broadcastInDim S2816x1024 ![] bcast_S_S2816x1024 main_cst_6
  let main_v24 : IVec S2816x1024 1 := cmpf .olt main_v22 main_v23
  let main_c_7 : IVec S_ 1 := constantI S_ 1 1#1
  let main_v25 : IVec S_ 1 := (fun x v => Host.reduce IntOp.andi x v reducesTo_S2816x1024_S_d0_1 h_S_) main_v24 main_c_7
  let main_v26 : IVec S_ 1 := andi main_v20 main_v25
  main_v26

def fn {F : FTy → Type} [FloatOps F] (main_arg0 : FVec F S2x2048x1024 .bf16) (main_arg1 : FVec F S2x2048x5632 .bf16) (main_arg2 : FVec F S3x5632 .f32) (main_arg3 : FVec F S5632 .f32) (main_arg4 : FVec F S2816x1024 .bf16) : IVec S_ 1 :=
  let main_v0 : FVec F S2x2048x1024 .f32 := (extf .f32 · bitsLt_bf16_f32) main_arg0
  let main_v1 : FVec F S2x2048x1024 .f32 := Host.absf main_v0
  let main_cst : FVec F S_ .f32 := constant S_ .f32 0x7F800000#32
  let main_v2 : FVec F S2x2048x1024 .f32 := broadcastInDim S2x2048x1024 ![] bcast_S_S2x2048x1024 main_cst
  let main_v3 : IVec S2x2048x1024 1 := cmpf .olt main_v1 main_v2
  let main_c : IVec S_ 1 := constantI S_ 1 1#1
  let main_v4 : IVec S_ 1 := (fun x v => Host.reduce IntOp.andi x v reducesTo_S2x2048x1024_S_d0_1_2 h_S_) main_v3 main_c
  let main_v5 : FVec F S2x2048x5632 .f32 := (extf .f32 · bitsLt_bf16_f32) main_arg1
  let main_v6 : FVec F S2x2048x5632 .f32 := Host.absf main_v5
  let main_cst_0 : FVec F S_ .f32 := constant S_ .f32 0x7F800000#32
  let main_v7 : FVec F S2x2048x5632 .f32 := broadcastInDim S2x2048x5632 ![] bcast_S_S2x2048x5632 main_cst_0
  let main_v8 : IVec S2x2048x5632 1 := cmpf .olt main_v6 main_v7
  let main_c_1 : IVec S_ 1 := constantI S_ 1 1#1
  let main_v9 : IVec S_ 1 := (fun x v => Host.reduce IntOp.andi x v reducesTo_S2x2048x5632_S_d0_1_2 h_S_) main_v8 main_c_1
  let main_v10 : IVec S_ 1 := andi main_v4 main_v9
  let main_v11 : FVec F S3x5632 .f32 := Host.absf main_arg2
  let main_cst_2 : FVec F S_ .f32 := constant S_ .f32 0x7F800000#32
  let main_v12 : FVec F S3x5632 .f32 := broadcastInDim S3x5632 ![] bcast_S_S3x5632 main_cst_2
  let main_v13 : IVec S3x5632 1 := cmpf .olt main_v11 main_v12
  let main_c_3 : IVec S_ 1 := constantI S_ 1 1#1
  let main_v14 : IVec S_ 1 := (fun x v => Host.reduce IntOp.andi x v reducesTo_S3x5632_S_d0_1 h_S_) main_v13 main_c_3
  let main_v15 : IVec S_ 1 := andi main_v10 main_v14
  let main_v16 : FVec F S5632 .f32 := Host.absf main_arg3
  let main_cst_4 : FVec F S_ .f32 := constant S_ .f32 0x7F800000#32
  fn_part1 (F := F) main_arg4 main_v15 main_v16 main_cst_4
-- ==== Pre_finite_dh.lean ====
abbrev S4096x768 : Shape := ⟨2, ![4096, 768]⟩
abbrev S4096x1024 : Shape := ⟨2, ![4096, 1024]⟩
abbrev S1024x3840 : Shape := ⟨2, ![1024, 3840]⟩
abbrev S1024 : Shape := ⟨1, ![1024]⟩
abbrev S_ : Shape := ⟨0, ![]⟩

class Facts : Prop where
  bitsLt_bf16_f32 : FTy.bits .bf16 < FTy.bits .f32
  bcast_S_S4096x768 : S_.BroadcastsInDim S4096x768 (![] : Fin 0 → Fin S4096x768.rank)
  reducesTo_S4096x768_S_d0_1 : S4096x768.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x3840 : S_.BroadcastsInDim S1024x3840 (![] : Fin 0 → Fin S1024x3840.rank)
  reducesTo_S1024x3840_S_d0_1 : S1024x3840.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_v33 : IVec S_ 1) (main_v34 : FVec F S1024 .f32) (main_cst_10 : FVec F S_ .f32) : IVec S_ 1 :=
  let main_v35 : FVec F S1024 .f32 := broadcastInDim S1024 ![] bcast_S_S1024 main_cst_10
  let main_v36 : IVec S1024 1 := cmpf .olt main_v34 main_v35
  let main_c_11 : IVec S_ 1 := constantI S_ 1 1#1
  let main_v37 : IVec S_ 1 := (fun x v => Host.reduce IntOp.andi x v reducesTo_S1024_S_d0 h_S_) main_v36 main_c_11
  let main_v38 : IVec S_ 1 := andi main_v33 main_v37
  main_v38

def fn_part1 {F : FTy → Type} [FloatOps F] (main_arg4 : FVec F S1024x3840 .bf16) (main_arg5 : FVec F S4096x1024 .f32) (main_arg7 : FVec F S1024 .f32) (main_v16 : IVec S_ 1) (main_v17 : FVec F S4096x1024 .f32) : IVec S_ 1 :=
  let main_v18 : FVec F S4096x1024 .f32 := Host.absf main_v17
  let main_cst_4 : FVec F S_ .f32 := constant S_ .f32 0x7F800000#32
  let main_v19 : FVec F S4096x1024 .f32 := broadcastInDim S4096x1024 ![] bcast_S_S4096x1024 main_cst_4
  let main_v20 : IVec S4096x1024 1 := cmpf .olt main_v18 main_v19
  let main_c_5 : IVec S_ 1 := constantI S_ 1 1#1
  let main_v21 : IVec S_ 1 := (fun x v => Host.reduce IntOp.andi x v reducesTo_S4096x1024_S_d0_1 h_S_) main_v20 main_c_5
  let main_v22 : IVec S_ 1 := andi main_v16 main_v21
  let main_v23 : FVec F S1024x3840 .f32 := (extf .f32 · bitsLt_bf16_f32) main_arg4
  let main_v24 : FVec F S1024x3840 .f32 := Host.absf main_v23
  let main_cst_6 : FVec F S_ .f32 := constant S_ .f32 0x7F800000#32
  let main_v25 : FVec F S1024x3840 .f32 := broadcastInDim S1024x3840 ![] bcast_S_S1024x3840 main_cst_6
  let main_v26 : IVec S1024x3840 1 := cmpf .olt main_v24 main_v25
  let main_c_7 : IVec S_ 1 := constantI S_ 1 1#1
  let main_v27 : IVec S_ 1 := (fun x v => Host.reduce IntOp.andi x v reducesTo_S1024x3840_S_d0_1 h_S_) main_v26 main_c_7
  let main_v28 : IVec S_ 1 := andi main_v22 main_v27
  let main_v29 : FVec F S4096x1024 .f32 := Host.absf main_arg5
  let main_cst_8 : FVec F S_ .f32 := constant S_ .f32 0x7F800000#32
  let main_v30 : FVec F S4096x1024 .f32 := broadcastInDim S4096x1024 ![] bcast_S_S4096x1024 main_cst_8
  let main_v31 : IVec S4096x1024 1 := cmpf .olt main_v29 main_v30
  let main_c_9 : IVec S_ 1 := constantI S_ 1 1#1
  let main_v32 : IVec S_ 1 := (fun x v => Host.reduce IntOp.andi x v reducesTo_S4096x1024_S_d0_1 h_S_) main_v31 main_c_9
  let main_v33 : IVec S_ 1 := andi main_v28 main_v32
  let main_v34 : FVec F S1024 .f32 := Host.absf main_arg7
  let main_cst_10 : FVec F S_ .f32 := constant S_ .f32 0x7F800000#32
  fn_part2 (F := F) main_v33 main_v34 main_cst_10

def fn {F : FTy → Type} [FloatOps F] (main_arg0 : FVec F S4096x768 .bf16) (main_arg1 : FVec F S4096x1024 .bf16) (main_arg2 : FVec F S4096x1024 .bf16) (main_arg3 : FVec F S4096x1024 .bf16) (main_arg4 : FVec F S1024x3840 .bf16) (main_arg5 : FVec F S4096x1024 .f32) (main_arg6 : FVec F S4096x1024 .f32) (main_arg7 : FVec F S1024 .f32) : IVec S_ 1 :=
  let main_v0 : FVec F S4096x768 .f32 := (extf .f32 · bitsLt_bf16_f32) main_arg0
  let main_v1 : FVec F S4096x768 .f32 := Host.absf main_v0
  let main_cst : FVec F S_ .f32 := constant S_ .f32 0x7F800000#32
  let main_v2 : FVec F S4096x768 .f32 := broadcastInDim S4096x768 ![] bcast_S_S4096x768 main_cst
  let main_v3 : IVec S4096x768 1 := cmpf .olt main_v1 main_v2
  let main_c : IVec S_ 1 := constantI S_ 1 1#1
  let main_v4 : IVec S_ 1 := (fun x v => Host.reduce IntOp.andi x v reducesTo_S4096x768_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S4096x1024 .f32 := (extf .f32 · bitsLt_bf16_f32) main_arg2
  let main_v12 : FVec F S4096x1024 .f32 := Host.absf main_v11
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v10 main_v15
  let main_v17 : FVec F S4096x1024 .f32 := (extf .f32 · bitsLt_bf16_f32) main_arg3
  fn_part1 (F := F) main_arg4 main_arg5 main_arg7 main_v16 main_v17
-- ==== Pre_finite_dh2.lean ====
abbrev S4096x2816 : Shape := ⟨2, ![4096, 2816]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024 .f32) (main_v16 : IVec S_ 1) (main_v17 : FVec F S4096x1024 .f32) : IVec S_ 1 :=
  let main_cst_4 : FVec F S_ .f32 := constant S_ .f32 0x7F800000#32
  let main_v18 : FVec F S4096x1024 .f32 := broadcastInDim S4096x1024 ![] bcast_S_S4096x1024 main_cst_4
  let main_v19 : IVec S4096x1024 1 := cmpf .olt main_v17 main_v18
  let main_c_5 : IVec S_ 1 := constantI S_ 1 1#1
  let main_v20 : IVec S_ 1 := (fun x v => Host.reduce IntOp.andi x v reducesTo_S4096x1024_S_d0_1 h_S_) main_v19 main_c_5
  let main_v21 : IVec S_ 1 := andi main_v16 main_v20
  let main_v22 : FVec F S1024 .f32 := Host.absf main_arg5
  let main_cst_6 : FVec F S_ .f32 := constant S_ .f32 0x7F800000#32
  let main_v23 : FVec F S1024 .f32 := broadcastInDim S1024 ![] bcast_S_S1024 main_cst_6
  let main_v24 : IVec S1024 1 := cmpf .olt main_v22 main_v23
  let main_c_7 : IVec S_ 1 := constantI S_ 1 1#1
  let main_v25 : IVec S_ 1 := (fun x v => Host.reduce IntOp.andi x v reducesTo_S1024_S_d0 h_S_) main_v24 main_c_7
  let main_v26 : IVec S_ 1 := andi main_v21 main_v25
  main_v26

def fn {F : FTy → Type} [FloatOps F] (main_arg0 : FVec F S4096x2816 .bf16) (main_arg1 : FVec F S4096x2816 .bf16) (main_arg2 : FVec F S1024x5632 .bf16) (main_arg3 : FVec F S4096x1024 .f32) (main_arg4 : FVec F S4096x1024 .f32) (main_arg5 : FVec F S1024 .f32) : IVec S_ 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_c : IVec S_ 1 := constantI S_ 1 1#1
  let main_v4 : IVec S_ 1 := (fun x v => Host.reduce IntOp.andi x v reducesTo_S4096x2816_S_d0_1 h_S_) main_v3 main_c
  let main_v5 : FVec F S4096x2816 .f32 := (extf .f32 · bitsLt_bf16_f32) main_arg1
  let main_v6 : FVec F S4096x2816 .f32 := Host.absf main_v5
  let main_cst_0 : FVec F S_ .f32 := constant S_ .f32 0x7F800000#32
  let main_v7 : FVec F S4096x2816 .f32 := broadcastInDim S4096x2816 ![] bcast_S_S4096x2816 main_cst_0
  let main_v8 : IVec S4096x2816 1 := cmpf .olt main_v6 main_v7
  let main_c_1 : IVec S_ 1 := constantI S_ 1 1#1
  let main_v9 : IVec S_ 1 := (fun x v => Host.reduce IntOp.andi x v reducesTo_S4096x2816_S_d0_1 h_S_) main_v8 main_c_1
  let main_v10 : IVec S_ 1 := andi main_v4 main_v9
  let main_v11 : FVec F S1024x5632 .f32 := (extf .f32 · bitsLt_bf16_f32) main_arg2
  let main_v12 : FVec F S1024x5632 .f32 := Host.absf main_v11
  let main_cst_2 : FVec F S_ .f32 := constant S_ .f32 0x7F800000#32
  let main_v13 : FVec F S1024x5632 .f32 := broadcastInDim S1024x5632 ![] bcast_S_S1024x5632 main_cst_2
  let main_v14 : IVec S1024x5632 1 := cmpf .olt main_v12 main_v13
  let main_c_3 : IVec S_ 1 := constantI S_ 1 1#1
  let main_v15 : IVec S_ 1 := (fun x v => Host.reduce IntOp.andi x v reducesTo_S1024x5632_S_d0_1 h_S_) main_v14 main_c_3
  let main_v16 : IVec S_ 1 := andi main_v10 main_v15
  let main_v17 : FVec F S4096x1024 .f32 := Host.absf main_arg3
  fn_part1 (F := F) main_arg5 main_v16 main_v17
-- ==== MergeKernel.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩
abbrev S4096x3840 : Shape := ⟨2, ![4096, 3840]⟩
abbrev S4096x3072 : Shape := ⟨2, ![4096, 3072]⟩
abbrev S4096x768 : Shape := ⟨2, ![4096, 768]⟩
abbrev S1024x512 : Shape := ⟨2, ![1024, 512]⟩
abbrev S512x512 : Shape := ⟨2, ![512, 512]⟩

abbrev nBuf : Space → Nat
  | .hbm => 14
  | .vmem => 24
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x512, .bf16⟩
  | .hbm, ⟨3, _⟩ => ⟨S4096x512, .bf16⟩
  | .hbm, ⟨4, _⟩ => ⟨S512x1024, .bf16⟩
  | .hbm, ⟨5, _⟩ => ⟨S512x1024, .bf16⟩
  | .hbm, ⟨6, _⟩ => ⟨S4096x3840, .bf16⟩
  | .hbm, ⟨7, _⟩ => ⟨S4096x3072, .bf16⟩
  | .hbm, ⟨8, _⟩ => ⟨S4096x768, .bf16⟩
  | .hbm, ⟨9, _⟩ => ⟨S4096x3840, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeReferenceIdeal.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩
abbrev S4096x3840 : Shape := ⟨2, ![4096, 3840]⟩
abbrev S4096x128 : Shape := ⟨2, ![4096, 128]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x512, .bf16⟩
  | .hbm, ⟨3, _⟩ => ⟨S4096x512, .bf16⟩
  | .hbm, ⟨4, _⟩ => ⟨S512x1024, .bf16⟩
  | .hbm, ⟨5, _⟩ => ⟨S512x1024, .bf16⟩
  | .hbm, ⟨6, _⟩ => ⟨S4096x3840, .bf16⟩
  | .hbm, ⟨7, _⟩ => ⟨S4096x1024, .f32⟩
  | .hbm, ⟨8, _⟩ => ⟨S1024x1024, .f32⟩
  | .hbm, ⟨9, _⟩ => ⟨S4096x512, .f32⟩
  | .hbm, ⟨10, _⟩ => ⟨S4096x512, .f32⟩
  | .hbm, ⟨11, _⟩ => ⟨S512x1024, .f32⟩
  | .hbm, ⟨12, _⟩ => ⟨S512x1024, .f32⟩
  | .hbm, ⟨13, _⟩ => ⟨S4096x3840, .f32⟩
  | .hbm, ⟨14, _⟩ => ⟨S4096x512, .f32⟩
  | .hbm, ⟨15, _⟩ => ⟨S4096x128, .f32⟩
  | .hbm, ⟨16, _⟩ => ⟨S4096x128, .f32⟩
  | .hbm, ⟨17, _⟩ => ⟨S4096x512, .f32⟩
  | .hbm, ⟨18, _⟩ => ⟨S4096x512, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | .hbm, ⟨59, _⟩ => ⟨S4096x1024, .bf16⟩
  | .hbm, ⟨60, _⟩ => ⟨S4096x1024, .bf16⟩
  | .hbm, ⟨61, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== ConvKernel.lean ====
abbrev S2x2048x1024 : Shape := ⟨3, ![2, 2048, 1024]⟩
abbrev S2x2048x5632 : Shape := ⟨3, ![2, 2048, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2x2x5632 : Shape := ⟨3, ![2, 2, 5632]⟩
abbrev S2x2050x5632 : Shape := ⟨3, ![2, 2050, 5632]⟩
abbrev S1x5632 : Shape := ⟨2, ![1, 5632]⟩
abbrev S1x1x5632 : Shape := ⟨3, ![1, 1, 5632]⟩
abbrev S4096x5632 : Shape := ⟨2, ![4096, 5632]⟩
abbrev S4096x1024 : Shape := ⟨2, ![4096, 1024]⟩
abbrev S4096x2816 : Shape := ⟨2, ![4096, 2816]⟩
abbrev S3x2816 : Shape := ⟨2, ![3, 2816]⟩
abbrev S1x2816 : Shape := ⟨2, ![1, 2816]⟩
abbrev S2048x256 : Shape := ⟨2, ![2048, 256]⟩
abbrev S2048x1024 : Shape := ⟨2, ![2048, 1024]⟩
abbrev S256x1024 : Shape := ⟨2, ![256, 1024]⟩
abbrev S3x256 : Shape := ⟨2, ![3, 256]⟩
abbrev S1x256 : Shape := ⟨2, ![1, 256]⟩
abbrev S256x256 : Shape := ⟨2, ![256, 256]⟩
abbrev S256 : Shape := ⟨1, ![256]⟩
abbrev S8x256 : Shape := ⟨2, ![8, 256]⟩
abbrev S248x256 : Shape := ⟨2, ![248, 256]⟩

abbrev nBuf : Space → Nat
  | .hbm => 48
  | .vmem => 30
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x5632, .bf16⟩
  | .hbm, ⟨2, _⟩ => ⟨S3x5632, .f32⟩
  | .hbm, ⟨3, _⟩ => ⟨S5632, .f32⟩
  | .hbm, ⟨4, _⟩ => ⟨S2816x1024, .bf16⟩
  | .hbm, ⟨5, _⟩ => ⟨S_, .f32⟩
  | .hbm, ⟨6, _⟩ => ⟨S2x2x5632, .f32⟩
  | .hbm, ⟨7, _⟩ => ⟨S2x2048x5632, .f32⟩
  | .hbm, ⟨8, _⟩ => ⟨S2x2050x5632, .f32⟩
  | .hbm, ⟨9, _⟩ => ⟨S1x5632, .f32⟩
  | .hbm, ⟨10, _⟩ => ⟨S5632, .f32⟩
  | .hbm, ⟨11, _⟩ => ⟨S2x2048x5632, .f32⟩
  | .hbm, ⟨12, _⟩ => ⟨S1x1x5632, .f32⟩
  | .hbm, ⟨13, _⟩ => ⟨S2x2048x5632, .f32⟩
  | .hbm, ⟨14, _⟩ => ⟨S2x2048x5632, .f32⟩
  | .hbm, ⟨15, _⟩ => ⟨S1x1x5632, .f32⟩
  | .hbm, ⟨16, _⟩ => ⟨S2x2048x5632, .f32⟩
  | .hbm, ⟨17, _⟩ => ⟨S2x2048x5632, .f32⟩
  | .hbm, ⟨18, _⟩ => ⟨S1x5632, .f32⟩
  | .hbm, ⟨19, _⟩ => ⟨S5632, .f32⟩
  | .hbm, ⟨20, _⟩ => ⟨S2x2048x5632, .f32⟩
  | .hbm, ⟨21, _⟩ => ⟨S1x1x5632, .f32⟩
  | .hbm, ⟨22, _⟩ => ⟨S2x2048x5632, .f32⟩
  | .hbm, ⟨23, _⟩ => ⟨S2x2048x5632, .f32⟩
  | .hbm, ⟨24, _⟩ => ⟨S2x2048x5632, .f32⟩
  | .hbm, ⟨25, _⟩ => ⟨S1x5632, .f32⟩
  | .hbm, ⟨26, _⟩ => ⟨S5632, .f32⟩
  | .hbm, ⟨27, _⟩ => ⟨S2x2048x5632, .f32⟩
  | .hbm, ⟨28, _⟩ => ⟨S1x1x5632, .f32⟩
  | .hbm, ⟨29, _⟩ => ⟨S2x2048x5632, .f32⟩
  | .hbm, ⟨30, _⟩ => ⟨S2x2048x5632, .f32⟩
  | .hbm, ⟨31, _⟩ => ⟨S2x2048x5632, .f32⟩
  | .hbm, ⟨32, _⟩ => ⟨S2x2048x5632, .bf16⟩
  | .hbm, ⟨33, _⟩ => ⟨S4096x5632, .bf16⟩
  | .hbm, ⟨34, _⟩ => ⟨S4096x1024, .bf16⟩
  | .hbm, ⟨35, _⟩ => ⟨S4096x5632, .bf16⟩
  | .hbm, ⟨36, _⟩ => ⟨S4096x2816, .bf16⟩
  | .hbm, ⟨37, _⟩ => ⟨S4096x2816, .bf16⟩
  | .hbm, ⟨38, _⟩ => ⟨S4096x2816, .bf16⟩
  | .hbm, ⟨39, _⟩ => ⟨S4096x2816, .bf16⟩
  | .hbm, ⟨40, _⟩ => ⟨S3x2816, .f32⟩
  | .hbm, ⟨41, _⟩ => ⟨S3x2816, .f32⟩
  | .hbm, ⟨42, _⟩ => ⟨S4096x2816, .bf16⟩
  | .hbm, ⟨43, _⟩ => ⟨S4096x2816, .bf16⟩
  | .hbm, ⟨44, _⟩ => ⟨S3x2816, .f32⟩
  | .hbm, ⟨45, _⟩ => ⟨S3x2816, .f32⟩
  | .hbm, ⟨46, _⟩ => ⟨S1x2816, .f32⟩
  | .hbm, ⟨47, _⟩ => ⟨S1x2816, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x1024, .bf16⟩
  | .local _ .vmem, ⟨9, _⟩ => ⟨S2048x1024, .bf16⟩
  | .local _ .vmem, ⟨10, _⟩ => ⟨S256x1024, .bf16⟩
  | .local _ .vmem, ⟨11, _⟩ => ⟨S256x1024, .bf16⟩
  | .local _ .vmem, ⟨12, _⟩ => ⟨S3x256, .f32⟩
  | .local _ .vmem, ⟨13, _⟩ => ⟨S3x256, .f32⟩
  | .local _ .vmem, ⟨14, _⟩ => ⟨S3x256, .f32⟩
  | .local _ .vmem, ⟨15, _⟩ => ⟨S3x256, .f32⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S3x256, .f32⟩
  | .local _ .vmem, ⟨21, _⟩ => ⟨S3x256, .f32⟩
  | .local _ .vmem, ⟨22, _⟩ => ⟨S3x256, .f32⟩
  | .local _ .vmem, ⟨23, _⟩ => ⟨S3x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S2048x256, .f32⟩
  | .local _ .vmem, ⟨29, _⟩ => ⟨S2048x256, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36_0 : Ref sig .tc := ⟨.hbm, 42, rfl⟩
abbrev main_v36_1 : Ref sig .tc := ⟨.hbm, 43, rfl⟩
abbrev main_v36_2 : Ref sig .tc := ⟨.hbm, 44, rfl⟩
abbrev main_v36_3 : Ref sig .tc := ⟨.hbm, 45, rfl⟩
abbrev main_v36_4 : Ref sig .tc := ⟨.hbm, 46, rfl⟩
abbrev main_v36_5 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![11, 2], ![false, false]⟩

@[reducible] def k0_t1_loop : Scf.Loop 32 :=
  let c0_i32 : BitVec 32 := 0#32
  let c8_i32 : BitVec 32 := 8#32
  let v313 : BitVec 32 := Scalar.addi c0_i32 c8_i32
  let c1_i32 : BitVec 32 := 1#32
  ⟨c0_i32, v313, c1_i32⟩
def k0_mult1 (k0_t1 : Fin k0_t1_loop.trips) : BitVec 32 :=
  let c0_i32 : BitVec 32 := 0#32
  let c1_i32 : BitVec 32 := 1#32
  let arg18 : BitVec 32 := Scf.iv c0_i32 c1_i32 k0_t1
  let c256_i32 : BitVec 32 := 256#32
  let v321 : BitVec 32 := Scalar.muli arg18 c256_i32
  v321
def k0_mult2 (k0_t1 : Fin k0_t1_loop.trips) : BitVec 32 :=
  let c0_i32 : BitVec 32 := 0#32
  let c1_i32 : BitVec 32 := 1#32
  let arg18 : BitVec 32 := Scf.iv c0_i32 c1_i32 k0_t1
  let c256_i32 : BitVec 32 := 256#32
  let v321 : BitVec 32 := Scalar.muli arg18 c256_i32
  let v322 : BitVec 32 := v321
  let c256_i32_156 : BitVec 32 := 256#32
  let v324 : BitVec 32 := Scalar.addi v322 c256_i32_156
  let c2040_i32 : BitVec 32 := 2040#32
  let v325 : BitVec 32 := Scalar.minsi v324 c2040_i32
  v325
def k0_off1 (k0_t1 : Fin k0_t1_loop.trips) : Fin 2 → Nat :=
  let c0_i32 : BitVec 32 := 0#32
  let c1_i32 : BitVec 32 := 1#32
  let arg18 : BitVec 32 := Scf.iv c0_i32 c1_i32 k0_t1
  let c256_i32 : BitVec 32 := 256#32
  let v321 : BitVec 32 := Scalar.muli arg18 c256_i32
  let v322 : BitVec 32 := v321
  let v327 : Index := Scalar.indexCast v322
  let c0_157 : Index := 0#32
  ![v327.toNat, 0]
def k0_off2 (k0_t1 : Fin k0_t1_loop.trips) : Fin 2 → Nat :=
  let c0_i32 : BitVec 32 := 0#32
  let c1_i32 : BitVec 32 := 1#32
  let arg18 : BitVec 32 := Scf.iv c0_i32 c1_i32 k0_t1
  let c256_i32 : BitVec 32 := 256#32
  let v321 : BitVec 32 := Scalar.muli arg18 c256_i32
  let v322 : BitVec 32 := v321
  let c256_i32_156 : BitVec 32 := 256#32
  let v324 : BitVec 32 := Scalar.addi v322 c256_i32_156
  let c2040_i32 : BitVec 32 := 2040#32
  let v325 : BitVec 32 := Scalar.minsi v324 c2040_i32
  let v326 : BitVec 32 := v325
  let v329 : Index := Scalar.indexCast v326
  let c0_158 : Index := 0#32
  ![v329.toNat, 0]
def k0_cond1 (i : grid0.Coords) : BitVec 1 :=
  let arg1 : BitVec 32 := BitVec.ofNat 32 (i 1).val
  let c0_i32_153 : BitVec 32 := 0#32
  let v315 : BitVec 1 := Scalar.cmpi .eq arg1 c0_i32_153
  let v316 : BitVec 32 := Scalar.extui v315
  let c0_i32_154 : BitVec 32 := 0#32
  let v317 : BitVec 1 := Scalar.cmpi .ne v316 c0_i32_154
  v317

def k0_cond2 (i : grid0.Coords) : BitVec 1 :=
  let arg1 : BitVec 32 := BitVec.ofNat 32 (i 1).val
  let c0_i32_153 : BitVec 32 := 0#32
  let v315 : BitVec 1 := Scalar.cmpi .eq arg1 c0_i32_153
  let v_true : BitVec 1 := 1#1
  let v318 : BitVec 1 := Scalar.xori v315 v_true
  let v319 : BitVec 32 := Scalar.extui v318
  let c0_i32_155 : BitVec 32 := 0#32
  let v320 : BitVec 1 := Scalar.cmpi .ne v319 c0_i32_155
  v320

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S3x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ConvReferenceIdeal.lean ====
abbrev S2x2048x1024 : Shape := ⟨3, ![2, 2048, 1024]⟩
abbrev S2x2048x5632 : Shape := ⟨3, ![2, 2048, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2x2x5632 : Shape := ⟨3, ![2, 2, 5632]⟩
abbrev S2x2050x5632 : Shape := ⟨3, ![2, 2050, 5632]⟩
abbrev S1x5632 : Shape := ⟨2, ![1, 5632]⟩
abbrev S1x1x5632 : Shape := ⟨3, ![1, 1, 5632]⟩
abbrev S2x2048x2816 : Shape := ⟨3, ![2, 2048, 2816]⟩
abbrev S4096x5632 : Shape := ⟨2, ![4096, 5632]⟩
abbrev S4096x2816 : Shape := ⟨2, ![4096, 2816]⟩
abbrev S3x2816 : Shape := ⟨2, ![3, 2816]⟩
abbrev S2816 : Shape := ⟨1, ![2816]⟩
abbrev S1x2816 : Shape := ⟨2, ![1, 2816]⟩

abbrev nBuf : Space → Nat
  | .hbm => 121
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2x2048x5632, .bf16⟩
  | .hbm, ⟨2, _⟩ => ⟨S3x5632, .f32⟩
  | .hbm, ⟨3, _⟩ => ⟨S5632, .f32⟩
  | .hbm, ⟨4, _⟩ => ⟨S2816x1024, .bf16⟩
  | .hbm, ⟨5, _⟩ => ⟨S2x2048x1024, .f32⟩
  | .hbm, ⟨6, _⟩ => ⟨S2x2048x5632, .f32⟩
  | .hbm, ⟨7, _⟩ => ⟨S2816x1024, .f32⟩
  | .hbm, ⟨8, _⟩ => ⟨S_, .f32⟩
  | .hbm, ⟨9, _⟩ => ⟨S2x2x5632, .f32⟩
  | .hbm, ⟨10, _⟩ => ⟨S2x2050x5632, .f32⟩
  | .hbm, ⟨11, _⟩ => ⟨S_, .f32⟩
  | .hbm, ⟨12, _⟩ => ⟨S2x2x5632, .f32⟩
  | .hbm, ⟨13, _⟩ => ⟨S1x5632, .f32⟩
  | .hbm, ⟨14, _⟩ => ⟨S5632, .f32⟩
  | .hbm, ⟨15, _⟩ => ⟨S2x2048x5632, .f32⟩
  | .hbm, ⟨16, _⟩ => ⟨S1x1x5632, .f32⟩
  | .hbm, ⟨17, _⟩ => ⟨S2x2048x5632, .f32⟩
  | .hbm, ⟨18, _⟩ => ⟨S2x2048x5632, .f32⟩
  | .hbm, ⟨19, _⟩ => ⟨S1x1x5632, .f32⟩
  | .hbm, ⟨20, _⟩ => ⟨S2x2048x5632, .f32⟩
  | .hbm, ⟨21, _⟩ => ⟨S2x2048x5632, .f32⟩
  | .hbm, ⟨22, _⟩ => ⟨S1x5632, .f32⟩
  | .hbm, ⟨23, _⟩ => ⟨S5632, .f32⟩
  | .hbm, ⟨24, _⟩ => ⟨S2x2048x5632, .f32⟩
  | .hbm, ⟨25, _⟩ => ⟨S1x1x5632, .f32⟩
  | .hbm, ⟨26, _⟩ => ⟨S2x2048x5632, .f32⟩
  | .hbm, ⟨27, _⟩ => ⟨S2x2048x5632, .f32⟩
  | .hbm, ⟨28, _⟩ => ⟨S2x2048x5632, .f32⟩
  | .hbm, ⟨29, _⟩ => ⟨S1x5632, .f32⟩
  | .hbm, ⟨30, _⟩ => ⟨S5632, .f32⟩
  | .hbm, ⟨31, _⟩ => ⟨S2x2048x5632, .f32⟩
  | .hbm, ⟨32, _⟩ => ⟨S1x1x5632, .f32⟩
  | .hbm, ⟨33, _⟩ => ⟨S2x2048x5632, .f32⟩
  | .hbm, ⟨34, _⟩ => ⟨S2x2048x5632, .f32⟩
  | .hbm, ⟨35, _⟩ => ⟨S2x2048x5632, .f32⟩
  | .hbm, ⟨36, _⟩ => ⟨S2x2048x2816, .f32⟩
  | .hbm, ⟨37, _⟩ => ⟨S2x2048x2816, .f32⟩
  | .hbm, ⟨38, _⟩ => ⟨S2x2048x2816, .f32⟩
  | .hbm, ⟨39, _⟩ => ⟨S2x2048x2816, .f32⟩
  | .hbm, ⟨40, _⟩ => ⟨S_, .f32⟩
  | .hbm, ⟨41, _⟩ => ⟨S2x2048x2816, .f32⟩
  | .hbm, ⟨42, _⟩ => ⟨S2x2048x2816, .f32⟩
  | .hbm, ⟨43, _⟩ => ⟨S_, .f32⟩
  | .hbm, ⟨44, _⟩ => ⟨S2x2048x2816, .f32⟩
  | .hbm, ⟨45, _⟩ => ⟨S2x2048x2816, .f32⟩
  | .hbm, ⟨46, _⟩ => ⟨S_, .f32⟩
  | .hbm, ⟨47, _⟩ => ⟨S2x2048x2816, .f32⟩
  | .hbm, ⟨48, _⟩ => ⟨S2x2048x2816, .f32⟩
  | .hbm, ⟨49, _⟩ => ⟨S2x2048x2816, .f32⟩
  | .hbm, ⟨50, _⟩ => ⟨S2x2048x2816, .f32⟩
  | .hbm, ⟨51, _⟩ => ⟨S2x2048x2816, .f32⟩
  | .hbm, ⟨52, _⟩ => ⟨S2x2048x1024, .f32⟩
  | .hbm, ⟨53, _⟩ => ⟨S2x2048x2816, .f32⟩
  | .hbm, ⟨54, _⟩ => ⟨S2x2048x2816, .f32⟩
  | .hbm, ⟨55, _⟩ => ⟨S2x2048x2816, .f32⟩
  | .hbm, ⟨56, _⟩ => ⟨S2x2048x2816, .f32⟩
  | .hbm, ⟨57, _⟩ => ⟨S2x2048x2816, .f32⟩
  | .hbm, ⟨58, _⟩ => ⟨S2x2048x2816, .f32⟩
  | .hbm, ⟨59, _⟩ => ⟨S2x2048x2816, .f32⟩
  | .hbm, ⟨60, _⟩ => ⟨S2x2048x5632, .f32⟩
  | .hbm, ⟨61, _⟩ => ⟨S2x2048x5632, .f32⟩
  | .hbm, ⟨62, _⟩ => ⟨S2x2048x5632, .f32⟩
  | .hbm, ⟨63, _⟩ => ⟨S2x2048x5632, .f32⟩
  | .hbm, ⟨64, _⟩ => ⟨S_, .f32⟩
  | .hbm, ⟨65, _⟩ => ⟨S5632, .f32⟩
  | .hbm, ⟨66, _⟩ => ⟨S1x1x5632, .f32⟩
  | .hbm, ⟨67, _⟩ => ⟨S_, .f32⟩
  | .hbm, ⟨68, _⟩ => ⟨S5632, .f32⟩
  | .hbm, ⟨69, _⟩ => ⟨S_, .f32⟩
  | .hbm, ⟨70, _⟩ => ⟨S2x2050x5632, .f32⟩
  | .hbm, ⟨71, _⟩ => ⟨S1x5632, .f32⟩
  | .hbm, ⟨72, _⟩ => ⟨S_, .f32⟩
  | .hbm, ⟨73, _⟩ => ⟨S3x5632, .f32⟩
  | .hbm, ⟨74, _⟩ => ⟨S2x2048x5632, .f32⟩
  | .hbm, ⟨75, _⟩ => ⟨S2x2048x5632, .f32⟩
  | .hbm, ⟨76, _⟩ => ⟨S2x2048x5632, .f32⟩
  | .hbm, ⟨77, _⟩ => ⟨S_, .f32⟩
  | .hbm, ⟨78, _⟩ => ⟨S5632, .f32⟩
  | .hbm, ⟨79, _⟩ => ⟨S1x1x5632, .f32⟩
  | .hbm, ⟨80, _⟩ => ⟨S_, .f32⟩
  | .hbm, ⟨81, _⟩ => ⟨S5632, .f32⟩
  | .hbm, ⟨82, _⟩ => ⟨S_, .f32⟩
  | .hbm, ⟨83, _⟩ => ⟨S2x2050x5632, .f32⟩
  | .hbm, ⟨84, _⟩ => ⟨S2x2050x5632, .f32⟩
  | .hbm, ⟨85, _⟩ => ⟨S1x5632, .f32⟩
  | .hbm, ⟨86, _⟩ => ⟨S_, .f32⟩
  | .hbm, ⟨87, _⟩ => ⟨S3x5632, .f32⟩
  | .hbm, ⟨88, _⟩ => ⟨S3x5632, .f32⟩
  | .hbm, ⟨89, _⟩ => ⟨S_, .f32⟩
  | .hbm, ⟨90, _⟩ => ⟨S5632, .f32⟩
  | .hbm, ⟨91, _⟩ => ⟨S1x1x5632, .f32⟩
  | .hbm, ⟨92, _⟩ => ⟨S_, .f32⟩
  | .hbm, ⟨93, _⟩ => ⟨S5632, .f32⟩
  | .hbm, ⟨94, _⟩ => ⟨S2x2048x5632, .f32⟩
  | .hbm, ⟨95, _⟩ => ⟨S2x2048x5632, .f32⟩
  | .hbm, ⟨96, _⟩ => ⟨S2x2048x5632, .f32⟩
  | .hbm, ⟨97, _⟩ => ⟨S_, .f32⟩
  | .hbm, ⟨98, _⟩ => ⟨S5632, .f32⟩
  | .hbm, ⟨99, _⟩ => ⟨S1x1x5632, .f32⟩
  | .hbm, ⟨100, _⟩ => ⟨S_, .f32⟩
  | .hbm, ⟨101, _⟩ => ⟨S5632, .f32⟩
  | .hbm, ⟨102, _⟩ => ⟨S_, .f32⟩
  | .hbm, ⟨103, _⟩ => ⟨S2x2050x5632, .f32⟩
  | .hbm, ⟨104, _⟩ => ⟨S2x2050x5632, .f32⟩
  | .hbm, ⟨105, _⟩ => ⟨S1x5632, .f32⟩
  | .hbm, ⟨106, _⟩ => ⟨S_, .f32⟩
  | .hbm, ⟨107, _⟩ => ⟨S3x5632, .f32⟩
  | .hbm, ⟨108, _⟩ => ⟨S3x5632, .f32⟩
  | .hbm, ⟨109, _⟩ => ⟨S2x2x5632, .f32⟩
  | .hbm, ⟨110, _⟩ => ⟨S2x2048x5632, .f32⟩
  | .hbm, ⟨111, _⟩ => ⟨S2x2048x5632, .bf16⟩
  | .hbm, ⟨112, _⟩ => ⟨S4096x5632, .bf16⟩
  | .hbm, ⟨113, _⟩ => ⟨S4096x2816, .bf16⟩
  | .hbm, ⟨114, _⟩ => ⟨S4096x2816, .bf16⟩
  | .hbm, ⟨115, _⟩ => ⟨S3x2816, .f32⟩
  | .hbm, ⟨116, _⟩ => ⟨S3x2816, .f32⟩
  | .hbm, ⟨117, _⟩ => ⟨S2816, .f32⟩
  | .hbm, ⟨118, _⟩ => ⟨S1x2816, .f32⟩
  | .hbm, ⟨119, _⟩ => ⟨S2816, .f32⟩
  | .hbm, ⟨120, _⟩ => ⟨S1x2816, .f32⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v31_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v31_1 : Ref sig .tc := ⟨.hbm, 49, rfl⟩
abbrev main_v31_0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_1 : Ref sig .tc := ⟨.hbm, 64, rfl⟩
abbrev main_v42 : Ref sig .tc := ⟨.hbm, 65, rfl⟩
abbrev main_v43 : Ref sig .tc := ⟨.hbm, 66, rfl⟩
abbrev main_cst_2 : Ref sig .tc := ⟨.hbm, 67, rfl⟩
abbrev main_v44 : Ref sig .tc := ⟨.hbm, 68, rfl⟩
abbrev main_cst_3 : Ref sig .tc := ⟨.hbm, 69, rfl⟩
abbrev main_v45 : Ref sig .tc := ⟨.hbm, 70, rfl⟩
abbrev main_v46 : Ref sig .tc := ⟨.hbm, 71, rfl⟩
abbrev main_cst_4 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_5 : Ref sig .tc := ⟨.hbm, 77, rfl⟩
abbrev main_v51 : Ref sig .tc := ⟨.hbm, 78, rfl⟩
abbrev main_v52 : Ref sig .tc := ⟨.hbm, 79, rfl⟩
abbrev main_cst_6 : Ref sig .tc := ⟨.hbm, 80, rfl⟩
abbrev main_v53 : Ref sig .tc := ⟨.hbm, 81, rfl⟩
abbrev main_cst_7 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_8 : Ref sig .tc := ⟨.hbm, 86, rfl⟩
abbrev main_v57 : Ref sig .tc := ⟨.hbm, 87, rfl⟩
abbrev main_v58 : Ref sig .tc := ⟨.hbm, 88, rfl⟩
abbrev main_cst_9 : Ref sig .tc := ⟨.hbm, 89, rfl⟩
abbrev main_v59 : Ref sig .tc := ⟨.hbm, 90, rfl⟩
abbrev main_v60 : Ref sig .tc := ⟨.hbm, 91, rfl⟩
abbrev main_cst_10 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_11 : Ref sig .tc := ⟨.hbm, 97, rfl⟩
abbrev main_v65 : Ref sig .tc := ⟨.hbm, 98, rfl⟩
abbrev main_v66 : Ref sig .tc := ⟨.hbm, 99, rfl⟩
abbrev main_cst_12 : Ref sig .tc := ⟨.hbm, 100, rfl⟩
abbrev main_v67 : Ref sig .tc := ⟨.hbm, 101, rfl⟩
abbrev main_cst_13 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_14 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩

abbrev nD : Nat := 1
abbrev τ : Topo := Topo.v7x

variable {F : FTy → Type} [FloatOps F]
-- ==== DwDownKernel.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .f32⟩
  | .local _ .vmem, ⟨5, _⟩ => ⟨S1408x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwUpGateKernel.lean ====
abbrev S4096x2816 : Shape := ⟨2, ![4096, 2816]⟩
abbrev S4096x1024 : Shape := ⟨2, ![4096, 1024]⟩
abbrev S5632x1024 : Shape := ⟨2, ![5632, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .f32⟩
  | .hbm, ⟨3, _⟩ => ⟨S5632x1024, .f32⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .f32⟩
  | .local _ .vmem, ⟨5, _⟩ => ⟨S1408x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpGateReferenceIdeal.lean ====
abbrev S4096x2816 : Shape := ⟨2, ![4096, 2816]⟩
abbrev S4096x1024 : Shape := ⟨2, ![4096, 1024]⟩
abbrev S5632x1024 : Shape := ⟨2, ![5632, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .f32⟩
  | .hbm, ⟨3, _⟩ => ⟨S4096x2816, .f32⟩
  | .hbm, ⟨4, _⟩ => ⟨S4096x1024, .f32⟩
  | .hbm, ⟨5, _⟩ => ⟨S_, .f32⟩
  | .hbm, ⟨6, _⟩ => ⟨S1024x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .f32⟩
  | .hbm, ⟨12, _⟩ => ⟨S5632x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== DwUpValueKernel.lean ====
abbrev S4096x2816 : Shape := ⟨2, ![4096, 2816]⟩
abbrev S4096x1024 : Shape := ⟨2, ![4096, 1024]⟩
abbrev S5632x1024 : Shape := ⟨2, ![5632, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .f32⟩
  | .hbm, ⟨3, _⟩ => ⟨S5632x1024, .f32⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .f32⟩
  | .local _ .vmem, ⟨5, _⟩ => ⟨S1408x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpValueReferenceIdeal.lean ====
abbrev S4096x2816 : Shape := ⟨2, ![4096, 2816]⟩
abbrev S4096x1024 : Shape := ⟨2, ![4096, 1024]⟩
abbrev S5632x1024 : Shape := ⟨2, ![5632, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .f32⟩
  | .hbm, ⟨3, _⟩ => ⟨S4096x2816, .f32⟩
  | .hbm, ⟨4, _⟩ => ⟨S4096x1024, .f32⟩
  | .hbm, ⟨5, _⟩ => ⟨S_, .f32⟩
  | .hbm, ⟨6, _⟩ => ⟨S1024x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .f32⟩
  | .hbm, ⟨12, _⟩ => ⟨S5632x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== ProjKernel.lean ====
abbrev S4096x1024 : Shape := ⟨2, ![4096, 1024]⟩
abbrev S1024x3840 : Shape := ⟨2, ![1024, 3840]⟩
abbrev S3840x1024 : Shape := ⟨2, ![3840, 1024]⟩
abbrev S4096x3840 : Shape := ⟨2, ![4096, 3840]⟩
abbrev S1024x1024 : Shape := ⟨2, ![1024, 1024]⟩
abbrev S768x1024 : Shape := ⟨2, ![768, 1024]⟩
abbrev S1024x768 : Shape := ⟨2, ![1024, 768]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3840, .bf16⟩
  | .hbm, ⟨2, _⟩ => ⟨S3840x1024, .bf16⟩
  | .hbm, ⟨3, _⟩ => ⟨S4096x3840, .bf16⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x768, .bf16⟩
  | .local _ .vmem, ⟨5, _⟩ => ⟨S1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi v16 c1_i32_5
  let c5_i32 : BitVec 32 := 5#32
  let c0_i32_6 : BitVec 32 := 0#32
  let v18 : BitVec 1 := Scalar.cmpi .eq c5_i32 c0_i32_6
  let c1_i32_7 : BitVec 32 := 1#32
  let v19 : BitVec 32 := Scalar.select v18 c1_i32_7 c5_i32
  let v20 : BitVec 32 := Scalar.remsi v17 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c1_i32_11 : BitVec 32 := 1#32
  let v28 : BitVec 32 := Scalar.muli v27 c1_i32_11
  let c1_i32_12 : BitVec 32 := 1#32
  let c0_i32_13 : BitVec 32 := 0#32
  let v29 : BitVec 1 := Scalar.cmpi .eq c1_i32_12 c0_i32_13
  let c1_i32_14 : BitVec 32 := 1#32
  let v30 : BitVec 32 := Scalar.select v29 c1_i32_14 c1_i32_12
  let v31 : BitVec 32 := Scalar.remsi arg1 v30
  let c0_i32_15 : BitVec 32 := 0#32
  let v32 : BitVec 1 := Scalar.cmpi .ne v31 c0_i32_15
  let c0_i32_16 : BitVec 32 := 0#32
  let v33 : BitVec 1 := Scalar.cmpi .slt v31 c0_i32_16
  let c0_i32_17 : BitVec 32 := 0#32
  let v34 : BitVec 1 := Scalar.cmpi .slt v30 c0_i32_17
  let v35 : BitVec 1 := Scalar.xori v33 v34
  let v36 : BitVec 1 := Scalar.andi v35 v32
  let v37 : BitVec 32 := Scalar.addi v31 v30
  let v38 : BitVec 32 := Scalar.select v36 v37 v31
  let v39 : BitVec 32 := Scalar.addi v28 v38
  let c0_i32_18 : BitVec 32 := 0#32
  let v40 : BitVec 32 := Scalar.addi v39 c0_i32_18
  let c0_i32_19 : BitVec 32 := 0#32
  ![v40.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S4096x1024 : Shape := ⟨2, ![4096, 1024]⟩
abbrev S1024x3840 : Shape := ⟨2, ![1024, 3840]⟩
abbrev S4096x3840 : Shape := ⟨2, ![4096, 3840]⟩
abbrev S4096x512 : Shape := ⟨2, ![4096, 512]⟩
abbrev S4096x128 : Shape := ⟨2, ![4096, 128]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3840, .bf16⟩
  | .hbm, ⟨2, _⟩ => ⟨S4096x1024, .f32⟩
  | .hbm, ⟨3, _⟩ => ⟨S1024x3840, .f32⟩
  | .hbm, ⟨4, _⟩ => ⟨S4096x3840, .f32⟩
  | .hbm, ⟨5, _⟩ => ⟨S4096x512, .f32⟩
  | .hbm, ⟨6, _⟩ => ⟨S4096x128, .f32⟩
  | .hbm, ⟨7, _⟩ => ⟨S4096x128, .f32⟩
  | .hbm, ⟨8, _⟩ => ⟨S4096x512, .f32⟩
  | .hbm, ⟨9, _⟩ => ⟨S4096x512, .f32⟩
  | .hbm, ⟨10, _⟩ => ⟨S4096x1024, .f32⟩
  | .hbm, ⟨11, _⟩ => ⟨S4096x1024, .f32⟩
  | .hbm, ⟨12, _⟩ => ⟨S4096x3840, .f32⟩
  | .hbm, ⟨13, _⟩ => ⟨S4096x3840, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== DwInKernel.lean ====
abbrev S4096x768 : Shape := ⟨2, ![4096, 768]⟩
abbrev S4096x1024 : Shape := ⟨2, ![4096, 1024]⟩
abbrev S3840x1024 : Shape := ⟨2, ![3840, 1024]⟩
abbrev S4096x256 : Shape := ⟨2, ![4096, 256]⟩
abbrev S256x1024 : Shape := ⟨2, ![256, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x768, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S3840x1024, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x1024, .bf16⟩
  | .local _ .vmem, ⟨9, _⟩ => ⟨S256x1024, .f32⟩
  | .local _ .vmem, ⟨10, _⟩ => ⟨S256x1024, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![15], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c4_i32_1 : BitVec 32 := 4#32
  let v5 : BitVec 1 := Scalar.cmpi .sge arg0 c4_i32_1
  let c8_i32 : BitVec 32 := 8#32
  let v6 : BitVec 1 := Scalar.cmpi .slt arg0 c8_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c8_i32_3 : BitVec 32 := 8#32
  let v10 : BitVec 1 := Scalar.cmpi .sge arg0 c8_i32_3
  let c12_i32 : BitVec 32 := 12#32
  let v11 : BitVec 1 := Scalar.cmpi .slt arg0 c12_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c12_i32_5 : BitVec 32 := 12#32
  let v15 : BitVec 1 := Scalar.cmpi .sge arg0 c12_i32_5
  let c15_i32 : BitVec 32 := 15#32
  let v16 : BitVec 1 := Scalar.cmpi .slt arg0 c15_i32
  let v17 : BitVec 1 := Scalar.andi v15 v16
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c12_i32 : BitVec 32 := 12#32
  let v0 : BitVec 32 := Scalar.subi arg0 c12_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let c3_i32 : BitVec 32 := 3#32
  let v3 : BitVec 32 := Scalar.addi c3_i32 arg0
  let c0_i32_0 : BitVec 32 := 0#32
  let v4 : BitVec 32 := Scalar.subi v3 c0_i32_0
  let c0_i32_1 : BitVec 32 := 0#32
  let v5 : BitVec 32 := Scalar.select v2 v4 c0_i32_1
  let c4_i32_2 : BitVec 32 := 4#32
  let v6 : BitVec 1 := Scalar.cmpi .sge arg0 c4_i32_2
  let c8_i32 : BitVec 32 := 8#32
  let v7 : BitVec 1 := Scalar.cmpi .slt arg0 c8_i32
  let v8 : BitVec 1 := Scalar.andi v6 v7
  let c7_i32 : BitVec 32 := 7#32
  let v9 : BitVec 32 := Scalar.addi c7_i32 arg0
  let c4_i32_3 : BitVec 32 := 4#32
  let v10 : BitVec 32 := Scalar.subi v9 c4_i32_3
  let v11 : BitVec 32 := Scalar.select v8 v10 v5
  let c8_i32_4 : BitVec 32 := 8#32
  let v12 : BitVec 1 := Scalar.cmpi .sge arg0 c8_i32_4
  let c12_i32 : BitVec 32 := 12#32
  let v13 : BitVec 1 := Scalar.cmpi .slt arg0 c12_i32
  let v14 : BitVec 1 := Scalar.andi v12 v13
  let c11_i32 : BitVec 32 := 11#32
  let v15 : BitVec 32 := Scalar.addi c11_i32 arg0
  let c8_i32_5 : BitVec 32 := 8#32
  let v16 : BitVec 32 := Scalar.subi v15 c8_i32_5
  let v17 : BitVec 32 := Scalar.select v14 v16 v11
  let c12_i32_6 : BitVec 32 := 12#32
  let v18 : BitVec 1 := Scalar.cmpi .sge arg0 c12_i32_6
  let c15_i32 : BitVec 32 := 15#32
  let v19 : BitVec 1 := Scalar.cmpi .slt arg0 c15_i32
  let v20 : BitVec 1 := Scalar.andi v18 v19
  let c0_i32_7 : BitVec 32 := 0#32
  let v21 : BitVec 32 := Scalar.addi c0_i32_7 arg0
  let c12_i32_8 : BitVec 32 := 12#32
  let v22 : BitVec 32 := Scalar.subi v21 c12_i32_8
  let v23 : BitVec 32 := Scalar.select v20 v22 v17
  let c0_i32_9 : BitVec 32 := 0#32
  let c0_i32_10 : BitVec 32 := 0#32
  ![v23.toNat, c0_i32_9.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DwInReferenceIdeal.lean ====
abbrev S4096x768 : Shape := ⟨2, ![4096, 768]⟩
abbrev S4096x1024 : Shape := ⟨2, ![4096, 1024]⟩
abbrev S4096x3840 : Shape := ⟨2, ![4096, 3840]⟩
abbrev S_ : Shape := ⟨0, ![]⟩
abbrev S1024x3840 : Shape := ⟨2, ![1024, 3840]⟩
abbrev S3840x1024 : Shape := ⟨2, ![3840, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x768, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x3840, .f32⟩
  | .hbm, ⟨10, _⟩ => ⟨S4096x1024, .f32⟩
  | .hbm, ⟨11, _⟩ => ⟨S_, .f32⟩
  | .hbm, ⟨12, _⟩ => ⟨S1024x3840, .f32⟩
  | .hbm, ⟨13, _⟩ => ⟨S4096x3840, .f32⟩
  | .hbm, ⟨14, _⟩ => ⟨S3840x1024, .f32⟩
  | .hbm, ⟨15, _⟩ => ⟨S1024x3840, .f32⟩
  | .hbm, ⟨16, _⟩ => ⟨S3840x1024, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== DwOutKernel.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwBranchKernel.lean ====
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .f32⟩
  | .local _ .vmem, ⟨0, _⟩ => ⟨S4096x512, .bf16⟩
  | .local _ .vmem, ⟨1, _⟩ => ⟨S4096x1024, .bf16⟩
  | .local _ .vmem, ⟨2, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwBranchReferenceIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .f32⟩
  | .hbm, ⟨3, _⟩ => ⟨S4096x1024, .f32⟩
  | .hbm, ⟨4, _⟩ => ⟨S_, .f32⟩
  | .hbm, ⟨5, _⟩ => ⟨S512x1024, .f32⟩
  | .hbm, ⟨6, _⟩ => ⟨S4096x1024, .f32⟩
  | .hbm, ⟨7, _⟩ => ⟨S1024x512, .f32⟩
  | .hbm, ⟨8, _⟩ => ⟨S512x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DyAttKernel.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyAttReferenceIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x1024, .f32⟩
  | .hbm, ⟨3, _⟩ => ⟨S512x1024, .f32⟩
  | .hbm, ⟨4, _⟩ => ⟨S_, .f32⟩
  | .hbm, ⟨5, _⟩ => ⟨S4096x512, .f32⟩
  | .hbm, ⟨6, _⟩ => ⟨S4096x1024, .f32⟩
  | .hbm, ⟨7, _⟩ => ⟨S4096x512, .f32⟩
  | .hbm, ⟨8, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DySguKernel.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DySguReferenceIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x1024, .f32⟩
  | .hbm, ⟨3, _⟩ => ⟨S512x1024, .f32⟩
  | .hbm, ⟨4, _⟩ => ⟨S_, .f32⟩
  | .hbm, ⟨5, _⟩ => ⟨S4096x512, .f32⟩
  | .hbm, ⟨6, _⟩ => ⟨S4096x1024, .f32⟩
  | .hbm, ⟨7, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpConvKernel.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S5632x1024 : Shape := ⟨2, ![5632, 1024]⟩
abbrev S3x2816 : Shape := ⟨2, ![3, 2816]⟩
abbrev S2816 : Shape := ⟨1, ![2816]⟩
abbrev S1x2816 : Shape := ⟨2, ![1, 2816]⟩
abbrev S4096x2816 : Shape := ⟨2, ![4096, 2816]⟩
abbrev S2048x1024 : Shape := ⟨2, ![2048, 1024]⟩
abbrev S256x1024 : Shape := ⟨2, ![256, 1024]⟩
abbrev S3x256 : Shape := ⟨2, ![3, 256]⟩
abbrev S1x256 : Shape := ⟨2, ![1, 256]⟩
abbrev S2048x256 : Shape := ⟨2, ![2048, 256]⟩
abbrev S8x256 : Shape := ⟨2, ![8, 256]⟩
abbrev S256x256 : Shape := ⟨2, ![256, 256]⟩
abbrev S248x256 : Shape := ⟨2, ![248, 256]⟩

abbrev nBuf : Space → Nat
  | .hbm => 16
  | .vmem => 24
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S3x5632, .f32⟩
  | .hbm, ⟨3, _⟩ => ⟨S5632, .f32⟩
  | .hbm, ⟨4, _⟩ => ⟨S5632x1024, .bf16⟩
  | .hbm, ⟨5, _⟩ => ⟨S3x2816, .f32⟩
  | .hbm, ⟨6, _⟩ => ⟨S3x2816, .f32⟩
  | .hbm, ⟨7, _⟩ => ⟨S2816, .f32⟩
  | .hbm, ⟨8, _⟩ => ⟨S2816, .f32⟩
  | .hbm, ⟨9, _⟩ => ⟨S1x2816, .f32⟩
  | .hbm, ⟨10, _⟩ => ⟨S1x2816, .f32⟩
  | .hbm, ⟨11, _⟩ => ⟨S4096x2816, .bf16⟩
  | .hbm, ⟨12, _⟩ => ⟨S4096x2816, .bf16⟩
  | .hbm, ⟨13, _⟩ => ⟨S4096x2816, .bf16⟩
  | .hbm, ⟨14, _⟩ => ⟨S4096x2816, .bf16⟩
  | .hbm, ⟨15, _⟩ => ⟨S4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | .local _ .vmem, ⟨23, _⟩ => ⟨S2048x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== UpConvReferenceIdeal.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S2x2048x1024 : Shape := ⟨3, ![2, 2048, 1024]⟩
abbrev S2x2048x5632 : Shape := ⟨3, ![2, 2048, 5632]⟩
abbrev S_ : Shape := ⟨0, ![]⟩
abbrev S2x2x5632 : Shape := ⟨3, ![2, 2, 5632]⟩
abbrev S2x2050x5632 : Shape := ⟨3, ![2, 2050, 5632]⟩
abbrev S1x5632 : Shape := ⟨2, ![1, 5632]⟩
abbrev S1x1x5632 : Shape := ⟨3, ![1, 1, 5632]⟩
abbrev S2x2048x2816 : Shape := ⟨3, ![2, 2048, 2816]⟩
abbrev S4096x2816 : Shape := ⟨2, ![4096, 2816]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S3x5632, .f32⟩
  | .hbm, ⟨3, _⟩ => ⟨S5632, .f32⟩
  | .hbm, ⟨4, _⟩ => ⟨S4096x1024, .f32⟩
  | .hbm, ⟨5, _⟩ => ⟨S2x2048x1024, .f32⟩
  | .hbm, ⟨6, _⟩ => ⟨S1024x5632, .f32⟩
  | .hbm, ⟨7, _⟩ => ⟨S2x2048x5632, .f32⟩
  | .hbm, ⟨8, _⟩ => ⟨S_, .f32⟩
  | .hbm, ⟨9, _⟩ => ⟨S2x2x5632, .f32⟩
  | .hbm, ⟨10, _⟩ => ⟨S2x2050x5632, .f32⟩
  | .hbm, ⟨11, _⟩ => ⟨S1x5632, .f32⟩
  | .hbm, ⟨12, _⟩ => ⟨S5632, .f32⟩
  | .hbm, ⟨13, _⟩ => ⟨S2x2048x5632, .f32⟩
  | .hbm, ⟨14, _⟩ => ⟨S1x1x5632, .f32⟩
  | .hbm, ⟨15, _⟩ => ⟨S2x2048x5632, .f32⟩
  | .hbm, ⟨16, _⟩ => ⟨S2x2048x5632, .f32⟩
  | .hbm, ⟨17, _⟩ => ⟨S1x1x5632, .f32⟩
  | .hbm, ⟨18, _⟩ => ⟨S2x2048x5632, .f32⟩
  | .hbm, ⟨19, _⟩ => ⟨S2x2048x5632, .f32⟩
  | .hbm, ⟨20, _⟩ => ⟨S1x5632, .f32⟩
  | .hbm, ⟨21, _⟩ => ⟨S5632, .f32⟩
  | .hbm, ⟨22, _⟩ => ⟨S2x2048x5632, .f32⟩
  | .hbm, ⟨23, _⟩ => ⟨S1x1x5632, .f32⟩
  | .hbm, ⟨24, _⟩ => ⟨S2x2048x5632, .f32⟩
  | .hbm, ⟨25, _⟩ => ⟨S2x2048x5632, .f32⟩
  | .hbm, ⟨26, _⟩ => ⟨S2x2048x5632, .f32⟩
  | .hbm, ⟨27, _⟩ => ⟨S1x5632, .f32⟩
  | .hbm, ⟨28, _⟩ => ⟨S5632, .f32⟩
  | .hbm, ⟨29, _⟩ => ⟨S2x2048x5632, .f32⟩
  | .hbm, ⟨30, _⟩ => ⟨S1x1x5632, .f32⟩
  | .hbm, ⟨31, _⟩ => ⟨S2x2048x5632, .f32⟩
  | .hbm, ⟨32, _⟩ => ⟨S2x2048x5632, .f32⟩
  | .hbm, ⟨33, _⟩ => ⟨S2x2048x5632, .f32⟩
  | .hbm, ⟨34, _⟩ => ⟨S2x2048x2816, .f32⟩
  | .hbm, ⟨35, _⟩ => ⟨S2x2048x2816, .f32⟩
  | .hbm, ⟨36, _⟩ => ⟨S2x2048x2816, .f32⟩
  | .hbm, ⟨37, _⟩ => ⟨S2x2048x2816, .f32⟩
  | .hbm, ⟨38, _⟩ => ⟨S_, .f32⟩
  | .hbm, ⟨39, _⟩ => ⟨S2x2048x2816, .f32⟩
  | .hbm, ⟨40, _⟩ => ⟨S2x2048x2816, .f32⟩
  | .hbm, ⟨41, _⟩ => ⟨S_, .f32⟩
  | .hbm, ⟨42, _⟩ => ⟨S2x2048x2816, .f32⟩
  | .hbm, ⟨43, _⟩ => ⟨S2x2048x2816, .f32⟩
  | .hbm, ⟨44, _⟩ => ⟨S2x2048x2816, .f32⟩
  | .hbm, ⟨45, _⟩ => ⟨S2x2048x2816, .f32⟩
  | .hbm, ⟨46, _⟩ => ⟨S2x2048x2816, .f32⟩
  | .hbm, ⟨47, _⟩ => ⟨S2x2048x2816, .f32⟩
  | .hbm, ⟨48, _⟩ => ⟨S2x2048x2816, .bf16⟩
  | .hbm, ⟨49, _⟩ => ⟨S4096x2816, .bf16⟩
  | .hbm, ⟨50, _⟩ => ⟨S2x2048x2816, .bf16⟩
  | .hbm, ⟨51, _⟩ => ⟨S4096x2816, .bf16⟩
  | .hbm, ⟨52, _⟩ => ⟨S2x2048x2816, .bf16⟩
  | .hbm, ⟨53, _⟩ => ⟨S4096x2816, .bf16⟩
  | .hbm, ⟨54, _⟩ => ⟨S2x2048x2816, .bf16⟩
  | .hbm, ⟨55, _⟩ => ⟨S4096x2816, .bf16⟩
  | .hbm, ⟨56, _⟩ => ⟨S2x2048x2816, .bf16⟩
  | .hbm, ⟨57, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== MergeFwdKernel.lean ====
abbrev S4096x512 : Shape := ⟨2, ![4096, 512]⟩
abbrev S512x1024 : Shape := ⟨2, ![512, 1024]⟩
abbrev S4096x3840 : Shape := ⟨2, ![4096, 3840]⟩
abbrev S4096x3072 : Shape := ⟨2, ![4096, 3072]⟩
abbrev S4096x768 : Shape := ⟨2, ![4096, 768]⟩
abbrev S4096x1024 : Shape := ⟨2, ![4096, 1024]⟩
abbrev S1024x512 : Shape := ⟨2, ![1024, 512]⟩
abbrev S512x512 : Shape := ⟨2, ![512, 512]⟩

abbrev nBuf : Space → Nat
  | .hbm => 9
  | .vmem => 14
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S512x1024, .bf16⟩
  | .hbm, ⟨3, _⟩ => ⟨S512x1024, .bf16⟩
  | .hbm, ⟨4, _⟩ => ⟨S4096x3840, .bf16⟩
  | .hbm, ⟨5, _⟩ => ⟨S4096x3072, .bf16⟩
  | .hbm, ⟨6, _⟩ => ⟨S4096x768, .bf16⟩
  | .hbm, ⟨7, _⟩ => ⟨S4096x3840, .bf16⟩
  | .hbm, ⟨8, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeFwdReferenceIdeal.lean ====
abbrev S4096x512 : Shape := ⟨2, ![4096, 512]⟩
abbrev S512x1024 : Shape := ⟨2, ![512, 1024]⟩
abbrev S4096x3840 : Shape := ⟨2, ![4096, 3840]⟩
abbrev S4096x128 : Shape := ⟨2, ![4096, 128]⟩
abbrev S4096x1024 : Shape := ⟨2, ![4096, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S512x1024, .bf16⟩
  | .hbm, ⟨3, _⟩ => ⟨S512x1024, .bf16⟩
  | .hbm, ⟨4, _⟩ => ⟨S4096x3840, .bf16⟩
  | .hbm, ⟨5, _⟩ => ⟨S4096x512, .f32⟩
  | .hbm, ⟨6, _⟩ => ⟨S4096x512, .f32⟩
  | .hbm, ⟨7, _⟩ => ⟨S512x1024, .f32⟩
  | .hbm, ⟨8, _⟩ => ⟨S512x1024, .f32⟩
  | .hbm, ⟨9, _⟩ => ⟨S4096x3840, .f32⟩
  | .hbm, ⟨10, _⟩ => ⟨S4096x512, .f32⟩
  | .hbm, ⟨11, _⟩ => ⟨S4096x128, .f32⟩
  | .hbm, ⟨12, _⟩ => ⟨S4096x128, .f32⟩
  | .hbm, ⟨13, _⟩ => ⟨S4096x512, .f32⟩
  | .hbm, ⟨14, _⟩ => ⟨S4096x512, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== OutKernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutReferenceIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== DownKernel.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S1024x2816 : Shape := ⟨2, ![1024, 2816]⟩
abbrev S1024x1024 : Shape := ⟨2, ![1024, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownReferenceIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== DhTwoKernel.lean ====
abbrev S4096x2816 : Shape := ⟨2, ![4096, 2816]⟩
abbrev S1024x5632 : Shape := ⟨2, ![1024, 5632]⟩
abbrev S4096x1024 : Shape := ⟨2, ![4096, 1024]⟩
abbrev S1024 : Shape := ⟨1, ![1024]⟩
abbrev S5632x1024 : Shape := ⟨2, ![5632, 1024]⟩
abbrev S1x1024 : Shape := ⟨2, ![1, 1024]⟩
abbrev S512x2816 : Shape := ⟨2, ![512, 2816]⟩
abbrev S512x1024 : Shape := ⟨2, ![512, 1024]⟩
abbrev S2816x1024 : Shape := ⟨2, ![2816, 1024]⟩
abbrev S512 : Shape := ⟨1, ![512]⟩
abbrev S512x1 : Shape := ⟨2, ![512, 1]⟩

abbrev nBuf : Space → Nat
  | .hbm => 11
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S4096x1024, .f32⟩
  | .hbm, ⟨4, _⟩ => ⟨S4096x1024, .f32⟩
  | .hbm, ⟨5, _⟩ => ⟨S1024, .f32⟩
  | .hbm, ⟨6, _⟩ => ⟨S5632x1024, .bf16⟩
  | .hbm, ⟨7, _⟩ => ⟨S1x1024, .f32⟩
  | .hbm, ⟨8, _⟩ => ⟨S4096x1024, .f32⟩
  | .hbm, ⟨9, _⟩ => ⟨S4096x1024, .bf16⟩
  | .hbm, ⟨10, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S5632x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_24 : BitVec 32 := 0#32
  let v46 : BitVec 1 := Scalar.cmpi .ne v45 c0_i32_24
  v46

def k0_cond2 (i : grid0.Coords) : BitVec 1 :=
  let arg0 : BitVec 32 := BitVec.ofNat 32 (i 0).val
  let c0_i32_25 : BitVec 32 := 0#32
  let v47 : BitVec 1 := Scalar.cmpi .sgt arg0 c0_i32_25
  let v48 : BitVec 32 := Scalar.extui v47
  let c0_i32_26 : BitVec 32 := 0#32
  let v49 : BitVec 1 := Scalar.cmpi .ne v48 c0_i32_26
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DhTwoReferenceIdeal.lean ====
abbrev S4096x2816 : Shape := ⟨2, ![4096, 2816]⟩
abbrev S1024x5632 : Shape := ⟨2, ![1024, 5632]⟩
abbrev S4096x1024 : Shape := ⟨2, ![4096, 1024]⟩
abbrev S1024 : Shape := ⟨1, ![1024]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S4096x1024, .f32⟩
  | .hbm, ⟨4, _⟩ => ⟨S4096x1024, .f32⟩
  | .hbm, ⟨5, _⟩ => ⟨S1024, .f32⟩
  | .hbm, ⟨6, _⟩ => ⟨S4096x2816, .f32⟩
  | .hbm, ⟨7, _⟩ => ⟨S4096x2816, .f32⟩
  | .hbm, ⟨8, _⟩ => ⟨S4096x5632, .f32⟩
  | .hbm, ⟨9, _⟩ => ⟨S1024x5632, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x5632, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | .hbm, ⟨59, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== DhKernel.lean ====
abbrev S4096x768 : Shape := ⟨2, ![4096, 768]⟩
abbrev S4096x1024 : Shape := ⟨2, ![4096, 1024]⟩
abbrev S1024x3840 : Shape := ⟨2, ![1024, 3840]⟩
abbrev S1024 : Shape := ⟨1, ![1024]⟩
abbrev S3840x1024 : Shape := ⟨2, ![3840, 1024]⟩
abbrev S1x1024 : Shape := ⟨2, ![1, 1024]⟩
abbrev S512x1024 : Shape := ⟨2, ![512, 1024]⟩
abbrev S512x768 : Shape := ⟨2, ![512, 768]⟩
abbrev S1024x1024 : Shape := ⟨2, ![1024, 1024]⟩
abbrev S768x1024 : Shape := ⟨2, ![768, 1024]⟩
abbrev S512 : Shape := ⟨1, ![512]⟩
abbrev S512x1 : Shape := ⟨2, ![512, 1]⟩

abbrev nBuf : Space → Nat
  | .hbm => 13
  | .vmem => 19
  | .smem => 0
  | _ => 0

abbrev bufTy : (tb : Table) → Fin (tcTables nBuf tb) → BufTy
  | .hbm, ⟨0, _⟩ => ⟨S4096x768, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S1024x3840, .bf16⟩
  | .hbm, ⟨5, _⟩ => ⟨S4096x1024, .f32⟩
  | .hbm, ⟨6, _⟩ => ⟨S4096x1024, .f32⟩
  | .hbm, ⟨7, _⟩ => ⟨S1024, .f32⟩
  | .hbm, ⟨8, _⟩ => ⟨S3840x1024, .bf16⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x768, .bf16⟩
  | .local _ .vmem, ⟨7, _⟩ => ⟨S512x768, .bf16⟩
  | .local _ .vmem, ⟨8, _⟩ => ⟨S3840x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v55 : BitVec 32 := Scalar.extui v54
  let c0_i32_32 : BitVec 32 := 0#32
  let v56 : BitVec 1 := Scalar.cmpi .ne v55 c0_i32_32
  v56

def k0_cond2 (i : grid0.Coords) : BitVec 1 :=
  let arg0 : BitVec 32 := BitVec.ofNat 32 (i 0).val
  let c0_i32_33 : BitVec 32 := 0#32
  let v57 : BitVec 1 := Scalar.cmpi .sgt arg0 c0_i32_33
  let v58 : BitVec 32 := Scalar.extui v57
  let c0_i32_34 : BitVec 32 := 0#32
  let v59 : BitVec 1 := Scalar.cmpi .ne v58 c0_i32_34
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3840x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== DhReferenceIdeal.lean ====
abbrev S4096x768 : Shape := ⟨2, ![4096, 768]⟩
abbrev S4096x1024 : Shape := ⟨2, ![4096, 1024]⟩
abbrev S1024x3840 : Shape := ⟨2, ![1024, 3840]⟩
abbrev S1024 : Shape := ⟨1, ![1024]⟩
abbrev S4096x3840 : Shape := ⟨2, ![4096, 3840]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S1024x3840, .bf16⟩
  | .hbm, ⟨5, _⟩ => ⟨S4096x1024, .f32⟩
  | .hbm, ⟨6, _⟩ => ⟨S4096x1024, .f32⟩
  | .hbm, ⟨7, _⟩ => ⟨S1024, .f32⟩
  | .hbm, ⟨8, _⟩ => ⟨S4096x768, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x3840, .f32⟩
  | .hbm, ⟨13, _⟩ => ⟨S1024x3840, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x3840, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .bf16⟩
  | .hbm, ⟨63, _⟩ => ⟨S1x1024, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Proof.MergeBlocks.lean ====
module

public import proofs.«01_k».proof.Defs
public import proofs.«01_k».proof.Proof.Gen.MergeKernelIdeal.Value
public import proofs.«01_k».proof.Proof.Gen.MergeReferenceIdeal.Read
public import Idealize.ShloMosaic.Lib.Pipeline.ValueKit
public import Idealize.ShloMosaic.Lib.StableHlo.ReadAt

@[expose] public section

set_option maxRecDepth 16384

noncomputable section

namespace Cert.Proof.Merge

open Idealize.ShloMosaic Idealize.ShloMosaic.TcCoe Idealize.SL.Sem
open Cert.MergeKernelIdeal Cert.MergeKernelIdeal.Gen
open Cert.MergeReferenceIdeal.Read
open Idealize.ShloMosaic.Pipeline (Dat)

variable (m : (ℓ : Loc nD τ sig) → Buf (Elt Ideal) ℓ)

/-- Where each window's block sits at grid point `t`: point `t` is row tile `t / 2` and column tile `t % 2`. -/
theorem place : ∀ t : Fin cfg0.N,
    win0_0.index t = ![t.val / 2, 0] ∧ win0_1.index t = ![t.val % 2, 0] ∧ win0_2.index t = ![t.val / 2, 0]
      ∧ win0_3.index t = ![t.val / 2, 0] ∧ win0_4.index t = ![0, t.val % 2] ∧ win0_5.index t = ![0, t.val % 2]
      ∧ win0_6.index t = ![t.val / 2, 2 + t.val % 2] ∧ win0_7.index t = ![t.val / 2, 4 + t.val % 2]
      ∧ win0_8.index t = ![t.val / 2, t.val % 2] ∧ win0_9.index t = ![t.val / 2, t.val % 2]
      ∧ win0_10.index t = ![t.val / 2, t.val % 2] ∧ win0_11.index t = ![t.val / 2, t.val % 2] :=
  (by decide +kernel : ∀ t : Fin grid0.N, _)

/-- The array index at which index `y` of the output block of point `t` sits. -/
abbrev pos (t : Fin cfg0.N) (r : Fin 1024) (l : Fin 512) : S4096x1024.Idx :=
  ix2 ⟨t.val / 2 * 1024 + r.val, by have := t.isLt; have : cfg0.N = 8 := N_0; omega⟩ ⟨t.val % 2 * 512 + l.val, by omega⟩

/-- The projection as the call receives it, its first 768 columns moved to its end, at an index. -/
theorem rotated_apply (c : Dev nD) (r : Fin 4096) (l : Fin 3840) :
    (V m c main_v2 : FVec Ideal S4096x3840 .bf16) (ix2 r l)
      = (m ((c : Thread nD τ).loc main_arg6) : FVec Ideal S4096x3840 .bf16)
          (ix2 r (if h : l.val < 3072 then ⟨768 + l.val, by omega⟩ else ⟨l.val - 3072, by omega⟩)) := by
  unfold V
  after_reads_at
  split <;> rfl

/-- The block of the first gate at point `t`: columns 1792 and on of the projection. -/
theorem gateA_apply (c : Dev nD) (t : Fin cfg0.N) (r : Fin 1024) (l : Fin 512) :
    X0_6 m c t (ix2 r l) = (m ((c : Thread nD τ).loc main_arg6) : FVec Ideal S4096x3840 .bf16)
      (ix2 ⟨t.val / 2 * 1024 + r.val, by have := t.isLt; have : cfg0.N = 8 := N_0; omega⟩ ⟨1792 + (t.val % 2 * 512 + l.val), by omega⟩) := by
  have hN : cfg0.N = 8 := N_0
  have ht := t.isLt
  unfold X0_6 Pipeline.Window.fill
  rw [dif_pos (moved0_6 t _)]
  have e := rotated_apply m c ⟨t.val / 2 * 1024 + r.val, by omega⟩ ⟨1024 + (t.val % 2 * 512 + l.val), by omega⟩
  rw [dif_pos (by dsimp only; omega)] at e
  refine Eq.trans ?_ (e.trans ?_)
  · blk_ext [iblk, (place t).2.2.2.2.2.2.1]
  · blk_ext

/-- The block of the second gate at point `t`: columns 2816 and on of the projection. -/
theorem gateB_apply (c : Dev nD) (t : Fin cfg0.N) (r : Fin 1024) (l : Fin 512) :
    X0_7 m c t (ix2 r l) = (m ((c : Thread nD τ).loc main_arg6) : FVec Ideal S4096x3840 .bf16)
      (ix2 ⟨t.val / 2 * 1024 + r.val, by have := t.isLt; have : cfg0.N = 8 := N_0; omega⟩ ⟨2816 + (t.val % 2 * 512 + l.val), by omega⟩) := by
  have hN : cfg0.N = 8 := N_0
  have ht := t.isLt
  unfold X0_7 Pipeline.Window.fill
  rw [dif_pos (moved0_7 t _)]
  have e := rotated_apply m c ⟨t.val / 2 * 1024 + r.val, by omega⟩ ⟨2048 + (t.val % 2 * 512 + l.val), by omega⟩
  rw [dif_pos (by dsimp only; omega)] at e
  refine Eq.trans ?_ (e.trans ?_)
  · blk_ext [iblk, (place t).2.2.2.2.2.2.2.1]
  · blk_ext

/-- The gradient at the merged array, `ct · w_outᵀ`: what point `t` computes is the reference's at the block's place. -/
theorem dmerged (c : Dev nD) (t : Fin cfg0.N) (r : Fin 1024) (l : Fin 512) :
    k0_pay4 (F := Ideal) (iblk m c 0 t) (iblk m c 1 t) (ix2 r l)
      = val_main_v38 (F := Ideal) (m ((c : Thread nD τ).loc main_arg0)) (m ((c : Thread nD τ).loc main_arg1)) (pos t r l) := by
  pointwise [k0_pay4, val_main_v38, val_main_v0, val_main_v1]
  blk_point [iblk, V, place t]

/-- The attention branch's projection `y_att · w_oa`, recomputed by point `t`, is the reference's at the block's place. -/
theorem projA (c : Dev nD) (t : Fin cfg0.N) (r : Fin 1024) (l : Fin 512) :
    k0_pay5 (F := Ideal) (iblk m c 2 t) (iblk m c 4 t) (ix2 r l)
      = val_main_v14 (F := Ideal) (m ((c : Thread nD τ).loc main_arg2)) (m ((c : Thread nD τ).loc main_arg4)) (pos t r l) := by
  pointwise [k0_pay5, val_main_v14, val_main_v2, val_main_v4]
  blk_point [iblk, V, place t]

/-- The spatial branch's projection `y_sgu · w_ob`, recomputed by point `t`, is the reference's at the block's place. -/
theorem projB (c : Dev nD) (t : Fin cfg0.N) (r : Fin 1024) (l : Fin 512) :
    k0_pay6 (F := Ideal) (iblk m c 3 t) (iblk m c 5 t) (ix2 r l)
      = val_main_v15 (F := Ideal) (m ((c : Thread nD τ).loc main_arg3)) (m ((c : Thread nD τ).loc main_arg5)) (pos t r l) := by
  pointwise [k0_pay6, val_main_v15, val_main_v3, val_main_v5]
  blk_point [iblk, V, place t]

/-- The first gate's logistic function at point `t` is the reference's at the block's place. -/
theorem sigmoidA (c : Dev nD) (t : Fin cfg0.N) (r : Fin 1024) (l : Fin 512) :
    k0_pay7 (F := Ideal) (X0_6 m c t) (ix2 r l)
      = val_main_v21 (F := Ideal) (m ((c : Thread nD τ).loc main_arg6)) (pos t r l) := by
  pointwise [k0_pay7, val_main_v21, val_main_v20, val_main_v19, val_main_v18, val_main_v17, val_main_v16, val_main_v12,
    val_main_v6, val_main_cst, val_main_cst_0]
  rw [gateA_apply, sub_eq_add_neg, zero_add]

/-- The second gate's logistic function at point `t` is the reference's at the block's place. -/
theorem sigmoidB (c : Dev nD) (t : Fin cfg0.N) (r : Fin 1024) (l : Fin 512) :
    k0_pay8 (F := Ideal) (X0_7 m c t) (ix2 r l)
      = val_main_v31 (F := Ideal) (m ((c : Thread nD τ).loc main_arg6)) (pos t r l) := by
  pointwise [k0_pay8, val_main_v31, val_main_v30, val_main_v29, val_main_v28, val_main_v27, val_main_v26, val_main_v13,
    val_main_v6, val_main_cst_2, val_main_cst_3]
  rw [gateB_apply, sub_eq_add_neg, zero_add]

/-- The first result array after the run: the gradient at the attention branch's projection. -/
theorem final8 (c : Dev nD) : (dats m 0 c).arrAt 8 (cfgs 0).N = val_main_v45 (F := Ideal) (m ((c : Thread nD τ).loc main_arg0)) (m ((c : Thread nD τ).loc main_arg1)) (m ((c : Thread nD τ).loc main_arg6)) := by
  refine (dats m 0 c).arrAt_eq_of_covers 8 _ (by decide +kernel) fun t _ y => ?_
  blk_simp
  rw [after0_8]
  unfold outsAt0
  frame_out
  idx_vars y
  have e : ((View.whole main_v3_0).slice ((win0 8).rect t)).emb (ix2 y0 y1) = pos t y0 y1 := by
    unfold pos; blk_ext [place t]
  erw [e]
  pointwise [k0_pay9, val_main_v45, val_main_v42]
  rw [dmerged, sigmoidA, mul_comm]

/-- The second result array after the run: the gradient at the spatial branch's projection. -/
theorem final9 (c : Dev nD) : (dats m 0 c).arrAt 9 (cfgs 0).N = val_main_v46 (F := Ideal) (m ((c : Thread nD τ).loc main_arg0)) (m ((c : Thread nD τ).loc main_arg1)) (m ((c : Thread nD τ).loc main_arg6)) := by
  refine (dats m 0 c).arrAt_eq_of_covers 9 _ (by decide +kernel) fun t _ y => ?_
  blk_simp
  rw [after0_9]
  unfold outsAt0
  frame_out
  idx_vars y
  have e : ((View.whole main_v3_1).slice ((win0 9).rect t)).emb (ix2 y0 y1) = pos t y0 y1 := by
    unfold pos; blk_ext [place t]
  erw [e]
  pointwise [k0_pay1, val_main_v46, val_main_v39]
  rw [dmerged, sigmoidB, mul_comm]

/-- The third result array after the run: the gradient at the first gate. -/
theorem final10 (c : Dev nD) : (dats m 0 c).arrAt 10 (cfgs 0).N = val_main_v47 (F := Ideal) (m ((c : Thread nD τ).loc main_arg0)) (m ((c : Thread nD τ).loc main_arg1)) (m ((c : Thread nD τ).loc main_arg2)) (m ((c : Thread nD τ).loc main_arg4)) (m ((c : Thread nD τ).loc main_arg6)) := by
  refine (dats m 0 c).arrAt_eq_of_covers 10 _ (by decide +kernel) fun t _ y => ?_
  blk_simp
  rw [after0_10]
  unfold outsAt0
  frame_out
  idx_vars y
  have e : ((View.whole main_v3_2).slice ((win0 10).rect t)).emb (ix2 y0 y1) = pos t y0 y1 := by
    unfold pos; blk_ext [place t]
  erw [e]
  pointwise [k0_pay2, val_main_v47, val_main_v44, val_main_v43, val_main_v24, val_main_v23, val_main_v22, val_main_cst_1]
  rw [dmerged, projA, sigmoidA, mul_assoc]

/-- The fourth result array after the run: the gradient at the second gate. -/
theorem final11 (c : Dev nD) : (dats m 0 c).arrAt 11 (cfgs 0).N = val_main_v48 (F := Ideal) (m ((c : Thread nD τ).loc main_arg0)) (m ((c : Thread nD τ).loc main_arg1)) (m ((c : Thread nD τ).loc main_arg3)) (m ((c : Thread nD τ).loc main_arg5)) (m ((c : Thread nD τ).loc main_arg6)) := by
  refine (dats m 0 c).arrAt_eq_of_covers 11 _ (by decide +kernel) fun t _ y => ?_
  blk_simp
  rw [after0_11]
  unfold outsAt0
  frame_out
  idx_vars y
  have e : ((View.whole main_v3_3).slice ((win0 11).rect t)).emb (ix2 y0 y1) = pos t y0 y1 := by
    unfold pos; blk_ext [place t]
  erw [e]
  pointwise [k0_pay3, val_main_v48, val_main_v41, val_main_v40, val_main_v34, val_main_v33, val_main_v32, val_main_cst_4]
  rw [dmerged, projB, sigmoidB, mul_assoc]

end Cert.Proof.Merge

end
-- ==== Proof.MergeClaims.lean ====
module

public import proofs.«01_k».proof.Proof.MergeBlocks
public import proofs.«01_k».proof.Proof.Gen.MergeReferenceIdeal.Run
public import Idealize.ShloMosaic.Lib.Claim
public import Idealize.ShloMosaic.Lib.Quiescent

@[expose] public section

set_option maxRecDepth 16384

noncomputable section

namespace Cert.Proof.Merge

open Idealize.ShloMosaic Idealize.ShloMosaic.TcCoe Idealize.SL.Sem
open Cert.MergeReferenceIdeal.Read

instance : Cert.MergeKernelIdeal.Facts := Cert.MergeKernelIdeal.Gen.facts
instance : Cert.MergeReferenceIdeal.Facts := Cert.MergeReferenceIdeal.Gen.facts

/-- Over the extended reals the call's four results are the reference's four gradients of the same arguments. -/
theorem algebraic : Cert.algebraic_MergeKernelIdeal_MergeReferenceIdeal := by
  pair_intro
  · run_from Cert.MergeKernelIdeal.Value.run_blocks m g
  · run_from Cert.MergeReferenceIdeal.Value.run m' g'
    · rw [val_main_v45_eq]; exact (final8 m c).symm
    · rw [val_main_v46_eq]; exact (final9 m c).symm
    · rw [val_main_v47_eq]; exact (final10 m c).symm
    · rw [val_main_v48_eq]; exact (final11 m c).symm

/-- The reference's execution ends with its arguments unchanged and its counters at zero. -/
theorem quiescent : Cert.quiescent_MergeReferenceIdeal := by
  intro m g _
  exact (θ_run _ _ _).mono
    (fun r h => ⟨fun c => (h c).2.2.2.2, sem_eq_zero_of_no_sems (sig := Cert.MergeReferenceIdeal.sig) (by decide) _⟩)
    (Cert.MergeReferenceIdeal.Value.run m g)

end Cert.Proof.Merge

end
-- ==== Proof.ConvReference.lean ====
module

public import proofs.«01_k».proof.Defs
public import proofs.«01_k».proof.Proof.Gen.ConvReferenceIdeal.Read
public import Idealize.ShloMosaic.Lib.Pipeline.ValueKit

@[expose] public section

set_option maxRecDepth 16384

noncomputable section

namespace Cert.Proof.Conv.Ref

open Idealize.ShloMosaic Idealize.ShloMosaic.TcCoe Idealize.SL.Sem
open Cert.ConvReferenceIdeal Cert.ConvReferenceIdeal.Read

/-- The host's sum over the first two axes of an array of rank three, at one index of the last axis. -/
theorem sum_lead {a b d : ℕ} (h : (⟨3, ![a, b, d]⟩ : Shape).ReducesTo [0, 1] ⟨1, ![d]⟩) (v : (⟨3, ![a, b, d]⟩ : Shape).Idx → EReal)
    (init : EReal) (l : Fin d) : Ideal.hostReduceAdd h v init (ix1 l) = init + ∑ k : Fin a, ∑ n : Fin b, v (ix3 k n l) := by
  refine congrArg (init + ·) ?_
  refine (Finset.sum_filter_eq_sum_of_fiber _ (fun k : Fin a × Fin b => ix3 k.1 k.2 l)
    (fun _ _ e => Prod.ext (congrFun e 0) (congrFun e 1)) (fun i => ?_) v).trans ?_
  · constructor
    · intro e
      refine ⟨(i 0, i 1), ?_⟩
      funext x; apply Fin.ext
      match x with
      | ⟨0, _⟩ => rfl
      | ⟨1, _⟩ => rfl
      | ⟨2, _⟩ => exact (congrArg Fin.val (congrFun e ⟨0, Nat.one_pos⟩)).symm
    · rintro ⟨k, rfl⟩
      funext x
      apply Fin.ext
      match x with
      | ⟨0, _⟩ => rfl
  · simp only [Fintype.sum_prod_type]

variable (x0 : FVec Ideal S2x2048x1024 .bf16) (x1 : FVec Ideal S2x2048x5632 .bf16) (x2 : FVec Ideal S3x5632 .f32) (x3 : FVec Ideal S5632 .f32) (x4 : FVec Ideal S2816x1024 .bf16)

/-- The sequence `z` with two rows of zeros in front, at row `k`. -/
def padded (b : Fin 2) (k : ℕ) (q : Fin 5632) : EReal := if h : 2 ≤ k ∧ k < 2050 then x1 (ix3 b ⟨k - 2, by omega⟩ q) else 0

/-- The forward convolution at one place: bias, then the three taps in order. -/
def conv (b : Fin 2) (n : Fin 2048) (q : Fin 5632) : EReal :=
  x3 (ix1 q) + x2 (ix2 0 q) * padded x1 b n.val q + x2 (ix2 1 q) * padded x1 b (1 + n.val) q + x2 (ix2 2 q) * padded x1 b (2 + n.val) q

theorem padded_apply (b : Fin 2) (n : Fin 2050) (q : Fin 5632) : val_main_v4 (F := Ideal) x1 (ix3 b n q) = padded x1 b n.val q := by
  pointwise [val_main_v4, val_main_v3, val_main_cst, val_main_v1]
  unfold padded
  by_cases h : n.val < 2
  · rw [dif_pos h, dif_neg (by omega)]
  · rw [dif_neg h, dif_pos (by omega)]

theorem conv_apply (b : Fin 2) (n : Fin 2048) (q : Fin 5632) : val_main_v28 (F := Ideal) x1 x2 x3 (ix3 b n q) = conv x1 x2 x3 b n q := by
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6]
  simp only [padded_apply]
  rfl

/-- The cotangent of the activation, `ct · w_downᵀ`, at one place. -/
def dact (b : Fin 2) (n : Fin 2048) (l : Fin 2816) : EReal := ∑ x : Fin 1024, x0 (ix3 b n x) * x4 (ix2 l x)

/-- The logistic function as the reference spells it. -/
def sig (g : EReal) : EReal := Ideal.div 1 (1 + Ideal.exp (-g))

theorem gate_apply (b : Fin 2) (n : Fin 2048) (l : Fin 2816) : val_main_v29 (F := Ideal) x1 x2 x3 (ix3 b n l) = conv x1 x2 x3 b n ⟨l.val, by omega⟩ := by
  pointwise [val_main_v29]
  exact conv_apply x1 x2 x3 b n _

theorem value_apply (b : Fin 2) (n : Fin 2048) (l : Fin 2816) : val_main_v30 (F := Ideal) x1 x2 x3 (ix3 b n l) = conv x1 x2 x3 b n ⟨2816 + l.val, by omega⟩ := by
  pointwise [val_main_v30]
  exact conv_apply x1 x2 x3 b n _

theorem dact_apply (b : Fin 2) (n : Fin 2048) (l : Fin 2816) : val_main_v34 (F := Ideal) x0 x4 (ix3 b n l) = dact x0 x4 b n l := by
  pointwise [val_main_v34, val_main_v0, val_main_v2]
  rfl

/-- The cotangent of the convolution at a column of the gate half. -/
theorem dgate_apply (b : Fin 2) (n : Fin 2048) (l : Fin 2816) (g v d : EReal) (hg : conv x1 x2 x3 b n ⟨l.val, by omega⟩ = g)
    (hv : conv x1 x2 x3 b n ⟨2816 + l.val, by omega⟩ = v) (hd : dact x0 x4 b n l = d) :
    val_main_v38 (F := Ideal) x0 x1 x2 x3 x4 (ix3 b n ⟨l.val, by omega⟩) = d * v * sig g + g * (d * v) * (sig g * (1 - sig g)) := by
  pointwise [val_main_v38, val_main_v37, val_main_call1_v0, val_main_call1_v1, val_main_call1_v2, val_main_v36, val_main_v31_1, val_main_v31_2,
    val_main_call0_v0, val_main_call0_v1, val_main_call0_v2, val_main_call0_v3, val_main_call0_v4, val_main_call0_v6, val_main_call0_v7,
    val_main_call0_cst, val_main_call0_cst_0, val_main_call0_cst_1]
  simp only [gate_apply, value_apply, dact_apply, hg, hv, hd]
  rfl

/-- The cotangent of the convolution at a column of the value half. -/
theorem dvalue_apply (b : Fin 2) (n : Fin 2048) (l : Fin 2816) (g d : EReal) (hg : conv x1 x2 x3 b n ⟨l.val, by omega⟩ = g)
    (hd : dact x0 x4 b n l = d) :
    val_main_v38 (F := Ideal) x0 x1 x2 x3 x4 (ix3 b n ⟨2816 + l.val, by omega⟩) = g * sig g * d := by
  pointwise [val_main_v38]
  pointwise [val_main_v35, val_main_v31_0, val_main_v31_2,
    val_main_call0_v0, val_main_call0_v1, val_main_call0_v2, val_main_call0_v3, val_main_call0_v4, val_main_call0_v6, val_main_call0_v7,
    val_main_call0_cst, val_main_call0_cst_0, val_main_call0_cst_1]
  simp only [gate_apply, dact_apply, hg, hd]
  rfl

/-- The cotangent of the convolution, rows past the sequence's end being zero. -/
def dconv (b : Fin 2) (k : ℕ) (q : Fin 5632) : EReal :=
  if h : k < 2048 then val_main_v38 (F := Ideal) x0 x1 x2 x3 x4 (ix3 b ⟨k, h⟩ q) else 0

theorem dz_apply (b : Fin 2) (n : Fin 2048) (q : Fin 5632) : val_main_v75 (F := Ideal) x0 x1 x2 x3 x4 (ix3 b n q)
    = x2 (ix2 2 q) * dconv x0 x1 x2 x3 x4 b n.val q + x2 (ix2 1 q) * dconv x0 x1 x2 x3 x4 b (n.val + 1) q
      + x2 (ix2 0 q) * dconv x0 x1 x2 x3 x4 b (n.val + 2) q := by
  pointwise [val_main_v75, val_main_v74, val_main_v69, val_main_v55, val_main_v68, val_main_v54, val_main_v45, val_main_v40, val_main_v49, val_main_v63,
    val_main_cst_7, val_main_cst_13, val_main_v39, val_main_v48, val_main_v62, val_main_v25, val_main_v18, val_main_v9, val_main_v23, val_main_v22,
    val_main_v16, val_main_v15, val_main_v7, val_main_v6]
  unfold dconv
  rw [dif_pos n.isLt]
  congr 1
  · congr 1
    by_cases h : n.val + 1 < 2048
    · rw [dif_pos h, dif_pos (by omega)]
      congr 3
      exact Fin.ext (by dsimp only; omega)
    · rw [dif_neg h, dif_neg (by omega), mul_zero]
  · by_cases h : n.val + 2 < 2048
    · rw [dif_pos h, dif_pos (by omega)]
      congr 3
      exact Fin.ext (by dsimp only; omega)
    · rw [dif_neg h, dif_neg (by omega), mul_zero]

/-- The first result at row `r` is at row `r % 2048` of sequence `r / 2048`. -/
theorem dz_gate (r : Fin 4096) (l : Fin 2816) : val_main_v77 (F := Ideal) x0 x1 x2 x3 x4 (ix2 r l)
    = val_main_v75 (F := Ideal) x0 x1 x2 x3 x4 (ix3 ⟨r.val / 2048, by omega⟩ ⟨r.val % 2048, by omega⟩ ⟨l.val, by omega⟩) := by
  pointwise [val_main_v77, val_main_v76]

theorem dz_value (r : Fin 4096) (l : Fin 2816) : val_main_v78 (F := Ideal) x0 x1 x2 x3 x4 (ix2 r l)
    = val_main_v75 (F := Ideal) x0 x1 x2 x3 x4 (ix3 ⟨r.val / 2048, by omega⟩ ⟨r.val % 2048, by omega⟩ ⟨2816 + l.val, by omega⟩) := by
  pointwise [val_main_v78, val_main_v76]

/-- Summing an array over both sequences and all rows in two steps, as the reference does, is the double sum. -/
theorem sum_twice (A : FVec Ideal S2x2048x5632 .f32) (z z' : FVec Ideal S_ .f32) (hz : ∀ i, z i = (0 : EReal)) (hz' : ∀ i, z' i = (0 : EReal)) (q : Fin 5632) :
    Host.reduceAdd (F := Ideal) (shapeCast S1x1x5632 (Host.reduceAdd (F := Ideal) A z Gen.reducesTo_S2x2048x5632_S5632_d0_1 Gen.h_S_) Gen.shapeCasts_S5632_S1x1x5632)
      z' Gen.reducesTo_S1x1x5632_S5632_d0_1 Gen.h_S_ (ix1 q) = ∑ b : Fin 2, ∑ n : Fin 2048, (A (ix3 b n q) : EReal) := by
  rw [ValueIdx.hostReduceAdd_apply, hz', sum_lead, zero_add, Fin.sum_univ_one, Fin.sum_univ_one]
  pointwise
  rw [hz, sum_lead, zero_add]

theorem sum_tap2 (q : Fin 5632) : val_main_v44 (F := Ideal) x0 x1 x2 x3 x4 (ix1 q)
    = ∑ b : Fin 2, ∑ n : Fin 2048, dconv x0 x1 x2 x3 x4 b n.val q * padded x1 b (2 + n.val) q := by
  refine (sum_twice _ _ _ (fun i => by pointwise [val_main_cst_1]) (fun i => by pointwise [val_main_cst_2]) q).trans ?_
  refine Finset.sum_congr rfl fun b _ => Finset.sum_congr rfl fun n _ => ?_
  pointwise [val_main_v41, val_main_v24]
  rw [padded_apply, dconv, dif_pos n.isLt]

theorem sum_tap1 (q : Fin 5632) : val_main_v53 (F := Ideal) x0 x1 x2 x3 x4 (ix1 q)
    = ∑ b : Fin 2, ∑ n : Fin 2048, dconv x0 x1 x2 x3 x4 b n.val q * padded x1 b (1 + n.val) q := by
  refine (sum_twice _ _ _ (fun i => by pointwise [val_main_cst_5]) (fun i => by pointwise [val_main_cst_6]) q).trans ?_
  refine Finset.sum_congr rfl fun b _ => Finset.sum_congr rfl fun n _ => ?_
  pointwise [val_main_v50, val_main_v17]
  rw [padded_apply, dconv, dif_pos n.isLt]

theorem sum_tap0 (q : Fin 5632) : val_main_v67 (F := Ideal) x0 x1 x2 x3 x4 (ix1 q)
    = ∑ b : Fin 2, ∑ n : Fin 2048, dconv x0 x1 x2 x3 x4 b n.val q * padded x1 b n.val q := by
  refine (sum_twice _ _ _ (fun i => by pointwise [val_main_cst_11]) (fun i => by pointwise [val_main_cst_12]) q).trans ?_
  refine Finset.sum_congr rfl fun b _ => Finset.sum_congr rfl fun n _ => ?_
  pointwise [val_main_v64, val_main_v8]
  rw [padded_apply, dconv, dif_pos n.isLt]

/-- The bias gradient at a column: the cotangent summed over both sequences and all rows. -/
theorem sum_bias (q : Fin 5632) : val_main_v61 (F := Ideal) x0 x1 x2 x3 x4 (ix1 q)
    = ∑ b : Fin 2, ∑ n : Fin 2048, dconv x0 x1 x2 x3 x4 b n.val q := by
  refine (sum_twice _ _ _ (fun i => by pointwise [val_main_cst_9]) (fun i => by pointwise [val_main_cst_10]) q).trans ?_
  refine Finset.sum_congr rfl fun b _ => Finset.sum_congr rfl fun n _ => ?_
  rw [dconv, dif_pos n.isLt]

/-- The tap gradient at tap `i` and column `q`: the cotangent times the padded sequence `i` rows on. -/
theorem dw_apply (i : Fin 3) (q : Fin 5632) : val_main_v72 (F := Ideal) x0 x1 x2 x3 x4 (ix2 i q)
    = ∑ b : Fin 2, ∑ n : Fin 2048, dconv x0 x1 x2 x3 x4 b n.val q * padded x1 b (i.val + n.val) q := by
  pointwise [val_main_v72, val_main_v58, val_main_v71, val_main_v57, val_main_v56, val_main_v70, val_main_v47, val_main_v46,
    val_main_cst_4, val_main_cst_8, val_main_cst_14]
  simp only [sum_tap0, sum_tap1, sum_tap2]
  have := q.isLt
  obtain ⟨i, hi⟩ := i
  interval_cases i
  · rw [dif_neg (by dsimp only; omega), dif_neg (by dsimp only; omega), dif_pos (by dsimp only; omega), zero_add, zero_add]
    simp only [Nat.zero_add]
  · rw [dif_neg (by dsimp only; omega), dif_pos (by dsimp only; omega), dif_neg (by dsimp only; omega), zero_add, add_zero]
  · rw [dif_pos (by dsimp only; omega), dif_neg (by dsimp only; omega), dif_neg (by dsimp only; omega), add_zero, add_zero]

theorem dw_gate (i : Fin 3) (l : Fin 2816) : val_main_v79 (F := Ideal) x0 x1 x2 x3 x4 (ix2 i l)
    = val_main_v72 (F := Ideal) x0 x1 x2 x3 x4 (ix2 i ⟨l.val, by omega⟩) := by
  pointwise [val_main_v79]

theorem dw_value (i : Fin 3) (l : Fin 2816) : val_main_v80 (F := Ideal) x0 x1 x2 x3 x4 (ix2 i l)
    = val_main_v72 (F := Ideal) x0 x1 x2 x3 x4 (ix2 i ⟨2816 + l.val, by omega⟩) := by
  pointwise [val_main_v80]

theorem db_gate (l : Fin 2816) : val_main_v82 (F := Ideal) x0 x1 x2 x3 x4 (ix2 0 l)
    = val_main_v61 (F := Ideal) x0 x1 x2 x3 x4 (ix1 ⟨l.val, by omega⟩) := by
  pointwise [val_main_v82, val_main_v81]

theorem db_value (l : Fin 2816) : val_main_v84 (F := Ideal) x0 x1 x2 x3 x4 (ix2 0 l)
    = val_main_v61 (F := Ideal) x0 x1 x2 x3 x4 (ix1 ⟨2816 + l.val, by omega⟩) := by
  pointwise [val_main_v84, val_main_v83]

/-! ## Reindexing the tap sums -/

/-- Summing `A t · B (t − j)` over the rows from `j` on is summing `A (n + j) · B n` over the rows up to `j` from the end. -/
theorem shift_sum (N j : ℕ) (hj : j ≤ N) (A B : ℕ → EReal) :
    ∑ t ∈ Finset.range N, A t * (if j ≤ t then B (t - j) else 0) = ∑ n ∈ Finset.range N, (if n + j < N then A (n + j) else 0) * B n := by
  obtain ⟨k, rfl⟩ := Nat.exists_eq_add_of_le hj
  have hl : ∑ t ∈ Finset.range (j + k), A t * (if j ≤ t then B (t - j) else 0) = ∑ n ∈ Finset.range k, A (n + j) * B n := by
    rw [Finset.sum_range_add, Finset.sum_eq_zero fun t ht => ?_, zero_add]
    · refine Finset.sum_congr rfl fun n hn => ?_
      rw [if_pos (by omega), Nat.add_sub_cancel_left, Nat.add_comm]
    · have := Finset.mem_range.mp ht
      rw [if_neg (by omega), mul_zero]
  have hr : ∑ n ∈ Finset.range (k + j), (if n + j < j + k then A (n + j) else 0) * B n = ∑ n ∈ Finset.range k, A (n + j) * B n := by
    rw [Finset.sum_range_add, add_comm, Finset.sum_eq_zero fun t ht => ?_, zero_add]
    · refine Finset.sum_congr rfl fun n hn => ?_
      have := Finset.mem_range.mp hn
      rw [if_pos (by omega)]
    · rw [if_neg (by omega), zero_mul]
  rw [hl, ← hr, Nat.add_comm k j]

/-- One sequence's tap sum, over the rows of the sequence itself. -/
theorem tap_sum (b : Fin 2) (i : Fin 3) (q : Fin 5632) :
    (∑ n : Fin 2048, dconv x0 x1 x2 x3 x4 b n.val q * padded x1 b (i.val + n.val) q)
      = ∑ n ∈ Finset.range 2048, dconv x0 x1 x2 x3 x4 b (n + (2 - i.val)) q * (if h : n < 2048 then x1 (ix3 b ⟨n, h⟩ q) else (0 : EReal)) := by
  rw [Fin.sum_univ_eq_sum_range (fun n => dconv x0 x1 x2 x3 x4 b n q * padded x1 b (i.val + n) q) 2048]
  refine (Finset.sum_congr rfl fun t ht => ?_).trans ((shift_sum 2048 (2 - i.val) (by omega) (fun n => dconv x0 x1 x2 x3 x4 b n q)
    (fun n => if h : n < 2048 then x1 (ix3 b ⟨n, h⟩ q) else (0 : EReal))).trans (Finset.sum_congr rfl fun n hn => ?_))
  · have := Finset.mem_range.mp ht
    have := i.isLt
    congr 1
    unfold padded
    by_cases h : 2 - i.val ≤ t
    · rw [if_pos h, dif_pos (by omega), dif_pos (by omega)]
      congr 2
      exact Fin.ext (by dsimp only; omega)
    · rw [if_neg h, dif_neg (by omega)]
  · congr 1
    split_ifs with h
    · rfl
    · rw [dconv, dif_neg h]

end Cert.Proof.Conv.Ref

end
-- ==== Proof.ConvShift.lean ====
module

public import proofs.«01_k».proof.Defs
public import proofs.«01_k».proof.Proof.Gen.ConvKernelIdeal.Value
public import Idealize.ShloMosaic.Lib.Pipeline.ValueKit
public import Idealize.ShloMosaic.Lib.StableHlo.ReadAt

@[expose] public section

set_option maxRecDepth 16384

noncomputable section

namespace Cert.Proof.Conv

open Idealize.ShloMosaic Idealize.ShloMosaic.TcCoe Idealize.SL.Sem
open Cert.ConvKernelIdeal Cert.ConvKernelIdeal.Gen
open Idealize.ShloMosaic.Pipeline (Dat)

/-- The rows of `D` read `j` rows further down, zero past the last. -/
def down (D : Vec Ideal S2048x256 .f32) (j : ℕ) (r : Fin 2048) (l : Fin 256) : EReal :=
  if h : r.val + j < 2048 then D (ix2 ⟨r.val + j, h⟩ l) else 0

/-- The chosen row of the lower eight: from the next chunk from row `b` on. -/
theorem select_row (b n : ℕ) (hb : b < 8) (hn : n < 8) (x y : EReal) :
    Scalar.select (IntOp.cmpi CmpIPredicate.sge (BitVec.ofNat 32 n) (BitVec.ofNat 32 b)) x y
      = if b ≤ n then x else y := by
  have key : ∀ b n : Fin 8, IntOp.cmpi CmpIPredicate.sge (BitVec.ofNat 32 n.val) (BitVec.ofNat 32 b.val)
      = if b.val ≤ n.val then 1#1 else 0#1 := by decide
  rw [key ⟨b, hb⟩ ⟨n, hn⟩]
  dsimp only
  split <;> rfl

/-- The last trip takes zeros for the next chunk. -/
theorem select_last (k : Fin k0_t1_loop.trips) (x y : EReal) :
    Scalar.select (Scalar.cmpi CmpIPredicate.eq (Scf.iv 0#32 1#32 k.val) 7#32) x y
      = if k.val = 7 then x else y := by
  have key : ∀ k : Fin k0_t1_loop.trips, Scalar.cmpi CmpIPredicate.eq (Scf.iv 0#32 1#32 k.val) 7#32
      = if k.val = 7 then 1#1 else 0#1 := by decide +kernel
  rw [key k]
  split <;> rfl

theorem trips_eq : k0_t1_loop.trips = 8 := by decide +kernel

theorem off1 (k : Fin k0_t1_loop.trips) : k0_off1 k 0 = 256 * k.val ∧ k0_off1 k 1 = 0 := by
  rw [k0_off1_eq k]; exact ⟨rfl, rfl⟩

theorem off2 (k : Fin k0_t1_loop.trips) : k0_off2 k 0 = min (256 * k.val + 256) 2040 ∧ k0_off2 k 1 = 0 := by
  rw [k0_off2_eq k]; exact ⟨rfl, rfl⟩

section
variable (D : Vec Ideal S2048x256 .f32) (k : Fin k0_t1_loop.trips)
  (h1 : ∀ a, k0_off1 k a + ![256, 256] a ≤ S2048x256.size a) (h2 : ∀ a, k0_off2 k a + ![8, 256] a ≤ S2048x256.size a)
  (r l : Fin 256) (hr : 256 * k.val + r.val < 2048)
include hr

/-- A chunk of 256 rows followed by the eight rows after it, read `j` rows further down, as the block's rows there. -/
theorem down_of_chunk (j : ℕ) (hj0 : 0 < j) (hj : j ≤ 8) (p1 p2 p3 q1 q2 q3) :
    (if h : r.val < 248 then D (ix2 ⟨k0_off1 k 0 + (r.val + 256 - (256 - j)) % 256, p1⟩ ⟨k0_off1 k 1 + l.val, q1⟩)
      else if 8 - j ≤ r.val - 248 then
        (if k.val = 7 then 0 else D (ix2 ⟨k0_off2 k 0 + (r.val - 248 + 8 - (8 - j)) % 8, p2⟩ ⟨k0_off2 k 1 + l.val, q2⟩))
      else D (ix2 ⟨k0_off1 k 0 + (248 + (r.val - 248) + 256 - (256 - j)) % 256, p3⟩ ⟨k0_off1 k 1 + l.val, q3⟩))
      = down D j ⟨256 * k.val + r.val, hr⟩ l := by
  have e1 := off1 k
  have e2 := off2 k
  have hk : k.val < 8 := trips_eq ▸ k.isLt
  have hl := l.isLt
  have hrr := r.isLt
  unfold down
  split_ifs with a b d e e <;> first
    | rfl
    | (refine congrArg D (congrArg₂ ix2 (Fin.ext ?_) (Fin.ext ?_)) <;> simp only [e1.1, e1.2, e2.1, e2.2] <;> omega)
    | (exfalso; simp only at *; omega)

/-- The chunk one row further down, for the gate. -/
theorem g_down1 :
    k0_pay17 (0#32) (1#32) k (View.ld D (Rect.unit (k0_off1 k) ![256, 256] h1)) (View.ld D (Rect.unit (k0_off2 k) ![8, 256] h2)) (ix2 r l)
      = down D 1 ⟨256 * k.val + r.val, hr⟩ l := by
  pointwise [k0_pay17, k0_pay16]
  refine Eq.trans ?_ (down_of_chunk D k r l hr 1 (by omega) (by omega) (by have := (off1 k).1; omega) (by have := (off2 k).1; omega)
    (by have := (off1 k).1; omega) (by have := (off1 k).2; omega) (by have := (off2 k).2; omega) (by have := (off1 k).2; omega))
  split
  · rfl
  · exact (select_row 7 _ (by omega) (by omega) _ _).trans (by rw [select_last])

/-- The chunk two rows further down, for the gate. -/
theorem g_down2 :
    k0_pay18 (0#32) (1#32) k (View.ld D (Rect.unit (k0_off1 k) ![256, 256] h1)) (View.ld D (Rect.unit (k0_off2 k) ![8, 256] h2)) (ix2 r l)
      = down D 2 ⟨256 * k.val + r.val, hr⟩ l := by
  pointwise [k0_pay18, k0_pay16]
  refine Eq.trans ?_ (down_of_chunk D k r l hr 2 (by omega) (by omega) (by have := (off1 k).1; omega) (by have := (off2 k).1; omega)
    (by have := (off1 k).1; omega) (by have := (off1 k).2; omega) (by have := (off2 k).2; omega) (by have := (off1 k).2; omega))
  split
  · rfl
  · exact (select_row 6 _ (by omega) (by omega) _ _).trans (by rw [select_last])

/-- The chunk one row further down, for the value. -/
theorem v_down1 :
    k0_pay26 (Scalar.cmpi CmpIPredicate.eq (Scf.iv 0#32 1#32 k.val) 7#32) (View.ld D (Rect.unit (k0_off1 k) ![256, 256] h1)) (View.ld D (Rect.unit (k0_off2 k) ![8, 256] h2)) (ix2 r l)
      = down D 1 ⟨256 * k.val + r.val, hr⟩ l := by
  pointwise [k0_pay26, k0_pay25]
  refine Eq.trans ?_ (down_of_chunk D k r l hr 1 (by omega) (by omega) (by have := (off1 k).1; omega) (by have := (off2 k).1; omega)
    (by have := (off1 k).1; omega) (by have := (off1 k).2; omega) (by have := (off2 k).2; omega) (by have := (off1 k).2; omega))
  split
  · rfl
  · exact (select_row 7 _ (by omega) (by omega) _ _).trans (by rw [select_last])

/-- The chunk two rows further down, for the value. -/
theorem v_down2 :
    k0_pay4 (k0_pay27 (View.ld D (Rect.unit (k0_off1 k) ![256, 256] h1))) (k0_pay28 (Scalar.cmpi CmpIPredicate.eq (Scf.iv 0#32 1#32 k.val) 7#32) (View.ld D (Rect.unit (k0_off1 k) ![256, 256] h1)) (View.ld D (Rect.unit (k0_off2 k) ![8, 256] h2))) (ix2 r l)
      = down D 2 ⟨256 * k.val + r.val, hr⟩ l := by
  pointwise [k0_pay4, k0_pay27, k0_pay28, k0_pay25]
  refine Eq.trans ?_ (down_of_chunk D k r l hr 2 (by omega) (by omega) (by have := (off1 k).1; omega) (by have := (off2 k).1; omega)
    (by have := (off1 k).1; omega) (by have := (off1 k).2; omega) (by have := (off2 k).2; omega) (by have := (off1 k).2; omega))
  split
  · rfl
  · exact (select_row 6 _ (by omega) (by omega) _ _).trans (by rw [select_last])

/-- The chunk itself. -/
theorem here :
    View.ld D (Rect.unit (k0_off1 k) ![256, 256] h1) (ix2 r l) = down D 0 ⟨256 * k.val + r.val, hr⟩ l := by
  have e1 := off1 k
  unfold down
  rw [dif_pos (by simpa using hr)]
  pointwise []
  exact congrArg D (congrArg₂ ix2 (Fin.ext (by simp only [e1.1])) (Fin.ext (by simp only [e1.2]; omega)))

/-- The chunk of an operand in bf16. -/
theorem here_bf16 (Z : Vec Ideal S2048x256 .bf16) :
    View.ld Z (Rect.unit (k0_off1 k) ![256, 256] h1) (ix2 r l) = Z (ix2 ⟨256 * k.val + r.val, hr⟩ l) :=
  here (Z : Vec Ideal S2048x256 .f32) k h1 r l hr |>.trans (by unfold down; rw [dif_pos (by simpa using hr)]; rfl)
end

/-- A column sum of products added to what is carried (`k0_pay22`). -/
theorem colsum22 (a : FVec Ideal S1x256 .f32) (x : FVec Ideal S256x256 .f32) (z : Vec Ideal S256x256 .bf16) (l : Fin 256) :
    k0_pay22 a x z (ix2 0 l) = a (ix2 0 l) + ∑ r : Fin 256, (x (ix2 r l) : EReal) * (z (ix2 r l) : EReal) := by
  pointwise [k0_pay22, k0_pay21]

/-- A column sum of products added to what is carried (`k0_pay23`). -/
theorem colsum23 (a : FVec Ideal S1x256 .f32) (x : FVec Ideal S256x256 .f32) (z : Vec Ideal S256x256 .bf16) (l : Fin 256) :
    k0_pay23 a x z (ix2 0 l) = a (ix2 0 l) + ∑ r : Fin 256, (x (ix2 r l) : EReal) * (z (ix2 r l) : EReal) := by
  pointwise [k0_pay23, k0_pay21]

/-- A column sum of products added to what is carried (`k0_pay24`). -/
theorem colsum24 (a : FVec Ideal S1x256 .f32) (x : FVec Ideal S256x256 .f32) (z : Vec Ideal S256x256 .bf16) (l : Fin 256) :
    k0_pay24 a x z (ix2 0 l) = a (ix2 0 l) + ∑ r : Fin 256, (x (ix2 r l) : EReal) * (z (ix2 r l) : EReal) := by
  pointwise [k0_pay24, k0_pay21]

/-- A column sum of products added to what is carried (`k0_pay8`). -/
theorem colsum8 (a : FVec Ideal S1x256 .f32) (x : FVec Ideal S256x256 .f32) (z : Vec Ideal S256x256 .bf16) (l : Fin 256) :
    k0_pay8 a x z (ix2 0 l) = a (ix2 0 l) + ∑ r : Fin 256, (x (ix2 r l) : EReal) * (z (ix2 r l) : EReal) := by
  pointwise [k0_pay8, k0_pay6]

/-- A column sum of products added to what is carried (`k0_pay9`). -/
theorem colsum9 (a : FVec Ideal S1x256 .f32) (x : FVec Ideal S256x256 .f32) (z : Vec Ideal S256x256 .bf16) (l : Fin 256) :
    k0_pay9 a x z (ix2 0 l) = a (ix2 0 l) + ∑ r : Fin 256, (x (ix2 r l) : EReal) * (z (ix2 r l) : EReal) := by
  pointwise [k0_pay9, k0_pay6]

/-- A column sum of products added to what is carried (`k0_pay7`). -/
theorem colsum7 (a : FVec Ideal S1x256 .f32) (x : FVec Ideal S256x256 .f32) (x' : FVec Ideal S8x256 .f32) (z : Vec Ideal S256x256 .bf16) (l : Fin 256) :
    k0_pay7 a x x' z (ix2 0 l) = a (ix2 0 l) + ∑ r : Fin 256, (k0_pay4 (F := Ideal) x x' (ix2 r l) : EReal) * (z (ix2 r l) : EReal) := by
  pointwise [k0_pay7, k0_pay6]

/-- The stored block of the gate: the three taps. -/
theorem taps_g (D : Vec Ideal S256x256 .f32) (N : Vec Ideal S8x256 .f32) (k : Fin k0_t1_loop.trips) (w2 w1 w0 : Vec Ideal S1x256 .f32) (r l : Fin 256) :
    k0_pay20 (k0_pay18 (0#32) (1#32) k D N) (k0_pay19 (0#32) (1#32) k D N w2 w1) w0 (ix2 r l)
      = w2 (ix2 0 l) * D (ix2 r l) + w1 (ix2 0 l) * k0_pay17 (0#32) (1#32) k D N (ix2 r l)
        + w0 (ix2 0 l) * k0_pay18 (0#32) (1#32) k D N (ix2 r l) := by
  pointwise [k0_pay20, k0_pay19]

/-- The stored block of the value: the three taps. -/
theorem taps_v (D X1 X2 : Vec Ideal S256x256 .f32) (N : Vec Ideal S8x256 .f32) (w2 w1 w0 : Vec Ideal S1x256 .f32) (r l : Fin 256) :
    k0_pay5 D X1 X2 N w2 w1 w0 (ix2 r l)
      = w2 (ix2 0 l) * D (ix2 r l) + w1 (ix2 0 l) * X1 (ix2 r l) + w0 (ix2 0 l) * ((k0_pay4 X2 N : FVec Ideal S256x256 .f32) (ix2 r l) : EReal) := by
  pointwise [k0_pay5]

end Cert.Proof.Conv
-- ==== Proof.ConvTrip.lean ====
module

public import proofs.«01_k».proof.Defs
public import proofs.«01_k».proof.Proof.Gen.ConvKernelIdeal.Value
public import proofs.«01_k».proof.Proof.ConvShift
public import Idealize.ShloMosaic.Lib.Pipeline.ValueKit
public import Idealize.ShloMosaic.Lib.StableHlo.ReadAt
public import Idealize.ShloMosaic.Lib.Pipeline.ReadBack

@[expose] public section

set_option maxRecDepth 16384

noncomputable section

namespace Cert.Proof.Conv

open Idealize.ShloMosaic Idealize.ShloMosaic.TcCoe Idealize.SL.Sem
open Cert.ConvKernelIdeal Cert.ConvKernelIdeal.Gen
open Idealize.ShloMosaic.Pipeline (Dat)

variable (zg zv : Vec Ideal S2048x256 .bf16) (wg wv : Vec Ideal S3x256 .f32) (dg dv : Vec Ideal S2048x256 .f32)

/-- One trip of the loop over chunks, on the blocks of `z`, the taps and the two cotangents of the convolution. -/
abbrev tripAt (c : Dev nD) (t : Fin cfg0.N) (k : Fin k0_t1_loop.trips) :=
  trip_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _)
    ((hs0_0 t).unread zg) ((hs0_1 t).unread zv) ((hs0_6 t).unread wg) ((hs0_7 t).unread wv)
    ((Memref.isWhole_whole cc0_scratch0).unread dg) ((Memref.isWhole_whole cc0_scratch1).unread dv) k

/-- The state of that loop before trip `k`. -/
abbrev stAt (c : Dev nD) (t : Fin cfg0.N) (init) (k : ℕ) :=
  st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _)
    ((hs0_0 t).unread zg) ((hs0_1 t).unread zv) ((hs0_6 t).unread wg) ((hs0_7 t).unread wv)
    ((Memref.isWhole_whole cc0_scratch0).unread dg) ((Memref.isWhole_whole cc0_scratch1).unread dv) init k

/-- The product of a cotangent read `j` rows further down and `z` at row `n`. -/
def tap (D : Vec Ideal S2048x256 .f32) (Z : Vec Ideal S2048x256 .bf16) (j : ℕ) (l : Fin 256) (n : ℕ) : EReal :=
  if h : n < 2048 then down D j ⟨n, h⟩ l * Z (ix2 ⟨n, h⟩ l) else 0

/-- The cotangent of `z`: the three taps of the cotangent of the convolution. -/
def spread (D : Vec Ideal S2048x256 .f32) (w : Vec Ideal S3x256 .f32) (y : S2048x256.Idx) : EReal :=
  w (ix2 2 (y 1)) * down D 0 (y 0) (y 1) + w (ix2 1 (y 1)) * down D 1 (y 0) (y 1) + w (ix2 0 (y 1)) * down D 2 (y 0) (y 1)

/-- Two lists of blocks of `G` together are blocks of `G`. -/
theorem pieces_append {S : Shape} {e : EltTy} {Val : EltTy → Type} {G : S.Idx → Val e} :
    ∀ {L L' : List (View.Piece Val S e)}, View.PiecesOf G L → View.PiecesOf G L' → View.PiecesOf G (L ++ L')
  | [], _, _, h' => h'
  | _ :: _, _, h, h' => ⟨h.1, pieces_append h.2 h'⟩

theorem row_lt (k : Fin k0_t1_loop.trips) (r : Fin 256) : 256 * k.val + r.val < 2048 := by
  have : k.val < 8 := lt_of_lt_of_eq k.isLt trips_eq
  omega

theorem sum_chunk (D : Vec Ideal S2048x256 .f32) (Z : Vec Ideal S2048x256 .bf16) (j : ℕ) (l : Fin 256) (k : Fin k0_t1_loop.trips) (a b : EReal)
    (X : Fin 256 → EReal) (h1) (hX : ∀ r : Fin 256, X r = down D j ⟨256 * k.val + r.val, row_lt k r⟩ l)
    (hb : b = a + ∑ n ∈ Finset.range (256 * k.val), tap D Z j l n) :
    b + ∑ r : Fin 256, X r * (View.ld Z (Rect.unit (k0_off1 k) ![256, 256] h1) (ix2 r l) : EReal)
      = a + ∑ n ∈ Finset.range (256 * (k.val + 1)), tap D Z j l n := by
  rw [hb, mul_add, mul_one, Finset.sum_range_add, add_assoc, Finset.sum_range (n := 256)]
  congr 2
  refine Finset.sum_congr rfl fun r _ => ?_
  unfold tap
  rw [dif_pos (row_lt k r), hX r, here_bf16 k h1 r l (row_lt k r) Z]

/-- The six sums the loop carries: three taps of the gate's half, three of the value's. -/
abbrev Six := FVec Ideal S1x256 .f32 × FVec Ideal S1x256 .f32 × FVec Ideal S1x256 .f32 × FVec Ideal S1x256 .f32 × FVec Ideal S1x256 .f32 × FVec Ideal S1x256 .f32

/-- What a trip adds to the six carried sums. -/
theorem trip_sums (c : Dev nD) (t : Fin cfg0.N) (k : Fin k0_t1_loop.trips) (acc init : Six) (l : Fin 256)
    (h : acc.1 (ix2 0 l) = init.1 (ix2 0 l) + ∑ n ∈ Finset.range (256 * k.val), tap dg zg 2 l n
      ∧ acc.2.1 (ix2 0 l) = init.2.1 (ix2 0 l) + ∑ n ∈ Finset.range (256 * k.val), tap dg zg 1 l n
      ∧ acc.2.2.1 (ix2 0 l) = init.2.2.1 (ix2 0 l) + ∑ n ∈ Finset.range (256 * k.val), tap dg zg 0 l n
      ∧ acc.2.2.2.1 (ix2 0 l) = init.2.2.2.1 (ix2 0 l) + ∑ n ∈ Finset.range (256 * k.val), tap dv zv 2 l n
      ∧ acc.2.2.2.2.1 (ix2 0 l) = init.2.2.2.2.1 (ix2 0 l) + ∑ n ∈ Finset.range (256 * k.val), tap dv zv 1 l n
      ∧ acc.2.2.2.2.2 (ix2 0 l) = init.2.2.2.2.2 (ix2 0 l) + ∑ n ∈ Finset.range (256 * k.val), tap dv zv 0 l n) :
    let new := (tripAt zg zv wg wv dg dv c t k).1 acc
    new.1 (ix2 0 l) = init.1 (ix2 0 l) + ∑ n ∈ Finset.range (256 * (k.val + 1)), tap dg zg 2 l n
      ∧ new.2.1 (ix2 0 l) = init.2.1 (ix2 0 l) + ∑ n ∈ Finset.range (256 * (k.val + 1)), tap dg zg 1 l n
      ∧ new.2.2.1 (ix2 0 l) = init.2.2.1 (ix2 0 l) + ∑ n ∈ Finset.range (256 * (k.val + 1)), tap dg zg 0 l n
      ∧ new.2.2.2.1 (ix2 0 l) = init.2.2.2.1 (ix2 0 l) + ∑ n ∈ Finset.range (256 * (k.val + 1)), tap dv zv 2 l n
      ∧ new.2.2.2.2.1 (ix2 0 l) = init.2.2.2.2.1 (ix2 0 l) + ∑ n ∈ Finset.range (256 * (k.val + 1)), tap dv zv 1 l n
      ∧ new.2.2.2.2.2 (ix2 0 l) = init.2.2.2.2.2 (ix2 0 l) + ∑ n ∈ Finset.range (256 * (k.val + 1)), tap dv zv 0 l n := by
  obtain ⟨a0, a1, a2, a3, a4, a5⟩ := h
  unfold tripAt trip_k0_t1
  dsimp only
  frame_out
  simp only [read_unread_whole]
  refine ⟨?_, ?_, ?_, ?_, ?_, ?_⟩
  · exact (colsum22 _ _ _ _).trans (sum_chunk dg zg 2 l k _ _ _ _ (fun r => g_down2 dg k _ _ r l (row_lt k r)) a0)
  · exact (colsum23 _ _ _ _).trans (sum_chunk dg zg 1 l k _ _ _ _ (fun r => g_down1 dg k _ _ r l (row_lt k r)) a1)
  · exact (colsum24 _ _ _ _).trans (sum_chunk dg zg 0 l k _ _ _ _ (fun r => here dg k _ r l (row_lt k r)) a2)
  · exact (colsum7 _ _ _ _ _).trans (sum_chunk dv zv 2 l k _ _ _ _ (fun r => v_down2 dv k _ _ r l (row_lt k r)) a3)
  · exact (colsum8 _ _ _ _).trans (sum_chunk dv zv 1 l k _ _ _ _ (fun r => v_down1 dv k _ _ r l (row_lt k r)) a4)
  · exact (colsum9 _ _ _ _).trans (sum_chunk dv zv 0 l k _ _ _ _ (fun r => here dv k _ r l (row_lt k r)) a5)

/-- The index of the block at which index `(r, l)` of chunk `k` sits. -/
theorem chunk_emb (k : Fin k0_t1_loop.trips) (h) (r l : Fin 256) :
    (Rect.unit (s := S2048x256) (k0_off1 k) ![256, 256] h).emb (ix2 r l) = ix2 ⟨256 * k.val + r.val, row_lt k r⟩ l := by
  have e := off1 k
  funext a
  refine Fin.ext ?_
  refine Fin.cases ?_ (fun b => ?_) a
  · show k0_off1 k 0 + 1 * r.val = 256 * k.val + r.val
    omega
  · obtain rfl : b = 0 := Subsingleton.elim _ _
    show k0_off1 k 1 + 1 * l.val = l.val
    omega

/-- The chunk's rectangle covers the rows of the chunk. -/
theorem chunk_mem (k : Fin k0_t1_loop.trips) (h) (y : S2048x256.Idx) (h0 : 256 * k.val ≤ (y 0).val) (h1 : (y 0).val < 256 * (k.val + 1)) :
    y ∈ (Rect.unit (s := S2048x256) (k0_off1 k) ![256, 256] h).set := by
  idx_vars y
  change 256 * k.val ≤ y0.val at h0
  change y0.val < 256 * (k.val + 1) at h1
  have e := (chunk_emb k h ⟨y0.val - 256 * k.val, by omega⟩ y1).trans
    (congrArg (ix2 · y1) (Fin.ext (b := y0) (by dsimp only; omega)))
  rw [← e, ← Rect.map_emb_univ]
  exact Finset.mem_map_of_mem _ (Finset.mem_univ _)

/-- Row `a` of the taps at a column. -/
theorem tap_row (w : Vec Ideal S3x256 .f32) (a : Fin 3) (h) (l : Fin 256) :
    View.ld w (Rect.unit ![a.val, 0] ![1, 256] h) (ix2 0 l) = w (ix2 a l) := by
  pointwise []

/-- What a trip stores in the gate's block: the chunk of `spread`. -/
theorem trip_g (c : Dev nD) (t : Fin cfg0.N) (k : Fin k0_t1_loop.trips) (acc) :
    View.PiecesOf (spread dg wg) ((tripAt zg zv wg wv dg dv c t k).2.1 acc)
      ∧ ∀ y : S2048x256.Idx, 256 * k.val ≤ (y 0).val → (y 0).val < 256 * (k.val + 1) →
        ∃ p ∈ (tripAt zg zv wg wv dg dv c t k).2.1 acc, y ∈ p.1.set := by
  unfold tripAt trip_k0_t1
  dsimp only
  frame_out
  simp only [read_unread_whole]
  refine ⟨⟨fun x => ?_, trivial⟩, fun y h0 h1 => ⟨_, List.mem_singleton_self _, ?_⟩⟩
  rotate_left
  · exact chunk_mem k (k0_off1_inb k) y h0 h1
  idx_vars x
  refine (taps_g _ _ _ _ _ _ _ _).trans ?_
  refine Eq.trans ?_ (congrArg (spread dg wg) (chunk_emb k _ x0 x1)).symm
  exact congrArg₂ (· + ·) (congrArg₂ (· + ·)
    (congrArg₂ (· * ·) (tap_row wg 2 _ x1) (here dg k _ x0 x1 (row_lt k x0)))
    (congrArg₂ (· * ·) (tap_row wg 1 _ x1) (g_down1 dg k _ _ x0 x1 (row_lt k x0))))
    (congrArg₂ (· * ·) (tap_row wg 0 _ x1) (g_down2 dg k _ _ x0 x1 (row_lt k x0)))

/-- What a trip stores in the value's block: the chunk of `spread`. -/
theorem trip_v (c : Dev nD) (t : Fin cfg0.N) (k : Fin k0_t1_loop.trips) (acc) :
    View.PiecesOf (spread dv wv) ((tripAt zg zv wg wv dg dv c t k).2.2.1 acc)
      ∧ ∀ y : S2048x256.Idx, 256 * k.val ≤ (y 0).val → (y 0).val < 256 * (k.val + 1) →
        ∃ p ∈ (tripAt zg zv wg wv dg dv c t k).2.2.1 acc, y ∈ p.1.set := by
  unfold tripAt trip_k0_t1
  dsimp only
  frame_out
  simp only [read_unread_whole]
  refine ⟨⟨fun x => ?_, trivial⟩, fun y h0 h1 => ⟨_, List.mem_singleton_self _, ?_⟩⟩
  rotate_left
  · exact chunk_mem k (k0_off1_inb k) y h0 h1
  idx_vars x
  refine (taps_v _ _ _ _ _ _ _ _ _).trans ?_
  refine Eq.trans ?_ (congrArg (spread dv wv) (chunk_emb k _ x0 x1)).symm
  exact congrArg₂ (· + ·) (congrArg₂ (· + ·)
    (congrArg₂ (· * ·) (tap_row wv 2 _ x1) (here dv k _ x0 x1 (row_lt k x0)))
    (congrArg₂ (· * ·) (tap_row wv 1 _ x1) (v_down1 dv k _ _ x0 x1 (row_lt k x0))))
    (congrArg₂ (· * ·) (tap_row wv 0 _ x1) (v_down2 dv k _ _ x0 x1 (row_lt k x0)))

/-- The loop after `n` trips: the pieces stored are blocks of `spread`, they cover the rows of those trips, and the sums are over those rows. -/
theorem loop (c : Dev nD) (t : Fin cfg0.N) (init : Six) : ∀ n : ℕ, n ≤ k0_t1_loop.trips →
    (View.PiecesOf (spread dg wg) (stAt zg zv wg wv dg dv c t init n).2.1
      ∧ ∀ y : S2048x256.Idx, (y 0).val < 256 * n → ∃ p ∈ (stAt zg zv wg wv dg dv c t init n).2.1, y ∈ p.1.set)
    ∧ (View.PiecesOf (spread dv wv) (stAt zg zv wg wv dg dv c t init n).2.2
      ∧ ∀ y : S2048x256.Idx, (y 0).val < 256 * n → ∃ p ∈ (stAt zg zv wg wv dg dv c t init n).2.2, y ∈ p.1.set)
    ∧ ∀ l : Fin 256,
      let new := (stAt zg zv wg wv dg dv c t init n).1
      new.1 (ix2 0 l) = init.1 (ix2 0 l) + ∑ n ∈ Finset.range (256 * n), tap dg zg 2 l n
      ∧ new.2.1 (ix2 0 l) = init.2.1 (ix2 0 l) + ∑ n ∈ Finset.range (256 * n), tap dg zg 1 l n
      ∧ new.2.2.1 (ix2 0 l) = init.2.2.1 (ix2 0 l) + ∑ n ∈ Finset.range (256 * n), tap dg zg 0 l n
      ∧ new.2.2.2.1 (ix2 0 l) = init.2.2.2.1 (ix2 0 l) + ∑ n ∈ Finset.range (256 * n), tap dv zv 2 l n
      ∧ new.2.2.2.2.1 (ix2 0 l) = init.2.2.2.2.1 (ix2 0 l) + ∑ n ∈ Finset.range (256 * n), tap dv zv 1 l n
      ∧ new.2.2.2.2.2 (ix2 0 l) = init.2.2.2.2.2 (ix2 0 l) + ∑ n ∈ Finset.range (256 * n), tap dv zv 0 l n
  | 0, _ => by
    have e : stAt zg zv wg wv dg dv c t init 0 = (init, [], []) := rfl
    rw [e]
    refine ⟨⟨trivial, fun y h => absurd h (by omega)⟩, ⟨trivial, fun y h => absurd h (by omega)⟩, fun l => ?_⟩
    simp only [mul_zero, Finset.range_zero, Finset.sum_empty, add_zero, and_self]
  | n + 1, hn => by
    obtain ⟨⟨pg, cg⟩, ⟨pv, cv⟩, su⟩ := loop c t init n (by omega)
    have e := st_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _)
      ((hs0_0 t).unread zg) ((hs0_1 t).unread zv) ((hs0_6 t).unread wg) ((hs0_7 t).unread wv)
      ((Memref.isWhole_whole cc0_scratch0).unread dg) ((Memref.isWhole_whole cc0_scratch1).unread dv) init ⟨n, hn⟩
    have tg := trip_g zg zv wg wv dg dv c t ⟨n, hn⟩ (stAt zg zv wg wv dg dv c t init n).1
    have tv := trip_v zg zv wg wv dg dv c t ⟨n, hn⟩ (stAt zg zv wg wv dg dv c t init n).1
    have e' : stAt zg zv wg wv dg dv c t init (n + 1)
        = ((tripAt zg zv wg wv dg dv c t ⟨n, hn⟩).1 (stAt zg zv wg wv dg dv c t init n).1,
          (tripAt zg zv wg wv dg dv c t ⟨n, hn⟩).2.1 (stAt zg zv wg wv dg dv c t init n).1 ++ (stAt zg zv wg wv dg dv c t init n).2.1,
          (tripAt zg zv wg wv dg dv c t ⟨n, hn⟩).2.2.1 (stAt zg zv wg wv dg dv c t init n).1 ++ (stAt zg zv wg wv dg dv c t init n).2.2) := e
    rw [e']
    refine ⟨⟨pieces_append tg.1 pg, fun y h => ?_⟩, ⟨pieces_append tv.1 pv, fun y h => ?_⟩, fun l => ?_⟩
    · by_cases hy : (y 0).val < 256 * n
      · obtain ⟨p, hp, m⟩ := cg y hy
        exact ⟨p, List.mem_append_right _ hp, m⟩
      · obtain ⟨p, hp, m⟩ := tg.2 y (by simpa using hy) h
        exact ⟨p, List.mem_append_left _ hp, m⟩
    · by_cases hy : (y 0).val < 256 * n
      · obtain ⟨p, hp, m⟩ := cv y hy
        exact ⟨p, List.mem_append_right _ hp, m⟩
      · obtain ⟨p, hp, m⟩ := tv.2 y (by simpa using hy) h
        exact ⟨p, List.mem_append_left _ hp, m⟩
    · exact trip_sums zg zv wg wv dg dv c t ⟨n, hn⟩ _ init l (su l)

end Cert.Proof.Conv
-- ==== Proof.ConvBlocks.lean ====
module

public import proofs.«01_k».proof.Defs
public import proofs.«01_k».proof.Proof.Gen.ConvKernelIdeal.Value
public import proofs.«01_k».proof.Proof.ConvTrip
public import Idealize.ShloMosaic.Lib.Pipeline.ValueKit
public import Idealize.ShloMosaic.Lib.StableHlo.ReadAt
public import Idealize.ShloMosaic.Lib.Pipeline.ReadBack

@[expose] public section

set_option maxRecDepth 16384

noncomputable section

namespace Cert.Proof.Conv

open Idealize.ShloMosaic Idealize.ShloMosaic.TcCoe Idealize.SL.Sem
open Cert.ConvKernelIdeal Cert.ConvKernelIdeal.Gen
open Idealize.ShloMosaic.Pipeline (Dat)

/-- The logistic function as the kernel writes it. -/
def sg (a : EReal) : EReal := Ideal.div 1 (1 + Ideal.exp (0 - a))

/-- The cotangent of the gate from the cotangent `d` of the activation. -/
def gG (d g v : EReal) : EReal := d * v * (sg g * (1 + g * (1 - sg g)))

/-- The cotangent of the value from the cotangent `d` of the activation. -/
def gV (d g : EReal) : EReal := d * (g * sg g)

/-- A row of `X` times a row of `W`. -/
def dot {n a : ℕ} (X : Vec Ideal ⟨2, ![n, 1024]⟩ .bf16) (W : Vec Ideal ⟨2, ![a, 1024]⟩ .bf16) (r : Fin n) (l : Fin a) : EReal :=
  ∑ k : Fin 1024, (X (ix2 r k) : EReal) * (W (ix2 l k) : EReal)

/-- The gate's cotangent on a whole block. -/
def gateOf (G V : Vec Ideal S2048x256 .bf16) (X : Vec Ideal S2048x1024 .bf16) (W : Vec Ideal S256x1024 .bf16) : Vec Ideal S2048x256 .f32 :=
  fun y => gG (dot (n := 2048) (a := 256) X W (y 0) (y 1)) (G y) (V y)

/-- The value's cotangent on a whole block. -/
def valueOf (G : Vec Ideal S2048x256 .bf16) (X : Vec Ideal S2048x1024 .bf16) (W : Vec Ideal S256x1024 .bf16) : Vec Ideal S2048x256 .f32 :=
  fun y => gV (dot (n := 2048) (a := 256) X W (y 0) (y 1)) (G y)

section
variable (g v : Vec Ideal S256x256 .bf16) (x : Vec Ideal S256x1024 .bf16) (w : Vec Ideal S256x1024 .bf16) (r l : Fin 256)

theorem gate35 : k0_pay35 g v x w (ix2 r l) = gG (dot (n := 256) (a := 256) x w r l) (g (ix2 r l)) (v (ix2 r l)) := by
  pointwise [k0_pay35, k0_pay30, k0_pay31, k0_pay32, k0_pay33, gG, sg, dot]

theorem gate45 : k0_pay45 g v x w (ix2 r l) = gG (dot (n := 256) (a := 256) x w r l) (g (ix2 r l)) (v (ix2 r l)) := by
  pointwise [k0_pay45, k0_pay40, k0_pay41, k0_pay42, k0_pay43, gG, sg, dot]

theorem gate55 : k0_pay55 g v x w (ix2 r l) = gG (dot (n := 256) (a := 256) x w r l) (g (ix2 r l)) (v (ix2 r l)) := by
  pointwise [k0_pay55, k0_pay50, k0_pay51, k0_pay52, k0_pay53, gG, sg, dot]

theorem gate64 : k0_pay64 g v x w (ix2 r l) = gG (dot (n := 256) (a := 256) x w r l) (g (ix2 r l)) (v (ix2 r l)) := by
  pointwise [k0_pay64, k0_pay59, k0_pay60, k0_pay61, k0_pay62, gG, sg, dot]

theorem gate73 : k0_pay73 g v x w (ix2 r l) = gG (dot (n := 256) (a := 256) x w r l) (g (ix2 r l)) (v (ix2 r l)) := by
  pointwise [k0_pay73, k0_pay68, k0_pay69, k0_pay70, k0_pay71, gG, sg, dot]

theorem gate82 : k0_pay82 g v x w (ix2 r l) = gG (dot (n := 256) (a := 256) x w r l) (g (ix2 r l)) (v (ix2 r l)) := by
  pointwise [k0_pay82, k0_pay77, k0_pay78, k0_pay79, k0_pay80, gG, sg, dot]

theorem gate91 : k0_pay91 g v x w (ix2 r l) = gG (dot (n := 256) (a := 256) x w r l) (g (ix2 r l)) (v (ix2 r l)) := by
  pointwise [k0_pay91, k0_pay86, k0_pay87, k0_pay88, k0_pay89, gG, sg, dot]

theorem gate100 : k0_pay100 g v x w (ix2 r l) = gG (dot (n := 256) (a := 256) x w r l) (g (ix2 r l)) (v (ix2 r l)) := by
  pointwise [k0_pay100, k0_pay95, k0_pay96, k0_pay97, k0_pay98, gG, sg, dot]

theorem gate33 : k0_pay33 g v x w (ix2 r l) = gG (dot (n := 256) (a := 256) x w r l) (g (ix2 r l)) (v (ix2 r l)) := by
  pointwise [k0_pay33, k0_pay30, k0_pay31, k0_pay32, gG, sg, dot]

theorem gate43 : k0_pay43 g v x w (ix2 r l) = gG (dot (n := 256) (a := 256) x w r l) (g (ix2 r l)) (v (ix2 r l)) := by
  pointwise [k0_pay43, k0_pay40, k0_pay41, k0_pay42, gG, sg, dot]

theorem gate53 : k0_pay53 g v x w (ix2 r l) = gG (dot (n := 256) (a := 256) x w r l) (g (ix2 r l)) (v (ix2 r l)) := by
  pointwise [k0_pay53, k0_pay50, k0_pay51, k0_pay52, gG, sg, dot]

theorem gate62 : k0_pay62 g v x w (ix2 r l) = gG (dot (n := 256) (a := 256) x w r l) (g (ix2 r l)) (v (ix2 r l)) := by
  pointwise [k0_pay62, k0_pay59, k0_pay60, k0_pay61, gG, sg, dot]

theorem gate71 : k0_pay71 g v x w (ix2 r l) = gG (dot (n := 256) (a := 256) x w r l) (g (ix2 r l)) (v (ix2 r l)) := by
  pointwise [k0_pay71, k0_pay68, k0_pay69, k0_pay70, gG, sg, dot]

theorem gate80 : k0_pay80 g v x w (ix2 r l) = gG (dot (n := 256) (a := 256) x w r l) (g (ix2 r l)) (v (ix2 r l)) := by
  pointwise [k0_pay80, k0_pay77, k0_pay78, k0_pay79, gG, sg, dot]

theorem gate89 : k0_pay89 g v x w (ix2 r l) = gG (dot (n := 256) (a := 256) x w r l) (g (ix2 r l)) (v (ix2 r l)) := by
  pointwise [k0_pay89, k0_pay86, k0_pay87, k0_pay88, gG, sg, dot]

theorem gate98 : k0_pay98 g v x w (ix2 r l) = gG (dot (n := 256) (a := 256) x w r l) (g (ix2 r l)) (v (ix2 r l)) := by
  pointwise [k0_pay98, k0_pay95, k0_pay96, k0_pay97, gG, sg, dot]

theorem value36 : k0_pay36 g x w (ix2 r l) = gV (dot (n := 256) (a := 256) x w r l) (g (ix2 r l)) := by
  pointwise [k0_pay36, k0_pay30, k0_pay31, k0_pay32, k0_pay34, gV, sg, dot]

theorem value46 : k0_pay46 g x w (ix2 r l) = gV (dot (n := 256) (a := 256) x w r l) (g (ix2 r l)) := by
  pointwise [k0_pay46, k0_pay40, k0_pay41, k0_pay42, k0_pay44, gV, sg, dot]

theorem value56 : k0_pay56 g x w (ix2 r l) = gV (dot (n := 256) (a := 256) x w r l) (g (ix2 r l)) := by
  pointwise [k0_pay56, k0_pay50, k0_pay51, k0_pay52, k0_pay54, gV, sg, dot]

theorem value65 : k0_pay65 g x w (ix2 r l) = gV (dot (n := 256) (a := 256) x w r l) (g (ix2 r l)) := by
  pointwise [k0_pay65, k0_pay59, k0_pay60, k0_pay61, k0_pay63, gV, sg, dot]

theorem value74 : k0_pay74 g x w (ix2 r l) = gV (dot (n := 256) (a := 256) x w r l) (g (ix2 r l)) := by
  pointwise [k0_pay74, k0_pay68, k0_pay69, k0_pay70, k0_pay72, gV, sg, dot]

theorem value34 : k0_pay34 g x w (ix2 r l) = gV (dot (n := 256) (a := 256) x w r l) (g (ix2 r l)) := by
  pointwise [k0_pay34, k0_pay30, k0_pay31, k0_pay32, gV, sg, dot]

theorem value44 : k0_pay44 g x w (ix2 r l) = gV (dot (n := 256) (a := 256) x w r l) (g (ix2 r l)) := by
  pointwise [k0_pay44, k0_pay40, k0_pay41, k0_pay42, gV, sg, dot]

theorem value54 : k0_pay54 g x w (ix2 r l) = gV (dot (n := 256) (a := 256) x w r l) (g (ix2 r l)) := by
  pointwise [k0_pay54, k0_pay50, k0_pay51, k0_pay52, gV, sg, dot]

theorem value63 : k0_pay63 g x w (ix2 r l) = gV (dot (n := 256) (a := 256) x w r l) (g (ix2 r l)) := by
  pointwise [k0_pay63, k0_pay59, k0_pay60, k0_pay61, gV, sg, dot]

theorem value72 : k0_pay72 g x w (ix2 r l) = gV (dot (n := 256) (a := 256) x w r l) (g (ix2 r l)) := by
  pointwise [k0_pay72, k0_pay68, k0_pay69, k0_pay70, gV, sg, dot]

theorem value81 : k0_pay81 g x w (ix2 r l) = gV (dot (n := 256) (a := 256) x w r l) (g (ix2 r l)) := by
  pointwise [k0_pay81, k0_pay77, k0_pay78, k0_pay79, gV, sg, dot]

theorem value90 : k0_pay90 g x w (ix2 r l) = gV (dot (n := 256) (a := 256) x w r l) (g (ix2 r l)) := by
  pointwise [k0_pay90, k0_pay86, k0_pay87, k0_pay88, gV, sg, dot]

theorem value99 : k0_pay99 g x w (ix2 r l) = gV (dot (n := 256) (a := 256) x w r l) (g (ix2 r l)) := by
  pointwise [k0_pay99, k0_pay95, k0_pay96, k0_pay97, gV, sg, dot]

theorem copy83 (z : FVec Ideal S256x256 .f32) : k0_pay83 z (ix2 r l) = z (ix2 r l) := by
  pointwise [k0_pay83]

theorem copy92 (z : FVec Ideal S256x256 .f32) : k0_pay92 z (ix2 r l) = z (ix2 r l) := by
  pointwise [k0_pay92]

theorem copy1 (z : FVec Ideal S256x256 .f32) : k0_pay1 z (ix2 r l) = z (ix2 r l) := by
  pointwise [k0_pay1]
end

section
variable (G V : Vec Ideal S2048x256 .bf16) (X : Vec Ideal S2048x1024 .bf16) (W : Vec Ideal S256x1024 .bf16)

/-- Eight chunks of 256 rows: the index at which `(r, l)` of the chunk from row `o` sits. -/
theorem rows_emb (o : ℕ) (ho : o + 256 ≤ 2048) (h) (r l : Fin 256) :
    (Rect.unit (s := S2048x256) ![o, 0] ![256, 256] h).emb (ix2 r l) = ix2 ⟨o + r.val, by omega⟩ l := by
  funext a
  refine Fin.ext ?_
  refine Fin.cases ?_ (fun b => ?_) a
  · show o + 1 * r.val = o + r.val
    omega
  · obtain rfl : b = 0 := Subsingleton.elim _ _
    show 0 + 1 * l.val = l.val
    omega

theorem rows_mem (o : ℕ) (ho : o + 256 ≤ 2048) (h) (y : S2048x256.Idx) (h0 : o ≤ (y 0).val) (h1 : (y 0).val < o + 256) :
    y ∈ (Rect.unit (s := S2048x256) ![o, 0] ![256, 256] h).set := by
  idx_vars y
  change o ≤ y0.val at h0
  change y0.val < o + 256 at h1
  have e := (rows_emb o ho h ⟨y0.val - o, by omega⟩ y1).trans
    (congrArg (ix2 · y1) (Fin.ext (b := y0) (by dsimp only; omega)))
  rw [← e, ← Rect.map_emb_univ]
  exact Finset.mem_map_of_mem _ (Finset.mem_univ _)

theorem rows_dot (o : ℕ) (ho : o + 256 ≤ 2048) (h) (r l : Fin 256) :
    dot (n := 256) (a := 256) (View.ld X (Rect.unit (s := S2048x1024) ![o, 0] ![256, 1024] h)) W r l
      = dot (n := 2048) (a := 256) X W ⟨o + r.val, by omega⟩ l := by
  unfold dot
  refine Finset.sum_congr rfl fun k _ => congrArg (· * _) ?_
  pointwise []

theorem rows_ld (o : ℕ) (ho : o + 256 ≤ 2048) (h) (r l : Fin 256) :
    View.ld G (Rect.unit (s := S2048x256) ![o, 0] ![256, 256] h) (ix2 r l) = G (ix2 ⟨o + r.val, by omega⟩ l) :=
  congrArg G (rows_emb o ho h r l)

/-- A chunk of the gate's cotangent, as rows of the block. -/
theorem rows_gate (o : ℕ) (ho : o + 256 ≤ 2048) (h h' h'' h3) (P : Vec Ideal S256x256 .f32)
    (hP : ∀ r l : Fin 256, P (ix2 r l) = gG (dot (n := 256) (a := 256) (View.ld X (Rect.unit (s := S2048x1024) ![o, 0] ![256, 1024] h)) W r l)
      (View.ld G (Rect.unit (s := S2048x256) ![o, 0] ![256, 256] h') (ix2 r l)) (View.ld V (Rect.unit (s := S2048x256) ![o, 0] ![256, 256] h'') (ix2 r l)))
    (x : S256x256.Idx) : P x = gateOf G V X W ((Rect.unit (s := S2048x256) ![o, 0] ![256, 256] h3).emb x) := by
  idx_vars x
  rw [hP, rows_dot X W o ho, rows_ld G o ho, rows_ld V o ho]
  exact (congrArg (gateOf G V X W) (rows_emb o ho h3 x0 x1)).symm

/-- A chunk of the value's cotangent, as rows of the block. -/
theorem rows_value (o : ℕ) (ho : o + 256 ≤ 2048) (h h' h3) (P : Vec Ideal S256x256 .f32)
    (hP : ∀ r l : Fin 256, P (ix2 r l) = gV (dot (n := 256) (a := 256) (View.ld X (Rect.unit (s := S2048x1024) ![o, 0] ![256, 1024] h)) W r l)
      (View.ld G (Rect.unit (s := S2048x256) ![o, 0] ![256, 256] h') (ix2 r l)))
    (x : S256x256.Idx) : P x = valueOf G X W ((Rect.unit (s := S2048x256) ![o, 0] ![256, 256] h3).emb x) := by
  idx_vars x
  rw [hP, rows_dot X W o ho, rows_ld G o ho]
  exact (congrArg (valueOf G X W) (rows_emb o ho h3 x0 x1)).symm

/-- Column `l` of a block at row `n`. -/
def col (D : Vec Ideal S2048x256 .f32) (l : Fin 256) (n : ℕ) : EReal := if h : n < 2048 then D (ix2 ⟨n, h⟩ l) else 0

/-- A chunk's column sum added to the sum over the rows before it. -/
theorem col_step (D : Vec Ideal S2048x256 .f32) (o : ℕ) (ho : o + 256 ≤ 2048) (h3) (P : Vec Ideal S256x256 .f32)
    (hP : ∀ x : S256x256.Idx, P x = D ((Rect.unit (s := S2048x256) ![o, 0] ![256, 256] h3).emb x)) (l : Fin 256) (b : EReal)
    (hb : b = ∑ n ∈ Finset.range o, col D l n) :
    b + ∑ r : Fin 256, (P (ix2 r l) : EReal) = ∑ n ∈ Finset.range (o + 256), col D l n := by
  rw [hb, Finset.sum_range_add, Finset.sum_range (n := 256)]
  refine congrArg _ (Finset.sum_congr rfl fun r _ => ?_)
  rw [hP, rows_emb o ho]
  unfold col
  rw [dif_pos (by omega)]
end

theorem bias38 (a : FVec Ideal S1x256 .f32) (g v : Vec Ideal S256x256 .bf16) (x w : Vec Ideal S256x1024 .bf16) (l : Fin 256) :
    k0_pay38 a (k0_pay37 g v x w) (ix2 0 l) = a (ix2 0 l) + ∑ r : Fin 256, ((k0_pay33 g v x w : FVec Ideal S256x256 .f32) (ix2 r l) : EReal) := by
  pointwise [k0_pay38, k0_pay37]

theorem bias48 (a : FVec Ideal S1x256 .f32) (g v : Vec Ideal S256x256 .bf16) (x w : Vec Ideal S256x1024 .bf16) (l : Fin 256) :
    k0_pay48 a (k0_pay47 g v x w) (ix2 0 l) = a (ix2 0 l) + ∑ r : Fin 256, ((k0_pay43 g v x w : FVec Ideal S256x256 .f32) (ix2 r l) : EReal) := by
  pointwise [k0_pay48, k0_pay47]

theorem bias57 (a : FVec Ideal S1x256 .f32) (x : FVec Ideal S256x256 .f32) (l : Fin 256) :
    k0_pay57 a x (ix2 0 l) = a (ix2 0 l) + ∑ r : Fin 256, (x (ix2 r l) : EReal) := by
  pointwise [k0_pay57]

theorem bias66 (a : FVec Ideal S1x256 .f32) (x : FVec Ideal S256x256 .f32) (l : Fin 256) :
    k0_pay66 a x (ix2 0 l) = a (ix2 0 l) + ∑ r : Fin 256, (x (ix2 r l) : EReal) := by
  pointwise [k0_pay66]

theorem bias75 (a : FVec Ideal S1x256 .f32) (x : FVec Ideal S256x256 .f32) (l : Fin 256) :
    k0_pay75 a x (ix2 0 l) = a (ix2 0 l) + ∑ r : Fin 256, (x (ix2 r l) : EReal) := by
  pointwise [k0_pay75]

theorem bias84 (a : FVec Ideal S1x256 .f32) (x : FVec Ideal S256x256 .f32) (l : Fin 256) :
    k0_pay84 a x (ix2 0 l) = a (ix2 0 l) + ∑ r : Fin 256, (x (ix2 r l) : EReal) := by
  pointwise [k0_pay84]

theorem bias93 (a : FVec Ideal S1x256 .f32) (x : FVec Ideal S256x256 .f32) (l : Fin 256) :
    k0_pay93 a x (ix2 0 l) = a (ix2 0 l) + ∑ r : Fin 256, (x (ix2 r l) : EReal) := by
  pointwise [k0_pay93]

theorem bias2 (a : FVec Ideal S1x256 .f32) (x : FVec Ideal S256x256 .f32) (l : Fin 256) :
    k0_pay2 a x (ix2 0 l) = a (ix2 0 l) + ∑ r : Fin 256, (x (ix2 r l) : EReal) := by
  pointwise [k0_pay2]

theorem bias39 (a : FVec Ideal S1x256 .f32) (x : FVec Ideal S256x256 .f32) (l : Fin 256) :
    k0_pay39 a x (ix2 0 l) = a (ix2 0 l) + ∑ r : Fin 256, (x (ix2 r l) : EReal) := by
  pointwise [k0_pay39]

theorem bias49 (a : FVec Ideal S1x256 .f32) (x : FVec Ideal S256x256 .f32) (l : Fin 256) :
    k0_pay49 a x (ix2 0 l) = a (ix2 0 l) + ∑ r : Fin 256, (x (ix2 r l) : EReal) := by
  pointwise [k0_pay49]

theorem bias58 (a : FVec Ideal S1x256 .f32) (x : FVec Ideal S256x256 .f32) (l : Fin 256) :
    k0_pay58 a x (ix2 0 l) = a (ix2 0 l) + ∑ r : Fin 256, (x (ix2 r l) : EReal) := by
  pointwise [k0_pay58]

theorem bias67 (a : FVec Ideal S1x256 .f32) (x : FVec Ideal S256x256 .f32) (l : Fin 256) :
    k0_pay67 a x (ix2 0 l) = a (ix2 0 l) + ∑ r : Fin 256, (x (ix2 r l) : EReal) := by
  pointwise [k0_pay67]

theorem bias76 (a : FVec Ideal S1x256 .f32) (x : FVec Ideal S256x256 .f32) (l : Fin 256) :
    k0_pay76 a x (ix2 0 l) = a (ix2 0 l) + ∑ r : Fin 256, (x (ix2 r l) : EReal) := by
  pointwise [k0_pay76]

theorem bias85 (a : FVec Ideal S1x256 .f32) (x : FVec Ideal S256x256 .f32) (l : Fin 256) :
    k0_pay85 a x (ix2 0 l) = a (ix2 0 l) + ∑ r : Fin 256, (x (ix2 r l) : EReal) := by
  pointwise [k0_pay85]

theorem bias94 (a : FVec Ideal S1x256 .f32) (x : FVec Ideal S256x256 .f32) (l : Fin 256) :
    k0_pay94 a x (ix2 0 l) = a (ix2 0 l) + ∑ r : Fin 256, (x (ix2 r l) : EReal) := by
  pointwise [k0_pay94]

theorem bias3 (a : FVec Ideal S1x256 .f32) (x : FVec Ideal S256x256 .f32) (l : Fin 256) :
    k0_pay3 a x (ix2 0 l) = a (ix2 0 l) + ∑ r : Fin 256, (x (ix2 r l) : EReal) := by
  pointwise [k0_pay3]

end Cert.Proof.Conv
-- ==== Proof.ConvOuts.lean ====
module

public import proofs.«01_k».proof.Defs
public import proofs.«01_k».proof.Proof.Gen.ConvKernelIdeal.Value
public import proofs.«01_k».proof.Proof.ConvBlocks
public import Idealize.ShloMosaic.Lib.Pipeline.ValueKit
public import Idealize.ShloMosaic.Lib.StableHlo.ReadAt
public import Idealize.ShloMosaic.Lib.Pipeline.ReadBack

@[expose] public section

set_option maxRecDepth 16384

noncomputable section

namespace Cert.Proof.Conv

open Idealize.ShloMosaic Idealize.ShloMosaic.TcCoe Idealize.SL.Sem
open Cert.ConvKernelIdeal Cert.ConvKernelIdeal.Gen
open Idealize.ShloMosaic.Pipeline (Dat)

variable (m : (ℓ : Loc nD τ sig) → Buf (Elt Ideal) ℓ)

/-- The cotangent of the convolution's gate half at point `t`. -/
def dG (c : Dev nD) (t : Fin cfg0.N) : Vec Ideal S2048x256 .f32 := gateOf (iblk m c 2 t) (iblk m c 3 t) (iblk m c 4 t) (iblk m c 5 t)

/-- The cotangent of the convolution's value half at point `t`. -/
def dV (c : Dev nD) (t : Fin cfg0.N) : Vec Ideal S2048x256 .f32 := valueOf (iblk m c 2 t) (iblk m c 4 t) (iblk m c 5 t)

/-- Stores that are blocks of `D` and cover the first scratch leave `D` in it. -/
theorem whole0 (D : Vec Ideal S2048x256 .f32) (L) (h : View.PiecesOf D L) (hc : ∀ y, ∃ p ∈ L, y ∈ p.1.set) :
    (View.whole cc0_scratch0).writes (Elt Ideal) (View.whole cc0_scratch0).junk L = (Memref.isWhole_whole cc0_scratch0).unread D :=
  (Memref.isWhole_whole cc0_scratch0).eq_unread ((View.read_writes_junk_eq_canon _ L).trans
    (funext fun y => View.canon_apply_of_pieces D L h.mem y (hc y)))

/-- Stores that are blocks of `D` and cover the second scratch leave `D` in it. -/
theorem whole1 (D : Vec Ideal S2048x256 .f32) (L) (h : View.PiecesOf D L) (hc : ∀ y, ∃ p ∈ L, y ∈ p.1.set) :
    (View.whole cc0_scratch1).writes (Elt Ideal) (View.whole cc0_scratch1).junk L = (Memref.isWhole_whole cc0_scratch1).unread D :=
  (Memref.isWhole_whole cc0_scratch1).eq_unread ((View.read_writes_junk_eq_canon _ L).trans
    (funext fun y => View.canon_apply_of_pieces D L h.mem y (hc y)))

theorem cat10_0 (a b d : FVec Ideal S1x256 .f32) (l : Fin 256) : k0_pay10 a b d (ix2 0 l) = a (ix2 0 l) := by
  pointwise [k0_pay10]

theorem cat10_1 (a b d : FVec Ideal S1x256 .f32) (l : Fin 256) : k0_pay10 a b d (ix2 1 l) = b (ix2 0 l) := by
  pointwise [k0_pay10]

theorem cat10_2 (a b d : FVec Ideal S1x256 .f32) (l : Fin 256) : k0_pay10 a b d (ix2 2 l) = d (ix2 0 l) := by
  pointwise [k0_pay10]

theorem cat11_0 (a b d : FVec Ideal S1x256 .f32) (l : Fin 256) : k0_pay11 a b d (ix2 0 l) = a (ix2 0 l) := by
  pointwise [k0_pay11]

theorem cat11_1 (a b d : FVec Ideal S1x256 .f32) (l : Fin 256) : k0_pay11 a b d (ix2 1 l) = b (ix2 0 l) := by
  pointwise [k0_pay11]

theorem cat11_2 (a b d : FVec Ideal S1x256 .f32) (l : Fin 256) : k0_pay11 a b d (ix2 2 l) = d (ix2 0 l) := by
  pointwise [k0_pay11]

theorem cat12_0 (a b d : FVec Ideal S1x256 .f32) (p : Vec Ideal S3x256 .f32) (l : Fin 256) :
    k0_pay12 a b d p (ix2 0 l) = p (ix2 0 l) + a (ix2 0 l) := by
  pointwise [k0_pay12]

theorem cat12_1 (a b d : FVec Ideal S1x256 .f32) (p : Vec Ideal S3x256 .f32) (l : Fin 256) :
    k0_pay12 a b d p (ix2 1 l) = p (ix2 1 l) + b (ix2 0 l) := by
  pointwise [k0_pay12]

theorem cat12_2 (a b d : FVec Ideal S1x256 .f32) (p : Vec Ideal S3x256 .f32) (l : Fin 256) :
    k0_pay12 a b d p (ix2 2 l) = p (ix2 2 l) + d (ix2 0 l) := by
  pointwise [k0_pay12]

theorem cat13_0 (a b d : FVec Ideal S1x256 .f32) (p : Vec Ideal S3x256 .f32) (l : Fin 256) :
    k0_pay13 a b d p (ix2 0 l) = p (ix2 0 l) + a (ix2 0 l) := by
  pointwise [k0_pay13]

theorem cat13_1 (a b d : FVec Ideal S1x256 .f32) (p : Vec Ideal S3x256 .f32) (l : Fin 256) :
    k0_pay13 a b d p (ix2 1 l) = p (ix2 1 l) + b (ix2 0 l) := by
  pointwise [k0_pay13]

theorem cat13_2 (a b d : FVec Ideal S1x256 .f32) (p : Vec Ideal S3x256 .f32) (l : Fin 256) :
    k0_pay13 a b d p (ix2 2 l) = p (ix2 2 l) + d (ix2 0 l) := by
  pointwise [k0_pay13]

theorem bias14 (a : FVec Ideal S1x256 .f32) (x : FVec Ideal S256x256 .f32) (p : Vec Ideal S1x256 .f32) (l : Fin 256) :
    k0_pay14 a x p (ix2 0 l) = p (ix2 0 l) + k0_pay2 a x (ix2 0 l) := by
  pointwise [k0_pay14]

theorem bias15 (a : FVec Ideal S1x256 .f32) (x : FVec Ideal S256x256 .f32) (p : Vec Ideal S1x256 .f32) (l : Fin 256) :
    k0_pay15 a x p (ix2 0 l) = p (ix2 0 l) + k0_pay3 a x (ix2 0 l) := by
  pointwise [k0_pay15]

theorem zeros (l : Fin 256) : (k0_pay29 : FVec Ideal S1x256 .f32) (ix2 0 l) = 0 := by
  pointwise [k0_pay29]

theorem all_rows : 256 * k0_t1_loop.trips = 2048 := by rw [trips_eq]

set_option maxHeartbeats 2000000 in
/-- What the body leaves in its six output blocks at a point where it stores the sums. -/
theorem outsA (c : Dev nD) (t : Fin cfg0.N) (h0 : t.val % 2 = 0) (h1 : ¬ t.val % 2 = 1) :
    (∀ y, (outsAt0 m c t.val t.isLt).1 y = spread (dG m c t) (iblk m c 6 t) y)
    ∧ (∀ y, (outsAt0 m c t.val t.isLt).2.1 y = spread (dV m c t) (iblk m c 7 t) y)
    ∧ (∀ (i : Fin 3) (l : Fin 256), (outsAt0 m c t.val t.isLt).2.2.1 (ix2 i l)
        = ∑ n ∈ Finset.range 2048, tap (dG m c t) (iblk m c 0 t) (2 - i.val) l n)
    ∧ (∀ (i : Fin 3) (l : Fin 256), (outsAt0 m c t.val t.isLt).2.2.2.1 (ix2 i l)
        = ∑ n ∈ Finset.range 2048, tap (dV m c t) (iblk m c 1 t) (2 - i.val) l n)
    ∧ (∀ l : Fin 256, (outsAt0 m c t.val t.isLt).2.2.2.2.1 (ix2 0 l)
        = ∑ n ∈ Finset.range 2048, col (dG m c t) l n)
    ∧ (∀ l : Fin 256, (outsAt0 m c t.val t.isLt).2.2.2.2.2 (ix2 0 l)
        = ∑ n ∈ Finset.range 2048, col (dV m c t) l n) := by
  have L := loop (iblk m c 0 t) (iblk m c 1 t) (iblk m c 6 t) (iblk m c 7 t) (dG m c t) (dV m c t) c t
    (k0_pay29, k0_pay29, k0_pay29, k0_pay29, k0_pay29, k0_pay29) k0_t1_loop.trips le_rfl
  simp only [all_rows, zeros, zero_add] at L
  obtain ⟨⟨pg, cg⟩, ⟨pv, cv⟩, su⟩ := L
  rw [outsAt0_A m c t h0 h1]
  frame_out
  rw [whole0 (dG m c t) _ ?pg ?cg]
  rw [whole1 (dV m c t) _ ?pv ?cv]
  case pg => exact ⟨rows_gate _ _ _ _ 1792 (by omega) _ _ _ inb_S2048x256_S256x256_1792_0 _ (fun r l => gate100 _ _ _ _ r l),
    rows_gate _ _ _ _ 1536 (by omega) _ _ _ inb_S2048x256_S256x256_1536_0 _ (fun r l => gate91 _ _ _ _ r l),
    rows_gate _ _ _ _ 1280 (by omega) _ _ _ inb_S2048x256_S256x256_1280_0 _ (fun r l => gate82 _ _ _ _ r l),
    rows_gate _ _ _ _ 1024 (by omega) _ _ _ inb_S2048x256_S256x256_1024_0 _ (fun r l => gate73 _ _ _ _ r l),
    rows_gate _ _ _ _ 768 (by omega) _ _ _ inb_S2048x256_S256x256_768_0 _ (fun r l => gate64 _ _ _ _ r l),
    rows_gate _ _ _ _ 512 (by omega) _ _ _ inb_S2048x256_S256x256_512_0 _ (fun r l => gate55 _ _ _ _ r l),
    rows_gate _ _ _ _ 256 (by omega) _ _ _ inb_S2048x256_S256x256_256_0 _ (fun r l => gate45 _ _ _ _ r l),
    rows_gate _ _ _ _ 0 (by omega) _ _ _ inb_S2048x256_S256x256_0_0 _ (fun r l => gate35 _ _ _ _ r l), trivial⟩
  case pv => exact ⟨rows_value _ _ _ 1792 (by omega) _ _ inb_S2048x256_S256x256_1792_0 _ (fun r l => (copy1 r l _).trans (value99 _ _ _ r l)),
    rows_value _ _ _ 1536 (by omega) _ _ inb_S2048x256_S256x256_1536_0 _ (fun r l => (copy92 r l _).trans (value90 _ _ _ r l)),
    rows_value _ _ _ 1280 (by omega) _ _ inb_S2048x256_S256x256_1280_0 _ (fun r l => (copy83 r l _).trans (value81 _ _ _ r l)),
    rows_value _ _ _ 1024 (by omega) _ _ inb_S2048x256_S256x256_1024_0 _ (fun r l => value74 _ _ _ r l),
    rows_value _ _ _ 768 (by omega) _ _ inb_S2048x256_S256x256_768_0 _ (fun r l => value65 _ _ _ r l),
    rows_value _ _ _ 512 (by omega) _ _ inb_S2048x256_S256x256_512_0 _ (fun r l => value56 _ _ _ r l),
    rows_value _ _ _ 256 (by omega) _ _ inb_S2048x256_S256x256_256_0 _ (fun r l => value46 _ _ _ r l),
    rows_value _ _ _ 0 (by omega) _ _ inb_S2048x256_S256x256_0_0 _ (fun r l => value36 _ _ _ r l), trivial⟩
  case cg =>
    intro y
    have hy : (y 0).val < 2048 := (y 0).isLt
    have : 1792 ≤ (y 0).val ∨ (1536 ≤ (y 0).val ∧ (y 0).val < 1792) ∨ (1280 ≤ (y 0).val ∧ (y 0).val < 1536) ∨ (1024 ≤ (y 0).val ∧ (y 0).val < 1280)
      ∨ (768 ≤ (y 0).val ∧ (y 0).val < 1024) ∨ (512 ≤ (y 0).val ∧ (y 0).val < 768) ∨ (256 ≤ (y 0).val ∧ (y 0).val < 512) ∨ (y 0).val < 256 := by omega
    rcases this with h | h | h | h | h | h | h | h
    · exact ⟨_, List.mem_cons_self, rows_mem 1792 (by omega) inb_S2048x256_S256x256_1792_0 y (by omega) (by omega)⟩
    · exact ⟨_, (List.mem_cons_of_mem _ List.mem_cons_self), rows_mem 1536 (by omega) inb_S2048x256_S256x256_1536_0 y (by omega) (by omega)⟩
    · exact ⟨_, (List.mem_cons_of_mem _ (List.mem_cons_of_mem _ List.mem_cons_self)), rows_mem 1280 (by omega) inb_S2048x256_S256x256_1280_0 y (by omega) (by omega)⟩
    · exact ⟨_, (List.mem_cons_of_mem _ (List.mem_cons_of_mem _ (List.mem_cons_of_mem _ List.mem_cons_self))), rows_mem 1024 (by omega) inb_S2048x256_S256x256_1024_0 y (by omega) (by omega)⟩
    · exact ⟨_, (List.mem_cons_of_mem _ (List.mem_cons_of_mem _ (List.mem_cons_of_mem _ (List.mem_cons_of_mem _ List.mem_cons_self)))), rows_mem 768 (by omega) inb_S2048x256_S256x256_768_0 y (by omega) (by omega)⟩
    · exact ⟨_, (List.mem_cons_of_mem _ (List.mem_cons_of_mem _ (List.mem_cons_of_mem _ (List.mem_cons_of_mem _ (List.mem_cons_of_mem _ List.mem_cons_self))))), rows_mem 512 (by omega) inb_S2048x256_S256x256_512_0 y (by omega) (by omega)⟩
    · exact ⟨_, (List.mem_cons_of_mem _ (List.mem_cons_of_mem _ (List.mem_cons_of_mem _ (List.mem_cons_of_mem _ (List.mem_cons_of_mem _ (List.mem_cons_of_mem _ List.mem_cons_self)))))), rows_mem 256 (by omega) inb_S2048x256_S256x256_256_0 y (by omega) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), rows_mem 0 (by omega) inb_S2048x256_S256x256_0_0 y (by omega) (by omega)⟩
  case cv =>
    intro y
    have hy : (y 0).val < 2048 := (y 0).isLt
    have : 1792 ≤ (y 0).val ∨ (1536 ≤ (y 0).val ∧ (y 0).val < 1792) ∨ (1280 ≤ (y 0).val ∧ (y 0).val < 1536) ∨ (1024 ≤ (y 0).val ∧ (y 0).val < 1280)
      ∨ (768 ≤ (y 0).val ∧ (y 0).val < 1024) ∨ (512 ≤ (y 0).val ∧ (y 0).val < 768) ∨ (256 ≤ (y 0).val ∧ (y 0).val < 512) ∨ (y 0).val < 256 := by omega
    rcases this with h | h | h | h | h | h | h | h
    · exact ⟨_, List.mem_cons_self, rows_mem 1792 (by omega) inb_S2048x256_S256x256_1792_0 y (by omega) (by omega)⟩
    · exact ⟨_, (List.mem_cons_of_mem _ List.mem_cons_self), rows_mem 1536 (by omega) inb_S2048x256_S256x256_1536_0 y (by omega) (by omega)⟩
    · exact ⟨_, (List.mem_cons_of_mem _ (List.mem_cons_of_mem _ List.mem_cons_self)), rows_mem 1280 (by omega) inb_S2048x256_S256x256_1280_0 y (by omega) (by omega)⟩
    · exact ⟨_, (List.mem_cons_of_mem _ (List.mem_cons_of_mem _ (List.mem_cons_of_mem _ List.mem_cons_self))), rows_mem 1024 (by omega) inb_S2048x256_S256x256_1024_0 y (by omega) (by omega)⟩
    · exact ⟨_, (List.mem_cons_of_mem _ (List.mem_cons_of_mem _ (List.mem_cons_of_mem _ (List.mem_cons_of_mem _ List.mem_cons_self)))), rows_mem 768 (by omega) inb_S2048x256_S256x256_768_0 y (by omega) (by omega)⟩
    · exact ⟨_, (List.mem_cons_of_mem _ (List.mem_cons_of_mem _ (List.mem_cons_of_mem _ (List.mem_cons_of_mem _ (List.mem_cons_of_mem _ List.mem_cons_self))))), rows_mem 512 (by omega) inb_S2048x256_S256x256_512_0 y (by omega) (by omega)⟩
    · exact ⟨_, (List.mem_cons_of_mem _ (List.mem_cons_of_mem _ (List.mem_cons_of_mem _ (List.mem_cons_of_mem _ (List.mem_cons_of_mem _ (List.mem_cons_of_mem _ List.mem_cons_self)))))), rows_mem 256 (by omega) inb_S2048x256_S256x256_256_0 y (by omega) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), rows_mem 0 (by omega) inb_S2048x256_S256x256_0_0 y (by omega) (by omega)⟩
  refine ⟨fun y => ?_, fun y => ?_, fun i l => ?_, fun i l => ?_, fun l => ?_, fun l => ?_⟩
  · exact View.canon_apply_of_pieces _ _ pg.mem y (cg y (y 0).isLt)
  · exact View.canon_apply_of_pieces _ _ pv.mem y (cv y (y 0).isLt)
  · match i with
    | 0 => exact (cat10_0 _ _ _ l).trans (su l).1
    | 1 => exact (cat10_1 _ _ _ l).trans (su l).2.1
    | 2 => exact (cat10_2 _ _ _ l).trans (su l).2.2.1
  · match i with
    | 0 => exact (cat11_0 _ _ _ l).trans (su l).2.2.2.1
    | 1 => exact (cat11_1 _ _ _ l).trans (su l).2.2.2.2.1
    | 2 => exact (cat11_2 _ _ _ l).trans (su l).2.2.2.2.2
  · exact ((bias2 _ _ l).trans
      (col_step _ 1792 (by omega) inb_S2048x256_S256x256_1792_0 _ (rows_gate _ _ _ _ 1792 (by omega) _ _ _ inb_S2048x256_S256x256_1792_0 _ (fun r l => gate98 _ _ _ _ r l)) l _ ((bias93 _ _ l).trans
      (col_step _ 1536 (by omega) inb_S2048x256_S256x256_1536_0 _ (rows_gate _ _ _ _ 1536 (by omega) _ _ _ inb_S2048x256_S256x256_1536_0 _ (fun r l => gate89 _ _ _ _ r l)) l _ ((bias84 _ _ l).trans
      (col_step _ 1280 (by omega) inb_S2048x256_S256x256_1280_0 _ (rows_gate _ _ _ _ 1280 (by omega) _ _ _ inb_S2048x256_S256x256_1280_0 _ (fun r l => gate80 _ _ _ _ r l)) l _ ((bias75 _ _ l).trans
      (col_step _ 1024 (by omega) inb_S2048x256_S256x256_1024_0 _ (rows_gate _ _ _ _ 1024 (by omega) _ _ _ inb_S2048x256_S256x256_1024_0 _ (fun r l => gate71 _ _ _ _ r l)) l _ ((bias66 _ _ l).trans
      (col_step _ 768 (by omega) inb_S2048x256_S256x256_768_0 _ (rows_gate _ _ _ _ 768 (by omega) _ _ _ inb_S2048x256_S256x256_768_0 _ (fun r l => gate62 _ _ _ _ r l)) l _ ((bias57 _ _ l).trans
      (col_step _ 512 (by omega) inb_S2048x256_S256x256_512_0 _ (rows_gate _ _ _ _ 512 (by omega) _ _ _ inb_S2048x256_S256x256_512_0 _ (fun r l => gate53 _ _ _ _ r l)) l _ ((bias48 _ _ _ _ _ l).trans
      (col_step _ 256 (by omega) inb_S2048x256_S256x256_256_0 _ (rows_gate _ _ _ _ 256 (by omega) _ _ _ inb_S2048x256_S256x256_256_0 _ (fun r l => gate43 _ _ _ _ r l)) l _ ((bias38 _ _ _ _ _ l).trans
      (col_step _ 0 (by omega) inb_S2048x256_S256x256_0_0 _ (rows_gate _ _ _ _ 0 (by omega) _ _ _ inb_S2048x256_S256x256_0_0 _ (fun r l => gate33 _ _ _ _ r l)) l _ ((zeros l).trans (by simp))))))))))))))))))
  · exact ((bias3 _ _ l).trans
      (col_step _ 1792 (by omega) inb_S2048x256_S256x256_1792_0 _ (rows_value _ _ _ 1792 (by omega) _ _ inb_S2048x256_S256x256_1792_0 _ (fun r l => value99 _ _ _ r l)) l _ ((bias94 _ _ l).trans
      (col_step _ 1536 (by omega) inb_S2048x256_S256x256_1536_0 _ (rows_value _ _ _ 1536 (by omega) _ _ inb_S2048x256_S256x256_1536_0 _ (fun r l => value90 _ _ _ r l)) l _ ((bias85 _ _ l).trans
      (col_step _ 1280 (by omega) inb_S2048x256_S256x256_1280_0 _ (rows_value _ _ _ 1280 (by omega) _ _ inb_S2048x256_S256x256_1280_0 _ (fun r l => value81 _ _ _ r l)) l _ ((bias76 _ _ l).trans
      (col_step _ 1024 (by omega) inb_S2048x256_S256x256_1024_0 _ (rows_value _ _ _ 1024 (by omega) _ _ inb_S2048x256_S256x256_1024_0 _ (fun r l => value72 _ _ _ r l)) l _ ((bias67 _ _ l).trans
      (col_step _ 768 (by omega) inb_S2048x256_S256x256_768_0 _ (rows_value _ _ _ 768 (by omega) _ _ inb_S2048x256_S256x256_768_0 _ (fun r l => value63 _ _ _ r l)) l _ ((bias58 _ _ l).trans
      (col_step _ 512 (by omega) inb_S2048x256_S256x256_512_0 _ (rows_value _ _ _ 512 (by omega) _ _ inb_S2048x256_S256x256_512_0 _ (fun r l => value54 _ _ _ r l)) l _ ((bias49 _ _ l).trans
      (col_step _ 256 (by omega) inb_S2048x256_S256x256_256_0 _ (rows_value _ _ _ 256 (by omega) _ _ inb_S2048x256_S256x256_256_0 _ (fun r l => value44 _ _ _ r l)) l _ ((bias39 _ _ l).trans
      (col_step _ 0 (by omega) inb_S2048x256_S256x256_0_0 _ (rows_value _ _ _ 0 (by omega) _ _ inb_S2048x256_S256x256_0_0 _ (fun r l => value34 _ _ _ r l)) l _ ((zeros l).trans (by simp))))))))))))))))))

set_option maxHeartbeats 2000000 in
/-- What the body leaves in its six output blocks at a point where it adds the sums to those of the point before. -/
theorem outsB (c : Dev nD) (t : Fin cfg0.N) (h0 : ¬ t.val % 2 = 0) (h1 : t.val % 2 = 1) :
    (∀ y, (outsAt0 m c t.val t.isLt).1 y = spread (dG m c t) (iblk m c 6 t) y)
    ∧ (∀ y, (outsAt0 m c t.val t.isLt).2.1 y = spread (dV m c t) (iblk m c 7 t) y)
    ∧ (∀ (i : Fin 3) (l : Fin 256), (outsAt0 m c t.val t.isLt).2.2.1 (ix2 i l)
        = (outsAt0 m c (t.val - 1) (by omega)).2.2.1 (ix2 i l) + ∑ n ∈ Finset.range 2048, tap (dG m c t) (iblk m c 0 t) (2 - i.val) l n)
    ∧ (∀ (i : Fin 3) (l : Fin 256), (outsAt0 m c t.val t.isLt).2.2.2.1 (ix2 i l)
        = (outsAt0 m c (t.val - 1) (by omega)).2.2.2.1 (ix2 i l) + ∑ n ∈ Finset.range 2048, tap (dV m c t) (iblk m c 1 t) (2 - i.val) l n)
    ∧ (∀ l : Fin 256, (outsAt0 m c t.val t.isLt).2.2.2.2.1 (ix2 0 l)
        = (outsAt0 m c (t.val - 1) (by omega)).2.2.2.2.1 (ix2 0 l) + ∑ n ∈ Finset.range 2048, col (dG m c t) l n)
    ∧ (∀ l : Fin 256, (outsAt0 m c t.val t.isLt).2.2.2.2.2 (ix2 0 l)
        = (outsAt0 m c (t.val - 1) (by omega)).2.2.2.2.2 (ix2 0 l) + ∑ n ∈ Finset.range 2048, col (dV m c t) l n) := by
  have L := loop (iblk m c 0 t) (iblk m c 1 t) (iblk m c 6 t) (iblk m c 7 t) (dG m c t) (dV m c t) c t
    (k0_pay29, k0_pay29, k0_pay29, k0_pay29, k0_pay29, k0_pay29) k0_t1_loop.trips le_rfl
  simp only [all_rows, zeros, zero_add] at L
  obtain ⟨⟨pg, cg⟩, ⟨pv, cv⟩, su⟩ := L
  rw [outsAt0_B m c t h0 h1]
  frame_out
  rw [whole0 (dG m c t) _ ?pg ?cg]
  rw [whole1 (dV m c t) _ ?pv ?cv]
  case pg => exact ⟨rows_gate _ _ _ _ 1792 (by omega) _ _ _ inb_S2048x256_S256x256_1792_0 _ (fun r l => gate100 _ _ _ _ r l),
    rows_gate _ _ _ _ 1536 (by omega) _ _ _ inb_S2048x256_S256x256_1536_0 _ (fun r l => gate91 _ _ _ _ r l),
    rows_gate _ _ _ _ 1280 (by omega) _ _ _ inb_S2048x256_S256x256_1280_0 _ (fun r l => gate82 _ _ _ _ r l),
    rows_gate _ _ _ _ 1024 (by omega) _ _ _ inb_S2048x256_S256x256_1024_0 _ (fun r l => gate73 _ _ _ _ r l),
    rows_gate _ _ _ _ 768 (by omega) _ _ _ inb_S2048x256_S256x256_768_0 _ (fun r l => gate64 _ _ _ _ r l),
    rows_gate _ _ _ _ 512 (by omega) _ _ _ inb_S2048x256_S256x256_512_0 _ (fun r l => gate55 _ _ _ _ r l),
    rows_gate _ _ _ _ 256 (by omega) _ _ _ inb_S2048x256_S256x256_256_0 _ (fun r l => gate45 _ _ _ _ r l),
    rows_gate _ _ _ _ 0 (by omega) _ _ _ inb_S2048x256_S256x256_0_0 _ (fun r l => gate35 _ _ _ _ r l), trivial⟩
  case pv => exact ⟨rows_value _ _ _ 1792 (by omega) _ _ inb_S2048x256_S256x256_1792_0 _ (fun r l => (copy1 r l _).trans (value99 _ _ _ r l)),
    rows_value _ _ _ 1536 (by omega) _ _ inb_S2048x256_S256x256_1536_0 _ (fun r l => (copy92 r l _).trans (value90 _ _ _ r l)),
    rows_value _ _ _ 1280 (by omega) _ _ inb_S2048x256_S256x256_1280_0 _ (fun r l => (copy83 r l _).trans (value81 _ _ _ r l)),
    rows_value _ _ _ 1024 (by omega) _ _ inb_S2048x256_S256x256_1024_0 _ (fun r l => value74 _ _ _ r l),
    rows_value _ _ _ 768 (by omega) _ _ inb_S2048x256_S256x256_768_0 _ (fun r l => value65 _ _ _ r l),
    rows_value _ _ _ 512 (by omega) _ _ inb_S2048x256_S256x256_512_0 _ (fun r l => value56 _ _ _ r l),
    rows_value _ _ _ 256 (by omega) _ _ inb_S2048x256_S256x256_256_0 _ (fun r l => value46 _ _ _ r l),
    rows_value _ _ _ 0 (by omega) _ _ inb_S2048x256_S256x256_0_0 _ (fun r l => value36 _ _ _ r l), trivial⟩
  case cg =>
    intro y
    have hy : (y 0).val < 2048 := (y 0).isLt
    have : 1792 ≤ (y 0).val ∨ (1536 ≤ (y 0).val ∧ (y 0).val < 1792) ∨ (1280 ≤ (y 0).val ∧ (y 0).val < 1536) ∨ (1024 ≤ (y 0).val ∧ (y 0).val < 1280)
      ∨ (768 ≤ (y 0).val ∧ (y 0).val < 1024) ∨ (512 ≤ (y 0).val ∧ (y 0).val < 768) ∨ (256 ≤ (y 0).val ∧ (y 0).val < 512) ∨ (y 0).val < 256 := by omega
    rcases this with h | h | h | h | h | h | h | h
    · exact ⟨_, List.mem_cons_self, rows_mem 1792 (by omega) inb_S2048x256_S256x256_1792_0 y (by omega) (by omega)⟩
    · exact ⟨_, (List.mem_cons_of_mem _ List.mem_cons_self), rows_mem 1536 (by omega) inb_S2048x256_S256x256_1536_0 y (by omega) (by omega)⟩
    · exact ⟨_, (List.mem_cons_of_mem _ (List.mem_cons_of_mem _ List.mem_cons_self)), rows_mem 1280 (by omega) inb_S2048x256_S256x256_1280_0 y (by omega) (by omega)⟩
    · exact ⟨_, (List.mem_cons_of_mem _ (List.mem_cons_of_mem _ (List.mem_cons_of_mem _ List.mem_cons_self))), rows_mem 1024 (by omega) inb_S2048x256_S256x256_1024_0 y (by omega) (by omega)⟩
    · exact ⟨_, (List.mem_cons_of_mem _ (List.mem_cons_of_mem _ (List.mem_cons_of_mem _ (List.mem_cons_of_mem _ List.mem_cons_self)))), rows_mem 768 (by omega) inb_S2048x256_S256x256_768_0 y (by omega) (by omega)⟩
    · exact ⟨_, (List.mem_cons_of_mem _ (List.mem_cons_of_mem _ (List.mem_cons_of_mem _ (List.mem_cons_of_mem _ (List.mem_cons_of_mem _ List.mem_cons_self))))), rows_mem 512 (by omega) inb_S2048x256_S256x256_512_0 y (by omega) (by omega)⟩
    · exact ⟨_, (List.mem_cons_of_mem _ (List.mem_cons_of_mem _ (List.mem_cons_of_mem _ (List.mem_cons_of_mem _ (List.mem_cons_of_mem _ (List.mem_cons_of_mem _ List.mem_cons_self)))))), rows_mem 256 (by omega) inb_S2048x256_S256x256_256_0 y (by omega) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), rows_mem 0 (by omega) inb_S2048x256_S256x256_0_0 y (by omega) (by omega)⟩
  case cv =>
    intro y
    have hy : (y 0).val < 2048 := (y 0).isLt
    have : 1792 ≤ (y 0).val ∨ (1536 ≤ (y 0).val ∧ (y 0).val < 1792) ∨ (1280 ≤ (y 0).val ∧ (y 0).val < 1536) ∨ (1024 ≤ (y 0).val ∧ (y 0).val < 1280)
      ∨ (768 ≤ (y 0).val ∧ (y 0).val < 1024) ∨ (512 ≤ (y 0).val ∧ (y 0).val < 768) ∨ (256 ≤ (y 0).val ∧ (y 0).val < 512) ∨ (y 0).val < 256 := by omega
    rcases this with h | h | h | h | h | h | h | h
    · exact ⟨_, List.mem_cons_self, rows_mem 1792 (by omega) inb_S2048x256_S256x256_1792_0 y (by omega) (by omega)⟩
    · exact ⟨_, (List.mem_cons_of_mem _ List.mem_cons_self), rows_mem 1536 (by omega) inb_S2048x256_S256x256_1536_0 y (by omega) (by omega)⟩
    · exact ⟨_, (List.mem_cons_of_mem _ (List.mem_cons_of_mem _ List.mem_cons_self)), rows_mem 1280 (by omega) inb_S2048x256_S256x256_1280_0 y (by omega) (by omega)⟩
    · exact ⟨_, (List.mem_cons_of_mem _ (List.mem_cons_of_mem _ (List.mem_cons_of_mem _ List.mem_cons_self))), rows_mem 1024 (by omega) inb_S2048x256_S256x256_1024_0 y (by omega) (by omega)⟩
    · exact ⟨_, (List.mem_cons_of_mem _ (List.mem_cons_of_mem _ (List.mem_cons_of_mem _ (List.mem_cons_of_mem _ List.mem_cons_self)))), rows_mem 768 (by omega) inb_S2048x256_S256x256_768_0 y (by omega) (by omega)⟩
    · exact ⟨_, (List.mem_cons_of_mem _ (List.mem_cons_of_mem _ (List.mem_cons_of_mem _ (List.mem_cons_of_mem _ (List.mem_cons_of_mem _ List.mem_cons_self))))), rows_mem 512 (by omega) inb_S2048x256_S256x256_512_0 y (by omega) (by omega)⟩
    · exact ⟨_, (List.mem_cons_of_mem _ (List.mem_cons_of_mem _ (List.mem_cons_of_mem _ (List.mem_cons_of_mem _ (List.mem_cons_of_mem _ (List.mem_cons_of_mem _ List.mem_cons_self)))))), rows_mem 256 (by omega) inb_S2048x256_S256x256_256_0 y (by omega) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), rows_mem 0 (by omega) inb_S2048x256_S256x256_0_0 y (by omega) (by omega)⟩
  refine ⟨fun y => ?_, fun y => ?_, fun i l => ?_, fun i l => ?_, fun l => ?_, fun l => ?_⟩
  · exact View.canon_apply_of_pieces _ _ pg.mem y (cg y (y 0).isLt)
  · exact View.canon_apply_of_pieces _ _ pv.mem y (cv y (y 0).isLt)
  · match i with
    | 0 => exact (cat12_0 _ _ _ _ l).trans (congrArg _ (su l).1)
    | 1 => exact (cat12_1 _ _ _ _ l).trans (congrArg _ (su l).2.1)
    | 2 => exact (cat12_2 _ _ _ _ l).trans (congrArg _ (su l).2.2.1)
  · match i with
    | 0 => exact (cat13_0 _ _ _ _ l).trans (congrArg _ (su l).2.2.2.1)
    | 1 => exact (cat13_1 _ _ _ _ l).trans (congrArg _ (su l).2.2.2.2.1)
    | 2 => exact (cat13_2 _ _ _ _ l).trans (congrArg _ (su l).2.2.2.2.2)
  · exact (bias14 _ _ _ l).trans (congrArg _ ((bias2 _ _ l).trans
      (col_step _ 1792 (by omega) inb_S2048x256_S256x256_1792_0 _ (rows_gate _ _ _ _ 1792 (by omega) _ _ _ inb_S2048x256_S256x256_1792_0 _ (fun r l => gate98 _ _ _ _ r l)) l _ ((bias93 _ _ l).trans
      (col_step _ 1536 (by omega) inb_S2048x256_S256x256_1536_0 _ (rows_gate _ _ _ _ 1536 (by omega) _ _ _ inb_S2048x256_S256x256_1536_0 _ (fun r l => gate89 _ _ _ _ r l)) l _ ((bias84 _ _ l).trans
      (col_step _ 1280 (by omega) inb_S2048x256_S256x256_1280_0 _ (rows_gate _ _ _ _ 1280 (by omega) _ _ _ inb_S2048x256_S256x256_1280_0 _ (fun r l => gate80 _ _ _ _ r l)) l _ ((bias75 _ _ l).trans
      (col_step _ 1024 (by omega) inb_S2048x256_S256x256_1024_0 _ (rows_gate _ _ _ _ 1024 (by omega) _ _ _ inb_S2048x256_S256x256_1024_0 _ (fun r l => gate71 _ _ _ _ r l)) l _ ((bias66 _ _ l).trans
      (col_step _ 768 (by omega) inb_S2048x256_S256x256_768_0 _ (rows_gate _ _ _ _ 768 (by omega) _ _ _ inb_S2048x256_S256x256_768_0 _ (fun r l => gate62 _ _ _ _ r l)) l _ ((bias57 _ _ l).trans
      (col_step _ 512 (by omega) inb_S2048x256_S256x256_512_0 _ (rows_gate _ _ _ _ 512 (by omega) _ _ _ inb_S2048x256_S256x256_512_0 _ (fun r l => gate53 _ _ _ _ r l)) l _ ((bias48 _ _ _ _ _ l).trans
      (col_step _ 256 (by omega) inb_S2048x256_S256x256_256_0 _ (rows_gate _ _ _ _ 256 (by omega) _ _ _ inb_S2048x256_S256x256_256_0 _ (fun r l => gate43 _ _ _ _ r l)) l _ ((bias38 _ _ _ _ _ l).trans
      (col_step _ 0 (by omega) inb_S2048x256_S256x256_0_0 _ (rows_gate _ _ _ _ 0 (by omega) _ _ _ inb_S2048x256_S256x256_0_0 _ (fun r l => gate33 _ _ _ _ r l)) l _ ((zeros l).trans (by simp)))))))))))))))))))
  · exact (bias15 _ _ _ l).trans (congrArg _ ((bias3 _ _ l).trans
      (col_step _ 1792 (by omega) inb_S2048x256_S256x256_1792_0 _ (rows_value _ _ _ 1792 (by omega) _ _ inb_S2048x256_S256x256_1792_0 _ (fun r l => value99 _ _ _ r l)) l _ ((bias94 _ _ l).trans
      (col_step _ 1536 (by omega) inb_S2048x256_S256x256_1536_0 _ (rows_value _ _ _ 1536 (by omega) _ _ inb_S2048x256_S256x256_1536_0 _ (fun r l => value90 _ _ _ r l)) l _ ((bias85 _ _ l).trans
      (col_step _ 1280 (by omega) inb_S2048x256_S256x256_1280_0 _ (rows_value _ _ _ 1280 (by omega) _ _ inb_S2048x256_S256x256_1280_0 _ (fun r l => value81 _ _ _ r l)) l _ ((bias76 _ _ l).trans
      (col_step _ 1024 (by omega) inb_S2048x256_S256x256_1024_0 _ (rows_value _ _ _ 1024 (by omega) _ _ inb_S2048x256_S256x256_1024_0 _ (fun r l => value72 _ _ _ r l)) l _ ((bias67 _ _ l).trans
      (col_step _ 768 (by omega) inb_S2048x256_S256x256_768_0 _ (rows_value _ _ _ 768 (by omega) _ _ inb_S2048x256_S256x256_768_0 _ (fun r l => value63 _ _ _ r l)) l _ ((bias58 _ _ l).trans
      (col_step _ 512 (by omega) inb_S2048x256_S256x256_512_0 _ (rows_value _ _ _ 512 (by omega) _ _ inb_S2048x256_S256x256_512_0 _ (fun r l => value54 _ _ _ r l)) l _ ((bias49 _ _ l).trans
      (col_step _ 256 (by omega) inb_S2048x256_S256x256_256_0 _ (rows_value _ _ _ 256 (by omega) _ _ inb_S2048x256_S256x256_256_0 _ (fun r l => value44 _ _ _ r l)) l _ ((bias39 _ _ l).trans
      (col_step _ 0 (by omega) inb_S2048x256_S256x256_0_0 _ (rows_value _ _ _ 0 (by omega) _ _ inb_S2048x256_S256x256_0_0 _ (fun r l => value34 _ _ _ r l)) l _ ((zeros l).trans (by simp)))))))))))))))))))

end Cert.Proof.Conv
-- ==== Proof.ConvOperands.lean ====
module

public import proofs.«01_k».proof.Proof.ConvOuts
public import proofs.«01_k».proof.Proof.ConvReference
public import Idealize.ShloMosaic.Lib.StableHlo.ReadAt

@[expose] public section

set_option maxRecDepth 16384

noncomputable section

namespace Cert.Proof.Conv

open Idealize.ShloMosaic Idealize.ShloMosaic.TcCoe Idealize.SL.Sem
open Cert.ConvKernelIdeal Cert.ConvKernelIdeal.Gen
open Idealize.ShloMosaic.Pipeline (Dat)

variable (m : (ℓ : Loc nD τ sig) → Buf (Elt Ideal) ℓ)

/-- Where each window's block sits: point `t` is column tile `t / 2` of sequence `t % 2`. -/
theorem place : ∀ t : Fin cfg0.N,
    win0_0.index t = ![t.val % 2, t.val / 2] ∧ win0_1.index t = ![t.val % 2, t.val / 2] ∧ win0_2.index t = ![t.val % 2, t.val / 2]
      ∧ win0_3.index t = ![t.val % 2, t.val / 2] ∧ win0_4.index t = ![t.val % 2, 0] ∧ win0_5.index t = ![t.val / 2, 0]
      ∧ win0_6.index t = ![0, t.val / 2] ∧ win0_7.index t = ![0, t.val / 2]
      ∧ win0_8.index t = ![t.val % 2, t.val / 2] ∧ win0_9.index t = ![t.val % 2, t.val / 2]
      ∧ win0_10.index t = ![0, t.val / 2] ∧ win0_11.index t = ![0, t.val / 2]
      ∧ win0_12.index t = ![0, t.val / 2] ∧ win0_13.index t = ![0, t.val / 2] :=
  (by decide +kernel : ∀ t : Fin grid0.N, _)

/-- The sequence of point `t`. -/
abbrev seqOf (t : Fin cfg0.N) : Fin 2 := ⟨t.val % 2, by omega⟩

/-- The column of the array at column `l` of point `t`'s tile. -/
abbrev colOf (t : Fin cfg0.N) (l : Fin 256) : Fin 2816 := ⟨t.val / 2 * 256 + l.val, by have := t.isLt; have : cfg0.N = 22 := N_0; omega⟩

/-- The row of the array at row `n` of point `t`'s sequence. -/
abbrev rowOf (t : Fin cfg0.N) (n : Fin 2048) : Fin 4096 := ⟨t.val % 2 * 2048 + n.val, by omega⟩

/-- A column of the first half of the 5632 columns. -/
abbrev gateCol (l : Fin 2816) : Fin 5632 := ⟨l.val, by omega⟩

/-- A column of the second half. -/
abbrev valueCol (l : Fin 2816) : Fin 5632 := ⟨2816 + l.val, by omega⟩

/-- The five arguments on device `c`. -/
abbrev arg0 (c : Dev nD) : FVec Ideal S2x2048x1024 .bf16 := m ((c : Thread nD τ).loc main_arg0)
abbrev arg1 (c : Dev nD) : FVec Ideal S2x2048x5632 .bf16 := m ((c : Thread nD τ).loc main_arg1)
abbrev arg2 (c : Dev nD) : FVec Ideal S3x5632 .f32 := m ((c : Thread nD τ).loc main_arg2)
abbrev arg3 (c : Dev nD) : FVec Ideal S5632 .f32 := m ((c : Thread nD τ).loc main_arg3)
abbrev arg4 (c : Dev nD) : FVec Ideal S2816x1024 .bf16 := m ((c : Thread nD τ).loc main_arg4)

/-- The zeros in front of the sequences, as the host has them when it joins them to `z`. -/
theorem front_apply (c : Dev nD) (i : S2x2x5632.Idx) :
    (StableHlo.upto hostOps0 (fun b => m (c, b)) 3 (Proc.tc.devRef main_v0) : FVec Ideal S2x2x5632 .f32) i = (0 : EReal) := by
  after_reads_at

/-- The sequences, as the host has them then. -/
theorem body_apply (c : Dev nD) (i : S2x2048x5632.Idx) :
    (StableHlo.upto hostOps0 (fun b => m (c, b)) 3 (Proc.tc.devRef main_v1) : FVec Ideal S2x2048x5632 .f32) i = (arg1 m c i : EReal) := by
  after_reads_at

/-- Zeros joined in front of the sequences, then bias and taps: the reference's convolution. -/
theorem joined (x1 : FVec Ideal S2x2048x5632 .bf16) (x2 : FVec Ideal S3x5632 .f32) (x3 : FVec Ideal S5632 .f32)
    (f : S2x2x5632.Idx → EReal) (g : S2x2048x5632.Idx → EReal) (hf : ∀ i, f i = 0) (hg : ∀ i, g i = x1 i)
    (b : Fin 2) (n : Fin 2048) (q : Fin 5632) :
    ((x3 (ix1 q) + x2 (ix2 0 q) * (if h : n.val < 2 then f (ix3 b ⟨n.val, h⟩ q) else g (ix3 b ⟨n.val - 2, by omega⟩ q)))
      + x2 (ix2 1 q) * (if h : 1 + n.val < 2 then f (ix3 b ⟨1 + n.val, h⟩ q) else g (ix3 b ⟨1 + n.val - 2, by omega⟩ q)))
      + x2 (ix2 2 q) * g (ix3 b n q) = Ref.conv x1 x2 x3 b n q := by
  unfold Ref.conv Ref.padded
  have hn := n.isLt
  have e2 : (⟨2 + n.val - 2, by omega⟩ : Fin 2048) = n := Fin.ext (by dsimp only; omega)
  rw [dif_pos (show 2 ≤ 2 + n.val ∧ 2 + n.val < 2050 by omega), e2, hg]
  congr 2
  · congr 2
    split_ifs <;> first | exact hf _ | exact hg _ | omega
  · congr 1
    split_ifs <;> first | exact hf _ | exact hg _ | omega

/-- The convolution's gate half, as the call receives it: what the forward saved. -/
theorem saved_gate (c : Dev nD) (r : Fin 4096) (l : Fin 2816) :
    (V m c main_v32 : FVec Ideal S4096x2816 .bf16) (ix2 r l)
      = Ref.conv (arg1 m c) (arg2 m c) (arg3 m c) ⟨r.val / 2048, by omega⟩ ⟨r.val % 2048, by omega⟩ (gateCol l) := by
  unfold V
  after_reads_at
  exact joined (arg1 m c) (arg2 m c) (arg3 m c) _ _ (front_apply m c) (body_apply m c) ⟨r.val / 2048, by omega⟩ ⟨r.val % 2048, by omega⟩ (gateCol l)

/-- The convolution's value half, as the call receives it. -/
theorem saved_value (c : Dev nD) (r : Fin 4096) (l : Fin 2816) :
    (V m c main_v33 : FVec Ideal S4096x2816 .bf16) (ix2 r l)
      = Ref.conv (arg1 m c) (arg2 m c) (arg3 m c) ⟨r.val / 2048, by omega⟩ ⟨r.val % 2048, by omega⟩ (valueCol l) := by
  unfold V
  after_reads_at
  exact joined (arg1 m c) (arg2 m c) (arg3 m c) _ _ (front_apply m c) (body_apply m c) ⟨r.val / 2048, by omega⟩ ⟨r.val % 2048, by omega⟩ (valueCol l)

theorem c_gate (c : Dev nD) (t : Fin cfg0.N) (n : Fin 2048) (l : Fin 256) :
    (iblk m c 2 t : Vec Ideal S2048x256 .bf16) (ix2 n l) = Ref.conv (arg1 m c) (arg2 m c) (arg3 m c) (seqOf t) n (gateCol (colOf t l)) := by
  refine Eq.trans ?_ ((saved_gate m c (rowOf t n) (colOf t l)).trans ?_)
  · blk_ext [iblk, (place t).2.2.1]
  · congr 1 <;> exact Fin.ext (by dsimp only; omega)

theorem c_value (c : Dev nD) (t : Fin cfg0.N) (n : Fin 2048) (l : Fin 256) :
    (iblk m c 3 t : Vec Ideal S2048x256 .bf16) (ix2 n l) = Ref.conv (arg1 m c) (arg2 m c) (arg3 m c) (seqOf t) n (valueCol (colOf t l)) := by
  refine Eq.trans ?_ ((saved_value m c (rowOf t n) (colOf t l)).trans ?_)
  · blk_ext [iblk, (place t).2.2.2.1]
  · congr 1 <;> exact Fin.ext (by dsimp only; omega)

theorem z_gate (c : Dev nD) (t : Fin cfg0.N) (n : Fin 2048) (l : Fin 256) :
    (iblk m c 0 t : Vec Ideal S2048x256 .bf16) (ix2 n l) = arg1 m c (ix3 (seqOf t) n (gateCol (colOf t l))) := by
  have e : (V m c main_v30 : FVec Ideal S4096x2816 .bf16) (ix2 (rowOf t n) (colOf t l)) = arg1 m c (ix3 (seqOf t) n (gateCol (colOf t l))) := by
    unfold V
    after_reads_at
    blk_ext
  refine Eq.trans ?_ e
  blk_ext [iblk, (place t).1]

theorem z_value (c : Dev nD) (t : Fin cfg0.N) (n : Fin 2048) (l : Fin 256) :
    (iblk m c 1 t : Vec Ideal S2048x256 .bf16) (ix2 n l) = arg1 m c (ix3 (seqOf t) n (valueCol (colOf t l))) := by
  have e : (V m c main_v31 : FVec Ideal S4096x2816 .bf16) (ix2 (rowOf t n) (colOf t l)) = arg1 m c (ix3 (seqOf t) n (valueCol (colOf t l))) := by
    unfold V
    after_reads_at
    blk_ext
  refine Eq.trans ?_ e
  blk_ext [iblk, (place t).2.1]

theorem ct_block (c : Dev nD) (t : Fin cfg0.N) (n : Fin 2048) (x : Fin 1024) :
    (iblk m c 4 t : Vec Ideal S2048x1024 .bf16) (ix2 n x) = arg0 m c (ix3 (seqOf t) n x) := by
  have e : (V m c main_v28 : FVec Ideal S4096x1024 .bf16) (ix2 (rowOf t n) x) = arg0 m c (ix3 (seqOf t) n x) := by
    unfold V
    after_reads_at
    blk_ext
  refine Eq.trans ?_ e
  blk_ext [iblk, (place t).2.2.2.2.1]

theorem wd_block (c : Dev nD) (t : Fin cfg0.N) (l : Fin 256) (x : Fin 1024) :
    (iblk m c 5 t : Vec Ideal S256x1024 .bf16) (ix2 l x) = arg4 m c (ix2 (colOf t l) x) := by
  blk_point [iblk, V, (place t).2.2.2.2.2.1]

theorem w_gate (c : Dev nD) (t : Fin cfg0.N) (i : Fin 3) (l : Fin 256) :
    (iblk m c 6 t : Vec Ideal S3x256 .f32) (ix2 i l) = arg2 m c (ix2 i (gateCol (colOf t l))) := by
  have e : (V m c main_v34 : FVec Ideal S3x2816 .f32) (ix2 i (colOf t l)) = arg2 m c (ix2 i (gateCol (colOf t l))) := by
    unfold V
    after_reads_at
  refine Eq.trans ?_ e
  blk_ext [iblk, (place t).2.2.2.2.2.2.1]

theorem w_value (c : Dev nD) (t : Fin cfg0.N) (i : Fin 3) (l : Fin 256) :
    (iblk m c 7 t : Vec Ideal S3x256 .f32) (ix2 i l) = arg2 m c (ix2 i (valueCol (colOf t l))) := by
  have e : (V m c main_v35 : FVec Ideal S3x2816 .f32) (ix2 i (colOf t l)) = arg2 m c (ix2 i (valueCol (colOf t l))) := by
    unfold V
    after_reads_at
  refine Eq.trans ?_ e
  blk_ext [iblk, (place t).2.2.2.2.2.2.2.1]

/-- The cotangent of the activation in the block of point `t` is the reference's. -/
theorem dot_block (c : Dev nD) (t : Fin cfg0.N) (n : Fin 2048) (l : Fin 256) :
    dot (n := 2048) (a := 256) (iblk m c 4 t) (iblk m c 5 t) n l = Ref.dact (arg0 m c) (arg4 m c) (seqOf t) n (colOf t l) := by
  unfold dot Ref.dact
  exact Finset.sum_congr rfl fun x _ => congrArg₂ (· * ·) (ct_block m c t n x) (wd_block m c t l x)

end Cert.Proof.Conv

end
-- ==== Proof.RealValues.lean ====
module

public import proofs.«01_k».proof.Defs
public import Idealize.ShloMosaic.Lib.Pipeline.ValueKit
public import Idealize.ShloMosaic.Lib.ReduceAll

@[expose] public section

set_option maxRecDepth 16384

noncomputable section

namespace Cert.Proof.RealValues

open Idealize.ShloMosaic Idealize.ShloMosaic.TcCoe Idealize.SL.Sem

/-- An extended real that is a real number. -/
def IsReal (x : EReal) : Prop := ∃ r : ℝ, x = (r : EReal)

theorem isReal_zero : IsReal 0 := ⟨0, rfl⟩

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A value whose absolute value lies below infinity is a real number. -/
theorem isReal_of_abs_lt (x : EReal) (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  induction x with
  | bot => simp [Ideal.cmp] at h
  | coe r => exact ⟨r, rfl⟩
  | top => simp [Ideal.cmp] at h

/-- The logistic function at a real number. -/
theorem logistic_coe (r : ℝ) : Ideal.div 1 (1 + Ideal.exp ((-r : ℝ) : EReal)) = ((1 / (1 + Real.exp (-r)) : ℝ) : EReal) := by
  have h : (1 : EReal) + Ideal.exp ((-r : ℝ) : EReal) = ((1 + Real.exp (-r) : ℝ) : EReal) := by
    rw [Ideal.exp_coe, EReal.coe_add, EReal.coe_one]
  have hp : 1 + Real.exp (-r) ≠ 0 := by have := Real.exp_pos (-r); positivity
  rw [h, Ideal.div_coe hp, one_mul]

/-- The derivative of `x · logistic x`, times `a`, in the two spellings. -/
theorem silu_slope (a g s : ℝ) :
    (a : EReal) * ((s : EReal) * (1 + (g : EReal) * (1 - (s : EReal)))) = (a : EReal) * s + (g : EReal) * a * ((s : EReal) * (1 - (s : EReal))) := by
  have h1 : (1 : EReal) - (s : EReal) = ((1 - s : ℝ) : EReal) := by rw [EReal.coe_sub, EReal.coe_one]
  have h2 : (1 : EReal) + (g : EReal) * ((1 - s : ℝ) : EReal) = ((1 + g * (1 - s) : ℝ) : EReal) := by
    rw [EReal.coe_add, EReal.coe_mul, EReal.coe_one]
  rw [h1, h2, ← EReal.coe_mul, ← EReal.coe_mul, ← EReal.coe_mul, ← EReal.coe_mul, ← EReal.coe_mul, ← EReal.coe_mul, ← EReal.coe_add]
  congr 1
  ring

end Cert.Proof.RealValues

end
-- ==== Proof.ConvFinite.lean ====
module

public import proofs.«01_k».proof.Proof.ConvReference
public import proofs.«01_k».proof.Proof.ConvOperands
public import proofs.«01_k».proof.Proof.RealValues

@[expose] public section

set_option maxRecDepth 16384

noncomputable section

namespace Cert.Proof.Conv

open Idealize.ShloMosaic Idealize.ShloMosaic.TcCoe Idealize.SL.Sem
open Cert.Proof.RealValues

section
variable [Cert.Pre_finite_conv.Facts]

/-- The precondition's value at one: every argument's entries are real numbers. -/
theorem finite_entries (x0 : FVec Ideal Pre_finite_conv.S2x2048x1024 .bf16) (x1 : FVec Ideal Pre_finite_conv.S2x2048x5632 .bf16)
    (x2 : FVec Ideal Pre_finite_conv.S3x5632 .f32) (x3 : FVec Ideal Pre_finite_conv.S5632 .f32) (x4 : FVec Ideal Pre_finite_conv.S2816x1024 .bf16)
    (h : Cert.Pre_finite_conv.fn (F := Ideal) x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  have split : ∀ a b : BitVec 1, IntOp.andi a b = 1#1 → a = 1#1 ∧ b = 1#1 := by decide
  have hs : Subsingleton Pre_finite_conv.S_.Idx := ⟨fun a b => funext fun k => k.elim0⟩
  have e := congrFun h ix0
  dsimp only [Cert.Pre_finite_conv.fn, Cert.Pre_finite_conv.fn_part1] at e
  obtain ⟨e, e4⟩ := split _ _ e
  obtain ⟨e, e3⟩ := split _ _ e
  obtain ⟨e, e2⟩ := split _ _ e
  obtain ⟨e0, e1⟩ := split _ _ e
  refine ⟨fun i => ?_, fun i => ?_, fun i => ?_, fun i => ?_, fun i => ?_⟩
  · exact isReal_of_abs_lt _ (Host.reduce_andi_all _ _ _ _ _ e0 i)
  · exact isReal_of_abs_lt _ (Host.reduce_andi_all _ _ _ _ _ e1 i)
  · exact isReal_of_abs_lt _ (Host.reduce_andi_all _ _ _ _ _ e2 i)
  · exact isReal_of_abs_lt _ (Host.reduce_andi_all _ _ _ _ _ e3 i)
  · exact isReal_of_abs_lt _ (Host.reduce_andi_all _ _ _ _ _ e4 i)
end

section
open Cert.ConvReferenceIdeal

variable (x0 : FVec Ideal S2x2048x1024 .bf16) (x1 : FVec Ideal S2x2048x5632 .bf16) (x2 : FVec Ideal S3x5632 .f32) (x3 : FVec Ideal S5632 .f32) (x4 : FVec Ideal S2816x1024 .bf16)

theorem conv_real (h1 : ∀ i, IsReal (x1 i)) (h2 : ∀ i, IsReal (x2 i)) (h3 : ∀ i, IsReal (x3 i)) (b : Fin 2) (n : Fin 2048) (q : Fin 5632) :
    IsReal (Ref.conv x1 x2 x3 b n q) := by
  have hp : ∀ k, IsReal (Ref.padded x1 b k q) := fun k => by
    unfold Ref.padded
    split_ifs
    · exact h1 _
    · exact isReal_zero
  exact (((h3 _).add ((h2 _).mul (hp _))).add ((h2 _).mul (hp _))).add ((h2 _).mul (hp _))

theorem dact_real (h0 : ∀ i, IsReal (x0 i)) (h4 : ∀ i, IsReal (x4 i)) (b : Fin 2) (n : Fin 2048) (l : Fin 2816) :
    IsReal (Ref.dact x0 x4 b n l) :=
  isReal_sum _ _ fun x _ => (h0 _).mul (h4 _)

end

/-- The kernel's spelling of the gate's cotangent and the reference's agree at real numbers. -/
theorem gate_slope (d g v : EReal) (hd : IsReal d) (hg : IsReal g) (hv : IsReal v) :
    gG d g v = d * v * Ref.sig g + g * (d * v) * (Ref.sig g * (1 - Ref.sig g)) := by
  obtain ⟨d, rfl⟩ := hd
  obtain ⟨g, rfl⟩ := hg
  obtain ⟨v, rfl⟩ := hv
  have e1 : sg (g : EReal) = ((1 / (1 + Real.exp (-g)) : ℝ) : EReal) := by
    unfold sg; rw [zero_sub]; exact logistic_coe g
  have e2 : Ref.sig (g : EReal) = ((1 / (1 + Real.exp (-g)) : ℝ) : EReal) := logistic_coe g
  unfold gG
  rw [e1, e2, ← EReal.coe_mul d v]
  exact silu_slope (d * v) g _

/-- The value's cotangent in the two spellings. -/
theorem value_slope (d g : EReal) : gV d g = g * Ref.sig g * d := by
  unfold gV sg Ref.sig
  rw [zero_sub, mul_comm]

end Cert.Proof.Conv

end
-- ==== Proof.ConvArrays.lean ====
module

public import proofs.«01_k».proof.Proof.ConvFinite

@[expose] public section

set_option maxRecDepth 16384

noncomputable section

namespace Cert.Proof.Conv

open Idealize.ShloMosaic Idealize.ShloMosaic.TcCoe Idealize.SL.Sem
open Cert.ConvKernelIdeal Cert.ConvKernelIdeal.Gen
open Idealize.ShloMosaic.Pipeline (Dat)
open Cert.Proof.RealValues
open Cert.ConvReferenceIdeal.Read

variable (m : (ℓ : Loc nD τ sig) → Buf (Elt Ideal) ℓ)

/-- The arguments of device `c` hold real numbers. -/
def Finite (c : Dev nD) : Prop :=
  (∀ i, IsReal (arg0 m c i)) ∧ (∀ i, IsReal (arg1 m c i)) ∧ (∀ i, IsReal (arg2 m c i)) ∧ (∀ i, IsReal (arg3 m c i)) ∧ (∀ i, IsReal (arg4 m c i))

/-- The reference's cotangent of the convolution, of device `c`'s arguments. -/
abbrev dref (c : Dev nD) (b : Fin 2) (k : ℕ) (q : Fin 5632) : EReal :=
  Ref.dconv (arg0 m c) (arg1 m c) (arg2 m c) (arg3 m c) (arg4 m c) b k q

theorem dG_eq (c : Dev nD) (h : Finite m c) (t : Fin cfg0.N) (n : Fin 2048) (l : Fin 256) :
    dG m c t (ix2 n l) = dref m c (seqOf t) n.val (gateCol (colOf t l)) := by
  obtain ⟨h0, h1, h2, h3, h4⟩ := h
  unfold dref Ref.dconv
  rw [dif_pos n.isLt]
  refine Eq.trans ?_ (Ref.dgate_apply (arg0 m c) (arg1 m c) (arg2 m c) (arg3 m c) (arg4 m c) (seqOf t) n (colOf t l) _ _ _ rfl rfl rfl).symm
  refine Eq.trans ?_ (gate_slope _ _ _ (dact_real _ _ h0 h4 _ _ _) (conv_real _ _ _ h1 h2 h3 _ _ _) (conv_real _ _ _ h1 h2 h3 _ _ _))
  exact congr (congr (congrArg gG (dot_block m c t n l)) (c_gate m c t n l)) (c_value m c t n l)

theorem dV_eq (c : Dev nD) (t : Fin cfg0.N) (n : Fin 2048) (l : Fin 256) :
    dV m c t (ix2 n l) = dref m c (seqOf t) n.val (valueCol (colOf t l)) := by
  unfold dref Ref.dconv
  rw [dif_pos n.isLt]
  refine Eq.trans ?_ (Ref.dvalue_apply (arg0 m c) (arg1 m c) (arg2 m c) (arg3 m c) (arg4 m c) (seqOf t) n (colOf t l) _ _ rfl rfl).symm
  refine Eq.trans ?_ (value_slope _ _)
  exact congr (congrArg gV (dot_block m c t n l)) (c_gate m c t n l)

section
variable (c : Dev nD) (t : Fin cfg0.N) (D : Vec Ideal S2048x256 .f32) (q : Fin 256 → Fin 5632)
  (hD : ∀ n l, D (ix2 n l) = dref m c (seqOf t) n.val (q l))
include hD

theorem down_eq (j : ℕ) (n : Fin 2048) (l : Fin 256) : down D j n l = dref m c (seqOf t) (n.val + j) (q l) := by
  unfold down
  by_cases h : n.val + j < 2048
  · rw [dif_pos h, hD]
  · rw [dif_neg h, dref, Ref.dconv, dif_neg h]

theorem spread_eq (w : Vec Ideal S3x256 .f32) (hw : ∀ i l, w (ix2 i l) = arg2 m c (ix2 i (q l))) (n : Fin 2048) (l : Fin 256) :
    spread D w (ix2 n l) = val_main_v75 (F := Ideal) (arg0 m c) (arg1 m c) (arg2 m c) (arg3 m c) (arg4 m c) (ix3 (seqOf t) n (q l)) := by
  rw [Ref.dz_apply]
  have e : ∀ j, down D j n l = _ := fun j => down_eq m c t D q hD j n l
  show (w (ix2 2 l) : EReal) * down D 0 n l + w (ix2 1 l) * down D 1 n l + w (ix2 0 l) * down D 2 n l = _
  rw [e, e, e, hw, hw, hw]
  rfl

theorem taps_eq (Z : Vec Ideal S2048x256 .bf16) (hZ : ∀ n l, Z (ix2 n l) = arg1 m c (ix3 (seqOf t) n (q l))) (i : Fin 3) (l : Fin 256) :
    ∑ n ∈ Finset.range 2048, tap D Z (2 - i.val) l n
      = ∑ n : Fin 2048, Ref.dconv (arg0 m c) (arg1 m c) (arg2 m c) (arg3 m c) (arg4 m c) (seqOf t) n.val (q l) * Ref.padded (arg1 m c) (seqOf t) (i.val + n.val) (q l) := by
  rw [Ref.tap_sum]
  refine Finset.sum_congr rfl fun n hn => ?_
  have h := Finset.mem_range.mp hn
  unfold tap
  rw [dif_pos h, dif_pos h, down_eq m c t D q hD, hZ]

theorem col_eq (l : Fin 256) :
    ∑ n ∈ Finset.range 2048, col D l n
      = ∑ n : Fin 2048, Ref.dconv (arg0 m c) (arg1 m c) (arg2 m c) (arg3 m c) (arg4 m c) (seqOf t) n.val (q l) := by
  rw [← Fin.sum_univ_eq_sum_range (fun n => col D l n) 2048]
  refine Finset.sum_congr rfl fun n _ => ?_
  unfold col
  rw [dif_pos n.isLt, hD]

end

/-- The gradient at the gate half of `z` after the run. -/
theorem final8 (c : Dev nD) (h : Finite m c) : (dats m 0 c).arrAt 8 (cfgs 0).N
    = val_main_v77 (F := Ideal) (arg0 m c) (arg1 m c) (arg2 m c) (arg3 m c) (arg4 m c) := by
  refine (dats m 0 c).arrAt_eq_of_covers 8 _ (by decide +kernel) fun t _ y => ?_
  blk_simp
  rw [after0_8]
  idx_vars y
  have e : ((View.whole main_v36_0).slice ((win0 8).rect t)).emb (ix2 y0 y1) = ix2 (rowOf t y0) (colOf t y1) := by
    blk_ext [place t]
  erw [e]
  have o : (outsAt0 m c t.val t.isLt).1 (ix2 y0 y1) = spread (dG m c t) (iblk m c 6 t) (ix2 y0 y1) := by
    by_cases p : t.val % 2 = 0
    · exact (outsA m c t p (by omega)).1 _
    · exact (outsB m c t p (by omega)).1 _
  refine o.trans ?_
  rw [spread_eq m c t _ (fun l => gateCol (colOf t l)) (dG_eq m c h t) _ (w_gate m c t), Ref.dz_gate]
  congr 1
  blk_ext

/-- The gradient at the value half of `z` after the run. -/
theorem final9 (c : Dev nD) : (dats m 0 c).arrAt 9 (cfgs 0).N
    = val_main_v78 (F := Ideal) (arg0 m c) (arg1 m c) (arg2 m c) (arg3 m c) (arg4 m c) := by
  refine (dats m 0 c).arrAt_eq_of_covers 9 _ (by decide +kernel) fun t _ y => ?_
  blk_simp
  rw [after0_9]
  idx_vars y
  have e : ((View.whole main_v36_1).slice ((win0 9).rect t)).emb (ix2 y0 y1) = ix2 (rowOf t y0) (colOf t y1) := by
    blk_ext [place t]
  erw [e]
  have o : (outsAt0 m c t.val t.isLt).2.1 (ix2 y0 y1) = spread (dV m c t) (iblk m c 7 t) (ix2 y0 y1) := by
    by_cases p : t.val % 2 = 0
    · exact (outsA m c t p (by omega)).2.1 _
    · exact (outsB m c t p (by omega)).2.1 _
  refine o.trans ?_
  rw [spread_eq m c t _ (fun l => valueCol (colOf t l)) (dV_eq m c t) _ (w_value m c t), Ref.dz_value]
  congr 1
  blk_ext

/-- Only a tile's second point writes its block of the summed outputs back. -/
theorem flush_odd : ∀ t : Fin cfg0.N, ((cfg0.win 10).flush t = true → t.val % 2 = 1) ∧ ((cfg0.win 11).flush t = true → t.val % 2 = 1)
    ∧ ((cfg0.win 12).flush t = true → t.val % 2 = 1) ∧ ((cfg0.win 13).flush t = true → t.val % 2 = 1) :=
  (by decide +kernel : ∀ t : Fin grid0.N, _)

/-- The point before `t`. -/
abbrev before (t : Fin cfg0.N) : Fin cfg0.N := ⟨t.val - 1, by have := t.isLt; omega⟩

theorem seq_before (t : Fin cfg0.N) (p : t.val % 2 = 1) : seqOf (before t) = 0 ∧ seqOf t = 1 :=
  ⟨Fin.ext (show (t.val - 1) % 2 = 0 by omega), Fin.ext p⟩

theorem col_before (t : Fin cfg0.N) (p : t.val % 2 = 1) (l : Fin 256) : colOf (before t) l = colOf t l :=
  Fin.ext (show (t.val - 1) / 2 * 256 + l.val = t.val / 2 * 256 + l.val by omega)

/-- The gradient at the gate half of the taps after the run. -/
theorem final10 (c : Dev nD) (h : Finite m c) : (dats m 0 c).arrAt 10 (cfgs 0).N
    = val_main_v79 (F := Ideal) (arg0 m c) (arg1 m c) (arg2 m c) (arg3 m c) (arg4 m c) := by
  refine (dats m 0 c).arrAt_eq_of_covers 10 _ (by decide +kernel) fun t hf y => ?_
  have p := (flush_odd t).1 hf
  blk_simp
  rw [after0_10]
  idx_vars y
  have e : ((View.whole main_v36_2).slice ((win0 10).rect t)).emb (ix2 y0 y1) = ix2 y0 (colOf t y1) := by
    blk_ext [place t]
  erw [e]
  refine ((outsB m c t (by omega) p).2.2.1 y0 y1).trans ?_
  refine (congrArg (· + _) ((outsA m c (before t) (by dsimp only; omega) (by dsimp only; omega)).2.2.1 y0 y1)).trans ?_
  rw [taps_eq m c t _ (fun l => gateCol (colOf t l)) (dG_eq m c h t) _ (z_gate m c t),
    taps_eq m c (before t) _ (fun l => gateCol (colOf (before t) l)) (dG_eq m c h (before t)) _ (z_gate m c (before t)),
    Ref.dw_gate, Ref.dw_apply, Fin.sum_univ_two, (seq_before t p).1, (seq_before t p).2, col_before t p]

/-- The gradient at the value half of the taps after the run. -/
theorem final11 (c : Dev nD) : (dats m 0 c).arrAt 11 (cfgs 0).N
    = val_main_v80 (F := Ideal) (arg0 m c) (arg1 m c) (arg2 m c) (arg3 m c) (arg4 m c) := by
  refine (dats m 0 c).arrAt_eq_of_covers 11 _ (by decide +kernel) fun t hf y => ?_
  have p := (flush_odd t).2.1 hf
  blk_simp
  rw [after0_11]
  idx_vars y
  have e : ((View.whole main_v36_3).slice ((win0 11).rect t)).emb (ix2 y0 y1) = ix2 y0 (colOf t y1) := by
    blk_ext [place t]
  erw [e]
  refine ((outsB m c t (by omega) p).2.2.2.1 y0 y1).trans ?_
  refine (congrArg (· + _) ((outsA m c (before t) (by dsimp only; omega) (by dsimp only; omega)).2.2.2.1 y0 y1)).trans ?_
  rw [taps_eq m c t _ (fun l => valueCol (colOf t l)) (dV_eq m c t) _ (z_value m c t),
    taps_eq m c (before t) _ (fun l => valueCol (colOf (before t) l)) (dV_eq m c (before t)) _ (z_value m c (before t)),
    Ref.dw_value, Ref.dw_apply, Fin.sum_univ_two, (seq_before t p).1, (seq_before t p).2, col_before t p]

/-- The gradient at the gate half of the bias after the run. -/
theorem final12 (c : Dev nD) (h : Finite m c) : (dats m 0 c).arrAt 12 (cfgs 0).N
    = val_main_v82 (F := Ideal) (arg0 m c) (arg1 m c) (arg2 m c) (arg3 m c) (arg4 m c) := by
  refine (dats m 0 c).arrAt_eq_of_covers 12 _ (by decide +kernel) fun t hf y => ?_
  have p := (flush_odd t).2.2.1 hf
  blk_simp
  rw [after0_12]
  idx_vars y
  obtain rfl : y0 = 0 := Subsingleton.elim _ _
  have e : ((View.whole main_v36_4).slice ((win0 12).rect t)).emb (ix2 0 y1) = ix2 0 (colOf t y1) := by
    blk_ext [place t]
  erw [e]
  refine ((outsB m c t (by omega) p).2.2.2.2.1 y1).trans ?_
  refine (congrArg (· + _) ((outsA m c (before t) (by dsimp only; omega) (by dsimp only; omega)).2.2.2.2.1 y1)).trans ?_
  rw [col_eq m c t _ (fun l => gateCol (colOf t l)) (dG_eq m c h t),
    col_eq m c (before t) _ (fun l => gateCol (colOf (before t) l)) (dG_eq m c h (before t)),
    Ref.db_gate, Ref.sum_bias, Fin.sum_univ_two, (seq_before t p).1, (seq_before t p).2, col_before t p]

/-- The gradient at the value half of the bias after the run. -/
theorem final13 (c : Dev nD) : (dats m 0 c).arrAt 13 (cfgs 0).N
    = val_main_v84 (F := Ideal) (arg0 m c) (arg1 m c) (arg2 m c) (arg3 m c) (arg4 m c) := by
  refine (dats m 0 c).arrAt_eq_of_covers 13 _ (by decide +kernel) fun t hf y => ?_
  have p := (flush_odd t).2.2.2 hf
  blk_simp
  rw [after0_13]
  idx_vars y
  obtain rfl : y0 = 0 := Subsingleton.elim _ _
  have e : ((View.whole main_v36_5).slice ((win0 13).rect t)).emb (ix2 0 y1) = ix2 0 (colOf t y1) := by
    blk_ext [place t]
  erw [e]
  refine ((outsB m c t (by omega) p).2.2.2.2.2 y1).trans ?_
  refine (congrArg (· + _) ((outsA m c (before t) (by dsimp only; omega) (by dsimp only; omega)).2.2.2.2.2 y1)).trans ?_
  rw [col_eq m c t _ (fun l => valueCol (colOf t l)) (dV_eq m c t),
    col_eq m c (before t) _ (fun l => valueCol (colOf (before t) l)) (dV_eq m c (before t)),
    Ref.db_value, Ref.sum_bias, Fin.sum_univ_two, (seq_before t p).1, (seq_before t p).2, col_before t p]

end Cert.Proof.Conv

end
-- ==== Proof.ConvClaims.lean ====
module

public import proofs.«01_k».proof.Proof.ConvArrays
public import proofs.«01_k».proof.Proof.Gen.ConvReferenceIdeal.Run
public import Idealize.ShloMosaic.Lib.Claim
public import Idealize.ShloMosaic.Lib.Quiescent

@[expose] public section

set_option maxRecDepth 16384

noncomputable section

namespace Cert.Proof.Conv

open Idealize.ShloMosaic Idealize.ShloMosaic.TcCoe Idealize.SL.Sem
open Cert.ConvReferenceIdeal.Read

instance : Cert.ConvKernelIdeal.Facts := Cert.ConvKernelIdeal.Gen.facts
instance : Cert.ConvReferenceIdeal.Facts := Cert.ConvReferenceIdeal.Gen.facts

/-- The relations between shapes that the precondition's operations take. -/
theorem finite_facts : Cert.Pre_finite_conv.Facts :=
  ⟨by decide, by decide, by decide, by decide, by decide, by decide, by decide, by decide, by decide, by decide, by decide, by decide⟩

instance : Cert.Pre_finite_conv.Facts := finite_facts

set_option maxHeartbeats 2000000 in
/-- Of real arguments the call's six results over the extended reals are the reference's gradients. -/
theorem algebraic : Cert.algebraic_ConvKernelIdeal_ConvReferenceIdeal_pre_finite_conv := by
  pair_intro
  · run_from Cert.ConvKernelIdeal.Value.run_blocks m g
  · run_from Cert.ConvReferenceIdeal.Value.run m' g'
    all_goals obtain ⟨e0, e1, e2, e3, e4⟩ := hagree c
    · rw [val_main_v77_eq, e0, e1, e2, e3, e4]; exact (final8 m c (finite_entries _ _ _ _ _ (hpre c))).symm
    · rw [val_main_v78_eq, e0, e1, e2, e3, e4]; exact (final9 m c).symm
    · rw [val_main_v79_eq, e0, e1, e2, e3, e4]; exact (final10 m c (finite_entries _ _ _ _ _ (hpre c))).symm
    · rw [val_main_v80_eq, e0, e1, e2, e3, e4]; exact (final11 m c).symm
    · rw [val_main_v82_eq, e0, e1, e2, e3, e4]; exact (final12 m c (finite_entries _ _ _ _ _ (hpre c))).symm
    · rw [val_main_v84_eq, e0, e1, e2, e3, e4]; exact (final13 m c).symm

/-- The reference's execution ends with its arguments unchanged and its counters at zero. -/
theorem quiescent : Cert.quiescent_ConvReferenceIdeal := by
  intro m g _
  exact (θ_run _ _ _).mono
    (fun r h => ⟨fun c => (h c).2.2.2.2.2.2, sem_eq_zero_of_no_sems (sig := Cert.ConvReferenceIdeal.sig) (by decide) _⟩)
    (Cert.ConvReferenceIdeal.Value.run m g)

end Cert.Proof.Conv

end
-- ==== Proof.DwDown.lean ====
module

public import proofs.«01_k».proof.Defs
public import proofs.«01_k».proof.Proof.Gen.DwDownKernelIdeal.Value
public import proofs.«01_k».proof.Proof.Gen.DwDownReferenceIdeal.Read
public import proofs.«01_k».proof.Proof.Gen.DwDownReferenceIdeal.Run
public import Idealize.ShloMosaic.Lib.Pipeline.ValueKit
public import Idealize.ShloMosaic.Lib.StableHlo.ReadAt
public import Idealize.ShloMosaic.Lib.Claim
public import Idealize.ShloMosaic.Lib.Quiescent

@[expose] public section

set_option maxRecDepth 16384

noncomputable section

namespace Cert.Proof.DwDown

open Idealize.ShloMosaic Idealize.ShloMosaic.TcCoe Idealize.SL.Sem
open Cert.DwDownKernelIdeal Cert.DwDownKernelIdeal.Gen
open Cert.DwDownReferenceIdeal.Read
open Idealize.ShloMosaic.Pipeline (Dat)

variable (m : (ℓ : Loc nD τ sig) → Buf (Elt Ideal) ℓ)

/-- Where each window's block sits at grid point `t`. -/
theorem place : ∀ t : Fin cfg0.N, win0_0.index t = ![0, t.val / 2] ∧ win0_1.index t = ![0, t.val % 2] ∧ win0_2.index t = ![t.val / 2, t.val % 2] :=
  (by decide +kernel : ∀ t : Fin grid0.N, _)

/-- The array index at which index `(r, l)` of the output block of point `t` sits. -/
abbrev pos (t : Fin cfg0.N) (r : Fin 1408) (l : Fin 512) : S2816x1024.Idx :=
  ix2 ⟨t.val / 2 * 1408 + r.val, by have := t.isLt; have : cfg0.N = 4 := N_0; omega⟩ ⟨t.val % 2 * 512 + l.val, by have := t.isLt; have : cfg0.N = 4 := N_0; omega⟩

/-- What point `t` computes is the reference's product at the block's place. -/
theorem payload (c : Dev nD) (t : Fin cfg0.N) (r : Fin 1408) (l : Fin 512) :
    k0_pay1 (F := Ideal) (iblk m c 0 t) (iblk m c 1 t) (ix2 r l) = val_main_v5 (F := Ideal) (m ((c : Thread nD τ).loc main_arg0)) (m ((c : Thread nD τ).loc main_arg1)) (pos t r l) := by
  pointwise [k0_pay1, val_main_v5, val_main_v4, val_main_v1, val_main_v0]
  refine Finset.sum_congr rfl fun k _ => ?_
  rw [mul_comm]
  blk_point [iblk, V, place t]

/-- The gradient at the down projection after the run. -/
theorem final (c : Dev nD) : (dats m 0 c).arrAt 2 (cfgs 0).N = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  have e : ((View.whole main_v0).slice ((win0 2).rect t)).emb (ix2 y0 y1) = pos t y0 y1 := by
    unfold pos; blk_ext [place t]
  erw [e]
  exact payload m c t y0 y1

instance : Cert.DwDownKernelIdeal.Facts := Cert.DwDownKernelIdeal.Gen.facts
instance : Cert.DwDownReferenceIdeal.Facts := Cert.DwDownReferenceIdeal.Gen.facts

/-- Over the extended reals the call's result is the reference's, at any arguments. -/
theorem algebraic : Cert.algebraic_DwDownKernelIdeal_DwDownReferenceIdeal := by
  pair_intro
  · run_from Cert.DwDownKernelIdeal.Value.run_blocks m g
  · run_from Cert.DwDownReferenceIdeal.Value.run m' g'
    · rw [val_main_v5_eq]; exact (final m c).symm

/-- The reference's execution ends with its arguments unchanged and its counters at zero. -/
theorem quiescent : Cert.quiescent_DwDownReferenceIdeal := by
  intro m g _
  exact (θ_run _ _ _).mono
    (fun r h => ⟨fun c => (h c).2, sem_eq_zero_of_no_sems (sig := Cert.DwDownReferenceIdeal.sig) (by decide) _⟩)
    (Cert.DwDownReferenceIdeal.Value.run m g)

end Cert.Proof.DwDown

end
-- ==== Proof.DwUpGate.lean ====
module

public import proofs.«01_k».proof.Defs
public import proofs.«01_k».proof.Proof.Gen.DwUpGateKernelIdeal.Value
public import proofs.«01_k».proof.Proof.Gen.DwUpGateReferenceIdeal.Read
public import proofs.«01_k».proof.Proof.Gen.DwUpGateReferenceIdeal.Run
public import Idealize.ShloMosaic.Lib.Pipeline.ValueKit
public import Idealize.ShloMosaic.Lib.StableHlo.ReadAt
public import Idealize.ShloMosaic.Lib.Claim
public import Idealize.ShloMosaic.Lib.Quiescent

@[expose] public section

set_option maxRecDepth 16384

noncomputable section

namespace Cert.Proof.DwUpGate

open Idealize.ShloMosaic Idealize.ShloMosaic.TcCoe Idealize.SL.Sem
open Cert.DwUpGateKernelIdeal Cert.DwUpGateKernelIdeal.Gen
open Cert.DwUpGateReferenceIdeal.Read
open Idealize.ShloMosaic.Pipeline (Dat)

variable (m : (ℓ : Loc nD τ sig) → Buf (Elt Ideal) ℓ)

/-- Where each window's block sits at grid point `t`. -/
theorem place : ∀ t : Fin cfg0.N, win0_0.index t = ![0, t.val / 2] ∧ win0_1.index t = ![0, t.val % 2] ∧ win0_2.index t = ![t.val / 2, t.val % 2] :=
  (by decide +kernel : ∀ t : Fin grid0.N, _)

/-- The row of the product at which row `r` of the output block of point `t` sits. -/
abbrev row (t : Fin cfg0.N) (r : Fin 1408) : Fin 2816 :=
  ⟨t.val / 2 * 1408 + r.val, by have := t.isLt; have : cfg0.N = 4 := N_0; omega⟩

/-- The column of the product at which column `l` of the output block of point `t` sits. -/
abbrev col (t : Fin cfg0.N) (l : Fin 512) : Fin 1024 := ⟨t.val % 2 * 512 + l.val, by omega⟩

/-- The reference's product at an index. -/
theorem product_apply (x0 : FVec Ideal Cert.DwUpGateReferenceIdeal.S4096x2816 .bf16) (x1 : FVec Ideal Cert.DwUpGateReferenceIdeal.S4096x1024 .bf16) (r : Fin 2816) (l : Fin 1024) :
    val_main_v6 (F := Ideal) x0 x1 (ix2 r l) = ∑ k : Fin 4096, (x0 (ix2 k r) : EReal) * x1 (ix2 k l) := by
  pointwise [val_main_v6, val_main_v5, val_main_v4, val_main_v1, val_main_v0]

/-- What point `t` computes is the product at the block's place. -/
theorem payload (c : Dev nD) (t : Fin cfg0.N) (r : Fin 1408) (l : Fin 512) :
    k0_pay1 (F := Ideal) (iblk m c 0 t) (iblk m c 1 t) (ix2 r l) = val_main_v6 (F := Ideal) (m ((c : Thread nD τ).loc main_arg0)) (m ((c : Thread nD τ).loc main_arg1)) (ix2 (row t r) (col t l)) := by
  rw [product_apply]
  pointwise [k0_pay1]
  blk_point [iblk, V, place t]

/-- The gate half of the gradient at the up projection; the other rows keep what the array held. -/
theorem final (c : Dev nD) : (dats m 0 c).arrAt 2 (cfgs 0).N = val_main_v8 (F := Ideal) (m ((c : Thread nD τ).loc main_arg0)) (m ((c : Thread nD τ).loc main_arg1)) (m ((c : Thread nD τ).loc main_arg2)) := by
  refine (dats m 0 c).arrAt_eq_of_coversWhere_of_agree 2 _ (fun β => β 0 < 2) (by decide +kernel) (fun t _ y => ?_) (fun j hj => ?_)
  · blk_simp
    rw [after0_2]
    unfold outsAt0
    frame_out
    idx_vars y
    have e : ((View.whole main_v0).slice ((win0 2).rect t)).emb (ix2 y0 y1)
        = ix2 ⟨0 + (row t y0).val, by have := (row t y0).isLt; omega⟩ (col t y1) := by
      blk_ext [place t]
    erw [e]
    refine (payload m c t y0 y1).trans ?_
    pointwise [val_main_v8]
    have h0 := t.isLt
    rw [dif_pos (by have : cfg0.grid.N = 4 := N_0; omega)]
  · blk_simp [Pipeline.Window.cell_apply] at hj
    idx_vars j
    have e : (V m c main_v0 : FVec Ideal S5632x1024 .bf16) (ix2 j0 j1)
        = ((m ((c : Thread nD τ).loc main_arg2)) : FVec Ideal S5632x1024 .bf16) (ix2 j0 j1) := by
      unfold V
      after_reads_at
      rfl
    refine Eq.trans e ?_
    have w : (View.whole main_v0).emb (ix2 j0 j1) = ix2 j0 j1 := by
      blk_ext []
    erw [w]
    pointwise [val_main_v8, val_main_v7]
    rw [dif_neg (by omega)]
    blk_ext []

instance : Cert.DwUpGateKernelIdeal.Facts := Cert.DwUpGateKernelIdeal.Gen.facts
instance : Cert.DwUpGateReferenceIdeal.Facts := Cert.DwUpGateReferenceIdeal.Gen.facts

/-- Over the extended reals the call's result is the reference's, at any arguments. -/
theorem algebraic : Cert.algebraic_DwUpGateKernelIdeal_DwUpGateReferenceIdeal := by
  pair_intro
  · run_from Cert.DwUpGateKernelIdeal.Value.run_blocks m g
  · run_from Cert.DwUpGateReferenceIdeal.Value.run m' g'
    · obtain ⟨e0, e1, e2⟩ := hagree c
      rw [val_main_v8_eq, e2]; exact (final m c).symm

/-- The reference's execution ends with its arguments unchanged and its counters at zero. -/
theorem quiescent : Cert.quiescent_DwUpGateReferenceIdeal := by
  intro m g _
  exact (θ_run _ _ _).mono
    (fun r h => ⟨fun c => (h c).2, sem_eq_zero_of_no_sems (sig := Cert.DwUpGateReferenceIdeal.sig) (by decide) _⟩)
    (Cert.DwUpGateReferenceIdeal.Value.run m g)

end Cert.Proof.DwUpGate

end
-- ==== Proof.DwUpValue.lean ====
module

public import proofs.«01_k».proof.Defs
public import proofs.«01_k».proof.Proof.Gen.DwUpValueKernelIdeal.Value
public import proofs.«01_k».proof.Proof.Gen.DwUpValueReferenceIdeal.Read
public import proofs.«01_k».proof.Proof.Gen.DwUpValueReferenceIdeal.Run
public import Idealize.ShloMosaic.Lib.Pipeline.ValueKit
public import Idealize.ShloMosaic.Lib.StableHlo.ReadAt
public import Idealize.ShloMosaic.Lib.Claim
public import Idealize.ShloMosaic.Lib.Quiescent

@[expose] public section

set_option maxRecDepth 16384

noncomputable section

namespace Cert.Proof.DwUpValue

open Idealize.ShloMosaic Idealize.ShloMosaic.TcCoe Idealize.SL.Sem
open Cert.DwUpValueKernelIdeal Cert.DwUpValueKernelIdeal.Gen
open Cert.DwUpValueReferenceIdeal.Read
open Idealize.ShloMosaic.Pipeline (Dat)

variable (m : (ℓ : Loc nD τ sig) → Buf (Elt Ideal) ℓ)

/-- Where each window's block sits at grid point `t`. -/
theorem place : ∀ t : Fin cfg0.N, win0_0.index t = ![0, t.val / 2] ∧ win0_1.index t = ![0, t.val % 2] ∧ win0_2.index t = ![2 + t.val / 2, t.val % 2] :=
  (by decide +kernel : ∀ t : Fin grid0.N, _)

/-- The row of the product at which row `r` of the output block of point `t` sits. -/
abbrev row (t : Fin cfg0.N) (r : Fin 1408) : Fin 2816 :=
  ⟨t.val / 2 * 1408 + r.val, by have := t.isLt; have : cfg0.N = 4 := N_0; omega⟩

/-- The column of the product at which column `l` of the output block of point `t` sits. -/
abbrev col (t : Fin cfg0.N) (l : Fin 512) : Fin 1024 := ⟨t.val % 2 * 512 + l.val, by omega⟩

/-- The reference's product at an index. -/
theorem product_apply (x0 : FVec Ideal Cert.DwUpValueReferenceIdeal.S4096x2816 .bf16) (x1 : FVec Ideal Cert.DwUpValueReferenceIdeal.S4096x1024 .bf16) (r : Fin 2816) (l : Fin 1024) :
    val_main_v7 (F := Ideal) x0 x1 (ix2 r l) = ∑ k : Fin 4096, (x0 (ix2 k r) : EReal) * x1 (ix2 k l) := by
  pointwise [val_main_v7, val_main_v5, val_main_v4, val_main_v1, val_main_v0]

/-- What point `t` computes is the product at the block's place. -/
theorem payload (c : Dev nD) (t : Fin cfg0.N) (r : Fin 1408) (l : Fin 512) :
    k0_pay1 (F := Ideal) (iblk m c 0 t) (iblk m c 1 t) (ix2 r l) = val_main_v7 (F := Ideal) (m ((c : Thread nD τ).loc main_arg0)) (m ((c : Thread nD τ).loc main_arg1)) (ix2 (row t r) (col t l)) := by
  rw [product_apply]
  pointwise [k0_pay1]
  blk_point [iblk, V, place t]

/-- The value half of the gradient at the up projection; the other rows keep what the array held. -/
theorem final (c : Dev nD) : (dats m 0 c).arrAt 2 (cfgs 0).N = val_main_v8 (F := Ideal) (m ((c : Thread nD τ).loc main_arg0)) (m ((c : Thread nD τ).loc main_arg1)) (m ((c : Thread nD τ).loc main_arg2)) := by
  refine (dats m 0 c).arrAt_eq_of_coversWhere_of_agree 2 _ (fun β => 2 ≤ β 0) (by decide +kernel) (fun t _ y => ?_) (fun j hj => ?_)
  · blk_simp
    rw [after0_2]
    unfold outsAt0
    frame_out
    idx_vars y
    have e : ((View.whole main_v0).slice ((win0 2).rect t)).emb (ix2 y0 y1)
        = ix2 ⟨2816 + (row t y0).val, by have := (row t y0).isLt; omega⟩ (col t y1) := by
      blk_ext [place t]
    erw [e]
    refine (payload m c t y0 y1).trans ?_
    pointwise [val_main_v8]
  · blk_simp [Pipeline.Window.cell_apply] at hj
    idx_vars j
    have e : (V m c main_v0 : FVec Ideal S5632x1024 .bf16) (ix2 j0 j1)
        = ((m ((c : Thread nD τ).loc main_arg2)) : FVec Ideal S5632x1024 .bf16) (ix2 j0 j1) := by
      unfold V
      after_reads_at
      rfl
    refine Eq.trans e ?_
    have w : (View.whole main_v0).emb (ix2 j0 j1) = ix2 j0 j1 := by
      blk_ext []
    erw [w]
    pointwise [val_main_v8, val_main_v6]
    rw [dif_pos (by omega)]

instance : Cert.DwUpValueKernelIdeal.Facts := Cert.DwUpValueKernelIdeal.Gen.facts
instance : Cert.DwUpValueReferenceIdeal.Facts := Cert.DwUpValueReferenceIdeal.Gen.facts

/-- Over the extended reals the call's result is the reference's, at any arguments. -/
theorem algebraic : Cert.algebraic_DwUpValueKernelIdeal_DwUpValueReferenceIdeal := by
  pair_intro
  · run_from Cert.DwUpValueKernelIdeal.Value.run_blocks m g
  · run_from Cert.DwUpValueReferenceIdeal.Value.run m' g'
    · obtain ⟨e0, e1, e2⟩ := hagree c
      rw [val_main_v8_eq, e2]; exact (final m c).symm

/-- The reference's execution ends with its arguments unchanged and its counters at zero. -/
theorem quiescent : Cert.quiescent_DwUpValueReferenceIdeal := by
  intro m g _
  exact (θ_run _ _ _).mono
    (fun r h => ⟨fun c => (h c).2, sem_eq_zero_of_no_sems (sig := Cert.DwUpValueReferenceIdeal.sig) (by decide) _⟩)
    (Cert.DwUpValueReferenceIdeal.Value.run m g)

end Cert.Proof.DwUpValue

end
-- ==== Proof.Proj.lean ====
module

public import proofs.«01_k».proof.Defs
public import proofs.«01_k».proof.Proof.Gen.ProjKernelIdeal.Value
public import proofs.«01_k».proof.Proof.Gen.ProjReferenceIdeal.Read
public import proofs.«01_k».proof.Proof.Gen.ProjReferenceIdeal.Run
public import Idealize.ShloMosaic.Lib.Pipeline.ValueKit
public import Idealize.ShloMosaic.Lib.StableHlo.ReadAt
public import Idealize.ShloMosaic.Lib.Claim
public import Idealize.ShloMosaic.Lib.Quiescent

@[expose] public section

set_option maxRecDepth 16384

noncomputable section

namespace Cert.Proof.Proj

open Idealize.ShloMosaic Idealize.ShloMosaic.TcCoe Idealize.SL.Sem
open Cert.ProjKernelIdeal Cert.ProjKernelIdeal.Gen
open Cert.ProjReferenceIdeal.Read
open Idealize.ShloMosaic.Pipeline (Dat)

variable (m : (ℓ : Loc nD τ sig) → Buf (Elt Ideal) ℓ)

/-- Where each window's block sits at grid point `t`: point `t` is row tile `t / 5` and column tile `t % 5`. -/
theorem place : ∀ t : Fin cfg0.N, win0_0.index t = ![t.val / 5, 0] ∧ win0_1.index t = ![(t.val % 5 + 1) % 5, 0] ∧ win0_2.index t = ![t.val / 5, t.val % 5] :=
  (by decide +kernel : ∀ t : Fin grid0.N, _)

/-- The row of the result at which row `r` of the output block of point `t` sits. -/
abbrev row (t : Fin cfg0.N) (r : Fin 1024) : Fin 4096 :=
  ⟨t.val / 5 * 1024 + r.val, by have := t.isLt; have : cfg0.N = 20 := N_0; omega⟩

/-- The column of the result at which column `l` of the output block of point `t` sits. -/
abbrev col (t : Fin cfg0.N) (l : Fin 768) : Fin 3840 := ⟨t.val % 5 * 768 + l.val, by omega⟩

/-- The column of the weight that fills column `q` of the result. -/
abbrev from_ (q : Fin 3840) : Fin 3840 := ⟨(q.val + 768) % 3840, by omega⟩

/-- The weight's block at point `t`. -/
theorem weight_apply (c : Dev nD) (t : Fin cfg0.N) (l : Fin 768) (k : Fin 1024) :
    iblk m c 1 t (ix2 l k) = (m ((c : Thread nD τ).loc main_arg1) : FVec Ideal S1024x3840 .bf16) (ix2 k (from_ (col t l))) := by
  have e : (V m c main_v0 : FVec Ideal S3840x1024 .bf16) (ix2 (from_ (col t l)) k)
      = (m ((c : Thread nD τ).loc main_arg1) : FVec Ideal S1024x3840 .bf16) (ix2 k (from_ (col t l))) := by
    unfold V
    after_reads_at
  refine Eq.trans ?_ e
  blk_ext [iblk, place t]

/-- The reference's product at an index. -/
theorem product_apply (x0 : FVec Ideal Cert.ProjReferenceIdeal.S4096x1024 .bf16) (x1 : FVec Ideal Cert.ProjReferenceIdeal.S1024x3840 .bf16) (r : Fin 4096) (q : Fin 3840) :
    val_main_v11 (F := Ideal) x0 x1 (ix2 r q) = ∑ k : Fin 1024, (x0 (ix2 r k) : EReal) * x1 (ix2 k (from_ q)) := by
  pointwise [val_main_v11, val_main_v10, val_main_v9, val_main_v8, val_main_v7, val_main_v6, val_main_v5, val_main_v4, val_main_v3, val_main_v2, val_main_v1, val_main_v0]
  have hq := q.isLt
  split_ifs
  all_goals
    refine Finset.sum_congr rfl fun k _ => ?_
    blk_point []

/-- What point `t` computes is the reference's projection at the block's place. -/
theorem payload (c : Dev nD) (t : Fin cfg0.N) (r : Fin 1024) (l : Fin 768) :
    k0_pay1 (F := Ideal) (iblk m c 0 t) (iblk m c 1 t) (ix2 r l) = val_main_v11 (F := Ideal) (m ((c : Thread nD τ).loc main_arg0)) (m ((c : Thread nD τ).loc main_arg1)) (ix2 (row t r) (col t l)) := by
  rw [product_apply]
  pointwise [k0_pay1]
  refine Finset.sum_congr rfl fun k _ => ?_
  refine congr (congrArg _ ?_) (weight_apply m c t l k)
  blk_point [iblk, V, place t]

/-- The projection after the run. -/
theorem final (c : Dev nD) : (dats m 0 c).arrAt 2 (cfgs 0).N = val_main_v11 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  have e : ((View.whole main_v1).slice ((win0 2).rect t)).emb (ix2 y0 y1) = ix2 (row t y0) (col t y1) := by
    blk_ext [place t]
  erw [e]
  exact payload m c t y0 y1

instance : Cert.ProjKernelIdeal.Facts := Cert.ProjKernelIdeal.Gen.facts
instance : Cert.ProjReferenceIdeal.Facts := Cert.ProjReferenceIdeal.Gen.facts

/-- Over the extended reals the call's result is the reference's, at any arguments. -/
theorem algebraic : Cert.algebraic_ProjKernelIdeal_ProjReferenceIdeal := by
  pair_intro
  · run_from Cert.ProjKernelIdeal.Value.run_blocks m g
  · run_from Cert.ProjReferenceIdeal.Value.run m' g'
    · rw [val_main_v11_eq]; exact (final m c).symm

/-- The reference's execution ends with its arguments unchanged and its counters at zero. -/
theorem quiescent : Cert.quiescent_ProjReferenceIdeal := by
  intro m g _
  exact (θ_run _ _ _).mono
    (fun r h => ⟨fun c => (h c).2, sem_eq_zero_of_no_sems (sig := Cert.ProjReferenceIdeal.sig) (by decide) _⟩)
    (Cert.ProjReferenceIdeal.Value.run m g)

end Cert.Proof.Proj

end
-- ==== Proof.DwIn.lean ====
module

public import proofs.«01_k».proof.Defs
public import proofs.«01_k».proof.Proof.Gen.DwInKernelIdeal.Value
public import proofs.«01_k».proof.Proof.Gen.DwInReferenceIdeal.Read
public import proofs.«01_k».proof.Proof.Gen.DwInReferenceIdeal.Run
public import Idealize.ShloMosaic.Lib.Pipeline.ValueKit
public import Idealize.ShloMosaic.Lib.StableHlo.ReadAt
public import Idealize.ShloMosaic.Lib.Claim
public import Idealize.ShloMosaic.Lib.Quiescent

@[expose] public section

set_option maxRecDepth 16384

noncomputable section

namespace Cert.Proof.DwIn

open Idealize.ShloMosaic Idealize.ShloMosaic.TcCoe Idealize.SL.Sem
open Cert.DwInKernelIdeal Cert.DwInKernelIdeal.Gen
open Cert.DwInReferenceIdeal.Read
open Idealize.ShloMosaic.Pipeline (Dat)

variable (m : (ℓ : Loc nD τ sig) → Buf (Elt Ideal) ℓ)

/-- Where each window's block sits at grid point `t`. Points 0–3 take the branch inputs' columns, 4–7 the first gate's,
    8–11 the second gate's and 12–14 the attention's; the result's tile follows the columns' place in the projection. -/
theorem place : ∀ t : Fin cfg0.N, win0_0.index t = ![0, min t.val 3] ∧ win0_1.index t = ![0, min (t.val - 4) 3] ∧ win0_2.index t = ![0, min (t.val - 8) 3]
    ∧ win0_3.index t = ![0, t.val - 12] ∧ win0_4.index t = ![0, 0] ∧ win0_5.index t = ![(t.val + 3) % 15, 0] :=
  (by decide +kernel : ∀ t : Fin grid0.N, _)

/-- The row of the result at which row `r` of the output block of point `t` sits. -/
abbrev row (t : Fin cfg0.N) (r : Fin 256) : Fin 3840 :=
  ⟨(t.val + 3) % 15 * 256 + r.val, by omega⟩

/-- The cotangent of the projection, its four parts side by side. -/
abbrev side (x0 : FVec Ideal Cert.DwInReferenceIdeal.S4096x768 .bf16) (x1 x2 x3 : FVec Ideal Cert.DwInReferenceIdeal.S4096x1024 .bf16) (k : Fin 4096) (r : Fin 3840) : EReal :=
  if h : r.val < 768 then x0 (ix2 k ⟨r.val, h⟩)
  else if h : r.val < 1792 then x1 (ix2 k ⟨r.val - 768, by omega⟩)
  else if h : r.val < 2816 then x2 (ix2 k ⟨r.val - 1792, by omega⟩)
  else x3 (ix2 k ⟨r.val - 2816, by omega⟩)

/-- The reference's product at an index. -/
theorem product_apply (x0 : FVec Ideal Cert.DwInReferenceIdeal.S4096x768 .bf16) (x1 x2 x3 x4 : FVec Ideal Cert.DwInReferenceIdeal.S4096x1024 .bf16) (r : Fin 3840) (l : Fin 1024) :
    val_main_v10 (F := Ideal) x0 x1 x2 x3 x4 (ix2 r l) = ∑ k : Fin 4096, side x0 x1 x2 x3 k r * x4 (ix2 k l) := by
  pointwise [val_main_v10, val_main_v9, val_main_v8, val_main_v5, val_main_v4, val_main_v3, val_main_v2, val_main_v1, val_main_v0]
  refine Finset.sum_congr rfl fun k _ => ?_
  refine congrArg (· * _) ?_
  unfold side
  by_cases h0 : r.val < 768
  · rw [dif_pos h0, dif_pos h0]
  by_cases h1 : r.val < 1792
  · rw [dif_neg h0, dif_neg h0, dif_pos (show r.val - 768 < 1024 by omega), dif_pos h1]
  by_cases h2 : r.val < 2816
  · rw [dif_neg h0, dif_neg h0, dif_neg (show ¬ r.val - 768 < 1024 by omega), dif_neg h1,
      dif_pos (show r.val - 768 - 1024 < 1024 by omega), dif_pos h2]
    blk_ext []
  · rw [dif_neg h0, dif_neg h0, dif_neg (show ¬ r.val - 768 < 1024 by omega), dif_neg h1,
      dif_neg (show ¬ r.val - 768 - 1024 < 1024 by omega), dif_neg h2]
    blk_ext []

/-- What each of points 0–3 computes. -/
theorem partA (c : Dev nD) (t : Fin cfg0.N) (h : t.val < 4) (r : Fin 256) (l : Fin 1024) :
    k0_pay1 (F := Ideal) (iblk m c 0 t) (iblk m c 4 t) (ix2 r l)
      = ∑ k : Fin 4096, side (m ((c : Thread nD τ).loc main_arg0)) (m ((c : Thread nD τ).loc main_arg1)) (m ((c : Thread nD τ).loc main_arg2)) (m ((c : Thread nD τ).loc main_arg3)) k (row t r) * ((m ((c : Thread nD τ).loc main_arg4)) : FVec Ideal S4096x1024 .bf16) (ix2 k l) := by
  have hN : cfg0.N = 15 := N_0
  have ht := t.isLt
  pointwise [k0_pay1]
  refine Finset.sum_congr rfl fun k _ => ?_
  unfold side
  rw [dif_neg (by dsimp only; omega), dif_pos (by dsimp only; omega)]
  blk_point [iblk, V, place t]

/-- What each of points 4–7 computes. -/
theorem partB (c : Dev nD) (t : Fin cfg0.N) (h₀ : ¬ t.val < 4) (h : t.val < 8) (r : Fin 256) (l : Fin 1024) :
    k0_pay2 (F := Ideal) (iblk m c 1 t) (iblk m c 4 t) (ix2 r l)
      = ∑ k : Fin 4096, side (m ((c : Thread nD τ).loc main_arg0)) (m ((c : Thread nD τ).loc main_arg1)) (m ((c : Thread nD τ).loc main_arg2)) (m ((c : Thread nD τ).loc main_arg3)) k (row t r) * ((m ((c : Thread nD τ).loc main_arg4)) : FVec Ideal S4096x1024 .bf16) (ix2 k l) := by
  have hN : cfg0.N = 15 := N_0
  have ht := t.isLt
  pointwise [k0_pay2]
  refine Finset.sum_congr rfl fun k _ => ?_
  unfold side
  rw [dif_neg (by dsimp only; omega), dif_neg (by dsimp only; omega), dif_pos (by dsimp only; omega)]
  blk_point [iblk, V, place t]

/-- What each of points 8–11 computes. -/
theorem partC (c : Dev nD) (t : Fin cfg0.N) (h₀ : ¬ t.val < 8) (h : t.val < 12) (r : Fin 256) (l : Fin 1024) :
    k0_pay3 (F := Ideal) (iblk m c 2 t) (iblk m c 4 t) (ix2 r l)
      = ∑ k : Fin 4096, side (m ((c : Thread nD τ).loc main_arg0)) (m ((c : Thread nD τ).loc main_arg1)) (m ((c : Thread nD τ).loc main_arg2)) (m ((c : Thread nD τ).loc main_arg3)) k (row t r) * ((m ((c : Thread nD τ).loc main_arg4)) : FVec Ideal S4096x1024 .bf16) (ix2 k l) := by
  have hN : cfg0.N = 15 := N_0
  have ht := t.isLt
  pointwise [k0_pay3]
  refine Finset.sum_congr rfl fun k _ => ?_
  unfold side
  rw [dif_neg (by dsimp only; omega), dif_neg (by dsimp only; omega), dif_neg (by dsimp only; omega)]
  blk_point [iblk, V, place t]

/-- What each of points 12–14 computes. -/
theorem partD (c : Dev nD) (t : Fin cfg0.N) (h : ¬ t.val < 12) (r : Fin 256) (l : Fin 1024) :
    k0_pay4 (F := Ideal) (iblk m c 3 t) (iblk m c 4 t) (ix2 r l)
      = ∑ k : Fin 4096, side (m ((c : Thread nD τ).loc main_arg0)) (m ((c : Thread nD τ).loc main_arg1)) (m ((c : Thread nD τ).loc main_arg2)) (m ((c : Thread nD τ).loc main_arg3)) k (row t r) * ((m ((c : Thread nD τ).loc main_arg4)) : FVec Ideal S4096x1024 .bf16) (ix2 k l) := by
  have hN : cfg0.N = 15 := N_0
  have ht := t.isLt
  pointwise [k0_pay4]
  refine Finset.sum_congr rfl fun k _ => ?_
  unfold side
  rw [dif_pos (by dsimp only; omega)]
  blk_point [iblk, V, place t]

/-- The gradient at the input projection after the run. -/
theorem final (c : Dev nD) : (dats m 0 c).arrAt 5 (cfgs 0).N = val_main_v10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  have hN : cfg0.N = 15 := N_0
  have ht : t.val < 15 := N_0 ▸ t.isLt
  blk_simp
  rw [after0_5]
  idx_vars y
  have e : ((View.whole main_v0).slice ((win0 5).rect t)).emb (ix2 y0 y1) = ix2 (row t y0) y1 := by
    blk_ext [place t]
  erw [e]
  refine Eq.trans ?_ (product_apply _ _ _ _ _ (row t y0) y1).symm
  by_cases a : t.val < 4
  · rw [outsAt0_A m c t a (by omega) (by omega) (by omega)]
    frame_out
    exact partA m c t a y0 y1
  by_cases b : t.val < 8
  · rw [outsAt0_B m c t a (by omega) (by omega) (by omega)]
    frame_out
    exact partB m c t a b y0 y1
  by_cases d : t.val < 12
  · rw [outsAt0_C m c t a (by omega) (by omega) (by omega)]
    frame_out
    exact partC m c t b d y0 y1
  · rw [outsAt0_D m c t a (by omega) (by omega) (by omega)]
    frame_out
    exact partD m c t d y0 y1

instance : Cert.DwInKernelIdeal.Facts := Cert.DwInKernelIdeal.Gen.facts
instance : Cert.DwInReferenceIdeal.Facts := Cert.DwInReferenceIdeal.Gen.facts

/-- Over the extended reals the call's result is the reference's, at any arguments. -/
theorem algebraic : Cert.algebraic_DwInKernelIdeal_DwInReferenceIdeal := by
  pair_intro
  · run_from Cert.DwInKernelIdeal.Value.run_blocks m g
  · run_from Cert.DwInReferenceIdeal.Value.run m' g'
    · rw [val_main_v10_eq]; exact (final m c).symm

/-- The reference's execution ends with its arguments unchanged and its counters at zero. -/
theorem quiescent : Cert.quiescent_DwInReferenceIdeal := by
  intro m g _
  exact (θ_run _ _ _).mono
    (fun r h => ⟨fun c => (h c).2, sem_eq_zero_of_no_sems (sig := Cert.DwInReferenceIdeal.sig) (by decide) _⟩)
    (Cert.DwInReferenceIdeal.Value.run m g)

end Cert.Proof.DwIn

end
-- ==== Proof.DwOut.lean ====
module

public import proofs.«01_k».proof.Defs
public import proofs.«01_k».proof.Proof.Gen.DwOutKernelIdeal.Value
public import proofs.«01_k».proof.Proof.Gen.DwOutReferenceIdeal.Read
public import proofs.«01_k».proof.Proof.Gen.DwOutReferenceIdeal.Run
public import Idealize.ShloMosaic.Lib.Pipeline.ValueKit
public import Idealize.ShloMosaic.Lib.StableHlo.ReadAt
public import Idealize.ShloMosaic.Lib.Claim
public import Idealize.ShloMosaic.Lib.Quiescent

@[expose] public section

set_option maxRecDepth 16384

noncomputable section

namespace Cert.Proof.DwOut

open Idealize.ShloMosaic Idealize.ShloMosaic.TcCoe Idealize.SL.Sem
open Cert.DwOutKernelIdeal Cert.DwOutKernelIdeal.Gen
open Cert.DwOutReferenceIdeal.Read
open Idealize.ShloMosaic.Pipeline (Dat)

variable (m : (ℓ : Loc nD τ sig) → Buf (Elt Ideal) ℓ)

/-- Where each window's block sits at grid point `t`. -/
theorem place : ∀ t : Fin cfg0.N, win0_0.index t = ![0, 0] ∧ win0_1.index t = ![0, 0] ∧ win0_2.index t = ![0, 0] :=
  (by decide +kernel : ∀ t : Fin grid0.N, _)

/-- The array index at which index `(r, l)` of the output block of point `t` sits. -/
abbrev pos (t : Fin cfg0.N) (r : Fin 1024) (l : Fin 1024) : S1024x1024.Idx :=
  ix2 ⟨r.val, by have := t.isLt; have : cfg0.N = 1 := N_0; omega⟩ ⟨l.val, by have := t.isLt; have : cfg0.N = 1 := N_0; omega⟩

/-- What point `t` computes is the reference's product at the block's place. -/
theorem payload (c : Dev nD) (t : Fin cfg0.N) (r : Fin 1024) (l : Fin 1024) :
    k0_pay1 (F := Ideal) (iblk m c 0 t) (iblk m c 1 t) (ix2 r l) = val_main_v5 (F := Ideal) (m ((c : Thread nD τ).loc main_arg0)) (m ((c : Thread nD τ).loc main_arg1)) (pos t r l) := by
  pointwise [k0_pay1, val_main_v5, val_main_v4, val_main_v1, val_main_v0]
  refine Finset.sum_congr rfl fun k _ => ?_
  rw [mul_comm]
  blk_point [iblk, V, place t]

/-- The gradient at the output projection after the run. -/
theorem final (c : Dev nD) : (dats m 0 c).arrAt 2 (cfgs 0).N = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  have e : ((View.whole main_v0).slice ((win0 2).rect t)).emb (ix2 y0 y1) = pos t y0 y1 := by
    unfold pos; blk_ext [place t]
  erw [e]
  exact payload m c t y0 y1

instance : Cert.DwOutKernelIdeal.Facts := Cert.DwOutKernelIdeal.Gen.facts
instance : Cert.DwOutReferenceIdeal.Facts := Cert.DwOutReferenceIdeal.Gen.facts

/-- Over the extended reals the call's result is the reference's, at any arguments. -/
theorem algebraic : Cert.algebraic_DwOutKernelIdeal_DwOutReferenceIdeal := by
  pair_intro
  · run_from Cert.DwOutKernelIdeal.Value.run_blocks m g
  · run_from Cert.DwOutReferenceIdeal.Value.run m' g'
    · rw [val_main_v5_eq]; exact (final m c).symm

/-- The reference's execution ends with its arguments unchanged and its counters at zero. -/
theorem quiescent : Cert.quiescent_DwOutReferenceIdeal := by
  intro m g _
  exact (θ_run _ _ _).mono
    (fun r h => ⟨fun c => (h c).2, sem_eq_zero_of_no_sems (sig := Cert.DwOutReferenceIdeal.sig) (by decide) _⟩)
    (Cert.DwOutReferenceIdeal.Value.run m g)

end Cert.Proof.DwOut

end
-- ==== Proof.DwBranch.lean ====
module

public import proofs.«01_k».proof.Defs
public import proofs.«01_k».proof.Proof.Gen.DwBranchKernelIdeal.Value
public import proofs.«01_k».proof.Proof.Gen.DwBranchReferenceIdeal.Read
public import proofs.«01_k».proof.Proof.Gen.DwBranchReferenceIdeal.Run
public import Idealize.ShloMosaic.Lib.Pipeline.ValueKit
public import Idealize.ShloMosaic.Lib.StableHlo.ReadAt
public import Idealize.ShloMosaic.Lib.Claim
public import Idealize.ShloMosaic.Lib.Quiescent

@[expose] public section

set_option maxRecDepth 16384

noncomputable section

namespace Cert.Proof.DwBranch

open Idealize.ShloMosaic Idealize.ShloMosaic.TcCoe Idealize.SL.Sem
open Cert.DwBranchKernelIdeal Cert.DwBranchKernelIdeal.Gen
open Cert.DwBranchReferenceIdeal.Read
open Idealize.ShloMosaic.Pipeline (Dat)

variable (m : (ℓ : Loc nD τ sig) → Buf (Elt Ideal) ℓ)

/-- Where each window's block sits at grid point `t`. -/
theorem place : ∀ t : Fin cfg0.N, win0_0.index t = ![0, 0] ∧ win0_1.index t = ![0, 0] ∧ win0_2.index t = ![0, 0] :=
  (by decide +kernel : ∀ t : Fin grid0.N, _)

/-- The array index at which index `(r, l)` of the output block of point `t` sits. -/
abbrev pos (t : Fin cfg0.N) (r : Fin 512) (l : Fin 1024) : S512x1024.Idx :=
  ix2 ⟨r.val, by have := t.isLt; have : cfg0.N = 1 := N_0; omega⟩ ⟨l.val, by have := t.isLt; have : cfg0.N = 1 := N_0; omega⟩

/-- What point `t` computes is the reference's product at the block's place. -/
theorem payload (c : Dev nD) (t : Fin cfg0.N) (r : Fin 512) (l : Fin 1024) :
    k0_pay1 (F := Ideal) (iblk m c 0 t) (iblk m c 1 t) (ix2 r l) = val_main_v5 (F := Ideal) (m ((c : Thread nD τ).loc main_arg0)) (m ((c : Thread nD τ).loc main_arg1)) (pos t r l) := by
  pointwise [k0_pay1, val_main_v5, val_main_v4, val_main_v1, val_main_v0]
  refine Finset.sum_congr rfl fun k _ => ?_
  rw [mul_comm]
  blk_point [iblk, V, place t]

/-- The gradient at a branch's output weight after the run. -/
theorem final (c : Dev nD) : (dats m 0 c).arrAt 2 (cfgs 0).N = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  have e : ((View.whole main_v0).slice ((win0 2).rect t)).emb (ix2 y0 y1) = pos t y0 y1 := by
    unfold pos; blk_ext [place t]
  erw [e]
  exact payload m c t y0 y1

instance : Cert.DwBranchKernelIdeal.Facts := Cert.DwBranchKernelIdeal.Gen.facts
instance : Cert.DwBranchReferenceIdeal.Facts := Cert.DwBranchReferenceIdeal.Gen.facts

/-- Over the extended reals the call's result is the reference's, at any arguments. -/
theorem algebraic : Cert.algebraic_DwBranchKernelIdeal_DwBranchReferenceIdeal := by
  pair_intro
  · run_from Cert.DwBranchKernelIdeal.Value.run_blocks m g
  · run_from Cert.DwBranchReferenceIdeal.Value.run m' g'
    · rw [val_main_v5_eq]; exact (final m c).symm

/-- The reference's execution ends with its arguments unchanged and its counters at zero. -/
theorem quiescent : Cert.quiescent_DwBranchReferenceIdeal := by
  intro m g _
  exact (θ_run _ _ _).mono
    (fun r h => ⟨fun c => (h c).2, sem_eq_zero_of_no_sems (sig := Cert.DwBranchReferenceIdeal.sig) (by decide) _⟩)
    (Cert.DwBranchReferenceIdeal.Value.run m g)

end Cert.Proof.DwBranch

end
-- ==== Proof.DyAtt.lean ====
module

public import proofs.«01_k».proof.Defs
public import proofs.«01_k».proof.Proof.Gen.DyAttKernelIdeal.Value
public import proofs.«01_k».proof.Proof.Gen.DyAttReferenceIdeal.Read
public import proofs.«01_k».proof.Proof.Gen.DyAttReferenceIdeal.Run
public import Idealize.ShloMosaic.Lib.Pipeline.ValueKit
public import Idealize.ShloMosaic.Lib.StableHlo.ReadAt
public import Idealize.ShloMosaic.Lib.Claim
public import Idealize.ShloMosaic.Lib.Quiescent

@[expose] public section

set_option maxRecDepth 16384

noncomputable section

namespace Cert.Proof.DyAtt

open Idealize.ShloMosaic Idealize.ShloMosaic.TcCoe Idealize.SL.Sem
open Cert.DyAttKernelIdeal Cert.DyAttKernelIdeal.Gen
open Cert.DyAttReferenceIdeal.Read
open Idealize.ShloMosaic.Pipeline (Dat)

variable (m : (ℓ : Loc nD τ sig) → Buf (Elt Ideal) ℓ)

/-- Where each window's block sits at grid point `t`. -/
theorem place : ∀ t : Fin cfg0.N, win0_0.index t = ![t.val, 0] ∧ win0_1.index t = ![0, 0] ∧ win0_2.index t = ![t.val, 0] :=
  (by decide +kernel : ∀ t : Fin grid0.N, _)

/-- The array index at which index `(r, l)` of the output block of point `t` sits. -/
abbrev pos (t : Fin cfg0.N) (r : Fin 1024) (l : Fin 512) : S4096x512.Idx :=
  ix2 ⟨t.val * 1024 + r.val, by have := t.isLt; have : cfg0.N = 4 := N_0; omega⟩ ⟨l.val, by have := t.isLt; have : cfg0.N = 4 := N_0; omega⟩

/-- What point `t` computes is the reference's product at the block's place. -/
theorem payload (c : Dev nD) (t : Fin cfg0.N) (r : Fin 1024) (l : Fin 512) :
    k0_pay1 (F := Ideal) (iblk m c 0 t) (iblk m c 1 t) (ix2 r l) = val_main_v5 (F := Ideal) (m ((c : Thread nD τ).loc main_arg0)) (m ((c : Thread nD τ).loc main_arg1)) (pos t r l) := by
  pointwise [k0_pay1, val_main_v5, val_main_v4, val_main_v1, val_main_v0]
  blk_point [iblk, V, place t]

/-- The gradient at the attention branch's output after the run. -/
theorem final (c : Dev nD) : (dats m 0 c).arrAt 2 (cfgs 0).N = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  have e : ((View.whole main_v0).slice ((win0 2).rect t)).emb (ix2 y0 y1) = pos t y0 y1 := by
    unfold pos; blk_ext [place t]
  erw [e]
  exact payload m c t y0 y1

instance : Cert.DyAttKernelIdeal.Facts := Cert.DyAttKernelIdeal.Gen.facts
instance : Cert.DyAttReferenceIdeal.Facts := Cert.DyAttReferenceIdeal.Gen.facts

/-- Over the extended reals the call's result is the reference's, at any arguments. -/
theorem algebraic : Cert.algebraic_DyAttKernelIdeal_DyAttReferenceIdeal := by
  pair_intro
  · run_from Cert.DyAttKernelIdeal.Value.run_blocks m g
  · run_from Cert.DyAttReferenceIdeal.Value.run m' g'
    · rw [val_main_v5_eq]; exact (final m c).symm

/-- The reference's execution ends with its arguments unchanged and its counters at zero. -/
theorem quiescent : Cert.quiescent_DyAttReferenceIdeal := by
  intro m g _
  exact (θ_run _ _ _).mono
    (fun r h => ⟨fun c => (h c).2, sem_eq_zero_of_no_sems (sig := Cert.DyAttReferenceIdeal.sig) (by decide) _⟩)
    (Cert.DyAttReferenceIdeal.Value.run m g)

end Cert.Proof.DyAtt

end
-- ==== Proof.DySgu.lean ====
module

public import proofs.«01_k».proof.Defs
public import proofs.«01_k».proof.Proof.Gen.DySguKernelIdeal.Value
public import proofs.«01_k».proof.Proof.Gen.DySguReferenceIdeal.Read
public import proofs.«01_k».proof.Proof.Gen.DySguReferenceIdeal.Run
public import Idealize.ShloMosaic.Lib.Pipeline.ValueKit
public import Idealize.ShloMosaic.Lib.StableHlo.ReadAt
public import Idealize.ShloMosaic.Lib.Claim
public import Idealize.ShloMosaic.Lib.Quiescent

@[expose] public section

set_option maxRecDepth 16384

noncomputable section

namespace Cert.Proof.DySgu

open Idealize.ShloMosaic Idealize.ShloMosaic.TcCoe Idealize.SL.Sem
open Cert.DySguKernelIdeal Cert.DySguKernelIdeal.Gen
open Cert.DySguReferenceIdeal.Read
open Idealize.ShloMosaic.Pipeline (Dat)

variable (m : (ℓ : Loc nD τ sig) → Buf (Elt Ideal) ℓ)

/-- Where each window's block sits at grid point `t`. -/
theorem place : ∀ t : Fin cfg0.N, win0_0.index t = ![t.val, 0] ∧ win0_1.index t = ![0, 0] ∧ win0_2.index t = ![t.val, 0] :=
  (by decide +kernel : ∀ t : Fin grid0.N, _)

/-- The array index at which index `(r, l)` of the output block of point `t` sits. -/
abbrev pos (t : Fin cfg0.N) (r : Fin 1024) (l : Fin 512) : S4096x512.Idx :=
  ix2 ⟨t.val * 1024 + r.val, by have := t.isLt; have : cfg0.N = 4 := N_0; omega⟩ ⟨l.val, by have := t.isLt; have : cfg0.N = 4 := N_0; omega⟩

/-- What point `t` computes is the reference's product at the block's place. -/
theorem payload (c : Dev nD) (t : Fin cfg0.N) (r : Fin 1024) (l : Fin 512) :
    k0_pay1 (F := Ideal) (iblk m c 0 t) (iblk m c 1 t) (ix2 r l) = val_main_v4 (F := Ideal) (m ((c : Thread nD τ).loc main_arg0)) (m ((c : Thread nD τ).loc main_arg1)) (pos t r l) := by
  pointwise [k0_pay1, val_main_v4, val_main_v1, val_main_v0]
  blk_point [iblk, V, place t]

/-- The gradient at the spatial branch's output after the run. -/
theorem final (c : Dev nD) : (dats m 0 c).arrAt 2 (cfgs 0).N = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  have e : ((View.whole main_v0).slice ((win0 2).rect t)).emb (ix2 y0 y1) = pos t y0 y1 := by
    unfold pos; blk_ext [place t]
  erw [e]
  exact payload m c t y0 y1

instance : Cert.DySguKernelIdeal.Facts := Cert.DySguKernelIdeal.Gen.facts
instance : Cert.DySguReferenceIdeal.Facts := Cert.DySguReferenceIdeal.Gen.facts

/-- Over the extended reals the call's result is the reference's, at any arguments. -/
theorem algebraic : Cert.algebraic_DySguKernelIdeal_DySguReferenceIdeal := by
  pair_intro
  · run_from Cert.DySguKernelIdeal.Value.run_blocks m g
  · run_from Cert.DySguReferenceIdeal.Value.run m' g'
    · exact Eq.trans rfl (final m c).symm

/-- The reference's execution ends with its arguments unchanged and its counters at zero. -/
theorem quiescent : Cert.quiescent_DySguReferenceIdeal := by
  intro m g _
  exact (θ_run _ _ _).mono
    (fun r h => ⟨fun c => (h c).2, sem_eq_zero_of_no_sems (sig := Cert.DySguReferenceIdeal.sig) (by decide) _⟩)
    (Cert.DySguReferenceIdeal.Value.run m g)

end Cert.Proof.DySgu

end
-- ==== Proof.UpConvChunks.lean ====
module

public import proofs.«01_k».proof.Defs
public import proofs.«01_k».proof.Proof.Gen.UpConvKernelIdeal.Value
public import Idealize.ShloMosaic.Lib.Pipeline.ValueKit
public import Idealize.ShloMosaic.Lib.StableHlo.ReadAt

@[expose] public section

set_option maxRecDepth 16384

noncomputable section

namespace Cert.Proof.UpConv

open Idealize.ShloMosaic Idealize.ShloMosaic.TcCoe Idealize.SL.Sem
open Cert.UpConvKernelIdeal Cert.UpConvKernelIdeal.Gen
open Idealize.ShloMosaic.Pipeline (Dat)

section
variable {F : FTy → Type} [FloatOps F]

/-- A chunk's product: 256 rows of the stream against 256 columns of the weight. -/
def prodV (x w : Vec F S256x1024 .bf16) : FVec F S256x256 .f32 :=
  matmul dot_S256x1024_S256x1024_S256x256_1_1_0_0_n_n none x (shapeCast S256x1024 w shapeCasts_S256x1024_S256x1024)
    (constant S256x256 .f32 0x00000000#32)

/-- Before the first chunk: eight rows of zeros. -/
def zeroV : FVec F S8x256 .f32 := broadcast S8x256 (Scalar.ofBits .f32 0x00000000#32)

/-- A chunk's last eight rows. -/
def tailV (z : FVec F S256x256 .f32) : FVec F S8x256 .f32 :=
  extractStridedSlice S8x256 ![248, 0] z slices_S256x256_o248_0_S8x256

/-- A chunk read `k` rows further up, its first `k` rows from the last rows of the eight rows `p` before it. -/
def backV (k : BitVec 32) (p : FVec F S8x256 .f32) (z : FVec F S256x256 .f32) : FVec F S256x256 .f32 :=
  concatenate S256x256 0
    [⟨S8x256, select (cmpi .slt (iota .tc S8x256 32 [0] iota_S8x256_d0_w32) (broadcast S8x256 k))
        (dynamicRotate 0 k none p rotates_S8x256_d0)
        (extractStridedSlice S8x256 ![0, 0] (dynamicRotate 0 k none z rotates_S256x256_d0) slices_S256x256_o0_0_S8x256)⟩,
      ⟨S248x256, extractStridedSlice S248x256 ![8, 0] (dynamicRotate 0 k none z rotates_S256x256_d0) slices_S256x256_o8_0_S248x256⟩]
    concatenates_S8x256_S248x256_S256x256_d0

/-- One row repeated over a chunk. -/
def rowsV (b : Vec F S1x256 .f32) : FVec F S256x256 .f32 :=
  broadcastTo S256x256 (shapeCast S1x256 b shapeCasts_S1x256_S1x256) broadcasts_S1x256_S256x256

/-- The convolution of a chunk `z` that follows the rows `p`: the bias and the three taps. -/
def convV (p : FVec F S8x256 .f32) (z : FVec F S256x256 .f32) (b w0 w1 w2 : Vec F S1x256 .f32) : FVec F S256x256 .f32 :=
  addf (addf (addf (rowsV b) (mulf (rowsV w0) (backV 2#32 p z))) (mulf (rowsV w1) (backV 1#32 p z))) (mulf (rowsV w2) z)

/-- The activation: silu of the gate times the value. -/
def actV (g v : FVec F S256x256 .f32) : FVec F S256x256 .f32 :=
  mulf (mulf g (divf (broadcast S256x256 (Scalar.ofBits .f32 0x3F800000#32))
    (addf (broadcast S256x256 (Scalar.ofBits .f32 0x3F800000#32)) (exp (subf (broadcast S256x256 (Scalar.ofBits .f32 0x00000000#32)) g))))) v

/-- A chunk rounded for its store. -/
def storeV (z : FVec F S256x256 .f32) : FVec F S256x256 .bf16 := truncf .bf16 z bitsLt_bf16_f32

/-- The convolution of a chunk with the taps' and the bias's blocks. -/
def convB (p : FVec F S8x256 .f32) (z : FVec F S256x256 .f32) (w : Vec F S3x256 .f32) (b : Vec F S1x256 .f32) : FVec F S256x256 .f32 :=
  convV p z (View.ld b r0_3) (View.ld w r0_4) (View.ld w r0_5) (View.ld w r0_6)

variable (x0 : Vec F S2048x1024 .bf16) (x1 x2 : Vec F S256x1024 .bf16) (x3 x4 : Vec F S3x256 .f32) (x5 x6 : Vec F S1x256 .f32)

/-- What is stored of the gate half's product, chunk by chunk. -/
theorem gate_products : out0_8 x0 x1 x2 x3 x4 x5 x6 = View.canon [
    ⟨r0_20, storeV (prodV (View.ld x0 r0_19) (View.ld x1 r0_1))⟩,
    ⟨r0_18, storeV (prodV (View.ld x0 r0_17) (View.ld x1 r0_1))⟩,
    ⟨r0_16, storeV (prodV (View.ld x0 r0_15) (View.ld x1 r0_1))⟩,
    ⟨r0_14, storeV (prodV (View.ld x0 r0_13) (View.ld x1 r0_1))⟩,
    ⟨r0_12, storeV (prodV (View.ld x0 r0_11) (View.ld x1 r0_1))⟩,
    ⟨r0_10, storeV (prodV (View.ld x0 r0_9) (View.ld x1 r0_1))⟩,
    ⟨r0_8, storeV (prodV (View.ld x0 r0_7) (View.ld x1 r0_1))⟩,
    ⟨r0_2, storeV (prodV (View.ld x0 r0_0) (View.ld x1 r0_1))⟩] := rfl

/-- What is stored of the value half's product, chunk by chunk. -/
theorem value_products : out0_9 x0 x1 x2 x3 x4 x5 x6 = View.canon [
    ⟨r0_20, storeV (prodV (View.ld x0 r0_19) (View.ld x2 r0_1))⟩,
    ⟨r0_18, storeV (prodV (View.ld x0 r0_17) (View.ld x2 r0_1))⟩,
    ⟨r0_16, storeV (prodV (View.ld x0 r0_15) (View.ld x2 r0_1))⟩,
    ⟨r0_14, storeV (prodV (View.ld x0 r0_13) (View.ld x2 r0_1))⟩,
    ⟨r0_12, storeV (prodV (View.ld x0 r0_11) (View.ld x2 r0_1))⟩,
    ⟨r0_10, storeV (prodV (View.ld x0 r0_9) (View.ld x2 r0_1))⟩,
    ⟨r0_8, storeV (prodV (View.ld x0 r0_7) (View.ld x2 r0_1))⟩,
    ⟨r0_2, storeV (prodV (View.ld x0 r0_0) (View.ld x2 r0_1))⟩] := rfl

/-- What is stored of the gate, chunk by chunk. -/
theorem gate_convs : out0_10 x0 x1 x2 x3 x4 x5 x6 = View.canon [
    ⟨r0_20, storeV (convB (tailV (prodV (View.ld x0 r0_17) (View.ld x1 r0_1))) (prodV (View.ld x0 r0_19) (View.ld x1 r0_1)) x3 x5)⟩,
    ⟨r0_18, storeV (convB (tailV (prodV (View.ld x0 r0_15) (View.ld x1 r0_1))) (prodV (View.ld x0 r0_17) (View.ld x1 r0_1)) x3 x5)⟩,
    ⟨r0_16, storeV (convB (tailV (prodV (View.ld x0 r0_13) (View.ld x1 r0_1))) (prodV (View.ld x0 r0_15) (View.ld x1 r0_1)) x3 x5)⟩,
    ⟨r0_14, storeV (convB (tailV (prodV (View.ld x0 r0_11) (View.ld x1 r0_1))) (prodV (View.ld x0 r0_13) (View.ld x1 r0_1)) x3 x5)⟩,
    ⟨r0_12, storeV (convB (tailV (prodV (View.ld x0 r0_9) (View.ld x1 r0_1))) (prodV (View.ld x0 r0_11) (View.ld x1 r0_1)) x3 x5)⟩,
    ⟨r0_10, storeV (convB (tailV (prodV (View.ld x0 r0_7) (View.ld x1 r0_1))) (prodV (View.ld x0 r0_9) (View.ld x1 r0_1)) x3 x5)⟩,
    ⟨r0_8, storeV (convB (tailV (prodV (View.ld x0 r0_0) (View.ld x1 r0_1))) (prodV (View.ld x0 r0_7) (View.ld x1 r0_1)) x3 x5)⟩,
    ⟨r0_2, storeV (convB zeroV (prodV (View.ld x0 r0_0) (View.ld x1 r0_1)) x3 x5)⟩] := rfl

/-- What is stored of the value, chunk by chunk. -/
theorem value_convs : out0_11 x0 x1 x2 x3 x4 x5 x6 = View.canon [
    ⟨r0_20, storeV (convB (tailV (prodV (View.ld x0 r0_17) (View.ld x2 r0_1))) (prodV (View.ld x0 r0_19) (View.ld x2 r0_1)) x4 x6)⟩,
    ⟨r0_18, storeV (convB (tailV (prodV (View.ld x0 r0_15) (View.ld x2 r0_1))) (prodV (View.ld x0 r0_17) (View.ld x2 r0_1)) x4 x6)⟩,
    ⟨r0_16, storeV (convB (tailV (prodV (View.ld x0 r0_13) (View.ld x2 r0_1))) (prodV (View.ld x0 r0_15) (View.ld x2 r0_1)) x4 x6)⟩,
    ⟨r0_14, storeV (convB (tailV (prodV (View.ld x0 r0_11) (View.ld x2 r0_1))) (prodV (View.ld x0 r0_13) (View.ld x2 r0_1)) x4 x6)⟩,
    ⟨r0_12, storeV (convB (tailV (prodV (View.ld x0 r0_9) (View.ld x2 r0_1))) (prodV (View.ld x0 r0_11) (View.ld x2 r0_1)) x4 x6)⟩,
    ⟨r0_10, storeV (convB (tailV (prodV (View.ld x0 r0_7) (View.ld x2 r0_1))) (prodV (View.ld x0 r0_9) (View.ld x2 r0_1)) x4 x6)⟩,
    ⟨r0_8, storeV (convB (tailV (prodV (View.ld x0 r0_0) (View.ld x2 r0_1))) (prodV (View.ld x0 r0_7) (View.ld x2 r0_1)) x4 x6)⟩,
    ⟨r0_2, storeV (convB zeroV (prodV (View.ld x0 r0_0) (View.ld x2 r0_1)) x4 x6)⟩] := rfl

/-- What is stored of the activation, chunk by chunk. -/
theorem activations : out0_7 x0 x1 x2 x3 x4 x5 x6 = View.canon [
    ⟨r0_20, storeV (actV (convB (tailV (prodV (View.ld x0 r0_17) (View.ld x1 r0_1))) (prodV (View.ld x0 r0_19) (View.ld x1 r0_1)) x3 x5) (convB (tailV (prodV (View.ld x0 r0_17) (View.ld x2 r0_1))) (prodV (View.ld x0 r0_19) (View.ld x2 r0_1)) x4 x6))⟩,
    ⟨r0_18, storeV (actV (convB (tailV (prodV (View.ld x0 r0_15) (View.ld x1 r0_1))) (prodV (View.ld x0 r0_17) (View.ld x1 r0_1)) x3 x5) (convB (tailV (prodV (View.ld x0 r0_15) (View.ld x2 r0_1))) (prodV (View.ld x0 r0_17) (View.ld x2 r0_1)) x4 x6))⟩,
    ⟨r0_16, storeV (actV (convB (tailV (prodV (View.ld x0 r0_13) (View.ld x1 r0_1))) (prodV (View.ld x0 r0_15) (View.ld x1 r0_1)) x3 x5) (convB (tailV (prodV (View.ld x0 r0_13) (View.ld x2 r0_1))) (prodV (View.ld x0 r0_15) (View.ld x2 r0_1)) x4 x6))⟩,
    ⟨r0_14, storeV (actV (convB (tailV (prodV (View.ld x0 r0_11) (View.ld x1 r0_1))) (prodV (View.ld x0 r0_13) (View.ld x1 r0_1)) x3 x5) (convB (tailV (prodV (View.ld x0 r0_11) (View.ld x2 r0_1))) (prodV (View.ld x0 r0_13) (View.ld x2 r0_1)) x4 x6))⟩,
    ⟨r0_12, storeV (actV (convB (tailV (prodV (View.ld x0 r0_9) (View.ld x1 r0_1))) (prodV (View.ld x0 r0_11) (View.ld x1 r0_1)) x3 x5) (convB (tailV (prodV (View.ld x0 r0_9) (View.ld x2 r0_1))) (prodV (View.ld x0 r0_11) (View.ld x2 r0_1)) x4 x6))⟩,
    ⟨r0_10, storeV (actV (convB (tailV (prodV (View.ld x0 r0_7) (View.ld x1 r0_1))) (prodV (View.ld x0 r0_9) (View.ld x1 r0_1)) x3 x5) (convB (tailV (prodV (View.ld x0 r0_7) (View.ld x2 r0_1))) (prodV (View.ld x0 r0_9) (View.ld x2 r0_1)) x4 x6))⟩,
    ⟨r0_8, storeV (actV (convB (tailV (prodV (View.ld x0 r0_0) (View.ld x1 r0_1))) (prodV (View.ld x0 r0_7) (View.ld x1 r0_1)) x3 x5) (convB (tailV (prodV (View.ld x0 r0_0) (View.ld x2 r0_1))) (prodV (View.ld x0 r0_7) (View.ld x2 r0_1)) x4 x6))⟩,
    ⟨r0_2, storeV (actV (convB zeroV (prodV (View.ld x0 r0_0) (View.ld x1 r0_1)) x3 x5) (convB zeroV (prodV (View.ld x0 r0_0) (View.ld x2 r0_1)) x4 x6))⟩] := rfl

end

end Cert.Proof.UpConv
-- ==== Proof.UpConvBlocks.lean ====
module

public import proofs.«01_k».proof.Defs
public import proofs.«01_k».proof.Proof.Gen.UpConvKernelIdeal.Value
public import proofs.«01_k».proof.Proof.UpConvChunks
public import Idealize.ShloMosaic.Lib.Pipeline.ValueKit
public import Idealize.ShloMosaic.Lib.StableHlo.ReadAt

@[expose] public section

set_option maxRecDepth 16384

noncomputable section

namespace Cert.Proof.UpConv

open Idealize.ShloMosaic Idealize.ShloMosaic.TcCoe Idealize.SL.Sem
open Cert.UpConvKernelIdeal Cert.UpConvKernelIdeal.Gen
open Idealize.ShloMosaic.Pipeline (Dat)

/-- A row of `X` times a row of `W`. -/
def dot {n a : ℕ} (X : Vec Ideal ⟨2, ![n, 1024]⟩ .bf16) (W : Vec Ideal ⟨2, ![a, 1024]⟩ .bf16) (r : Fin n) (l : Fin a) : EReal :=
  ∑ k : Fin 1024, (X (ix2 r k) : EReal) * (W (ix2 l k) : EReal)

/-- The rows of `D` read `j` rows further up, zero before the first. -/
def up (D : Fin 2048 → Fin 256 → EReal) (j : ℕ) (r : Fin 2048) (l : Fin 256) : EReal :=
  if h : j ≤ r.val then D ⟨r.val - j, by omega⟩ l else 0

/-- The causal convolution of the rows of `D`: the bias and the three taps. -/
def convAt (D : Fin 2048 → Fin 256 → EReal) (w : Vec Ideal S3x256 .f32) (b : Vec Ideal S1x256 .f32) (r : Fin 2048) (l : Fin 256) : EReal :=
  b (ix2 0 l) + @HMul.hMul EReal EReal EReal _ (w (ix2 0 l)) (up D 2 r l) + @HMul.hMul EReal EReal EReal _ (w (ix2 1 l)) (up D 1 r l)
    + @HMul.hMul EReal EReal EReal _ (w (ix2 2 l)) (D r l)

/-- The chosen row of the first eight: from the chunk before below row `b`. -/
theorem select_row (b n : ℕ) (hb : b < 8) (hn : n < 8) (x y : EReal) :
    Scalar.select (IntOp.cmpi CmpIPredicate.slt (BitVec.ofNat 32 n) (BitVec.ofNat 32 b)) x y
      = if n < b then x else y := by
  have key : ∀ b n : Fin 8, IntOp.cmpi CmpIPredicate.slt (BitVec.ofNat 32 n.val) (BitVec.ofNat 32 b.val)
      = if n.val < b.val then 1#1 else 0#1 := by decide
  rw [key ⟨b, hb⟩ ⟨n, hn⟩]
  dsimp only
  split <;> rfl

theorem prod_at (x w : Vec Ideal S256x1024 .bf16) (r l : Fin 256) :
    prodV x w (ix2 r l) = dot (n := 256) (a := 256) x w r l := by
  pointwise [prodV, dot]

theorem tail_at (z : FVec Ideal S256x256 .f32) (n : Fin 8) (l : Fin 256) :
    tailV z (ix2 n l) = z (ix2 ⟨248 + n.val, by omega⟩ l) := by
  pointwise [tailV]

theorem zero_at (n : Fin 8) (l : Fin 256) : zeroV (F := Ideal) (ix2 n l) = (0 : EReal) := by
  pointwise [zeroV]

/-- A chunk one row further up. -/
theorem back1_at (p : FVec Ideal S8x256 .f32) (z : FVec Ideal S256x256 .f32) (r l : Fin 256) :
    backV 1#32 p z (ix2 r l) = if h : r.val < 1 then p (ix2 ⟨7 + r.val, by omega⟩ l) else z (ix2 ⟨r.val - 1, by omega⟩ l) := by
  pointwise [backV]
  by_cases h8 : r.val < 8
  · rw [dif_pos h8, select_row 1 _ (by omega) h8]
    split
    · refine congrArg p (congrArg (fun n => ix2 n l) (Fin.ext ?_)); show (r.val + 8 - 1) % 8 = 7 + r.val; omega
    · refine congrArg z (congrArg (fun n => ix2 n l) (Fin.ext ?_)); show (r.val + 256 - 1) % 256 = r.val - 1; omega
  · rw [dif_neg h8, dif_neg (by omega)]
    refine congrArg z (congrArg (fun n => ix2 n l) (Fin.ext ?_)); show (8 + (r.val - 8) + 256 - 1) % 256 = r.val - 1; omega

/-- A chunk two rows further up. -/
theorem back2_at (p : FVec Ideal S8x256 .f32) (z : FVec Ideal S256x256 .f32) (r l : Fin 256) :
    backV 2#32 p z (ix2 r l) = if h : r.val < 2 then p (ix2 ⟨6 + r.val, by omega⟩ l) else z (ix2 ⟨r.val - 2, by omega⟩ l) := by
  pointwise [backV]
  by_cases h8 : r.val < 8
  · rw [dif_pos h8, select_row 2 _ (by omega) h8]
    split
    · refine congrArg p (congrArg (fun n => ix2 n l) (Fin.ext ?_)); show (r.val + 8 - 2) % 8 = 6 + r.val; omega
    · refine congrArg z (congrArg (fun n => ix2 n l) (Fin.ext ?_)); show (r.val + 256 - 2) % 256 = r.val - 2; omega
  · rw [dif_neg h8, dif_neg (by omega)]
    refine congrArg z (congrArg (fun n => ix2 n l) (Fin.ext ?_)); show (8 + (r.val - 8) + 256 - 2) % 256 = r.val - 2; omega

theorem conv_at (p : FVec Ideal S8x256 .f32) (z : FVec Ideal S256x256 .f32) (w : Vec Ideal S3x256 .f32) (b : Vec Ideal S1x256 .f32) (r l : Fin 256) :
    convB p z w b (ix2 r l) = b (ix2 0 l) + @HMul.hMul EReal EReal EReal _ (w (ix2 0 l)) (backV 2#32 p z (ix2 r l))
      + @HMul.hMul EReal EReal EReal _ (w (ix2 1 l)) (backV 1#32 p z (ix2 r l)) + @HMul.hMul EReal EReal EReal _ (w (ix2 2 l)) (z (ix2 r l)) := by
  pointwise [convB, convV, rowsV]

theorem act_at (g v : FVec Ideal S256x256 .f32) (r l : Fin 256) :
    actV g v (ix2 r l) = @HMul.hMul EReal EReal EReal _ (@HMul.hMul EReal EReal EReal _ (g (ix2 r l)) (Ideal.div 1 (1 + Ideal.exp (0 - (g (ix2 r l) : EReal))))) (v (ix2 r l)) := by
  pointwise [actV]

theorem store_at (z : FVec Ideal S256x256 .f32) (r l : Fin 256) : storeV z (ix2 r l) = z (ix2 r l) := by
  pointwise [storeV]

section
variable (X : Vec Ideal S2048x1024 .bf16) (W : Vec Ideal S256x1024 .bf16) (w : Vec Ideal S3x256 .f32) (b : Vec Ideal S1x256 .f32)

/-- The whole block's product. -/
def zOf (r : Fin 2048) (l : Fin 256) : EReal := dot (n := 2048) (a := 256) X W r l

/-- A chunk's product is the block's at the chunk's rows. -/
theorem prod_chunk (o : ℕ) (h : ∀ a, ![o, 0] a + S256x1024.size a ≤ S2048x1024.size a) (r l : Fin 256) (R : Fin 2048) (hR : R.val = o + r.val) :
    prodV (View.ld X (Rect.unit ![o, 0] S256x1024.size h)) (View.ld W r0_1) (ix2 r l) = zOf X W R l := by
  obtain ⟨R, hRlt⟩ := R
  obtain rfl : R = o + r.val := hR
  rw [prod_at]
  unfold zOf dot
  pointwise []

/-- The first chunk's convolution. -/
theorem first_chunk (h : ∀ a, ![0, 0] a + S256x1024.size a ≤ S2048x1024.size a) (r l : Fin 256) (R : Fin 2048) (hR : R.val = r.val) :
    convB zeroV (prodV (View.ld X (Rect.unit ![0, 0] S256x1024.size h)) (View.ld W r0_1)) w b (ix2 r l)
      = convAt (zOf X W) w b R l := by
  have p0 : ∀ n : Fin 256, prodV (View.ld X (Rect.unit ![0, 0] S256x1024.size h)) (View.ld W r0_1) (ix2 n l) = zOf X W ⟨n.val, by omega⟩ l :=
    fun n => prod_chunk X W 0 h n l _ (Nat.zero_add _).symm
  rw [conv_at, back1_at, back2_at]
  simp only [p0, zero_at]
  have u2 : (if h : r.val < 2 then (0 : EReal) else zOf X W ⟨r.val - 2, by omega⟩ l) = up (zOf X W) 2 R l := by
    unfold up
    by_cases c : r.val < 2
    · rw [dif_pos c, dif_neg (by omega)]
    · rw [dif_neg c, dif_pos (by omega)]
      exact congrArg (fun n => zOf X W n l) (Fin.ext (by show r.val - 2 = R.val - 2; omega))
  have u1 : (if h : r.val < 1 then (0 : EReal) else zOf X W ⟨r.val - 1, by omega⟩ l) = up (zOf X W) 1 R l := by
    unfold up
    by_cases c : r.val < 1
    · rw [dif_pos c, dif_neg (by omega)]
    · rw [dif_neg c, dif_pos (by omega)]
      exact congrArg (fun n => zOf X W n l) (Fin.ext (by show r.val - 1 = R.val - 1; omega))
  have u0 : zOf X W ⟨r.val, by omega⟩ l = zOf X W R l := congrArg (fun n => zOf X W n l) (Fin.ext hR.symm)
  rw [u0, u1, u2]
  rfl

/-- A later chunk's convolution. -/
theorem later_chunk (o o' : ℕ) (ho : o' = o + 256) (h0 : ∀ a, ![o, 0] a + S256x1024.size a ≤ S2048x1024.size a)
    (h1 : ∀ a, ![o', 0] a + S256x1024.size a ≤ S2048x1024.size a) (r l : Fin 256) (R : Fin 2048) (hR : R.val = o' + r.val) :
    convB (tailV (prodV (View.ld X (Rect.unit ![o, 0] S256x1024.size h0)) (View.ld W r0_1)))
      (prodV (View.ld X (Rect.unit ![o', 0] S256x1024.size h1)) (View.ld W r0_1)) w b (ix2 r l)
      = convAt (zOf X W) w b R l := by
  have b1 : o' + 256 ≤ 2048 := h1 0
  have p0 : ∀ n : Fin 256, prodV (View.ld X (Rect.unit ![o, 0] S256x1024.size h0)) (View.ld W r0_1) (ix2 n l) = zOf X W ⟨o + n.val, by omega⟩ l :=
    fun n => prod_chunk X W o h0 n l _ rfl
  have p1 : ∀ n : Fin 256, prodV (View.ld X (Rect.unit ![o', 0] S256x1024.size h1)) (View.ld W r0_1) (ix2 n l) = zOf X W ⟨o' + n.val, by omega⟩ l :=
    fun n => prod_chunk X W o' h1 n l _ rfl
  rw [conv_at, back1_at, back2_at]
  simp only [tail_at, p0, p1]
  have u2 : (if h : r.val < 2 then zOf X W ⟨o + (248 + (6 + r.val)), by omega⟩ l else zOf X W ⟨o' + (r.val - 2), by omega⟩ l) = up (zOf X W) 2 R l := by
    have e : up (zOf X W) 2 R l = zOf X W ⟨R.val - 2, by omega⟩ l := dif_pos (by omega)
    rw [e]
    split
    · exact congrArg (fun n => zOf X W n l) (Fin.ext (by show o + (248 + (6 + r.val)) = R.val - 2; omega))
    · exact congrArg (fun n => zOf X W n l) (Fin.ext (by show o' + (r.val - 2) = R.val - 2; omega))
  have u1 : (if h : r.val < 1 then zOf X W ⟨o + (248 + (7 + r.val)), by omega⟩ l else zOf X W ⟨o' + (r.val - 1), by omega⟩ l) = up (zOf X W) 1 R l := by
    have e : up (zOf X W) 1 R l = zOf X W ⟨R.val - 1, by omega⟩ l := dif_pos (by omega)
    rw [e]
    split
    · exact congrArg (fun n => zOf X W n l) (Fin.ext (by show o + (248 + (7 + r.val)) = R.val - 1; omega))
    · exact congrArg (fun n => zOf X W n l) (Fin.ext (by show o' + (r.val - 1) = R.val - 1; omega))
  have u0 : zOf X W ⟨o' + r.val, by omega⟩ l = zOf X W R l := congrArg (fun n => zOf X W n l) (Fin.ext hR.symm)
  rw [u0, u1, u2]
  rfl

variable (Wg Wv : Vec Ideal S256x1024 .bf16) (tg tv : Vec Ideal S3x256 .f32) (bg bv : Vec Ideal S1x256 .f32)

/-- The activation of a gate and a value. -/
def actAt (g v : EReal) : EReal := g * Ideal.div 1 (1 + Ideal.exp (0 - g)) * v

/-- The gate half's product on a whole block. -/
theorem gate_product_at (r : Fin 2048) (l : Fin 256) : out0_8 X Wg Wv tg tv bg bv (ix2 r l) = zOf X Wg r l := by
  rw [gate_products]
  canon_tiles x h
  case piece0 =>
    idx_vars x
    obtain rfl : l = _ := Fin.ext h1
    refine (store_at _ _ _).trans ?_
    exact prod_chunk X Wg 1792 _ _ _ _ h0
  case piece1 =>
    idx_vars x
    obtain rfl : l = _ := Fin.ext h1
    refine (store_at _ _ _).trans ?_
    exact prod_chunk X Wg 1536 _ _ _ _ h0
  case piece2 =>
    idx_vars x
    obtain rfl : l = _ := Fin.ext h1
    refine (store_at _ _ _).trans ?_
    exact prod_chunk X Wg 1280 _ _ _ _ h0
  case piece3 =>
    idx_vars x
    obtain rfl : l = _ := Fin.ext h1
    refine (store_at _ _ _).trans ?_
    exact prod_chunk X Wg 1024 _ _ _ _ h0
  case piece4 =>
    idx_vars x
    obtain rfl : l = _ := Fin.ext h1
    refine (store_at _ _ _).trans ?_
    exact prod_chunk X Wg 768 _ _ _ _ h0
  case piece5 =>
    idx_vars x
    obtain rfl : l = _ := Fin.ext h1
    refine (store_at _ _ _).trans ?_
    exact prod_chunk X Wg 512 _ _ _ _ h0
  case piece6 =>
    idx_vars x
    obtain rfl : l = _ := Fin.ext h1
    refine (store_at _ _ _).trans ?_
    exact prod_chunk X Wg 256 _ _ _ _ h0
  case piece7 =>
    idx_vars x
    obtain rfl : l = _ := Fin.ext h1
    refine (store_at _ _ _).trans ?_
    exact prod_chunk X Wg 0 _ _ _ _ (h0.trans (Nat.zero_add _).symm)

/-- The value half's product on a whole block. -/
theorem value_product_at (r : Fin 2048) (l : Fin 256) : out0_9 X Wg Wv tg tv bg bv (ix2 r l) = zOf X Wv r l := by
  rw [value_products]
  canon_tiles x h
  case piece0 =>
    idx_vars x
    obtain rfl : l = _ := Fin.ext h1
    refine (store_at _ _ _).trans ?_
    exact prod_chunk X Wv 1792 _ _ _ _ h0
  case piece1 =>
    idx_vars x
    obtain rfl : l = _ := Fin.ext h1
    refine (store_at _ _ _).trans ?_
    exact prod_chunk X Wv 1536 _ _ _ _ h0
  case piece2 =>
    idx_vars x
    obtain rfl : l = _ := Fin.ext h1
    refine (store_at _ _ _).trans ?_
    exact prod_chunk X Wv 1280 _ _ _ _ h0
  case piece3 =>
    idx_vars x
    obtain rfl : l = _ := Fin.ext h1
    refine (store_at _ _ _).trans ?_
    exact prod_chunk X Wv 1024 _ _ _ _ h0
  case piece4 =>
    idx_vars x
    obtain rfl : l = _ := Fin.ext h1
    refine (store_at _ _ _).trans ?_
    exact prod_chunk X Wv 768 _ _ _ _ h0
  case piece5 =>
    idx_vars x
    obtain rfl : l = _ := Fin.ext h1
    refine (store_at _ _ _).trans ?_
    exact prod_chunk X Wv 512 _ _ _ _ h0
  case piece6 =>
    idx_vars x
    obtain rfl : l = _ := Fin.ext h1
    refine (store_at _ _ _).trans ?_
    exact prod_chunk X Wv 256 _ _ _ _ h0
  case piece7 =>
    idx_vars x
    obtain rfl : l = _ := Fin.ext h1
    refine (store_at _ _ _).trans ?_
    exact prod_chunk X Wv 0 _ _ _ _ (h0.trans (Nat.zero_add _).symm)

/-- The gate on a whole block. -/
theorem gate_conv_at (r : Fin 2048) (l : Fin 256) : out0_10 X Wg Wv tg tv bg bv (ix2 r l) = convAt (zOf X Wg) tg bg r l := by
  rw [gate_convs]
  canon_tiles x h
  case piece0 =>
    idx_vars x
    obtain rfl : l = _ := Fin.ext h1
    refine (store_at _ _ _).trans ?_
    exact later_chunk X Wg tg bg 1536 1792 rfl _ _ _ _ _ h0
  case piece1 =>
    idx_vars x
    obtain rfl : l = _ := Fin.ext h1
    refine (store_at _ _ _).trans ?_
    exact later_chunk X Wg tg bg 1280 1536 rfl _ _ _ _ _ h0
  case piece2 =>
    idx_vars x
    obtain rfl : l = _ := Fin.ext h1
    refine (store_at _ _ _).trans ?_
    exact later_chunk X Wg tg bg 1024 1280 rfl _ _ _ _ _ h0
  case piece3 =>
    idx_vars x
    obtain rfl : l = _ := Fin.ext h1
    refine (store_at _ _ _).trans ?_
    exact later_chunk X Wg tg bg 768 1024 rfl _ _ _ _ _ h0
  case piece4 =>
    idx_vars x
    obtain rfl : l = _ := Fin.ext h1
    refine (store_at _ _ _).trans ?_
    exact later_chunk X Wg tg bg 512 768 rfl _ _ _ _ _ h0
  case piece5 =>
    idx_vars x
    obtain rfl : l = _ := Fin.ext h1
    refine (store_at _ _ _).trans ?_
    exact later_chunk X Wg tg bg 256 512 rfl _ _ _ _ _ h0
  case piece6 =>
    idx_vars x
    obtain rfl : l = _ := Fin.ext h1
    refine (store_at _ _ _).trans ?_
    exact later_chunk X Wg tg bg 0 256 rfl _ _ _ _ _ h0
  case piece7 =>
    idx_vars x
    obtain rfl : l = _ := Fin.ext h1
    refine (store_at _ _ _).trans ?_
    exact first_chunk X Wg tg bg _ _ _ _ h0

/-- The value on a whole block. -/
theorem value_conv_at (r : Fin 2048) (l : Fin 256) : out0_11 X Wg Wv tg tv bg bv (ix2 r l) = convAt (zOf X Wv) tv bv r l := by
  rw [value_convs]
  canon_tiles x h
  case piece0 =>
    idx_vars x
    obtain rfl : l = _ := Fin.ext h1
    refine (store_at _ _ _).trans ?_
    exact later_chunk X Wv tv bv 1536 1792 rfl _ _ _ _ _ h0
  case piece1 =>
    idx_vars x
    obtain rfl : l = _ := Fin.ext h1
    refine (store_at _ _ _).trans ?_
    exact later_chunk X Wv tv bv 1280 1536 rfl _ _ _ _ _ h0
  case piece2 =>
    idx_vars x
    obtain rfl : l = _ := Fin.ext h1
    refine (store_at _ _ _).trans ?_
    exact later_chunk X Wv tv bv 1024 1280 rfl _ _ _ _ _ h0
  case piece3 =>
    idx_vars x
    obtain rfl : l = _ := Fin.ext h1
    refine (store_at _ _ _).trans ?_
    exact later_chunk X Wv tv bv 768 1024 rfl _ _ _ _ _ h0
  case piece4 =>
    idx_vars x
    obtain rfl : l = _ := Fin.ext h1
    refine (store_at _ _ _).trans ?_
    exact later_chunk X Wv tv bv 512 768 rfl _ _ _ _ _ h0
  case piece5 =>
    idx_vars x
    obtain rfl : l = _ := Fin.ext h1
    refine (store_at _ _ _).trans ?_
    exact later_chunk X Wv tv bv 256 512 rfl _ _ _ _ _ h0
  case piece6 =>
    idx_vars x
    obtain rfl : l = _ := Fin.ext h1
    refine (store_at _ _ _).trans ?_
    exact later_chunk X Wv tv bv 0 256 rfl _ _ _ _ _ h0
  case piece7 =>
    idx_vars x
    obtain rfl : l = _ := Fin.ext h1
    refine (store_at _ _ _).trans ?_
    exact first_chunk X Wv tv bv _ _ _ _ h0

/-- The activation on a whole block. -/
theorem activation_at (r : Fin 2048) (l : Fin 256) : out0_7 X Wg Wv tg tv bg bv (ix2 r l) = actAt (convAt (zOf X Wg) tg bg r l) (convAt (zOf X Wv) tv bv r l) := by
  rw [activations]
  canon_tiles x h
  case piece0 =>
    idx_vars x
    obtain rfl : l = _ := Fin.ext h1
    refine (store_at _ _ _).trans ?_
    refine (act_at _ _ _ _).trans (congrArg₂ actAt ?_ ?_)
    · exact later_chunk X Wg tg bg 1536 1792 rfl _ _ _ _ _ h0
    · exact later_chunk X Wv tv bv 1536 1792 rfl _ _ _ _ _ h0
  case piece1 =>
    idx_vars x
    obtain rfl : l = _ := Fin.ext h1
    refine (store_at _ _ _).trans ?_
    refine (act_at _ _ _ _).trans (congrArg₂ actAt ?_ ?_)
    · exact later_chunk X Wg tg bg 1280 1536 rfl _ _ _ _ _ h0
    · exact later_chunk X Wv tv bv 1280 1536 rfl _ _ _ _ _ h0
  case piece2 =>
    idx_vars x
    obtain rfl : l = _ := Fin.ext h1
    refine (store_at _ _ _).trans ?_
    refine (act_at _ _ _ _).trans (congrArg₂ actAt ?_ ?_)
    · exact later_chunk X Wg tg bg 1024 1280 rfl _ _ _ _ _ h0
    · exact later_chunk X Wv tv bv 1024 1280 rfl _ _ _ _ _ h0
  case piece3 =>
    idx_vars x
    obtain rfl : l = _ := Fin.ext h1
    refine (store_at _ _ _).trans ?_
    refine (act_at _ _ _ _).trans (congrArg₂ actAt ?_ ?_)
    · exact later_chunk X Wg tg bg 768 1024 rfl _ _ _ _ _ h0
    · exact later_chunk X Wv tv bv 768 1024 rfl _ _ _ _ _ h0
  case piece4 =>
    idx_vars x
    obtain rfl : l = _ := Fin.ext h1
    refine (store_at _ _ _).trans ?_
    refine (act_at _ _ _ _).trans (congrArg₂ actAt ?_ ?_)
    · exact later_chunk X Wg tg bg 512 768 rfl _ _ _ _ _ h0
    · exact later_chunk X Wv tv bv 512 768 rfl _ _ _ _ _ h0
  case piece5 =>
    idx_vars x
    obtain rfl : l = _ := Fin.ext h1
    refine (store_at _ _ _).trans ?_
    refine (act_at _ _ _ _).trans (congrArg₂ actAt ?_ ?_)
    · exact later_chunk X Wg tg bg 256 512 rfl _ _ _ _ _ h0
    · exact later_chunk X Wv tv bv 256 512 rfl _ _ _ _ _ h0
  case piece6 =>
    idx_vars x
    obtain rfl : l = _ := Fin.ext h1
    refine (store_at _ _ _).trans ?_
    refine (act_at _ _ _ _).trans (congrArg₂ actAt ?_ ?_)
    · exact later_chunk X Wg tg bg 0 256 rfl _ _ _ _ _ h0
    · exact later_chunk X Wv tv bv 0 256 rfl _ _ _ _ _ h0
  case piece7 =>
    idx_vars x
    obtain rfl : l = _ := Fin.ext h1
    refine (store_at _ _ _).trans ?_
    refine (act_at _ _ _ _).trans (congrArg₂ actAt ?_ ?_)
    · exact first_chunk X Wg tg bg _ _ _ _ h0
    · exact first_chunk X Wv tv bv _ _ _ _ h0

end
end Cert.Proof.UpConv
-- ==== Proof.UpConvReference.lean ====
module

public import proofs.«01_k».proof.Defs
public import proofs.«01_k».proof.Proof.Gen.UpConvReferenceIdeal.Read
public import Idealize.ShloMosaic.Lib.Pipeline.ValueKit
public import Idealize.ShloMosaic.Lib.StableHlo.ReadAt

@[expose] public section

set_option maxRecDepth 16384

noncomputable section

namespace Cert.Proof.UpConv.Ref

open Idealize.ShloMosaic Idealize.ShloMosaic.TcCoe Idealize.SL.Sem
open Cert.UpConvReferenceIdeal Cert.UpConvReferenceIdeal.Read

variable (x0 : FVec Ideal S4096x1024 .bf16) (x1 : FVec Ideal S1024x5632 .bf16) (x2 : FVec Ideal S3x5632 .f32) (x3 : FVec Ideal S5632 .f32)

/-- The up projection at row `n` of sequence `b`. -/
def z (b : Fin 2) (n : Fin 2048) (q : Fin 5632) : EReal :=
  ∑ k : Fin 1024, (x0 (ix2 ⟨b.val * 2048 + n.val, by omega⟩ k) : EReal) * (x1 (ix2 k q) : EReal)

/-- The projection with two rows of zeros in front of each sequence, at row `k`. -/
def padded (b : Fin 2) (k : ℕ) (q : Fin 5632) : EReal := if h : 2 ≤ k ∧ k < 2050 then z x0 x1 b ⟨k - 2, by omega⟩ q else 0

/-- The convolution at one place: bias, then the three taps in order. -/
def conv (b : Fin 2) (n : Fin 2048) (q : Fin 5632) : EReal :=
  x3 (ix1 q) + x2 (ix2 0 q) * padded x0 x1 b n.val q + x2 (ix2 1 q) * padded x0 x1 b (1 + n.val) q + x2 (ix2 2 q) * padded x0 x1 b (2 + n.val) q

theorem z_apply (b : Fin 2) (n : Fin 2048) (q : Fin 5632) : val_main_v3 (F := Ideal) x0 x1 (ix3 b n q) = z x0 x1 b n q := by
  pointwise [val_main_v3, val_main_v2, val_main_v1, val_main_v0]
  unfold z
  refine Finset.sum_congr rfl fun k _ => ?_
  blk_ext

theorem padded_apply (b : Fin 2) (n : Fin 2050) (q : Fin 5632) : val_main_v5 (F := Ideal) x0 x1 (ix3 b n q) = padded x0 x1 b n.val q := by
  pointwise [val_main_v5, val_main_v4, val_main_cst]
  unfold padded
  by_cases h : n.val < 2
  · rw [dif_pos h, dif_neg (by omega)]
  · rw [dif_neg h, dif_pos (by omega), z_apply]

theorem conv_apply (b : Fin 2) (n : Fin 2048) (q : Fin 5632) : val_main_v28 (F := Ideal) x0 x1 x2 x3 (ix3 b n q) = conv x0 x1 x2 x3 b n q := by
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6]
  simp only [padded_apply]
  rfl

/-- The gate's half of the projection, with the sequences below one another. -/
theorem gate_product (r : Fin 4096) (l : Fin 2816) : val_main_v38 (F := Ideal) x0 x1 (ix2 r l)
    = z x0 x1 ⟨r.val / 2048, by omega⟩ ⟨r.val % 2048, by omega⟩ ⟨l.val, by omega⟩ := by
  pointwise [val_main_v38, val_main_v37, val_main_v33]
  exact z_apply x0 x1 _ _ _

/-- The value's half of the projection. -/
theorem value_product (r : Fin 4096) (l : Fin 2816) : val_main_v40 (F := Ideal) x0 x1 (ix2 r l)
    = z x0 x1 ⟨r.val / 2048, by omega⟩ ⟨r.val % 2048, by omega⟩ ⟨2816 + l.val, by omega⟩ := by
  pointwise [val_main_v40, val_main_v39, val_main_v34]
  exact z_apply x0 x1 _ _ _

/-- The gate. -/
theorem gate (r : Fin 4096) (l : Fin 2816) : val_main_v42 (F := Ideal) x0 x1 x2 x3 (ix2 r l)
    = conv x0 x1 x2 x3 ⟨r.val / 2048, by omega⟩ ⟨r.val % 2048, by omega⟩ ⟨l.val, by omega⟩ := by
  pointwise [val_main_v42, val_main_v41, val_main_v29]
  exact conv_apply x0 x1 x2 x3 _ _ _

/-- The value. -/
theorem value (r : Fin 4096) (l : Fin 2816) : val_main_v44 (F := Ideal) x0 x1 x2 x3 (ix2 r l)
    = conv x0 x1 x2 x3 ⟨r.val / 2048, by omega⟩ ⟨r.val % 2048, by omega⟩ ⟨2816 + l.val, by omega⟩ := by
  pointwise [val_main_v44, val_main_v43, val_main_v30]
  exact conv_apply x0 x1 x2 x3 _ _ _

theorem gate_apply (b : Fin 2) (n : Fin 2048) (l : Fin 2816) : val_main_v29 (F := Ideal) x0 x1 x2 x3 (ix3 b n l) = conv x0 x1 x2 x3 b n ⟨l.val, by omega⟩ := by
  pointwise [val_main_v29]
  exact conv_apply x0 x1 x2 x3 b n _

theorem value_apply (b : Fin 2) (n : Fin 2048) (l : Fin 2816) : val_main_v30 (F := Ideal) x0 x1 x2 x3 (ix3 b n l) = conv x0 x1 x2 x3 b n ⟨2816 + l.val, by omega⟩ := by
  pointwise [val_main_v30]
  exact conv_apply x0 x1 x2 x3 b n _

/-- The activation of a gate and a value, as the reference writes it. -/
def act (g v : EReal) : EReal := g * Ideal.div 1 (1 + Ideal.exp (-g)) * v

/-- The activation. -/
theorem activation (r : Fin 4096) (l : Fin 2816) : val_main_v36 (F := Ideal) x0 x1 x2 x3 (ix2 r l)
    = act (conv x0 x1 x2 x3 ⟨r.val / 2048, by omega⟩ ⟨r.val % 2048, by omega⟩ ⟨l.val, by omega⟩)
        (conv x0 x1 x2 x3 ⟨r.val / 2048, by omega⟩ ⟨r.val % 2048, by omega⟩ ⟨2816 + l.val, by omega⟩) := by
  pointwise [val_main_v36, val_main_v35, val_main_v32, val_main_v31, val_main_call0_v0, val_main_call0_v1, val_main_call0_v2, val_main_call0_v3,
    val_main_call0_v4, val_main_call0_v5, val_main_call0_cst, val_main_call0_cst_0]
  simp only [gate_apply, value_apply]
  rfl

end Cert.Proof.UpConv.Ref

end
-- ==== Proof.UpConvArrays.lean ====
module

public import proofs.«01_k».proof.Defs
public import proofs.«01_k».proof.Proof.Gen.UpConvKernelIdeal.Value
public import proofs.«01_k».proof.Proof.UpConvBlocks
public import proofs.«01_k».proof.Proof.UpConvReference
public import Idealize.ShloMosaic.Lib.Pipeline.ValueKit
public import Idealize.ShloMosaic.Lib.StableHlo.ReadAt

@[expose] public section

set_option maxRecDepth 16384

noncomputable section

namespace Cert.Proof.UpConv

open Idealize.ShloMosaic Idealize.ShloMosaic.TcCoe Idealize.SL.Sem
open Cert.UpConvKernelIdeal Cert.UpConvKernelIdeal.Gen
open Cert.UpConvReferenceIdeal.Read
open Idealize.ShloMosaic.Pipeline (Dat)

variable (m : (ℓ : Loc nD τ sig) → Buf (Elt Ideal) ℓ)

/-- Where each window's block sits: point `t` is column tile `t % 11` of sequence `t / 11`. -/
theorem place : ∀ t : Fin cfg0.N,
    win0_0.index t = ![t.val / 11, 0] ∧ win0_1.index t = ![t.val % 11, 0] ∧ win0_2.index t = ![t.val % 11 + 11, 0]
      ∧ win0_3.index t = ![0, t.val % 11] ∧ win0_4.index t = ![0, t.val % 11] ∧ win0_5.index t = ![0, t.val % 11] ∧ win0_6.index t = ![0, t.val % 11]
      ∧ win0_7.index t = ![t.val / 11, t.val % 11] ∧ win0_8.index t = ![t.val / 11, t.val % 11] ∧ win0_9.index t = ![t.val / 11, t.val % 11]
      ∧ win0_10.index t = ![t.val / 11, t.val % 11] ∧ win0_11.index t = ![t.val / 11, t.val % 11] :=
  (by decide +kernel : ∀ t : Fin grid0.N, _)

/-- The sequence of point `t`. -/
abbrev seqOf (t : Fin cfg0.N) : Fin 2 := ⟨t.val / 11, by have := t.isLt; have : cfg0.N = 22 := N_0; omega⟩

/-- The column of the results at column `l` of point `t`'s tile. -/
abbrev colOf (t : Fin cfg0.N) (l : Fin 256) : Fin 2816 := ⟨t.val % 11 * 256 + l.val, by omega⟩

/-- The row of the results at row `n` of point `t`'s sequence. -/
abbrev rowOf (t : Fin cfg0.N) (n : Fin 2048) : Fin 4096 := ⟨t.val / 11 * 2048 + n.val, by have := t.isLt; have : cfg0.N = 22 := N_0; omega⟩

/-- A column of the first half of the 5632 columns. -/
abbrev gateCol (l : Fin 2816) : Fin 5632 := ⟨l.val, by omega⟩

/-- A column of the second half. -/
abbrev valueCol (l : Fin 2816) : Fin 5632 := ⟨2816 + l.val, by omega⟩

/-- The four arguments on device `c`. -/
abbrev arg0 (c : Dev nD) : FVec Ideal S4096x1024 .bf16 := m ((c : Thread nD τ).loc main_arg0)
abbrev arg1 (c : Dev nD) : FVec Ideal S1024x5632 .bf16 := m ((c : Thread nD τ).loc main_arg1)
abbrev arg2 (c : Dev nD) : FVec Ideal S3x5632 .f32 := m ((c : Thread nD τ).loc main_arg2)
abbrev arg3 (c : Dev nD) : FVec Ideal S5632 .f32 := m ((c : Thread nD τ).loc main_arg3)

section
variable (c : Dev nD) (t : Fin cfg0.N)

theorem stream (n : Fin 2048) (k : Fin 1024) :
    (iblk m c 0 t : Vec Ideal S2048x1024 .bf16) (ix2 n k) = arg0 m c (ix2 (rowOf t n) k) := by
  blk_ext [iblk, V, (place t).1]

/-- The weight as the call receives it: transposed. -/
theorem weight (q : Fin 5632) (k : Fin 1024) :
    (V m c main_v0 : FVec Ideal S5632x1024 .bf16) (ix2 q k) = arg1 m c (ix2 k q) := by
  unfold V
  after_reads_at

theorem weight_gate (l : Fin 256) (k : Fin 1024) :
    (iblk m c 1 t : Vec Ideal S256x1024 .bf16) (ix2 l k) = arg1 m c (ix2 k (gateCol (colOf t l))) := by
  refine Eq.trans ?_ (weight m c (gateCol (colOf t l)) k)
  blk_ext [iblk, (place t).2.1]

theorem weight_value (l : Fin 256) (k : Fin 1024) :
    (iblk m c 2 t : Vec Ideal S256x1024 .bf16) (ix2 l k) = arg1 m c (ix2 k (valueCol (colOf t l))) := by
  refine Eq.trans ?_ (weight m c (valueCol (colOf t l)) k)
  blk_ext [iblk, (place t).2.2.1]

theorem taps_gate (i : Fin 3) (l : Fin 256) :
    (iblk m c 3 t : Vec Ideal S3x256 .f32) (ix2 i l) = arg2 m c (ix2 i (gateCol (colOf t l))) := by
  have e : (V m c main_v1 : FVec Ideal S3x2816 .f32) (ix2 i (colOf t l)) = arg2 m c (ix2 i (gateCol (colOf t l))) := by
    unfold V
    after_reads_at
  refine Eq.trans ?_ e
  blk_ext [iblk, (place t).2.2.2.1]

theorem taps_value (i : Fin 3) (l : Fin 256) :
    (iblk m c 4 t : Vec Ideal S3x256 .f32) (ix2 i l) = arg2 m c (ix2 i (valueCol (colOf t l))) := by
  have e : (V m c main_v2 : FVec Ideal S3x2816 .f32) (ix2 i (colOf t l)) = arg2 m c (ix2 i (valueCol (colOf t l))) := by
    unfold V
    after_reads_at
  refine Eq.trans ?_ e
  blk_ext [iblk, (place t).2.2.2.2.1]

theorem bias_gate (l : Fin 256) :
    (iblk m c 5 t : Vec Ideal S1x256 .f32) (ix2 0 l) = arg3 m c (ix1 (gateCol (colOf t l))) := by
  have e : (V m c main_v5 : FVec Ideal S1x2816 .f32) (ix2 0 (colOf t l)) = arg3 m c (ix1 (gateCol (colOf t l))) := by
    unfold V
    after_reads_at
  refine Eq.trans ?_ e
  blk_ext [iblk, (place t).2.2.2.2.2.1]

theorem bias_value (l : Fin 256) :
    (iblk m c 6 t : Vec Ideal S1x256 .f32) (ix2 0 l) = arg3 m c (ix1 (valueCol (colOf t l))) := by
  have e : (V m c main_v6 : FVec Ideal S1x2816 .f32) (ix2 0 (colOf t l)) = arg3 m c (ix1 (valueCol (colOf t l))) := by
    unfold V
    after_reads_at
  refine Eq.trans ?_ e
  blk_ext [iblk, (place t).2.2.2.2.2.2.1]

/-- The gate half's product on a block is the reference's. -/
theorem z_gate (n : Fin 2048) (l : Fin 256) :
    zOf (iblk m c 0 t) (iblk m c 1 t) n l = Ref.z (arg0 m c) (arg1 m c) (seqOf t) n (gateCol (colOf t l)) := by
  unfold zOf dot Ref.z
  refine Finset.sum_congr rfl fun k _ => ?_
  rw [stream, weight_gate]

/-- The value half's product on a block is the reference's. -/
theorem z_value (n : Fin 2048) (l : Fin 256) :
    zOf (iblk m c 0 t) (iblk m c 2 t) n l = Ref.z (arg0 m c) (arg1 m c) (seqOf t) n (valueCol (colOf t l)) := by
  unfold zOf dot Ref.z
  refine Finset.sum_congr rfl fun k _ => ?_
  rw [stream, weight_value]

/-- A block's convolution is the reference's, where its rows, taps and bias are. -/
theorem conv_eq (D : Fin 2048 → Fin 256 → EReal) (w : Vec Ideal S3x256 .f32) (b : Vec Ideal S1x256 .f32) (q : Fin 256 → Fin 5632)
    (hD : ∀ n l, D n l = Ref.z (arg0 m c) (arg1 m c) (seqOf t) n (q l)) (hw : ∀ i l, w (ix2 i l) = arg2 m c (ix2 i (q l)))
    (hb : ∀ l, b (ix2 0 l) = arg3 m c (ix1 (q l))) (n : Fin 2048) (l : Fin 256) :
    convAt D w b n l = Ref.conv (arg0 m c) (arg1 m c) (arg2 m c) (arg3 m c) (seqOf t) n (q l) := by
  have u : ∀ j k : ℕ, k + j = n.val + 2 → j ≤ 2 → up D j n l = Ref.padded (arg0 m c) (arg1 m c) (seqOf t) k (q l) := by
    intro j k h hj
    unfold up Ref.padded
    by_cases a : j ≤ n.val
    · rw [dif_pos a, dif_pos (by omega), hD]
      exact congrArg (fun r => Ref.z (arg0 m c) (arg1 m c) (seqOf t) r (q l)) (Fin.ext (by show n.val - j = k - 2; omega))
    · rw [dif_neg a, dif_neg (by omega)]
  have u0 : D n l = Ref.padded (arg0 m c) (arg1 m c) (seqOf t) (2 + n.val) (q l) := by
    unfold Ref.padded
    rw [dif_pos (by omega), hD]
    exact congrArg (fun r => Ref.z (arg0 m c) (arg1 m c) (seqOf t) r (q l)) (Fin.ext (by show n.val = 2 + n.val - 2; omega))
  unfold convAt Ref.conv
  rw [u 2 n.val rfl le_rfl, u 1 (1 + n.val) (by omega) (by omega), u0, hb, hw, hw, hw]

/-- The gate on a block is the reference's. -/
theorem c_gate (n : Fin 2048) (l : Fin 256) :
    convAt (zOf (iblk m c 0 t) (iblk m c 1 t)) (iblk m c 3 t) (iblk m c 5 t) n l
      = Ref.conv (arg0 m c) (arg1 m c) (arg2 m c) (arg3 m c) (seqOf t) n (gateCol (colOf t l)) :=
  conv_eq m c t _ _ _ (fun l => gateCol (colOf t l)) (z_gate m c t) (taps_gate m c t) (bias_gate m c t) n l

/-- The value on a block is the reference's. -/
theorem c_value (n : Fin 2048) (l : Fin 256) :
    convAt (zOf (iblk m c 0 t) (iblk m c 2 t)) (iblk m c 4 t) (iblk m c 6 t) n l
      = Ref.conv (arg0 m c) (arg1 m c) (arg2 m c) (arg3 m c) (seqOf t) n (valueCol (colOf t l)) :=
  conv_eq m c t _ _ _ (fun l => valueCol (colOf t l)) (z_value m c t) (taps_value m c t) (bias_value m c t) n l

/-- The activation as the kernel writes it is the reference's. -/
theorem act_eq (g v : EReal) : actAt g v = Ref.act g v := by
  unfold actAt Ref.act
  rw [zero_sub]

theorem seq_row (n : Fin 2048) : (⟨(rowOf t n).val / 2048, by omega⟩ : Fin 2) = seqOf t :=
  Fin.ext (show (t.val / 11 * 2048 + n.val) / 2048 = t.val / 11 by omega)

theorem row_row (n : Fin 2048) : (⟨(rowOf t n).val % 2048, by omega⟩ : Fin 2048) = n :=
  Fin.ext (show (t.val / 11 * 2048 + n.val) % 2048 = n.val by omega)

end

/-- The activation after the run. -/
theorem final7 (c : Dev nD) : (dats m 0 c).arrAt 7 (cfgs 0).N = val_main_v36 (F := Ideal) (arg0 m c) (arg1 m c) (arg2 m c) (arg3 m c) := by
  refine (dats m 0 c).arrAt_eq_of_covers 7 _ (by decide +kernel) fun t _ y => ?_
  blk_simp
  rw [after0_7]
  idx_vars y
  have e : ((View.whole main_v7_0).slice ((win0 7).rect t)).emb (ix2 y0 y1) = ix2 (rowOf t y0) (colOf t y1) := by
    blk_ext [place t]
  erw [e]
  refine (activation_at _ _ _ _ _ _ _ y0 y1).trans ?_
  rw [Ref.activation, act_eq, c_gate, c_value, seq_row, row_row]

/-- The gate's half of the projection after the run. -/
theorem final8 (c : Dev nD) : (dats m 0 c).arrAt 8 (cfgs 0).N = val_main_v38 (F := Ideal) (arg0 m c) (arg1 m c) := by
  refine (dats m 0 c).arrAt_eq_of_covers 8 _ (by decide +kernel) fun t _ y => ?_
  blk_simp
  rw [after0_8]
  idx_vars y
  have e : ((View.whole main_v7_1).slice ((win0 8).rect t)).emb (ix2 y0 y1) = ix2 (rowOf t y0) (colOf t y1) := by
    blk_ext [place t]
  erw [e]
  refine (gate_product_at _ _ _ _ _ _ _ y0 y1).trans ?_
  rw [Ref.gate_product, z_gate, seq_row, row_row]

/-- The value's half of the projection after the run. -/
theorem final9 (c : Dev nD) : (dats m 0 c).arrAt 9 (cfgs 0).N = val_main_v40 (F := Ideal) (arg0 m c) (arg1 m c) := by
  refine (dats m 0 c).arrAt_eq_of_covers 9 _ (by decide +kernel) fun t _ y => ?_
  blk_simp
  rw [after0_9]
  idx_vars y
  have e : ((View.whole main_v7_2).slice ((win0 9).rect t)).emb (ix2 y0 y1) = ix2 (rowOf t y0) (colOf t y1) := by
    blk_ext [place t]
  erw [e]
  refine (value_product_at _ _ _ _ _ _ _ y0 y1).trans ?_
  rw [Ref.value_product, z_value, seq_row, row_row]

/-- The gate after the run. -/
theorem final10 (c : Dev nD) : (dats m 0 c).arrAt 10 (cfgs 0).N = val_main_v42 (F := Ideal) (arg0 m c) (arg1 m c) (arg2 m c) (arg3 m c) := by
  refine (dats m 0 c).arrAt_eq_of_covers 10 _ (by decide +kernel) fun t _ y => ?_
  blk_simp
  rw [after0_10]
  idx_vars y
  have e : ((View.whole main_v7_3).slice ((win0 10).rect t)).emb (ix2 y0 y1) = ix2 (rowOf t y0) (colOf t y1) := by
    blk_ext [place t]
  erw [e]
  refine (gate_conv_at _ _ _ _ _ _ _ y0 y1).trans ?_
  rw [Ref.gate, c_gate, seq_row, row_row]

/-- The value after the run. -/
theorem final11 (c : Dev nD) : (dats m 0 c).arrAt 11 (cfgs 0).N = val_main_v44 (F := Ideal) (arg0 m c) (arg1 m c) (arg2 m c) (arg3 m c) := by
  refine (dats m 0 c).arrAt_eq_of_covers 11 _ (by decide +kernel) fun t _ y => ?_
  blk_simp
  rw [after0_11]
  idx_vars y
  have e : ((View.whole main_v7_4).slice ((win0 11).rect t)).emb (ix2 y0 y1) = ix2 (rowOf t y0) (colOf t y1) := by
    blk_ext [place t]
  erw [e]
  refine (value_conv_at _ _ _ _ _ _ _ y0 y1).trans ?_
  rw [Ref.value, c_value, seq_row, row_row]

end Cert.Proof.UpConv

end
-- ==== Proof.UpConvClaims.lean ====
module

public import proofs.«01_k».proof.Proof.UpConvArrays
public import proofs.«01_k».proof.Proof.Gen.UpConvReferenceIdeal.Run
public import Idealize.ShloMosaic.Lib.Claim
public import Idealize.ShloMosaic.Lib.Quiescent

@[expose] public section

set_option maxRecDepth 16384

noncomputable section

namespace Cert.Proof.UpConv

open Idealize.ShloMosaic Idealize.ShloMosaic.TcCoe Idealize.SL.Sem
open Cert.UpConvReferenceIdeal.Read

instance : Cert.UpConvKernelIdeal.Facts := Cert.UpConvKernelIdeal.Gen.facts
instance : Cert.UpConvReferenceIdeal.Facts := Cert.UpConvReferenceIdeal.Gen.facts

/-- Over the extended reals the call's five results are the reference's, at any arguments. -/
theorem algebraic : Cert.algebraic_UpConvKernelIdeal_UpConvReferenceIdeal := by
  pair_intro
  · run_from Cert.UpConvKernelIdeal.Value.run_blocks m g
  · run_from Cert.UpConvReferenceIdeal.Value.run m' g'
    all_goals obtain ⟨e0, e1, e2, e3⟩ := hagree c
    · rw [val_main_v36_eq, e0, e1, e2, e3]; exact (final7 m c).symm
    · rw [val_main_v38_eq]; exact (final8 m c).symm
    · rw [val_main_v40_eq]; exact (final9 m c).symm
    · rw [val_main_v42_eq]; exact (final10 m c).symm
    · rw [val_main_v44_eq]; exact (final11 m c).symm

/-- The reference's execution ends with its arguments unchanged and its counters at zero. -/
theorem quiescent : Cert.quiescent_UpConvReferenceIdeal := by
  intro m g _
  exact (θ_run _ _ _).mono
    (fun r h => ⟨fun c => (h c).2.2.2.2.2, sem_eq_zero_of_no_sems (sig := Cert.UpConvReferenceIdeal.sig) (by decide) _⟩)
    (Cert.UpConvReferenceIdeal.Value.run m g)

end Cert.Proof.UpConv

end
-- ==== Proof.MergeFwd.lean ====
module

public import proofs.«01_k».proof.Defs
public import proofs.«01_k».proof.Proof.Gen.MergeFwdKernelIdeal.Value
public import proofs.«01_k».proof.Proof.Gen.MergeFwdReferenceIdeal.Read
public import proofs.«01_k».proof.Proof.Gen.MergeFwdReferenceIdeal.Run
public import Idealize.ShloMosaic.Lib.Pipeline.ValueKit
public import Idealize.ShloMosaic.Lib.StableHlo.ReadAt
public import Idealize.ShloMosaic.Lib.Claim
public import Idealize.ShloMosaic.Lib.Quiescent

@[expose] public section

set_option maxRecDepth 16384

noncomputable section

namespace Cert.Proof.MergeFwd

open Idealize.ShloMosaic Idealize.ShloMosaic.TcCoe Idealize.SL.Sem
open Cert.MergeFwdKernelIdeal Cert.MergeFwdKernelIdeal.Gen
open Cert.MergeFwdReferenceIdeal.Read
open Idealize.ShloMosaic.Pipeline (Dat)

variable (m : (ℓ : Loc nD τ sig) → Buf (Elt Ideal) ℓ)

/-- Where each window's block sits at grid point `t`: point `t` is row tile `t / 2` and column tile `t % 2`. -/
theorem place : ∀ t : Fin cfg0.N,
    win0_0.index t = ![t.val / 2, 0] ∧ win0_1.index t = ![t.val / 2, 0] ∧ win0_2.index t = ![0, t.val % 2]
      ∧ win0_3.index t = ![0, t.val % 2] ∧ win0_4.index t = ![t.val / 2, 2 + t.val % 2] ∧ win0_5.index t = ![t.val / 2, 4 + t.val % 2]
      ∧ win0_6.index t = ![t.val / 2, t.val % 2] :=
  (by decide +kernel : ∀ t : Fin grid0.N, _)

/-- The array index at which index `(r, l)` of the output block of point `t` sits. -/
abbrev pos (t : Fin cfg0.N) (r : Fin 1024) (l : Fin 512) : S4096x1024.Idx :=
  ix2 ⟨t.val / 2 * 1024 + r.val, by have := t.isLt; have : cfg0.N = 8 := N_0; omega⟩ ⟨t.val % 2 * 512 + l.val, by omega⟩

/-- The projection as the call receives it, its first 768 columns moved to its end, at an index. -/
theorem rotated_apply (c : Dev nD) (r : Fin 4096) (l : Fin 3840) :
    (V m c main_v2 : FVec Ideal S4096x3840 .bf16) (ix2 r l)
      = ((m ((c : Thread nD τ).loc main_arg4)) : FVec Ideal S4096x3840 .bf16)
          (ix2 r (if h : l.val < 3072 then ⟨768 + l.val, by omega⟩ else ⟨l.val - 3072, by omega⟩)) := by
  unfold V
  after_reads_at
  split <;> rfl

/-- The block of the first gate at point `t`: columns 1792 and on of the projection. -/
theorem gateA_apply (c : Dev nD) (t : Fin cfg0.N) (r : Fin 1024) (l : Fin 512) :
    X0_4 m c t (ix2 r l) = ((m ((c : Thread nD τ).loc main_arg4)) : FVec Ideal S4096x3840 .bf16)
      (ix2 ⟨t.val / 2 * 1024 + r.val, by have := t.isLt; have : cfg0.N = 8 := N_0; omega⟩ ⟨1792 + (t.val % 2 * 512 + l.val), by omega⟩) := by
  have hN : cfg0.N = 8 := N_0
  have ht := t.isLt
  unfold X0_4 Pipeline.Window.fill
  rw [dif_pos (moved0_4 t _)]
  have e := rotated_apply m c ⟨t.val / 2 * 1024 + r.val, by omega⟩ ⟨1024 + (t.val % 2 * 512 + l.val), by omega⟩
  rw [dif_pos (by dsimp only; omega)] at e
  refine Eq.trans ?_ (e.trans ?_)
  · blk_ext [iblk, (place t).2.2.2.2.1]
  · blk_ext

/-- The block of the second gate at point `t`: columns 2816 and on of the projection. -/
theorem gateB_apply (c : Dev nD) (t : Fin cfg0.N) (r : Fin 1024) (l : Fin 512) :
    X0_5 m c t (ix2 r l) = ((m ((c : Thread nD τ).loc main_arg4)) : FVec Ideal S4096x3840 .bf16)
      (ix2 ⟨t.val / 2 * 1024 + r.val, by have := t.isLt; have : cfg0.N = 8 := N_0; omega⟩ ⟨2816 + (t.val % 2 * 512 + l.val), by omega⟩) := by
  have hN : cfg0.N = 8 := N_0
  have ht := t.isLt
  unfold X0_5 Pipeline.Window.fill
  rw [dif_pos (moved0_5 t _)]
  have e := rotated_apply m c ⟨t.val / 2 * 1024 + r.val, by omega⟩ ⟨2048 + (t.val % 2 * 512 + l.val), by omega⟩
  rw [dif_pos (by dsimp only; omega)] at e
  refine Eq.trans ?_ (e.trans ?_)
  · blk_ext [iblk, (place t).2.2.2.2.2.1]
  · blk_ext

/-- The attention branch's projection at the block's place, as a sum over point `t`'s blocks. -/
theorem projA (c : Dev nD) (t : Fin cfg0.N) (r : Fin 1024) (l : Fin 512) :
    val_main_v18 (F := Ideal) (m ((c : Thread nD τ).loc main_arg0)) (m ((c : Thread nD τ).loc main_arg2)) (pos t r l) = ∑ k : Fin 512, @HMul.hMul EReal EReal EReal _ (iblk m c 0 t (ix2 r k)) (iblk m c 2 t (ix2 k l)) := by
  pointwise [val_main_v18, val_main_v0, val_main_v2]
  refine Finset.sum_congr rfl fun k _ => ?_
  blk_point [iblk, V, place t]

/-- The spatial branch's projection at the block's place, as a sum over point `t`'s blocks. -/
theorem projB (c : Dev nD) (t : Fin cfg0.N) (r : Fin 1024) (l : Fin 512) :
    val_main_v26 (F := Ideal) (m ((c : Thread nD τ).loc main_arg1)) (m ((c : Thread nD τ).loc main_arg3)) (pos t r l) = ∑ k : Fin 512, @HMul.hMul EReal EReal EReal _ (iblk m c 1 t (ix2 r k)) (iblk m c 3 t (ix2 k l)) := by
  pointwise [val_main_v26, val_main_v1, val_main_v3]
  refine Finset.sum_congr rfl fun k _ => ?_
  blk_point [iblk, V, place t]

/-- What point `t` computes is the reference's merge at the block's place. -/
theorem payload (c : Dev nD) (t : Fin cfg0.N) (r : Fin 1024) (l : Fin 512) :
    k0_pay1 (F := Ideal) (iblk m c 0 t) (iblk m c 2 t) (iblk m c 1 t) (iblk m c 3 t) (X0_4 m c t) (X0_5 m c t) (ix2 r l)
      = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (pos t r l) := by
  pointwise [k0_pay1, val_main_v29, val_main_v28, val_main_v27, val_main_v25, val_main_v24, val_main_v23, val_main_v22, val_main_v21, val_main_v20, val_main_v19, val_main_v17, val_main_v16, val_main_v15, val_main_v14, val_main_v13, val_main_v12, val_main_v11, val_main_v10, val_main_v4, val_main_v3, val_main_v2, val_main_v1, val_main_v0, val_main_cst, val_main_cst_0, val_main_cst_1, val_main_cst_2]
  rw [projA, projB, gateA_apply, gateB_apply]
  simp only [sub_eq_add_neg, zero_add]

/-- The merged branches after the run. -/
theorem final6 (c : Dev nD) : (dats m 0 c).arrAt 6 (cfgs 0).N = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  unfold outsAt0
  frame_out
  idx_vars y
  have e : ((View.whole main_v3).slice ((win0 6).rect t)).emb (ix2 y0 y1) = pos t y0 y1 := by
    unfold pos; blk_ext [place t]
  erw [e]
  exact payload m c t y0 y1

instance : Cert.MergeFwdKernelIdeal.Facts := Cert.MergeFwdKernelIdeal.Gen.facts
instance : Cert.MergeFwdReferenceIdeal.Facts := Cert.MergeFwdReferenceIdeal.Gen.facts

/-- Over the extended reals the call's results are the reference's, at any arguments. -/
theorem algebraic : Cert.algebraic_MergeFwdKernelIdeal_MergeFwdReferenceIdeal := by
  pair_intro
  · run_from Cert.MergeFwdKernelIdeal.Value.run_blocks m g
  · run_from Cert.MergeFwdReferenceIdeal.Value.run m' g'
    · rw [val_main_v29_eq]; exact (final6 m c).symm

/-- The reference's execution ends with its arguments unchanged and its counters at zero. -/
theorem quiescent : Cert.quiescent_MergeFwdReferenceIdeal := by
  intro m g _
  exact (θ_run _ _ _).mono
    (fun r h => ⟨fun c => (h c).2, sem_eq_zero_of_no_sems (sig := Cert.MergeFwdReferenceIdeal.sig) (by decide) _⟩)
    (Cert.MergeFwdReferenceIdeal.Value.run m g)

end Cert.Proof.MergeFwd

end
-- ==== Proof.Out.lean ====
module

public import proofs.«01_k».proof.Defs
public import proofs.«01_k».proof.Proof.Gen.OutKernelIdeal.Value
public import proofs.«01_k».proof.Proof.Gen.OutReferenceIdeal.Read
public import proofs.«01_k».proof.Proof.Gen.OutReferenceIdeal.Run
public import Idealize.ShloMosaic.Lib.Pipeline.ValueKit
public import Idealize.ShloMosaic.Lib.StableHlo.ReadAt
public import Idealize.ShloMosaic.Lib.Claim
public import Idealize.ShloMosaic.Lib.Quiescent

@[expose] public section

set_option maxRecDepth 16384

noncomputable section

namespace Cert.Proof.Out

open Idealize.ShloMosaic Idealize.ShloMosaic.TcCoe Idealize.SL.Sem
open Cert.OutKernelIdeal Cert.OutKernelIdeal.Gen
open Cert.OutReferenceIdeal.Read
open Idealize.ShloMosaic.Pipeline (Dat)

variable (m : (ℓ : Loc nD τ sig) → Buf (Elt Ideal) ℓ)

/-- Where each window's block sits at grid point `t`: point `t` is row tile `t`. -/
theorem place : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The row of the arrays at which row `r` of a block of point `t` sits. -/
abbrev row (t : Fin cfg0.N) (r : Fin 1024) : Fin 4096 :=
  ⟨t.val * 1024 + r.val, by have := t.isLt; have : cfg0.N = 4 := N_0; omega⟩

/-- The gain's block, one row. -/
theorem gain_apply (c : Dev nD) (t : Fin cfg0.N) (l : Fin 1024) :
    iblk m c 3 t (ix2 (0 : Fin 1) l) = ((m ((c : Thread nD τ).loc main_arg3)) : FVec Ideal S1024 .f32) (ix1 l) := by
  have e : (V m c main_v0 : FVec Ideal S1x1024 .f32) (ix2 (0 : Fin 1) l) = ((m ((c : Thread nD τ).loc main_arg3)) : FVec Ideal S1024 .f32) (ix1 l) := by
    unfold V
    after_reads_at
  refine Eq.trans ?_ e
  blk_ext [iblk, place t]

/-- The stream after the output projection: what point `t` computes is the reference's at the block's place. -/
theorem stream (c : Dev nD) (t : Fin cfg0.N) (r l : Fin 1024) :
    k0_pay1 (F := Ideal) (iblk m c 0 t) (iblk m c 1 t) (iblk m c 2 t) (ix2 r l)
      = val_main_v3 (F := Ideal) (m ((c : Thread nD τ).loc main_arg0)) (m ((c : Thread nD τ).loc main_arg1)) (m ((c : Thread nD τ).loc main_arg2)) (ix2 (row t r) l) := by
  pointwise [k0_pay1, val_main_v3, val_main_v2, val_main_v1, val_main_v0]
  blk_point [iblk, V, place t]

/-- The normed stream: what point `t` computes is the reference's at the block's place. -/
theorem normed (c : Dev nD) (t : Fin cfg0.N) (r l : Fin 1024) :
    k0_pay2 (F := Ideal) (iblk m c 0 t) (iblk m c 1 t) (iblk m c 2 t) (iblk m c 3 t) (ix2 r l)
      = val_main_v17 (F := Ideal) (m ((c : Thread nD τ).loc main_arg0)) (m ((c : Thread nD τ).loc main_arg1)) (m ((c : Thread nD τ).loc main_arg2)) (m ((c : Thread nD τ).loc main_arg3)) (ix2 (row t r) l) := by
  pointwise [k0_pay2, val_main_v17, val_main_v16, val_main_v15, val_main_v14, val_main_v13, val_main_v12, val_main_v11, val_main_v10,
    val_main_v9, val_main_v8, val_main_v7, val_main_v6, val_main_v5, val_main_v4, val_main_cst, val_main_cst_0, val_main_cst_1]
  simp only [stream, gain_apply]

/-- The stream after the run. -/
theorem final4 (c : Dev nD) : (dats m 0 c).arrAt 4 (cfgs 0).N = val_main_v3 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  idx_vars y
  have e : ((View.whole main_v1_0).slice ((win0 4).rect t)).emb (ix2 y0 y1) = ix2 (row t y0) y1 := by
    blk_ext [place t]
  erw [e]
  exact stream m c t y0 y1

/-- The normed stream after the run. -/
theorem final5 (c : Dev nD) : (dats m 0 c).arrAt 5 (cfgs 0).N = val_main_v17 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  idx_vars y
  have e : ((View.whole main_v1_1).slice ((win0 5).rect t)).emb (ix2 y0 y1) = ix2 (row t y0) y1 := by
    blk_ext [place t]
  erw [e]
  exact normed m c t y0 y1

instance : Cert.OutKernelIdeal.Facts := Cert.OutKernelIdeal.Gen.facts
instance : Cert.OutReferenceIdeal.Facts := Cert.OutReferenceIdeal.Gen.facts

/-- Over the extended reals the call's results are the reference's, at any arguments. -/
theorem algebraic : Cert.algebraic_OutKernelIdeal_OutReferenceIdeal := by
  pair_intro
  · run_from Cert.OutKernelIdeal.Value.run_blocks m g
  · run_from Cert.OutReferenceIdeal.Value.run m' g'
    · rw [val_main_v3_eq]; exact (final4 m c).symm
    · rw [val_main_v17_eq]; exact (final5 m c).symm

/-- The reference's execution ends with its arguments unchanged and its counters at zero. -/
theorem quiescent : Cert.quiescent_OutReferenceIdeal := by
  intro m g _
  exact (θ_run _ _ _).mono
    (fun r h => ⟨fun c => (h c).2.2, sem_eq_zero_of_no_sems (sig := Cert.OutReferenceIdeal.sig) (by decide) _⟩)
    (Cert.OutReferenceIdeal.Value.run m g)

end Cert.Proof.Out

end
-- ==== Proof.Down.lean ====
module

public import proofs.«01_k».proof.Defs
public import proofs.«01_k».proof.Proof.Gen.DownKernelIdeal.Value
public import proofs.«01_k».proof.Proof.Gen.DownReferenceIdeal.Read
public import proofs.«01_k».proof.Proof.Gen.DownReferenceIdeal.Run
public import Idealize.ShloMosaic.Lib.Pipeline.ValueKit
public import Idealize.ShloMosaic.Lib.StableHlo.ReadAt
public import Idealize.ShloMosaic.Lib.Claim
public import Idealize.ShloMosaic.Lib.Quiescent

@[expose] public section

set_option maxRecDepth 16384

noncomputable section

namespace Cert.Proof.Down

open Idealize.ShloMosaic Idealize.ShloMosaic.TcCoe Idealize.SL.Sem
open Cert.DownKernelIdeal Cert.DownKernelIdeal.Gen
open Cert.DownReferenceIdeal.Read
open Idealize.ShloMosaic.Pipeline (Dat)

variable (m : (ℓ : Loc nD τ sig) → Buf (Elt Ideal) ℓ)

/-- Where each window's block sits at grid point `t`: point `t` is row tile `t`. -/
theorem place : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The row of the arrays at which row `r` of a block of point `t` sits. -/
abbrev row (t : Fin cfg0.N) (r : Fin 1024) : Fin 4096 :=
  ⟨t.val * 1024 + r.val, by have := t.isLt; have : cfg0.N = 4 := N_0; omega⟩

/-- The gain's block, one row. -/
theorem gain_apply (c : Dev nD) (t : Fin cfg0.N) (l : Fin 1024) :
    iblk m c 3 t (ix2 (0 : Fin 1) l) = ((m ((c : Thread nD τ).loc main_arg3)) : FVec Ideal S1024 .f32) (ix1 l) := by
  have e : (V m c main_v0 : FVec Ideal S1x1024 .f32) (ix2 (0 : Fin 1) l) = ((m ((c : Thread nD τ).loc main_arg3)) : FVec Ideal S1024 .f32) (ix1 l) := by
    unfold V
    after_reads_at
  refine Eq.trans ?_ e
  blk_ext [iblk, place t]

/-- The stream after the down projection: what point `t` computes is the reference's at the block's place. -/
theorem stream (c : Dev nD) (t : Fin cfg0.N) (r l : Fin 1024) :
    k0_pay1 (F := Ideal) (iblk m c 0 t) (iblk m c 1 t) (iblk m c 2 t) (ix2 r l)
      = val_main_v3 (F := Ideal) (m ((c : Thread nD τ).loc main_arg0)) (m ((c : Thread nD τ).loc main_arg1)) (m ((c : Thread nD τ).loc main_arg2)) (ix2 (row t r) l) := by
  pointwise [k0_pay1, val_main_v3, val_main_v2, val_main_v1, val_main_v0]
  blk_point [iblk, V, place t]

/-- The normed stream: what point `t` computes is the reference's at the block's place. -/
theorem normed (c : Dev nD) (t : Fin cfg0.N) (r l : Fin 1024) :
    k0_pay2 (F := Ideal) (iblk m c 0 t) (iblk m c 1 t) (iblk m c 2 t) (iblk m c 3 t) (ix2 r l)
      = val_main_v17 (F := Ideal) (m ((c : Thread nD τ).loc main_arg0)) (m ((c : Thread nD τ).loc main_arg1)) (m ((c : Thread nD τ).loc main_arg2)) (m ((c : Thread nD τ).loc main_arg3)) (ix2 (row t r) l) := by
  pointwise [k0_pay2, val_main_v17, val_main_v16, val_main_v15, val_main_v14, val_main_v13, val_main_v12, val_main_v11, val_main_v10,
    val_main_v9, val_main_v8, val_main_v7, val_main_v6, val_main_v5, val_main_v4, val_main_cst, val_main_cst_0, val_main_cst_1]
  simp only [stream, gain_apply]

/-- The stream after the run. -/
theorem final4 (c : Dev nD) : (dats m 0 c).arrAt 4 (cfgs 0).N = val_main_v3 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  idx_vars y
  have e : ((View.whole main_v1_0).slice ((win0 4).rect t)).emb (ix2 y0 y1) = ix2 (row t y0) y1 := by
    blk_ext [place t]
  erw [e]
  exact stream m c t y0 y1

/-- The normed stream after the run. -/
theorem final5 (c : Dev nD) : (dats m 0 c).arrAt 5 (cfgs 0).N = val_main_v17 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  idx_vars y
  have e : ((View.whole main_v1_1).slice ((win0 5).rect t)).emb (ix2 y0 y1) = ix2 (row t y0) y1 := by
    blk_ext [place t]
  erw [e]
  exact normed m c t y0 y1

instance : Cert.DownKernelIdeal.Facts := Cert.DownKernelIdeal.Gen.facts
instance : Cert.DownReferenceIdeal.Facts := Cert.DownReferenceIdeal.Gen.facts

/-- Over the extended reals the call's results are the reference's, at any arguments. -/
theorem algebraic : Cert.algebraic_DownKernelIdeal_DownReferenceIdeal := by
  pair_intro
  · run_from Cert.DownKernelIdeal.Value.run_blocks m g
  · run_from Cert.DownReferenceIdeal.Value.run m' g'
    · rw [val_main_v3_eq]; exact (final4 m c).symm
    · rw [val_main_v17_eq]; exact (final5 m c).symm

/-- The reference's execution ends with its arguments unchanged and its counters at zero. -/
theorem quiescent : Cert.quiescent_DownReferenceIdeal := by
  intro m g _
  exact (θ_run _ _ _).mono
    (fun r h => ⟨fun c => (h c).2.2, sem_eq_zero_of_no_sems (sig := Cert.DownReferenceIdeal.sig) (by decide) _⟩)
    (Cert.DownReferenceIdeal.Value.run m g)

end Cert.Proof.Down

end
-- ==== Proof.RmsBackward.lean ====
module

public import proofs.«01_k».proof.Proof.RealValues

@[expose] public section

set_option maxRecDepth 16384

noncomputable section

namespace Cert.Proof.Rms

open Idealize.ShloMosaic Idealize.ShloMosaic.TcCoe Idealize.SL.Sem
open Cert.Proof.RealValues

/-- The width of a row, as the two programs spell it. -/
abbrev width : EReal := Ideal.ofBits .f32 0x44800000#32

/-- The constant added to a row's mean square. -/
abbrev eps : EReal := Ideal.ofBits .f32 0x358637BD#32

/-- Minus one half. -/
abbrev minusHalf : EReal := Ideal.ofBits .f32 0xBF000000#32

theorem width_eq : width = ((1024 : ℝ) : EReal) := by
  have h : width = ((8388608 : ℝ) : EReal) * (((2 ^ 13)⁻¹ : ℝ) : EReal) := by simp [width, Ideal.ofBits, Ideal.ieee]
  rw [h, ← EReal.coe_mul]
  norm_num

theorem eps_pos : ∃ e : ℝ, 0 < e ∧ eps = (e : EReal) := by
  have h : eps = ((8796093 : ℝ) : EReal) * (((2 ^ 43)⁻¹ : ℝ) : EReal) := by simp [eps, Ideal.ofBits, Ideal.ieee]
  rw [h, ← EReal.coe_mul]
  exact ⟨_, by norm_num, rfl⟩

theorem minusHalf_eq : minusHalf = ((-(1 / 2) : ℝ) : EReal) := by
  have h : minusHalf = -(((8388608 : ℝ) : EReal) * (((2 ^ 24)⁻¹ : ℝ) : EReal)) := by simp [minusHalf, Ideal.ofBits, Ideal.ieee]
  rw [h, ← EReal.coe_mul, ← EReal.coe_neg]
  norm_num

/-- A row's mean square, plus the small constant. -/
def meanSquare (x : Fin 1024 → EReal) : EReal := Ideal.div (∑ k, x k * x k) width + eps

/-- A row's scale. -/
def scale (x : Fin 1024 → EReal) : EReal := Ideal.rsqrt (meanSquare x)

/-- The normalisation's gradient at a row, in the kernel's spelling: `x` the row, `d` the cotangent of the row normalised and not yet scaled by the gain. -/
def kernelRow (x d : Fin 1024 → EReal) (l : Fin 1024) : EReal :=
  scale x * (d l - x l * scale x * Ideal.div (∑ k, d k * (x k * scale x)) width)

/-- The factor of the row itself in the reference's spelling. -/
def pull (x d : Fin 1024 → EReal) : EReal :=
  Ideal.div ((∑ k, x k * d k) * (minusHalf * Ideal.div (scale x) (meanSquare x))) width

/-- The normalisation's gradient at a row, in the reference's spelling. -/
def referenceRow (x d : Fin 1024 → EReal) (l : Fin 1024) : EReal :=
  d l * scale x + x l * pull x d + pull x d * x l

theorem sum_coe {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- At real numbers the two spellings agree. -/
theorem row_eq (x d : Fin 1024 → EReal) (hx : ∀ k, IsReal (x k)) (hd : ∀ k, IsReal (d k)) (l : Fin 1024) :
    kernelRow x d l = referenceRow x d l := by
  choose x' ex using hx
  choose d' ed using hd
  obtain rfl : x = fun k => (x' k : EReal) := funext ex
  obtain rfl : d = fun k => (d' k : EReal) := funext ed
  obtain ⟨e, he, ee⟩ := eps_pos
  have hv : 0 < (∑ k, x' k * x' k) * (1 / 1024) + e :=
    add_pos_of_nonneg_of_pos (mul_nonneg (Finset.sum_nonneg fun k _ => mul_self_nonneg _) (by norm_num)) he
  set v : ℝ := (∑ k, x' k * x' k) * (1 / 1024) + e with hv'
  have divw : ∀ a : ℝ, Ideal.div (a : EReal) width = ((a * (1 / 1024) : ℝ) : EReal) := fun a => by
    rw [width_eq, Ideal.div_coe (by norm_num : (1024 : ℝ) ≠ 0), ← EReal.coe_mul]
  have em : meanSquare (fun k => (x' k : EReal)) = (v : EReal) := by
    unfold meanSquare
    simp only [← EReal.coe_mul]
    rw [sum_coe, divw, ee, ← EReal.coe_add]
  set r : ℝ := (Real.sqrt v)⁻¹ with hr
  have er : scale (fun k => (x' k : EReal)) = (r : EReal) := by
    unfold scale
    rw [em, Ideal.rsqrt_coe, if_neg (not_lt.mpr hv.le), if_neg hv.ne']
  have rr : r * r = 1 / v := by
    rw [hr, ← mul_inv, Real.mul_self_sqrt hv.le, one_div]
  have ep : pull (fun k => (x' k : EReal)) (fun k => (d' k : EReal)) = (((∑ k, x' k * d' k) * (-(1 / 2) * (r * (1 / v))) * (1 / 1024) : ℝ) : EReal) := by
    unfold pull
    simp only [← EReal.coe_mul]
    rw [sum_coe, er, em, minusHalf_eq, Ideal.div_coe hv.ne', ← EReal.coe_mul, ← EReal.coe_mul, ← EReal.coe_mul, divw]
  unfold kernelRow referenceRow
  rw [ep, er]
  simp only [← EReal.coe_mul]
  rw [sum_coe, divw]
  simp only [← EReal.coe_mul, ← EReal.coe_sub, ← EReal.coe_add]
  congr 1
  rw [← rr]
  have es : ∑ k, d' k * (x' k * r) = (∑ k, x' k * d' k) * r := by
    rw [Finset.sum_mul]; exact Finset.sum_congr rfl fun k _ => by ring
  rw [es]
  ring

end Cert.Proof.Rms

end
-- ==== Proof.DhTwoReference.lean ====
module

public import proofs.«01_k».proof.Proof.Gen.DhTwoReferenceIdeal.Read
public import proofs.«01_k».proof.Proof.RmsBackward

@[expose] public section

set_option maxRecDepth 16384

noncomputable section

namespace Cert.Proof.DhTwo

open Idealize.ShloMosaic Idealize.ShloMosaic.TcCoe Idealize.SL.Sem
open Cert.DhTwoReferenceIdeal Cert.DhTwoReferenceIdeal.Read
open Cert.Proof.RealValues

/-! What the reference computes, at an index. -/

variable (x0 : FVec Ideal S4096x2816 .bf16) (x1 : FVec Ideal S4096x2816 .bf16) (x2 : FVec Ideal S1024x5632 .bf16) (x3 : FVec Ideal S4096x1024 .f32) (x4 : FVec Ideal S4096x1024 .f32) (x5 : FVec Ideal S1024 .f32)

/-- The cotangent of the normed stream at an index: the two halves' cotangents against the two halves of the weights. -/
theorem dh_apply (n : Fin 4096) (l : Fin 1024) :
    val_main_v21 (F := Ideal) x0 x1 x2 (ix2 n l) = ∑ k : Fin 2816, x0 (ix2 n k) * x2 (ix2 l ⟨k.val, by omega⟩) + ∑ k : Fin 2816, x1 (ix2 n k) * x2 (ix2 l ⟨2816 + k.val, by omega⟩) := by
  pointwise [val_main_v21, val_main_v2, val_main_v1, val_main_v0, val_main_v3]

/-- That cotangent times the gain. -/
theorem scaled_apply (n : Fin 4096) (l : Fin 1024) :
    val_main_v26 (F := Ideal) x0 x1 x2 x5 (ix2 n l) = val_main_v21 (F := Ideal) x0 x1 x2 (ix2 n l) * x5 (ix1 l) := by
  pointwise [val_main_v26, val_main_v25, val_main_v17]

/-- The mean square of a row of the stream, with the small constant. -/
theorem mean_apply (n : Fin 4096) :
    val_main_v10 (F := Ideal) x3 (ix2 n (0 : Fin 1)) = Rms.meanSquare fun k => x3 (ix2 n k) := by
  pointwise [val_main_v10, val_main_v9, val_main_v8, val_main_v7, val_main_v6, val_main_v5, val_main_v4, val_main_cst, val_main_cst_0, val_main_cst_1]
  rfl

/-- One over its root. -/
theorem scale_apply (n : Fin 4096) :
    val_main_v11 (F := Ideal) x3 (ix2 n (0 : Fin 1)) = Rms.scale fun k => x3 (ix2 n k) := by
  pointwise [val_main_v11]
  rw [mean_apply]
  rfl

/-- The normed stream before the gain. -/
theorem unit_apply (n : Fin 4096) (l : Fin 1024) :
    val_main_v16 (F := Ideal) x3 (ix2 n l) = x3 (ix2 n l) * Rms.scale fun k => x3 (ix2 n k) := by
  pointwise [val_main_v16, val_main_v15]
  rw [scale_apply]

/-- The cotangent of the stream: the incoming one plus the pullback of the norm. -/
theorem dx_apply (n : Fin 4096) (l : Fin 1024) :
    val_main_v42 (F := Ideal) x0 x1 x2 x3 x4 x5 (ix2 n l)
      = x4 (ix2 n l) + Rms.referenceRow (fun k => x3 (ix2 n k)) (fun k => val_main_v26 (F := Ideal) x0 x1 x2 x5 (ix2 n k)) l := by
  pointwise [val_main_v42, val_main_v41, val_main_v40, val_main_v39, val_main_v38, val_main_v37, val_main_v36, val_main_v35, val_main_v34, val_main_v33, val_main_v32, val_main_v31, val_main_v30, val_main_v29, val_main_v28, val_main_v14, val_main_v13, val_main_v12, val_main_cst_2, val_main_cst_4, val_main_cst_5, val_main_cst_6, val_main_cst_7]
  simp only [Finset.univ_unique, Finset.sum_singleton]
  have e0 : (default : Fin 1) = 0 := rfl
  rw [e0, mean_apply, scale_apply]
  rfl

/-- The gain's gradient: the sum over the rows of the normed stream times its cotangent. -/
theorem dgain_apply (l : Fin 1024) :
    val_main_v44 (F := Ideal) x0 x1 x2 x3 (ix2 (0 : Fin 1) l)
      = ∑ n : Fin 4096, (x3 (ix2 n l) * Rms.scale fun k => x3 (ix2 n k)) * val_main_v21 (F := Ideal) x0 x1 x2 (ix2 n l) := by
  pointwise [val_main_v44, val_main_v27, val_main_v24, val_main_v23, val_main_v22, val_main_cst_3, val_main_cst_4]
  simp only [Finset.univ_unique, Finset.sum_singleton]
  exact Finset.sum_congr rfl fun n _ => by rw [unit_apply]

variable {x0 x1 x2 x3 x4 x5}

/-- Of real arguments the scaled cotangent is real. -/
theorem scaled_real (h0 : ∀ i, IsReal (x0 i)) (h1 : ∀ i, IsReal (x1 i)) (h2 : ∀ i, IsReal (x2 i)) (h5 : ∀ i, IsReal (x5 i)) (n : Fin 4096) (l : Fin 1024) :
    IsReal (val_main_v26 (F := Ideal) x0 x1 x2 x5 (ix2 n l)) := by
  rw [scaled_apply, dh_apply]
  refine IsReal.mul ?_ (h5 _)
  exact (isReal_sum _ _ fun k _ => (h0 _).mul (h2 _)).add (isReal_sum _ _ fun k _ => (h1 _).mul (h2 _))

end Cert.Proof.DhTwo

end
-- ==== Proof.DhTwoBlocks.lean ====
module

public import proofs.«01_k».proof.Proof.Gen.DhTwoKernelIdeal.Value
public import proofs.«01_k».proof.Proof.DhTwoReference
public import Idealize.ShloMosaic.Lib.Pipeline.ValueKit
public import Idealize.ShloMosaic.Lib.StableHlo.ReadAt

@[expose] public section

set_option maxRecDepth 16384

noncomputable section

namespace Cert.Proof.DhTwo

open Idealize.ShloMosaic Idealize.ShloMosaic.TcCoe Idealize.SL.Sem
open Cert.DhTwoKernelIdeal Cert.DhTwoKernelIdeal.Gen
open Cert.DhTwoReferenceIdeal.Read
open Idealize.ShloMosaic.Pipeline (Dat)

/-! What one block computes. -/

variable (m : (ℓ : Loc nD τ sig) → Buf (Elt Ideal) ℓ)

/-- Where each window's block sits at grid point `t`: point `t` is row tile `t`. -/
theorem place : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![0, 0] ∧ win0_6.index t = ![t.val, 0] ∧ win0_7.index t = ![t.val, 0] ∧ win0_8.index t = ![0, 0] :=
  (by decide +kernel : ∀ t : Fin grid0.N, _)

/-- The row of the arrays at which row `r` of a block of point `t` sits. -/
abbrev row (t : Fin cfg0.N) (r : Fin 512) : Fin 4096 :=
  ⟨t.val * 512 + r.val, by have := t.isLt; have : cfg0.N = 8 := N_0; omega⟩

/-- The gain's block, one row. -/
theorem gain_apply (c : Dev nD) (t : Fin cfg0.N) (l : Fin 1024) :
    iblk m c 5 t (ix2 (0 : Fin 1) l) = ((m ((c : Thread nD τ).loc main_arg5)) : FVec Ideal S1024 .f32) (ix1 l) := by
  have e : (V m c main_v1 : FVec Ideal S1x1024 .f32) (ix2 (0 : Fin 1) l) = ((m ((c : Thread nD τ).loc main_arg5)) : FVec Ideal S1024 .f32) (ix1 l) := by
    unfold V
    after_reads_at
  refine Eq.trans ?_ e
  blk_ext [iblk, place t]

/-- The stream's block. -/
theorem stream_apply (c : Dev nD) (t : Fin cfg0.N) (r : Fin 512) (l : Fin 1024) :
    iblk m c 3 t (ix2 r l) = ((m ((c : Thread nD τ).loc main_arg3)) : FVec Ideal S4096x1024 .f32) (ix2 (row t r) l) := by
  blk_ext [iblk, V, place t]

/-- The incoming cotangent's block. -/
theorem ct_apply (c : Dev nD) (t : Fin cfg0.N) (r : Fin 512) (l : Fin 1024) :
    iblk m c 4 t (ix2 r l) = ((m ((c : Thread nD τ).loc main_arg4)) : FVec Ideal S4096x1024 .f32) (ix2 (row t r) l) := by
  blk_ext [iblk, V, place t]

/-- The weights' block: the whole matrix, transposed. -/
theorem weights_apply (c : Dev nD) (t : Fin cfg0.N) (k : Fin 5632) (l : Fin 1024) :
    iblk m c 2 t (ix2 k l) = ((m ((c : Thread nD τ).loc main_arg2)) : FVec Ideal S1024x5632 .bf16) (ix2 l k) := by
  have e : (V m c main_v0 : FVec Ideal S5632x1024 .bf16) (ix2 k l) = ((m ((c : Thread nD τ).loc main_arg2)) : FVec Ideal S1024x5632 .bf16) (ix2 l k) := by
    unfold V
    after_reads_at
  refine Eq.trans ?_ e
  blk_ext [iblk, place t]

/-- The block's cotangent of the normed stream, as the body computes it. -/
abbrev dhBlock (c : Dev nD) (t : Fin cfg0.N) : FVec Ideal S512x1024 .f32 :=
  k0_pay5 (F := Ideal) (iblk m c 0 t) (View.ld (iblk m c 2 t) (Rect.unit ![0, 0] ![2816, 1024] inb_S5632x1024_S2816x1024_0_0)) (iblk m c 1 t) (View.ld (iblk m c 2 t) (Rect.unit ![2816, 0] ![2816, 1024] inb_S5632x1024_S2816x1024_2816_0))

/-- It is the reference's at the block's place. -/
theorem dh_block (c : Dev nD) (t : Fin cfg0.N) (r : Fin 512) (l : Fin 1024) :
    dhBlock m c t (ix2 r l) = val_main_v21 (F := Ideal) (m ((c : Thread nD τ).loc main_arg0)) (m ((c : Thread nD τ).loc main_arg1)) (m ((c : Thread nD τ).loc main_arg2)) (ix2 (row t r) l) := by
  rw [dh_apply]
  unfold dhBlock
  pointwise [k0_pay5]
  refine congrArg₂ (· + ·) (Finset.sum_congr rfl fun k _ => congrArg₂ (· * ·) (by blk_ext [iblk, V, place t]) ?_)
    (Finset.sum_congr rfl fun k _ => congrArg₂ (· * ·) (by blk_ext [iblk, V, place t]) ?_)
  · refine Eq.trans ?_ (weights_apply m c t ⟨k.val, by omega⟩ l)
    blk_ext []
  · refine Eq.trans ?_ (weights_apply m c t ⟨2816 + k.val, by omega⟩ l)
    blk_ext []

/-- The block's rows of the normed stream before the gain. -/
theorem unit_block (c : Dev nD) (t : Fin cfg0.N) (r : Fin 512) (l : Fin 1024) :
    (k0_pay7 (F := Ideal) (iblk m c 3 t)) (ix2 r l) = @HMul.hMul EReal EReal EReal _ (((m ((c : Thread nD τ).loc main_arg3)) : FVec Ideal S4096x1024 .f32) (ix2 (row t r) l)) (Rms.scale fun k => ((m ((c : Thread nD τ).loc main_arg3)) : FVec Ideal S4096x1024 .f32) (ix2 (row t r) k)) := by
  pointwise [k0_pay7, k0_pay6]
  simp only [stream_apply]
  rfl

/-- The pullback of the norm as the body computes it. -/
theorem norm_block (c : Dev nD) (t : Fin cfg0.N) (r : Fin 512) (l : Fin 1024) :
    k0_pay8 (F := Ideal) (iblk m c 0 t) (View.ld (iblk m c 2 t) (Rect.unit ![0, 0] ![2816, 1024] inb_S5632x1024_S2816x1024_0_0)) (iblk m c 1 t) (View.ld (iblk m c 2 t) (Rect.unit ![2816, 0] ![2816, 1024] inb_S5632x1024_S2816x1024_2816_0)) (iblk m c 3 t) (iblk m c 5 t) (ix2 r l)
      = Rms.kernelRow (fun k => ((m ((c : Thread nD τ).loc main_arg3)) : FVec Ideal S4096x1024 .f32) (ix2 (row t r) k)) (fun k => val_main_v26 (F := Ideal) (m ((c : Thread nD τ).loc main_arg0)) (m ((c : Thread nD τ).loc main_arg1)) (m ((c : Thread nD τ).loc main_arg2)) (m ((c : Thread nD τ).loc main_arg5)) (ix2 (row t r) k)) l := by
  pointwise [k0_pay8, k0_pay6]
  have hd := dh_block m c t r
  unfold dhBlock at hd
  simp only [unit_block, gain_apply, stream_apply, hd]
  unfold Rms.kernelRow
  simp only [scaled_apply]
  rfl

end Cert.Proof.DhTwo

end
-- ==== Proof.DhTwoArrays.lean ====
module

public import proofs.«01_k».proof.Proof.DhTwoBlocks

@[expose] public section

set_option maxRecDepth 16384

noncomputable section

namespace Cert.Proof.DhTwo

open Idealize.ShloMosaic Idealize.ShloMosaic.TcCoe Idealize.SL.Sem
open Cert.DhTwoKernelIdeal Cert.DhTwoKernelIdeal.Gen
open Cert.DhTwoReferenceIdeal.Read
open Idealize.ShloMosaic.Pipeline (Dat)
open Cert.Proof.RealValues

/-! What the result arrays hold after the run. -/

variable (m : (ℓ : Loc nD τ sig) → Buf (Elt Ideal) ℓ)

/-- The body's row of the stream's cotangent is the reference's, at real arguments. -/
theorem dx_block (c : Dev nD) (h : (∀ i, IsReal (((m ((c : Thread nD τ).loc main_arg0)) : FVec Ideal S4096x2816 .bf16) i))
    ∧ (∀ i, IsReal (((m ((c : Thread nD τ).loc main_arg1)) : FVec Ideal S4096x2816 .bf16) i))
    ∧ (∀ i, IsReal (((m ((c : Thread nD τ).loc main_arg2)) : FVec Ideal S1024x5632 .bf16) i))
    ∧ (∀ i, IsReal (((m ((c : Thread nD τ).loc main_arg3)) : FVec Ideal S4096x1024 .f32) i))
    ∧ (∀ i, IsReal (((m ((c : Thread nD τ).loc main_arg5)) : FVec Ideal S1024 .f32) i)))
    (t : Fin cfg0.N) (r : Fin 512) (l : Fin 1024) :
    k0_pay1 (F := Ideal) (iblk m c 4 t) (k0_pay8 (F := Ideal) (iblk m c 0 t) (View.ld (iblk m c 2 t) (Rect.unit ![0, 0] ![2816, 1024] inb_S5632x1024_S2816x1024_0_0)) (iblk m c 1 t) (View.ld (iblk m c 2 t) (Rect.unit ![2816, 0] ![2816, 1024] inb_S5632x1024_S2816x1024_2816_0)) (iblk m c 3 t) (iblk m c 5 t)) (ix2 r l)
      = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t r) l) := by
  pointwise [k0_pay1]
  rw [ct_apply, norm_block, dx_apply, Rms.row_eq _ _ (fun k => h.2.2.2.1 _) (fun k => scaled_real h.1 h.2.1 h.2.2.1 h.2.2.2.2 _ _)]

/-- The same in the stream's narrower copy. -/
theorem dx_block_narrow (c : Dev nD) (h : (∀ i, IsReal (((m ((c : Thread nD τ).loc main_arg0)) : FVec Ideal S4096x2816 .bf16) i))
    ∧ (∀ i, IsReal (((m ((c : Thread nD τ).loc main_arg1)) : FVec Ideal S4096x2816 .bf16) i))
    ∧ (∀ i, IsReal (((m ((c : Thread nD τ).loc main_arg2)) : FVec Ideal S1024x5632 .bf16) i))
    ∧ (∀ i, IsReal (((m ((c : Thread nD τ).loc main_arg3)) : FVec Ideal S4096x1024 .f32) i))
    ∧ (∀ i, IsReal (((m ((c : Thread nD τ).loc main_arg5)) : FVec Ideal S1024 .f32) i)))
    (t : Fin cfg0.N) (r : Fin 512) (l : Fin 1024) :
    k0_pay3 (F := Ideal) (iblk m c 4 t) (k0_pay8 (F := Ideal) (iblk m c 0 t) (View.ld (iblk m c 2 t) (Rect.unit ![0, 0] ![2816, 1024] inb_S5632x1024_S2816x1024_0_0)) (iblk m c 1 t) (View.ld (iblk m c 2 t) (Rect.unit ![2816, 0] ![2816, 1024] inb_S5632x1024_S2816x1024_2816_0)) (iblk m c 3 t) (iblk m c 5 t)) (ix2 r l)
      = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t r) l) := by
  pointwise [k0_pay3, val_main_v43]
  exact dx_block m c h t r l

/-- The stream's cotangent after the run, at real arguments. -/
theorem final6 (c : Dev nD) (h : (∀ i, IsReal (((m ((c : Thread nD τ).loc main_arg0)) : FVec Ideal S4096x2816 .bf16) i))
    ∧ (∀ i, IsReal (((m ((c : Thread nD τ).loc main_arg1)) : FVec Ideal S4096x2816 .bf16) i))
    ∧ (∀ i, IsReal (((m ((c : Thread nD τ).loc main_arg2)) : FVec Ideal S1024x5632 .bf16) i))
    ∧ (∀ i, IsReal (((m ((c : Thread nD τ).loc main_arg3)) : FVec Ideal S4096x1024 .f32) i))
    ∧ (∀ i, IsReal (((m ((c : Thread nD τ).loc main_arg5)) : FVec Ideal S1024 .f32) i))) :
    (dats m 0 c).arrAt 6 (cfgs 0).N = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  idx_vars y
  have e : ((View.whole main_v2_0).slice ((win0 6).rect t)).emb (ix2 y0 y1) = ix2 (row t y0) y1 := by
    blk_ext [place t]
  erw [e]
  by_cases h0 : t.val % 8 = 0
  · rw [outsAt0_A m c t h0 (by have := t.isLt.trans_le (le_of_eq N_0); omega)]
    frame_out
    exact dx_block m c h t y0 y1
  · rw [outsAt0_B m c t h0 (by omega)]
    frame_out
    exact dx_block m c h t y0 y1

/-- Its narrower copy after the run, at real arguments. -/
theorem final7 (c : Dev nD) (h : (∀ i, IsReal (((m ((c : Thread nD τ).loc main_arg0)) : FVec Ideal S4096x2816 .bf16) i))
    ∧ (∀ i, IsReal (((m ((c : Thread nD τ).loc main_arg1)) : FVec Ideal S4096x2816 .bf16) i))
    ∧ (∀ i, IsReal (((m ((c : Thread nD τ).loc main_arg2)) : FVec Ideal S1024x5632 .bf16) i))
    ∧ (∀ i, IsReal (((m ((c : Thread nD τ).loc main_arg3)) : FVec Ideal S4096x1024 .f32) i))
    ∧ (∀ i, IsReal (((m ((c : Thread nD τ).loc main_arg5)) : FVec Ideal S1024 .f32) i))) :
    (dats m 0 c).arrAt 7 (cfgs 0).N = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  idx_vars y
  have e : ((View.whole main_v2_1).slice ((win0 7).rect t)).emb (ix2 y0 y1) = ix2 (row t y0) y1 := by
    blk_ext [place t]
  erw [e]
  by_cases h0 : t.val % 8 = 0
  · rw [outsAt0_A m c t h0 (by have := t.isLt.trans_le (le_of_eq N_0); omega)]
    frame_out
    exact dx_block_narrow m c h t y0 y1
  · rw [outsAt0_B m c t h0 (by omega)]
    frame_out
    exact dx_block_narrow m c h t y0 y1

/-- What one block adds to the gain's gradient. -/
def share (c : Dev nD) (t : Fin cfg0.N) (l : Fin 1024) : EReal :=
  ∑ r : Fin 512, @HMul.hMul EReal EReal EReal _ (dhBlock m c t (ix2 r l)) ((k0_pay7 (F := Ideal) (iblk m c 3 t)) (ix2 r l))

/-- A block's share, in the reference's rows. -/
theorem share_eq (c : Dev nD) (t : Fin cfg0.N) (l : Fin 1024) :
    share m c t l = ∑ r : Fin 512, @HMul.hMul EReal EReal EReal _ (@HMul.hMul EReal EReal EReal _ (((m ((c : Thread nD τ).loc main_arg3)) : FVec Ideal S4096x1024 .f32) (ix2 (row t r) l)) (Rms.scale fun k => ((m ((c : Thread nD τ).loc main_arg3)) : FVec Ideal S4096x1024 .f32) (ix2 (row t r) k))) (val_main_v21 (F := Ideal) (m ((c : Thread nD τ).loc main_arg0)) (m ((c : Thread nD τ).loc main_arg1)) (m ((c : Thread nD τ).loc main_arg2)) (ix2 (row t r) l)) :=
  Finset.sum_congr rfl fun r _ => by rw [dh_block, unit_block, mul_comm]

/-- The first point starts the sum. -/
theorem first_apply (c : Dev nD) (t : Fin cfg0.N) (l : Fin 1024) :
    k0_pay2 (F := Ideal) (dhBlock m c t) (k0_pay7 (F := Ideal) (iblk m c 3 t)) (ix2 (0 : Fin 1) l) = 0 + share m c t l := by
  refine Eq.trans ?_ (zero_add _).symm
  pointwise [k0_pay2]
  rfl

/-- A later point adds to it. -/
theorem next_apply (c : Dev nD) (t : Fin cfg0.N) (a : Vec Ideal S1x1024 .f32) (l : Fin 1024) :
    k0_pay4 (F := Ideal) (dhBlock m c t) (k0_pay7 (F := Ideal) (iblk m c 3 t)) a (ix2 (0 : Fin 1) l) = a (ix2 (0 : Fin 1) l) + share m c t l := by
  pointwise [k0_pay4, k0_pay2]
  rfl

/-- The gain's gradient after the run, at any arguments. -/
theorem final8 (c : Dev nD) :
    (dats m 0 c).arrAt 8 (cfgs 0).N = val_main_v44 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_after_last 8 t0_7 (by decide +kernel) _ fun j => ?_
  blk_simp
  idx_vars j
  have e : (ix2 j0 j1 : S1x1024.Idx) = ix2 (0 : Fin 1) j1 := by
    congr 1; exact Subsingleton.elim _ _
  rw [e, after0_8, Pipeline.eq_sum_fin_of_reset_step_apply_last (fun n h => (outsAt0 m c n h).2.2) 8 (fun _ => 0)
      (fun t j => share m c t (j 1))
      (fun t h j => by
        rw [outsAt0_A m c t h (by have := t.isLt.trans_le (le_of_eq N_0); omega)]; frame_out
        idx_vars j
        have e : (ix2 j0 j1 : S1x1024.Idx) = ix2 (0 : Fin 1) j1 := by congr 1; exact Subsingleton.elim _ _
        rw [e]; exact first_apply m c t j1)
      (fun t h j => by
        rw [outsAt0_B m c t h (by omega)]; frame_out
        idx_vars j
        have e : (ix2 j0 j1 : S1x1024.Idx) = ix2 (0 : Fin 1) j1 := by congr 1; exact Subsingleton.elim _ _
        rw [e]; exact next_apply m c t _ j1) (le_of_eq N_0) t0_7 rfl, zero_add, dgain_apply]
  exact (Finset.sum_congr rfl fun t _ => share_eq m c t j1).trans (Fin.sum_mul_add_congr (fun s k hl => rfl) (show 4096 = cfg0.N * 512 by decide))

end Cert.Proof.DhTwo

end
-- ==== Proof.DhTwoClaims.lean ====
module

public import proofs.«01_k».proof.Defs
public import proofs.«01_k».proof.Proof.DhTwoArrays
public import proofs.«01_k».proof.Proof.Gen.DhTwoReferenceIdeal.Run
public import Idealize.ShloMosaic.Lib.Claim
public import Idealize.ShloMosaic.Lib.Quiescent

@[expose] public section

set_option maxRecDepth 16384

noncomputable section

namespace Cert.Proof.DhTwo

open Idealize.ShloMosaic Idealize.ShloMosaic.TcCoe Idealize.SL.Sem
open Cert.DhTwoReferenceIdeal.Read
open Cert.Proof.RealValues

instance : Cert.DhTwoKernelIdeal.Facts := Cert.DhTwoKernelIdeal.Gen.facts
instance : Cert.DhTwoReferenceIdeal.Facts := Cert.DhTwoReferenceIdeal.Gen.facts

/-- The relations between shapes that the precondition's operations take. -/
theorem finite_facts : Cert.Pre_finite_dh2.Facts :=
  ⟨by decide, by decide, by decide, by decide, by decide, by decide, by decide, by decide, by decide, by decide⟩

instance : Cert.Pre_finite_dh2.Facts := finite_facts

/-- The precondition's value at one: the arguments' entries, but for the cotangent's, are real numbers. -/
theorem finite_entries (x0 : FVec Ideal Cert.Pre_finite_dh2.S4096x2816 .bf16) (x1 : FVec Ideal Cert.Pre_finite_dh2.S4096x2816 .bf16) (x2 : FVec Ideal Cert.Pre_finite_dh2.S1024x5632 .bf16) (x3 : FVec Ideal Cert.Pre_finite_dh2.S4096x1024 .f32) (x4 : FVec Ideal Cert.Pre_finite_dh2.S4096x1024 .f32) (x5 : FVec Ideal Cert.Pre_finite_dh2.S1024 .f32)
    (h : Cert.Pre_finite_dh2.fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x5 i)) := by
  have split : ∀ a b : BitVec 1, IntOp.andi a b = 1#1 → a = 1#1 ∧ b = 1#1 := by decide
  have hs : Subsingleton Pre_finite_dh2.S_.Idx := ⟨fun a b => funext fun k => k.elim0⟩
  have e := congrFun h ix0
  dsimp only [Cert.Pre_finite_dh2.fn, Cert.Pre_finite_dh2.fn_part1] at e
  obtain ⟨e, e4⟩ := split _ _ e
  obtain ⟨e, e3⟩ := split _ _ e
  obtain ⟨e, e2⟩ := split _ _ e
  obtain ⟨e0, e1⟩ := split _ _ e
  refine ⟨fun i => ?_, fun i => ?_, fun i => ?_, fun i => ?_, fun i => ?_⟩
  · exact isReal_of_abs_lt _ (Host.reduce_andi_all _ _ _ _ _ e0 i)
  · exact isReal_of_abs_lt _ (Host.reduce_andi_all _ _ _ _ _ e1 i)
  · exact isReal_of_abs_lt _ (Host.reduce_andi_all _ _ _ _ _ e2 i)
  · exact isReal_of_abs_lt _ (Host.reduce_andi_all _ _ _ _ _ e3 i)
  · exact isReal_of_abs_lt _ (Host.reduce_andi_all _ _ _ _ _ e4 i)

set_option maxHeartbeats 2000000 in
/-- Of real arguments the call's results over the extended reals are the reference's. -/
theorem algebraic : Cert.algebraic_DhTwoKernelIdeal_DhTwoReferenceIdeal_pre_finite_dh2 := by
  pair_intro
  · run_from Cert.DhTwoKernelIdeal.Value.run_blocks m g
  · run_from Cert.DhTwoReferenceIdeal.Value.run m' g'
    all_goals obtain ⟨e0, e1, e2, e3, e4, e5⟩ := hagree c
    · rw [val_main_v42_eq, e0, e1, e2, e3, e4, e5]; exact (final6 m c (finite_entries _ _ _ _ _ _ (hpre c))).symm
    · rw [val_main_v43_eq, e0, e1, e2, e3, e4, e5]; exact (final7 m c (finite_entries _ _ _ _ _ _ (hpre c))).symm
    · rw [val_main_v44_eq]; exact (final8 m c).symm

/-- The reference's execution ends with its arguments unchanged and its counters at zero. -/
theorem quiescent : Cert.quiescent_DhTwoReferenceIdeal := by
  intro m g _
  exact (θ_run _ _ _).mono
    (fun r h => ⟨fun c => (h c).2.2.2, sem_eq_zero_of_no_sems (sig := Cert.DhTwoReferenceIdeal.sig) (by decide) _⟩)
    (Cert.DhTwoReferenceIdeal.Value.run m g)

end Cert.Proof.DhTwo

end
-- ==== Proof.DhReference.lean ====
module

public import proofs.«01_k».proof.Proof.Gen.DhReferenceIdeal.Read
public import proofs.«01_k».proof.Proof.RmsBackward

@[expose] public section

set_option maxRecDepth 16384

noncomputable section

namespace Cert.Proof.Dh

open Idealize.ShloMosaic Idealize.ShloMosaic.TcCoe Idealize.SL.Sem
open Cert.DhReferenceIdeal Cert.DhReferenceIdeal.Read
open Cert.Proof.RealValues

/-! What the reference computes, at an index. -/

variable (x0 : FVec Ideal S4096x768 .bf16) (x1 : FVec Ideal S4096x1024 .bf16) (x2 : FVec Ideal S4096x1024 .bf16) (x3 : FVec Ideal S4096x1024 .bf16) (x4 : FVec Ideal S1024x3840 .bf16) (x5 : FVec Ideal S4096x1024 .f32) (x6 : FVec Ideal S4096x1024 .f32) (x7 : FVec Ideal S1024 .f32)

/-- A sum over the projection's columns, part by part in the kernel's order. -/
theorem sum_parts (f : Fin 3840 → EReal) :
    ∑ k, f k = ∑ k : Fin 1024, f ⟨768 + k.val, by omega⟩ + ∑ k : Fin 1024, f ⟨1792 + k.val, by omega⟩
      + ∑ k : Fin 1024, f ⟨2816 + k.val, by omega⟩ + ∑ k : Fin 768, f ⟨k.val, by omega⟩ := by
  have e1 : ∑ k, f k = ∑ k : Fin 768, f ⟨k.val, by omega⟩ + ∑ k : Fin 3072, f ⟨768 + k.val, by omega⟩ :=
    Fin.sum_univ_add (a := 768) (b := 3072) f
  have e2 : ∑ k : Fin 3072, f ⟨768 + k.val, by omega⟩
      = ∑ k : Fin 1024, f ⟨768 + k.val, by omega⟩ + ∑ k : Fin 2048, f ⟨768 + (1024 + k.val), by omega⟩ :=
    Fin.sum_univ_add (a := 1024) (b := 2048) fun k : Fin 3072 => f ⟨768 + k.val, by omega⟩
  have e3 : ∑ k : Fin 2048, f ⟨768 + (1024 + k.val), by omega⟩
      = ∑ k : Fin 1024, f ⟨768 + (1024 + k.val), by omega⟩ + ∑ k : Fin 1024, f ⟨768 + (1024 + (1024 + k.val)), by omega⟩ :=
    Fin.sum_univ_add (a := 1024) (b := 1024) fun k : Fin 2048 => f ⟨768 + (1024 + k.val), by omega⟩
  rw [e1, e2, e3, add_comm, ← add_assoc]
  refine congrArg₂ (· + ·) (congrArg₂ (· + ·) (congrArg₂ (· + ·) rfl ?_) ?_) rfl
  · exact Finset.sum_congr rfl fun k _ => congrArg f (Fin.ext (by dsimp only; omega))
  · exact Finset.sum_congr rfl fun k _ => congrArg f (Fin.ext (by dsimp only; omega))

/-- The cotangent of the normed stream at an index: the four parts of the projection's cotangent against their columns of the weights. -/
theorem dh_apply (n : Fin 4096) (l : Fin 1024) :
    val_main_v23 (F := Ideal) x0 x1 x2 x3 x4 (ix2 n l) = ∑ k : Fin 1024, x1 (ix2 n k) * x4 (ix2 l ⟨768 + k.val, by omega⟩) + ∑ k : Fin 1024, x2 (ix2 n k) * x4 (ix2 l ⟨1792 + k.val, by omega⟩) + ∑ k : Fin 1024, x3 (ix2 n k) * x4 (ix2 l ⟨2816 + k.val, by omega⟩) + ∑ k : Fin 768, x0 (ix2 n k) * x4 (ix2 l ⟨k.val, by omega⟩) := by
  pointwise [val_main_v23, val_main_v5, val_main_v4, val_main_v3, val_main_v2, val_main_v1, val_main_v0]
  refine (sum_parts _).trans ?_
  refine congrArg₂ (· + ·) (congrArg₂ (· + ·) (congrArg₂ (· + ·) ?_ ?_) ?_) ?_ <;>
    refine Finset.sum_congr rfl fun k _ => congrArg₂ (· * ·) ?_ rfl
  · rw [dif_neg (by dsimp only; omega), dif_pos (by dsimp only; omega)]
    blk_ext []
  · rw [dif_neg (by dsimp only; omega), dif_neg (by dsimp only; omega), dif_pos (by dsimp only; omega)]
    blk_ext []
  · rw [dif_neg (by dsimp only; omega), dif_neg (by dsimp only; omega), dif_neg (by dsimp only; omega)]
    blk_ext []
  · rw [dif_pos (by dsimp only; omega)]

/-- That cotangent times the gain. -/
theorem scaled_apply (n : Fin 4096) (l : Fin 1024) :
    val_main_v28 (F := Ideal) x0 x1 x2 x3 x4 x7 (ix2 n l) = val_main_v23 (F := Ideal) x0 x1 x2 x3 x4 (ix2 n l) * x7 (ix1 l) := by
  pointwise [val_main_v28, val_main_v27, val_main_v19]

/-- The mean square of a row of the stream, with the small constant. -/
theorem mean_apply (n : Fin 4096) :
    val_main_v12 (F := Ideal) x5 (ix2 n (0 : Fin 1)) = Rms.meanSquare fun k => x5 (ix2 n k) := by
  pointwise [val_main_v12, val_main_v11, val_main_v10, val_main_v9, val_main_v8, val_main_v7, val_main_v6, val_main_cst, val_main_cst_0, val_main_cst_1]
  rfl

/-- One over its root. -/
theorem scale_apply (n : Fin 4096) :
    val_main_v13 (F := Ideal) x5 (ix2 n (0 : Fin 1)) = Rms.scale fun k => x5 (ix2 n k) := by
  pointwise [val_main_v13]
  rw [mean_apply]
  rfl

/-- The normed stream before the gain. -/
theorem unit_apply (n : Fin 4096) (l : Fin 1024) :
    val_main_v18 (F := Ideal) x5 (ix2 n l) = x5 (ix2 n l) * Rms.scale fun k => x5 (ix2 n k) := by
  pointwise [val_main_v18, val_main_v17]
  rw [scale_apply]

/-- The cotangent of the stream: the incoming one plus the pullback of the norm. -/
theorem dx_apply (n : Fin 4096) (l : Fin 1024) :
    val_main_v44 (F := Ideal) x0 x1 x2 x3 x4 x5 x6 x7 (ix2 n l)
      = x6 (ix2 n l) + Rms.referenceRow (fun k => x5 (ix2 n k)) (fun k => val_main_v28 (F := Ideal) x0 x1 x2 x3 x4 x7 (ix2 n k)) l := by
  pointwise [val_main_v44, val_main_v43, val_main_v42, val_main_v41, val_main_v40, val_main_v39, val_main_v38, val_main_v37, val_main_v36, val_main_v35, val_main_v34, val_main_v33, val_main_v32, val_main_v31, val_main_v30, val_main_v16, val_main_v15, val_main_v14, val_main_cst_2, val_main_cst_4, val_main_cst_5, val_main_cst_6, val_main_cst_7]
  simp only [Finset.univ_unique, Finset.sum_singleton]
  have e0 : (default : Fin 1) = 0 := rfl
  rw [e0, mean_apply, scale_apply]
  rfl

/-- The gain's gradient: the sum over the rows of the normed stream times its cotangent. -/
theorem dgain_apply (l : Fin 1024) :
    val_main_v46 (F := Ideal) x0 x1 x2 x3 x4 x5 (ix2 (0 : Fin 1) l)
      = ∑ n : Fin 4096, (x5 (ix2 n l) * Rms.scale fun k => x5 (ix2 n k)) * val_main_v23 (F := Ideal) x0 x1 x2 x3 x4 (ix2 n l) := by
  pointwise [val_main_v46, val_main_v29, val_main_v26, val_main_v25, val_main_v24, val_main_cst_3, val_main_cst_4]
  simp only [Finset.univ_unique, Finset.sum_singleton]
  exact Finset.sum_congr rfl fun n _ => by rw [unit_apply]

variable {x0 x1 x2 x3 x4 x5 x6 x7}

/-- Of real arguments the scaled cotangent is real. -/
theorem scaled_real (h0 : ∀ i, IsReal (x0 i)) (h1 : ∀ i, IsReal (x1 i)) (h2 : ∀ i, IsReal (x2 i)) (h3 : ∀ i, IsReal (x3 i)) (h4 : ∀ i, IsReal (x4 i)) (h7 : ∀ i, IsReal (x7 i)) (n : Fin 4096) (l : Fin 1024) :
    IsReal (val_main_v28 (F := Ideal) x0 x1 x2 x3 x4 x7 (ix2 n l)) := by
  rw [scaled_apply, dh_apply]
  refine IsReal.mul ?_ (h7 _)
  exact (((isReal_sum _ _ fun k _ => (h1 _).mul (h4 _)).add (isReal_sum _ _ fun k _ => (h2 _).mul (h4 _))).add
    (isReal_sum _ _ fun k _ => (h3 _).mul (h4 _))).add (isReal_sum _ _ fun k _ => (h0 _).mul (h4 _))

end Cert.Proof.Dh

end
-- ==== Proof.DhBlocks.lean ====
module

public import proofs.«01_k».proof.Proof.Gen.DhKernelIdeal.Value
public import proofs.«01_k».proof.Proof.DhReference
public import Idealize.ShloMosaic.Lib.Pipeline.ValueKit
public import Idealize.ShloMosaic.Lib.StableHlo.ReadAt

@[expose] public section

set_option maxRecDepth 16384

noncomputable section

namespace Cert.Proof.Dh

open Idealize.ShloMosaic Idealize.ShloMosaic.TcCoe Idealize.SL.Sem
open Cert.DhKernelIdeal Cert.DhKernelIdeal.Gen
open Cert.DhReferenceIdeal.Read
open Idealize.ShloMosaic.Pipeline (Dat)

/-! What one block computes. -/

variable (m : (ℓ : Loc nD τ sig) → Buf (Elt Ideal) ℓ)

/-- Where each window's block sits at grid point `t`: point `t` is row tile `t`. -/
theorem place : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![t.val, 0] ∧ win0_6.index t = ![t.val, 0] ∧ win0_7.index t = ![0, 0] ∧ win0_8.index t = ![t.val, 0] ∧ win0_9.index t = ![t.val, 0] ∧ win0_10.index t = ![0, 0] :=
  (by decide +kernel : ∀ t : Fin grid0.N, _)

/-- The row of the arrays at which row `r` of a block of point `t` sits. -/
abbrev row (t : Fin cfg0.N) (r : Fin 512) : Fin 4096 :=
  ⟨t.val * 512 + r.val, by have := t.isLt; have : cfg0.N = 8 := N_0; omega⟩

/-- The gain's block, one row. -/
theorem gain_apply (c : Dev nD) (t : Fin cfg0.N) (l : Fin 1024) :
    iblk m c 7 t (ix2 (0 : Fin 1) l) = ((m ((c : Thread nD τ).loc main_arg7)) : FVec Ideal S1024 .f32) (ix1 l) := by
  have e : (V m c main_v1 : FVec Ideal S1x1024 .f32) (ix2 (0 : Fin 1) l) = ((m ((c : Thread nD τ).loc main_arg7)) : FVec Ideal S1024 .f32) (ix1 l) := by
    unfold V
    after_reads_at
  refine Eq.trans ?_ e
  blk_ext [iblk, place t]

/-- The stream's block. -/
theorem stream_apply (c : Dev nD) (t : Fin cfg0.N) (r : Fin 512) (l : Fin 1024) :
    iblk m c 5 t (ix2 r l) = ((m ((c : Thread nD τ).loc main_arg5)) : FVec Ideal S4096x1024 .f32) (ix2 (row t r) l) := by
  blk_ext [iblk, V, place t]

/-- The incoming cotangent's block. -/
theorem ct_apply (c : Dev nD) (t : Fin cfg0.N) (r : Fin 512) (l : Fin 1024) :
    iblk m c 6 t (ix2 r l) = ((m ((c : Thread nD τ).loc main_arg6)) : FVec Ideal S4096x1024 .f32) (ix2 (row t r) l) := by
  blk_ext [iblk, V, place t]

/-- The weights' block: the whole matrix, transposed. -/
theorem weights_apply (c : Dev nD) (t : Fin cfg0.N) (k : Fin 3840) (l : Fin 1024) :
    iblk m c 4 t (ix2 k l) = ((m ((c : Thread nD τ).loc main_arg4)) : FVec Ideal S1024x3840 .bf16) (ix2 l k) := by
  have e : (V m c main_v0 : FVec Ideal S3840x1024 .bf16) (ix2 k l) = ((m ((c : Thread nD τ).loc main_arg4)) : FVec Ideal S1024x3840 .bf16) (ix2 l k) := by
    unfold V
    after_reads_at
  refine Eq.trans ?_ e
  blk_ext [iblk, place t]

/-- The block's cotangent of the normed stream, as the body computes it. -/
abbrev dhBlock (c : Dev nD) (t : Fin cfg0.N) : FVec Ideal S512x1024 .f32 :=
  k0_pay7 (F := Ideal) (iblk m c 0 t) (View.ld (iblk m c 4 t) (Rect.unit ![768, 0] ![1024, 1024] inb_S3840x1024_S1024x1024_768_0)) (iblk m c 1 t) (View.ld (iblk m c 4 t) (Rect.unit ![1792, 0] ![1024, 1024] inb_S3840x1024_S1024x1024_1792_0)) (iblk m c 2 t) (View.ld (iblk m c 4 t) (Rect.unit ![2816, 0] ![1024, 1024] inb_S3840x1024_S1024x1024_2816_0)) (iblk m c 3 t) (View.ld (iblk m c 4 t) (Rect.unit ![0, 0] ![768, 1024] inb_S3840x1024_S768x1024_0_0))

/-- It is the reference's at the block's place. -/
theorem dh_block (c : Dev nD) (t : Fin cfg0.N) (r : Fin 512) (l : Fin 1024) :
    dhBlock m c t (ix2 r l) = val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t r) l) := by
  rw [dh_apply]
  unfold dhBlock
  pointwise [k0_pay7]
  refine congrArg₂ (· + ·) (congrArg₂ (· + ·) (congrArg₂ (· + ·) ?_ ?_) ?_) ?_ <;>
    refine Finset.sum_congr rfl fun k _ => congrArg₂ (· * ·) (by blk_ext [iblk, V, place t]) ?_
  · refine Eq.trans ?_ (weights_apply m c t ⟨768 + k.val, by omega⟩ l)
    blk_ext []
  · refine Eq.trans ?_ (weights_apply m c t ⟨1792 + k.val, by omega⟩ l)
    blk_ext []
  · refine Eq.trans ?_ (weights_apply m c t ⟨2816 + k.val, by omega⟩ l)
    blk_ext []
  · refine Eq.trans ?_ (weights_apply m c t ⟨k.val, by omega⟩ l)
    blk_ext []

/-- The block's rows of the normed stream before the gain. -/
theorem unit_block (c : Dev nD) (t : Fin cfg0.N) (r : Fin 512) (l : Fin 1024) :
    (k0_pay2 (F := Ideal) (iblk m c 5 t) (k0_pay9 (F := Ideal) (iblk m c 5 t))) (ix2 r l) = @HMul.hMul EReal EReal EReal _ (((m ((c : Thread nD τ).loc main_arg5)) : FVec Ideal S4096x1024 .f32) (ix2 (row t r) l)) (Rms.scale fun k => ((m ((c : Thread nD τ).loc main_arg5)) : FVec Ideal S4096x1024 .f32) (ix2 (row t r) k)) := by
  pointwise [k0_pay2, k0_pay1, k0_pay9]
  simp only [stream_apply]
  rfl

/-- The block's scale of each row. -/
theorem scale_block (c : Dev nD) (t : Fin cfg0.N) (r : Fin 512) :
    k0_pay1 (F := Ideal) (k0_pay9 (F := Ideal) (iblk m c 5 t)) (ix2 r (0 : Fin 1)) = Rms.scale fun k => ((m ((c : Thread nD τ).loc main_arg5)) : FVec Ideal S4096x1024 .f32) (ix2 (row t r) k) := by
  pointwise [k0_pay1, k0_pay9]
  simp only [stream_apply]
  rfl

/-- The gain as the body reads it. -/
theorem gain_block (c : Dev nD) (t : Fin cfg0.N) (l : Fin 1024) :
    k0_pay8 (F := Ideal) (iblk m c 7 t) (ix2 (0 : Fin 1) l) = ((m ((c : Thread nD τ).loc main_arg7)) : FVec Ideal S1024 .f32) (ix1 l) := by
  pointwise [k0_pay8]
  exact gain_apply m c t l

/-- The pullback of the norm as the body computes it. -/
theorem norm_block (c : Dev nD) (t : Fin cfg0.N) (r : Fin 512) (l : Fin 1024) :
    k0_pay3 (F := Ideal) (k0_pay7 (F := Ideal) (iblk m c 0 t) (View.ld (iblk m c 4 t) (Rect.unit ![768, 0] ![1024, 1024] inb_S3840x1024_S1024x1024_768_0)) (iblk m c 1 t) (View.ld (iblk m c 4 t) (Rect.unit ![1792, 0] ![1024, 1024] inb_S3840x1024_S1024x1024_1792_0)) (iblk m c 2 t) (View.ld (iblk m c 4 t) (Rect.unit ![2816, 0] ![1024, 1024] inb_S3840x1024_S1024x1024_2816_0)) (iblk m c 3 t) (View.ld (iblk m c 4 t) (Rect.unit ![0, 0] ![768, 1024] inb_S3840x1024_S768x1024_0_0))) (iblk m c 5 t) (iblk m c 6 t) (k0_pay8 (F := Ideal) (iblk m c 7 t)) (k0_pay9 (F := Ideal) (iblk m c 5 t)) (ix2 r l)
      = @HAdd.hAdd EReal EReal EReal _ (((m ((c : Thread nD τ).loc main_arg6)) : FVec Ideal S4096x1024 .f32) (ix2 (row t r) l)) (Rms.kernelRow (fun k => ((m ((c : Thread nD τ).loc main_arg5)) : FVec Ideal S4096x1024 .f32) (ix2 (row t r) k)) (fun k => val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (ix2 (row t r) k)) l) := by
  pointwise [k0_pay3]
  have hd := dh_block m c t r
  unfold dhBlock at hd
  simp only [unit_block, gain_block, scale_block, ct_apply, hd]
  unfold Rms.kernelRow
  simp only [scaled_apply]

end Cert.Proof.Dh

end
-- ==== Proof.DhArrays.lean ====
module

public import proofs.«01_k».proof.Proof.DhBlocks

@[expose] public section

set_option maxRecDepth 16384

noncomputable section

namespace Cert.Proof.Dh

open Idealize.ShloMosaic Idealize.ShloMosaic.TcCoe Idealize.SL.Sem
open Cert.DhKernelIdeal Cert.DhKernelIdeal.Gen
open Cert.DhReferenceIdeal.Read
open Idealize.ShloMosaic.Pipeline (Dat)
open Cert.Proof.RealValues

/-! What the result arrays hold after the run. -/

variable (m : (ℓ : Loc nD τ sig) → Buf (Elt Ideal) ℓ)

/-- The body's row of the stream's cotangent is the reference's, at real arguments. -/
theorem dx_block (c : Dev nD) (h : (∀ i, IsReal (((m ((c : Thread nD τ).loc main_arg0)) : FVec Ideal S4096x768 .bf16) i))
    ∧ (∀ i, IsReal (((m ((c : Thread nD τ).loc main_arg1)) : FVec Ideal S4096x1024 .bf16) i))
    ∧ (∀ i, IsReal (((m ((c : Thread nD τ).loc main_arg2)) : FVec Ideal S4096x1024 .bf16) i))
    ∧ (∀ i, IsReal (((m ((c : Thread nD τ).loc main_arg3)) : FVec Ideal S4096x1024 .bf16) i))
    ∧ (∀ i, IsReal (((m ((c : Thread nD τ).loc main_arg4)) : FVec Ideal S1024x3840 .bf16) i))
    ∧ (∀ i, IsReal (((m ((c : Thread nD τ).loc main_arg5)) : FVec Ideal S4096x1024 .f32) i))
    ∧ (∀ i, IsReal (((m ((c : Thread nD τ).loc main_arg7)) : FVec Ideal S1024 .f32) i)))
    (t : Fin cfg0.N) (r : Fin 512) (l : Fin 1024) :
    k0_pay3 (F := Ideal) (k0_pay7 (F := Ideal) (iblk m c 0 t) (View.ld (iblk m c 4 t) (Rect.unit ![768, 0] ![1024, 1024] inb_S3840x1024_S1024x1024_768_0)) (iblk m c 1 t) (View.ld (iblk m c 4 t) (Rect.unit ![1792, 0] ![1024, 1024] inb_S3840x1024_S1024x1024_1792_0)) (iblk m c 2 t) (View.ld (iblk m c 4 t) (Rect.unit ![2816, 0] ![1024, 1024] inb_S3840x1024_S1024x1024_2816_0)) (iblk m c 3 t) (View.ld (iblk m c 4 t) (Rect.unit ![0, 0] ![768, 1024] inb_S3840x1024_S768x1024_0_0))) (iblk m c 5 t) (iblk m c 6 t) (k0_pay8 (F := Ideal) (iblk m c 7 t)) (k0_pay9 (F := Ideal) (iblk m c 5 t)) (ix2 r l)
      = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (row t r) l) := by
  rw [norm_block, dx_apply, Rms.row_eq _ _ (fun k => h.2.2.2.2.2.1 _) (fun k => scaled_real h.1 h.2.1 h.2.2.1 h.2.2.2.1 h.2.2.2.2.1 h.2.2.2.2.2.2 _ _)]

/-- The same in the stream's narrower copy. -/
theorem dx_block_narrow (c : Dev nD) (h : (∀ i, IsReal (((m ((c : Thread nD τ).loc main_arg0)) : FVec Ideal S4096x768 .bf16) i))
    ∧ (∀ i, IsReal (((m ((c : Thread nD τ).loc main_arg1)) : FVec Ideal S4096x1024 .bf16) i))
    ∧ (∀ i, IsReal (((m ((c : Thread nD τ).loc main_arg2)) : FVec Ideal S4096x1024 .bf16) i))
    ∧ (∀ i, IsReal (((m ((c : Thread nD τ).loc main_arg3)) : FVec Ideal S4096x1024 .bf16) i))
    ∧ (∀ i, IsReal (((m ((c : Thread nD τ).loc main_arg4)) : FVec Ideal S1024x3840 .bf16) i))
    ∧ (∀ i, IsReal (((m ((c : Thread nD τ).loc main_arg5)) : FVec Ideal S4096x1024 .f32) i))
    ∧ (∀ i, IsReal (((m ((c : Thread nD τ).loc main_arg7)) : FVec Ideal S1024 .f32) i)))
    (t : Fin cfg0.N) (r : Fin 512) (l : Fin 1024) :
    k0_pay5 (F := Ideal) (k0_pay7 (F := Ideal) (iblk m c 0 t) (View.ld (iblk m c 4 t) (Rect.unit ![768, 0] ![1024, 1024] inb_S3840x1024_S1024x1024_768_0)) (iblk m c 1 t) (View.ld (iblk m c 4 t) (Rect.unit ![1792, 0] ![1024, 1024] inb_S3840x1024_S1024x1024_1792_0)) (iblk m c 2 t) (View.ld (iblk m c 4 t) (Rect.unit ![2816, 0] ![1024, 1024] inb_S3840x1024_S1024x1024_2816_0)) (iblk m c 3 t) (View.ld (iblk m c 4 t) (Rect.unit ![0, 0] ![768, 1024] inb_S3840x1024_S768x1024_0_0))) (iblk m c 5 t) (iblk m c 6 t) (k0_pay8 (F := Ideal) (iblk m c 7 t)) (k0_pay9 (F := Ideal) (iblk m c 5 t)) (ix2 r l)
      = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (row t r) l) := by
  pointwise [k0_pay5, val_main_v45]
  exact dx_block m c h t r l

/-- The stream's cotangent after the run, at real arguments. -/
theorem final8 (c : Dev nD) (h : (∀ i, IsReal (((m ((c : Thread nD τ).loc main_arg0)) : FVec Ideal S4096x768 .bf16) i))
    ∧ (∀ i, IsReal (((m ((c : Thread nD τ).loc main_arg1)) : FVec Ideal S4096x1024 .bf16) i))
    ∧ (∀ i, IsReal (((m ((c : Thread nD τ).loc main_arg2)) : FVec Ideal S4096x1024 .bf16) i))
    ∧ (∀ i, IsReal (((m ((c : Thread nD τ).loc main_arg3)) : FVec Ideal S4096x1024 .bf16) i))
    ∧ (∀ i, IsReal (((m ((c : Thread nD τ).loc main_arg4)) : FVec Ideal S1024x3840 .bf16) i))
    ∧ (∀ i, IsReal (((m ((c : Thread nD τ).loc main_arg5)) : FVec Ideal S4096x1024 .f32) i))
    ∧ (∀ i, IsReal (((m ((c : Thread nD τ).loc main_arg7)) : FVec Ideal S1024 .f32) i))) :
    (dats m 0 c).arrAt 8 (cfgs 0).N = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  idx_vars y
  have e : ((View.whole main_v2_0).slice ((win0 8).rect t)).emb (ix2 y0 y1) = ix2 (row t y0) y1 := by
    blk_ext [place t]
  erw [e]
  by_cases h0 : t.val % 8 = 0
  · rw [outsAt0_A m c t h0 (by have := t.isLt.trans_le (le_of_eq N_0); omega)]
    frame_out
    exact dx_block m c h t y0 y1
  · rw [outsAt0_B m c t h0 (by omega)]
    frame_out
    exact dx_block m c h t y0 y1

/-- Its narrower copy after the run, at real arguments. -/
theorem final9 (c : Dev nD) (h : (∀ i, IsReal (((m ((c : Thread nD τ).loc main_arg0)) : FVec Ideal S4096x768 .bf16) i))
    ∧ (∀ i, IsReal (((m ((c : Thread nD τ).loc main_arg1)) : FVec Ideal S4096x1024 .bf16) i))
    ∧ (∀ i, IsReal (((m ((c : Thread nD τ).loc main_arg2)) : FVec Ideal S4096x1024 .bf16) i))
    ∧ (∀ i, IsReal (((m ((c : Thread nD τ).loc main_arg3)) : FVec Ideal S4096x1024 .bf16) i))
    ∧ (∀ i, IsReal (((m ((c : Thread nD τ).loc main_arg4)) : FVec Ideal S1024x3840 .bf16) i))
    ∧ (∀ i, IsReal (((m ((c : Thread nD τ).loc main_arg5)) : FVec Ideal S4096x1024 .f32) i))
    ∧ (∀ i, IsReal (((m ((c : Thread nD τ).loc main_arg7)) : FVec Ideal S1024 .f32) i))) :
    (dats m 0 c).arrAt 9 (cfgs 0).N = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t _ y => ?_
  blk_simp
  rw [after0_9]
  idx_vars y
  have e : ((View.whole main_v2_1).slice ((win0 9).rect t)).emb (ix2 y0 y1) = ix2 (row t y0) y1 := by
    blk_ext [place t]
  erw [e]
  by_cases h0 : t.val % 8 = 0
  · rw [outsAt0_A m c t h0 (by have := t.isLt.trans_le (le_of_eq N_0); omega)]
    frame_out
    exact dx_block_narrow m c h t y0 y1
  · rw [outsAt0_B m c t h0 (by omega)]
    frame_out
    exact dx_block_narrow m c h t y0 y1

/-- What one block adds to the gain's gradient. -/
def share (c : Dev nD) (t : Fin cfg0.N) (l : Fin 1024) : EReal :=
  ∑ r : Fin 512, @HMul.hMul EReal EReal EReal _ (dhBlock m c t (ix2 r l)) ((k0_pay2 (F := Ideal) (iblk m c 5 t) (k0_pay9 (F := Ideal) (iblk m c 5 t))) (ix2 r l))

/-- A block's share, in the reference's rows. -/
theorem share_eq (c : Dev nD) (t : Fin cfg0.N) (l : Fin 1024) :
    share m c t l = ∑ r : Fin 512, @HMul.hMul EReal EReal EReal _ (@HMul.hMul EReal EReal EReal _ (((m ((c : Thread nD τ).loc main_arg5)) : FVec Ideal S4096x1024 .f32) (ix2 (row t r) l)) (Rms.scale fun k => ((m ((c : Thread nD τ).loc main_arg5)) : FVec Ideal S4096x1024 .f32) (ix2 (row t r) k))) (val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t r) l)) :=
  Finset.sum_congr rfl fun r _ => by rw [dh_block, unit_block, mul_comm]

/-- The first point starts the sum. -/
theorem first_apply (c : Dev nD) (t : Fin cfg0.N) (l : Fin 1024) :
    k0_pay4 (F := Ideal) (dhBlock m c t) (iblk m c 5 t) (k0_pay9 (F := Ideal) (iblk m c 5 t)) (ix2 (0 : Fin 1) l) = 0 + share m c t l := by
  refine Eq.trans ?_ (zero_add _).symm
  pointwise [k0_pay4]
  rfl

/-- A later point adds to it. -/
theorem next_apply (c : Dev nD) (t : Fin cfg0.N) (a : Vec Ideal S1x1024 .f32) (l : Fin 1024) :
    k0_pay6 (F := Ideal) (dhBlock m c t) (iblk m c 5 t) (k0_pay9 (F := Ideal) (iblk m c 5 t)) a (ix2 (0 : Fin 1) l) = a (ix2 (0 : Fin 1) l) + share m c t l := by
  pointwise [k0_pay6, k0_pay4]
  rfl

/-- The gain's gradient after the run, at any arguments. -/
theorem final10 (c : Dev nD) :
    (dats m 0 c).arrAt 10 (cfgs 0).N = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 10 t0_7 (by decide +kernel) _ fun j => ?_
  blk_simp
  idx_vars j
  have e : (ix2 j0 j1 : S1x1024.Idx) = ix2 (0 : Fin 1) j1 := by
    congr 1; exact Subsingleton.elim _ _
  rw [e, after0_10, Pipeline.eq_sum_fin_of_reset_step_apply_last (fun n h => (outsAt0 m c n h).2.2) 8 (fun _ => 0)
      (fun t j => share m c t (j 1))
      (fun t h j => by
        rw [outsAt0_A m c t h (by have := t.isLt.trans_le (le_of_eq N_0); omega)]; frame_out
        idx_vars j
        have e : (ix2 j0 j1 : S1x1024.Idx) = ix2 (0 : Fin 1) j1 := by congr 1; exact Subsingleton.elim _ _
        rw [e]; exact first_apply m c t j1)
      (fun t h j => by
        rw [outsAt0_B m c t h (by omega)]; frame_out
        idx_vars j
        have e : (ix2 j0 j1 : S1x1024.Idx) = ix2 (0 : Fin 1) j1 := by congr 1; exact Subsingleton.elim _ _
        rw [e]; exact next_apply m c t _ j1) (le_of_eq N_0) t0_7 rfl, zero_add, dgain_apply]
  exact (Finset.sum_congr rfl fun t _ => share_eq m c t j1).trans (Fin.sum_mul_add_congr (fun s k hl => rfl) (show 4096 = cfg0.N * 512 by decide))

end Cert.Proof.Dh

end
-- ==== Proof.DhClaims.lean ====
module

public import proofs.«01_k».proof.Defs
public import proofs.«01_k».proof.Proof.DhArrays
public import proofs.«01_k».proof.Proof.Gen.DhReferenceIdeal.Run
public import Idealize.ShloMosaic.Lib.Claim
public import Idealize.ShloMosaic.Lib.Quiescent

@[expose] public section

set_option maxRecDepth 16384

noncomputable section

namespace Cert.Proof.Dh

open Idealize.ShloMosaic Idealize.ShloMosaic.TcCoe Idealize.SL.Sem
open Cert.DhReferenceIdeal.Read
open Cert.Proof.RealValues

instance : Cert.DhKernelIdeal.Facts := Cert.DhKernelIdeal.Gen.facts
instance : Cert.DhReferenceIdeal.Facts := Cert.DhReferenceIdeal.Gen.facts

/-- The relations between shapes that the precondition's operations take. -/
theorem finite_facts : Cert.Pre_finite_dh.Facts :=
  ⟨by decide, by decide, by decide, by decide, by decide, by decide, by decide, by decide, by decide, by decide⟩

instance : Cert.Pre_finite_dh.Facts := finite_facts

/-- The precondition's value at one: the arguments' entries, but for the cotangent's, are real numbers. -/
theorem finite_entries (x0 : FVec Ideal Cert.Pre_finite_dh.S4096x768 .bf16) (x1 : FVec Ideal Cert.Pre_finite_dh.S4096x1024 .bf16) (x2 : FVec Ideal Cert.Pre_finite_dh.S4096x1024 .bf16) (x3 : FVec Ideal Cert.Pre_finite_dh.S4096x1024 .bf16) (x4 : FVec Ideal Cert.Pre_finite_dh.S1024x3840 .bf16) (x5 : FVec Ideal Cert.Pre_finite_dh.S4096x1024 .f32) (x6 : FVec Ideal Cert.Pre_finite_dh.S4096x1024 .f32) (x7 : FVec Ideal Cert.Pre_finite_dh.S1024 .f32)
    (h : Cert.Pre_finite_dh.fn (F := Ideal) x0 x1 x2 x3 x4 x5 x6 x7 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ (∀ i, IsReal (x7 i)) := by
  have split : ∀ a b : BitVec 1, IntOp.andi a b = 1#1 → a = 1#1 ∧ b = 1#1 := by decide
  have hs : Subsingleton Pre_finite_dh.S_.Idx := ⟨fun a b => funext fun k => k.elim0⟩
  have e := congrFun h ix0
  dsimp only [Cert.Pre_finite_dh.fn, Cert.Pre_finite_dh.fn_part1] at e
  obtain ⟨e, e6⟩ := split _ _ e
  obtain ⟨e, e5⟩ := split _ _ e
  obtain ⟨e, e4⟩ := split _ _ e
  obtain ⟨e, e3⟩ := split _ _ e
  obtain ⟨e, e2⟩ := split _ _ e
  obtain ⟨e0, e1⟩ := split _ _ e
  refine ⟨fun i => ?_, fun i => ?_, fun i => ?_, fun i => ?_, fun i => ?_, fun i => ?_, fun i => ?_⟩
  · exact isReal_of_abs_lt _ (Host.reduce_andi_all _ _ _ _ _ e0 i)
  · exact isReal_of_abs_lt _ (Host.reduce_andi_all _ _ _ _ _ e1 i)
  · exact isReal_of_abs_lt _ (Host.reduce_andi_all _ _ _ _ _ e2 i)
  · exact isReal_of_abs_lt _ (Host.reduce_andi_all _ _ _ _ _ e3 i)
  · exact isReal_of_abs_lt _ (Host.reduce_andi_all _ _ _ _ _ e4 i)
  · exact isReal_of_abs_lt _ (Host.reduce_andi_all _ _ _ _ _ e5 i)
  · exact isReal_of_abs_lt _ (Host.reduce_andi_all _ _ _ _ _ e6 i)

set_option maxHeartbeats 2000000 in
/-- Of real arguments the call's results over the extended reals are the reference's. -/
theorem algebraic : Cert.algebraic_DhKernelIdeal_DhReferenceIdeal_pre_finite_dh := by
  pair_intro
  · run_from Cert.DhKernelIdeal.Value.run_blocks m g
  · run_from Cert.DhReferenceIdeal.Value.run m' g'
    all_goals obtain ⟨e0, e1, e2, e3, e4, e5, e6, e7⟩ := hagree c
    · rw [val_main_v44_eq, e0, e1, e2, e3, e4, e5, e6, e7]; exact (final8 m c (finite_entries _ _ _ _ _ _ _ _ (hpre c))).symm
    · rw [val_main_v45_eq, e0, e1, e2, e3, e4, e5, e6, e7]; exact (final9 m c (finite_entries _ _ _ _ _ _ _ _ (hpre c))).symm
    · rw [val_main_v46_eq]; exact (final10 m c).symm

/-- The reference's execution ends with its arguments unchanged and its counters at zero. -/
theorem quiescent : Cert.quiescent_DhReferenceIdeal := by
  intro m g _
  exact (θ_run _ _ _).mono
    (fun r h => ⟨fun c => (h c).2.2.2, sem_eq_zero_of_no_sems (sig := Cert.DhReferenceIdeal.sig) (by decide) _⟩)
    (Cert.DhReferenceIdeal.Value.run m g)

end Cert.Proof.Dh

end
-- ==== Proof.lean ====
module

public import proofs.«01_k».proof.Defs
public import proofs.«01_k».proof.Proof.Gen.MergeKernel.Frame
public import proofs.«01_k».proof.Proof.Gen.MergeKernelIdeal.Value
public import proofs.«01_k».proof.Proof.Gen.MergeReferenceIdeal.Run
public import proofs.«01_k».proof.Proof.Gen.MergeReferenceIdeal.Read
public import proofs.«01_k».proof.Proof.MergeClaims
public import proofs.«01_k».proof.Proof.Gen.ConvKernel.Frame
public import proofs.«01_k».proof.Proof.Gen.ConvKernelIdeal.Value
public import proofs.«01_k».proof.Proof.Gen.ConvReferenceIdeal.Run
public import proofs.«01_k».proof.Proof.Gen.ConvReferenceIdeal.Read
public import proofs.«01_k».proof.Proof.ConvClaims
public import proofs.«01_k».proof.Proof.Gen.DwDownKernel.Frame
public import proofs.«01_k».proof.Proof.Gen.DwDownKernelIdeal.Value
public import proofs.«01_k».proof.Proof.Gen.DwDownReferenceIdeal.Run
public import proofs.«01_k».proof.Proof.Gen.DwDownReferenceIdeal.Read
public import proofs.«01_k».proof.Proof.DwDown
public import proofs.«01_k».proof.Proof.Gen.DwUpGateKernel.Frame
public import proofs.«01_k».proof.Proof.Gen.DwUpGateKernelIdeal.Value
public import proofs.«01_k».proof.Proof.Gen.DwUpGateReferenceIdeal.Run
public import proofs.«01_k».proof.Proof.Gen.DwUpGateReferenceIdeal.Read
public import proofs.«01_k».proof.Proof.DwUpGate
public import proofs.«01_k».proof.Proof.Gen.DwUpValueKernel.Frame
public import proofs.«01_k».proof.Proof.Gen.DwUpValueKernelIdeal.Value
public import proofs.«01_k».proof.Proof.Gen.DwUpValueReferenceIdeal.Run
public import proofs.«01_k».proof.Proof.Gen.DwUpValueReferenceIdeal.Read
public import proofs.«01_k».proof.Proof.DwUpValue
public import proofs.«01_k».proof.Proof.Gen.ProjKernel.Frame
public import proofs.«01_k».proof.Proof.Gen.ProjKernelIdeal.Value
public import proofs.«01_k».proof.Proof.Gen.ProjReferenceIdeal.Run
public import proofs.«01_k».proof.Proof.Gen.ProjReferenceIdeal.Read
public import proofs.«01_k».proof.Proof.Proj
public import proofs.«01_k».proof.Proof.Gen.DwInKernel.Frame
public import proofs.«01_k».proof.Proof.Gen.DwInKernelIdeal.Value
public import proofs.«01_k».proof.Proof.Gen.DwInReferenceIdeal.Run
public import proofs.«01_k».proof.Proof.Gen.DwInReferenceIdeal.Read
public import proofs.«01_k».proof.Proof.DwIn
public import proofs.«01_k».proof.Proof.Gen.DwOutKernel.Frame
public import proofs.«01_k».proof.Proof.Gen.DwOutKernelIdeal.Value
public import proofs.«01_k».proof.Proof.Gen.DwOutReferenceIdeal.Run
public import proofs.«01_k».proof.Proof.Gen.DwOutReferenceIdeal.Read
public import proofs.«01_k».proof.Proof.DwOut
public import proofs.«01_k».proof.Proof.Gen.DwBranchKernel.Frame
public import proofs.«01_k».proof.Proof.Gen.DwBranchKernelIdeal.Value
public import proofs.«01_k».proof.Proof.Gen.DwBranchReferenceIdeal.Run
public import proofs.«01_k».proof.Proof.Gen.DwBranchReferenceIdeal.Read
public import proofs.«01_k».proof.Proof.DwBranch
public import proofs.«01_k».proof.Proof.Gen.DyAttKernel.Frame
public import proofs.«01_k».proof.Proof.Gen.DyAttKernelIdeal.Value
public import proofs.«01_k».proof.Proof.Gen.DyAttReferenceIdeal.Run
public import proofs.«01_k».proof.Proof.Gen.DyAttReferenceIdeal.Read
public import proofs.«01_k».proof.Proof.DyAtt
public import proofs.«01_k».proof.Proof.Gen.DySguKernel.Frame
public import proofs.«01_k».proof.Proof.Gen.DySguKernelIdeal.Value
public import proofs.«01_k».proof.Proof.Gen.DySguReferenceIdeal.Run
public import proofs.«01_k».proof.Proof.Gen.DySguReferenceIdeal.Read
public import proofs.«01_k».proof.Proof.DySgu
public import proofs.«01_k».proof.Proof.Gen.UpConvKernel.Frame
public import proofs.«01_k».proof.Proof.Gen.UpConvKernelIdeal.Value
public import proofs.«01_k».proof.Proof.Gen.UpConvReferenceIdeal.Run
public import proofs.«01_k».proof.Proof.Gen.UpConvReferenceIdeal.Read
public import proofs.«01_k».proof.Proof.UpConvClaims
public import proofs.«01_k».proof.Proof.Gen.MergeFwdKernel.Frame
public import proofs.«01_k».proof.Proof.Gen.MergeFwdKernelIdeal.Value
public import proofs.«01_k».proof.Proof.Gen.MergeFwdReferenceIdeal.Run
public import proofs.«01_k».proof.Proof.Gen.MergeFwdReferenceIdeal.Read
public import proofs.«01_k».proof.Proof.MergeFwd
public import proofs.«01_k».proof.Proof.Gen.OutKernel.Frame
public import proofs.«01_k».proof.Proof.Gen.OutKernelIdeal.Value
public import proofs.«01_k».proof.Proof.Gen.OutReferenceIdeal.Run
public import proofs.«01_k».proof.Proof.Gen.OutReferenceIdeal.Read
public import proofs.«01_k».proof.Proof.Out
public import proofs.«01_k».proof.Proof.Gen.DownKernel.Frame
public import proofs.«01_k».proof.Proof.Gen.DownKernelIdeal.Value
public import proofs.«01_k».proof.Proof.Gen.DownReferenceIdeal.Run
public import proofs.«01_k».proof.Proof.Gen.DownReferenceIdeal.Read
public import proofs.«01_k».proof.Proof.Down
public import proofs.«01_k».proof.Proof.Gen.DhTwoKernel.Frame
public import proofs.«01_k».proof.Proof.Gen.DhTwoKernelIdeal.Value
public import proofs.«01_k».proof.Proof.Gen.DhTwoReferenceIdeal.Run
public import proofs.«01_k».proof.Proof.Gen.DhTwoReferenceIdeal.Read
public import proofs.«01_k».proof.Proof.DhTwoClaims
public import proofs.«01_k».proof.Proof.Gen.DhKernel.Frame
public import proofs.«01_k».proof.Proof.Gen.DhKernelIdeal.Value
public import proofs.«01_k».proof.Proof.Gen.DhReferenceIdeal.Run
public import proofs.«01_k».proof.Proof.Gen.DhReferenceIdeal.Read
public import proofs.«01_k».proof.Proof.DhClaims
public import Idealize.ShloMosaic.Adequacy
public import Idealize.ShloMosaic.Init

@[expose] public section

noncomputable section

namespace Cert.Proof

open Idealize.ShloMosaic Idealize.SL.Sem Cert.MergeKernel

/-- Every claim of every call, with the relations between shapes their programs state. -/
theorem claim : Cert.Claim := ⟨
  Cert.MergeKernel.Gen.facts, Cert.MergeKernelIdeal.Gen.facts, Cert.MergeReferenceIdeal.Gen.facts,
  Cert.ConvKernel.Gen.facts, Cert.ConvKernelIdeal.Gen.facts, Cert.ConvReferenceIdeal.Gen.facts,
  Cert.DwDownKernel.Gen.facts, Cert.DwDownKernelIdeal.Gen.facts, Cert.DwDownReferenceIdeal.Gen.facts,
  Cert.DwUpGateKernel.Gen.facts, Cert.DwUpGateKernelIdeal.Gen.facts, Cert.DwUpGateReferenceIdeal.Gen.facts,
  Cert.DwUpValueKernel.Gen.facts, Cert.DwUpValueKernelIdeal.Gen.facts, Cert.DwUpValueReferenceIdeal.Gen.facts,
  Cert.ProjKernel.Gen.facts, Cert.ProjKernelIdeal.Gen.facts, Cert.ProjReferenceIdeal.Gen.facts,
  Cert.DwInKernel.Gen.facts, Cert.DwInKernelIdeal.Gen.facts, Cert.DwInReferenceIdeal.Gen.facts,
  Cert.DwOutKernel.Gen.facts, Cert.DwOutKernelIdeal.Gen.facts, Cert.DwOutReferenceIdeal.Gen.facts,
  Cert.DwBranchKernel.Gen.facts, Cert.DwBranchKernelIdeal.Gen.facts, Cert.DwBranchReferenceIdeal.Gen.facts,
  Cert.DyAttKernel.Gen.facts, Cert.DyAttKernelIdeal.Gen.facts, Cert.DyAttReferenceIdeal.Gen.facts,
  Cert.DySguKernel.Gen.facts, Cert.DySguKernelIdeal.Gen.facts, Cert.DySguReferenceIdeal.Gen.facts,
  Cert.UpConvKernel.Gen.facts, Cert.UpConvKernelIdeal.Gen.facts, Cert.UpConvReferenceIdeal.Gen.facts,
  Cert.MergeFwdKernel.Gen.facts, Cert.MergeFwdKernelIdeal.Gen.facts, Cert.MergeFwdReferenceIdeal.Gen.facts,
  Cert.OutKernel.Gen.facts, Cert.OutKernelIdeal.Gen.facts, Cert.OutReferenceIdeal.Gen.facts,
  Cert.DownKernel.Gen.facts, Cert.DownKernelIdeal.Gen.facts, Cert.DownReferenceIdeal.Gen.facts,
  Cert.DhTwoKernel.Gen.facts, Cert.DhTwoKernelIdeal.Gen.facts, Cert.DhTwoReferenceIdeal.Gen.facts,
  Cert.DhKernel.Gen.facts, Cert.DhKernelIdeal.Gen.facts, Cert.DhReferenceIdeal.Gen.facts,
  Cert.Proof.Conv.finite_facts,
  Cert.Proof.DhTwo.finite_facts,
  Cert.Proof.Dh.finite_facts,
  fun m ρ _ => Cert.MergeKernel.Gen.frame m ρ, fun m ρ _ => Cert.MergeKernelIdeal.Gen.frame m ρ,
  Cert.Proof.Merge.quiescent,
  fun m ρ _ => Cert.ConvKernel.Gen.frame m ρ, fun m ρ _ => Cert.ConvKernelIdeal.Gen.frame m ρ,
  fun m ρ _ => Cert.ConvKernelIdeal.Gen.frame m ρ,
  Cert.Proof.Conv.quiescent, fun m ρ _ => Cert.Proof.Conv.quiescent m ρ trivial,
  fun m ρ _ => Cert.DwDownKernel.Gen.frame m ρ, fun m ρ _ => Cert.DwDownKernelIdeal.Gen.frame m ρ,
  Cert.Proof.DwDown.quiescent,
  fun m ρ _ => Cert.DwUpGateKernel.Gen.frame m ρ, fun m ρ _ => Cert.DwUpGateKernelIdeal.Gen.frame m ρ,
  Cert.Proof.DwUpGate.quiescent,
  fun m ρ _ => Cert.DwUpValueKernel.Gen.frame m ρ, fun m ρ _ => Cert.DwUpValueKernelIdeal.Gen.frame m ρ,
  Cert.Proof.DwUpValue.quiescent,
  fun m ρ _ => Cert.ProjKernel.Gen.frame m ρ, fun m ρ _ => Cert.ProjKernelIdeal.Gen.frame m ρ,
  Cert.Proof.Proj.quiescent,
  fun m ρ _ => Cert.DwInKernel.Gen.frame m ρ, fun m ρ _ => Cert.DwInKernelIdeal.Gen.frame m ρ,
  Cert.Proof.DwIn.quiescent,
  fun m ρ _ => Cert.DwOutKernel.Gen.frame m ρ, fun m ρ _ => Cert.DwOutKernelIdeal.Gen.frame m ρ,
  Cert.Proof.DwOut.quiescent,
  fun m ρ _ => Cert.DwBranchKernel.Gen.frame m ρ, fun m ρ _ => Cert.DwBranchKernelIdeal.Gen.frame m ρ,
  Cert.Proof.DwBranch.quiescent,
  fun m ρ _ => Cert.DyAttKernel.Gen.frame m ρ, fun m ρ _ => Cert.DyAttKernelIdeal.Gen.frame m ρ,
  Cert.Proof.DyAtt.quiescent,
  fun m ρ _ => Cert.DySguKernel.Gen.frame m ρ, fun m ρ _ => Cert.DySguKernelIdeal.Gen.frame m ρ,
  Cert.Proof.DySgu.quiescent,
  fun m ρ _ => Cert.UpConvKernel.Gen.frame m ρ, fun m ρ _ => Cert.UpConvKernelIdeal.Gen.frame m ρ,
  Cert.Proof.UpConv.quiescent,
  fun m ρ _ => Cert.MergeFwdKernel.Gen.frame m ρ, fun m ρ _ => Cert.MergeFwdKernelIdeal.Gen.frame m ρ,
  Cert.Proof.MergeFwd.quiescent,
  fun m ρ _ => Cert.OutKernel.Gen.frame m ρ, fun m ρ _ => Cert.OutKernelIdeal.Gen.frame m ρ,
  Cert.Proof.Out.quiescent,
  fun m ρ _ => Cert.DownKernel.Gen.frame m ρ, fun m ρ _ => Cert.DownKernelIdeal.Gen.frame m ρ,
  Cert.Proof.Down.quiescent,
  fun m ρ _ => Cert.DhTwoKernel.Gen.frame m ρ, fun m ρ _ => Cert.DhTwoKernelIdeal.Gen.frame m ρ,
  fun m ρ _ => Cert.DhTwoKernelIdeal.Gen.frame m ρ,
  Cert.Proof.DhTwo.quiescent, fun m ρ _ => Cert.Proof.DhTwo.quiescent m ρ trivial,
  fun m ρ _ => Cert.DhKernel.Gen.frame m ρ, fun m ρ _ => Cert.DhKernelIdeal.Gen.frame m ρ,
  fun m ρ _ => Cert.DhKernelIdeal.Gen.frame m ρ,
  Cert.Proof.Dh.quiescent, fun m ρ _ => Cert.Proof.Dh.quiescent m ρ trivial,
  trivial, Cert.Proof.Merge.algebraic,
  trivial, Cert.Proof.Conv.algebraic,
  trivial, Cert.Proof.DwDown.algebraic,
  trivial, Cert.Proof.DwUpGate.algebraic,
  trivial, Cert.Proof.DwUpValue.algebraic,
  trivial, Cert.Proof.Proj.algebraic,
  trivial, Cert.Proof.DwIn.algebraic,
  trivial, Cert.Proof.DwOut.algebraic,
  trivial, Cert.Proof.DwBranch.algebraic,
  trivial, Cert.Proof.DyAtt.algebraic,
  trivial, Cert.Proof.DySgu.algebraic,
  trivial, Cert.Proof.UpConv.algebraic,
  trivial, Cert.Proof.MergeFwd.algebraic,
  trivial, Cert.Proof.Out.algebraic,
  trivial, Cert.Proof.Down.algebraic,
  trivial, Cert.Proof.DhTwo.algebraic,
  trivial, Cert.Proof.Dh.algebraic⟩

end Cert.Proof

end
